-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "qscale" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v36)) (v1 : (c : Dev Cert.Kernel2Ideal.nD) → Buf (Elt Ideal) ((c.tc : Thread Cert.Kernel2Ideal.nD Cert.Kernel2Ideal.τ).loc Cert.Kernel2Ideal.main_v37)) (v2 : (c : Dev Cert.Kernel2Ideal.nD) → Buf (Elt Ideal) ((c.tc : Thread Cert.Kernel2Ideal.nD Cert.Kernel2Ideal.τ).loc Cert.Kernel2Ideal.main_v44)) (v3 : (c : Dev Cert.Kernel2Ideal.nD) → Buf (Elt Ideal) ((c.tc : Thread Cert.Kernel2Ideal.nD Cert.Kernel2Ideal.τ).loc Cert.Kernel2Ideal.main_v47)) (v4 : (c : Dev Cert.Kernel2Ideal.nD) → Buf (Elt Ideal) ((c.tc : Thread Cert.Kernel2Ideal.nD Cert.Kernel2Ideal.τ).loc Cert.Kernel2Ideal.main_v50)) (v5 : (c : Dev Cert.Kernel2Ideal.nD) → Buf (Elt Ideal) ((c.tc : Thread Cert.Kernel2Ideal.nD Cert.Kernel2Ideal.τ).loc Cert.Kernel2Ideal.main_v54)) (v6 : (c : Dev Cert.Kernel2Ideal.nD) → Buf (Elt Ideal) ((c.tc : Thread Cert.Kernel2Ideal.nD Cert.Kernel2Ideal.τ).loc Cert.Kernel2Ideal.main_v61)) (v7 : (c : Dev Cert.Kernel2Ideal.nD) → Buf (Elt Ideal) ((c.tc : Thread Cert.Kernel2Ideal.nD Cert.Kernel2Ideal.τ).loc Cert.Kernel2Ideal.main_v64)) (v8 : (c : Dev Cert.Kernel2Ideal.nD) → Buf (Elt Ideal) ((c.tc : Thread Cert.Kernel2Ideal.nD Cert.Kernel2Ideal.τ).loc Cert.Kernel2Ideal.main_v67)) (v9 : (c : Dev Cert.Kernel2Ideal.nD) → Buf (Elt Ideal) ((c.tc : Thread Cert.Kernel2Ideal.nD Cert.Kernel2Ideal.τ).loc Cert.Kernel2Ideal.main_v71)) (v10 : (c : Dev Cert.Kernel2Ideal.nD) → Buf (Elt Ideal) ((c.tc : Thread Cert.Kernel2Ideal.nD Cert.Kernel2Ideal.τ).loc Cert.Kernel2Ideal.main_v72)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_v37) = v1 c
          ∧ r.2.mem ((c.tc : Thread Cert.Kernel2Ideal.nD Cert.Kernel2Ideal.τ).loc Cert.Kernel2Ideal.main_v44) = v2 c
          ∧ r.2.mem ((c.tc : Thread Cert.Kernel2Ideal.nD Cert.Kernel2Ideal.τ).loc Cert.Kernel2Ideal.main_v47) = v3 c
          ∧ r.2.mem ((c.tc : Thread Cert.Kernel2Ideal.nD Cert.Kernel2Ideal.τ).loc Cert.Kernel2Ideal.main_v50) = v4 c
          ∧ r.2.mem ((c.tc : Thread Cert.Kernel2Ideal.nD Cert.Kernel2Ideal.τ).loc Cert.Kernel2Ideal.main_v54) = v5 c
          ∧ r.2.mem ((c.tc : Thread Cert.Kernel2Ideal.nD Cert.Kernel2Ideal.τ).loc Cert.Kernel2Ideal.main_v61) = v6 c
          ∧ r.2.mem ((c.tc : Thread Cert.Kernel2Ideal.nD Cert.Kernel2Ideal.τ).loc Cert.Kernel2Ideal.main_v64) = v7 c
          ∧ r.2.mem ((c.tc : Thread Cert.Kernel2Ideal.nD Cert.Kernel2Ideal.τ).loc Cert.Kernel2Ideal.main_v67) = v8 c
          ∧ r.2.mem ((c.tc : Thread Cert.Kernel2Ideal.nD Cert.Kernel2Ideal.τ).loc Cert.Kernel2Ideal.main_v71) = v9 c
          ∧ r.2.mem ((c.tc : Thread Cert.Kernel2Ideal.nD Cert.Kernel2Ideal.τ).loc Cert.Kernel2Ideal.main_v72) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v93) = v4 c
          ∧ r.2.mem ((c.tc : Thread Cert.Reference2Ideal.nD Cert.Reference2Ideal.τ).loc Cert.Reference2Ideal.main_v94) = v5 c
          ∧ r.2.mem ((c.tc : Thread Cert.Reference2Ideal.nD Cert.Reference2Ideal.τ).loc Cert.Reference2Ideal.main_v75) = v6 c
          ∧ r.2.mem ((c.tc : Thread Cert.Reference2Ideal.nD Cert.Reference2Ideal.τ).loc Cert.Reference2Ideal.main_v91) = v7 c
          ∧ r.2.mem ((c.tc : Thread Cert.Reference2Ideal.nD Cert.Reference2Ideal.τ).loc Cert.Reference2Ideal.main_v95) = v8 c
          ∧ r.2.mem ((c.tc : Thread Cert.Reference2Ideal.nD Cert.Reference2Ideal.τ).loc Cert.Reference2Ideal.main_v96) = v9 c
          ∧ r.2.mem ((c.tc : Thread Cert.Reference2Ideal.nD Cert.Reference2Ideal.τ).loc Cert.Reference2Ideal.main_v98) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "qscale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v57_0)) (v1 : (c : Dev Cert.Kernel3Ideal.nD) → Buf (Elt Ideal) ((c.tc : Thread Cert.Kernel3Ideal.nD Cert.Kernel3Ideal.τ).loc Cert.Kernel3Ideal.main_v60)) (v2 : (c : Dev Cert.Kernel3Ideal.nD) → Buf (Elt Ideal) ((c.tc : Thread Cert.Kernel3Ideal.nD Cert.Kernel3Ideal.τ).loc Cert.Kernel3Ideal.main_v61)) (v3 : (c : Dev Cert.Kernel3Ideal.nD) → Buf (Elt Ideal) ((c.tc : Thread Cert.Kernel3Ideal.nD Cert.Kernel3Ideal.τ).loc Cert.Kernel3Ideal.main_v68)) (v4 : (c : Dev Cert.Kernel3Ideal.nD) → Buf (Elt Ideal) ((c.tc : Thread Cert.Kernel3Ideal.nD Cert.Kernel3Ideal.τ).loc Cert.Kernel3Ideal.main_v71)) (v5 : (c : Dev Cert.Kernel3Ideal.nD) → Buf (Elt Ideal) ((c.tc : Thread Cert.Kernel3Ideal.nD Cert.Kernel3Ideal.τ).loc Cert.Kernel3Ideal.main_v74)) (v6 : (c : Dev Cert.Kernel3Ideal.nD) → Buf (Elt Ideal) ((c.tc : Thread Cert.Kernel3Ideal.nD Cert.Kernel3Ideal.τ).loc Cert.Kernel3Ideal.main_v78)) (v7 : (c : Dev Cert.Kernel3Ideal.nD) → Buf (Elt Ideal) ((c.tc : Thread Cert.Kernel3Ideal.nD Cert.Kernel3Ideal.τ).loc Cert.Kernel3Ideal.main_v85)) (v8 : (c : Dev Cert.Kernel3Ideal.nD) → Buf (Elt Ideal) ((c.tc : Thread Cert.Kernel3Ideal.nD Cert.Kernel3Ideal.τ).loc Cert.Kernel3Ideal.main_v88)) (v9 : (c : Dev Cert.Kernel3Ideal.nD) → Buf (Elt Ideal) ((c.tc : Thread Cert.Kernel3Ideal.nD Cert.Kernel3Ideal.τ).loc Cert.Kernel3Ideal.main_v91)) (v10 : (c : Dev Cert.Kernel3Ideal.nD) → Buf (Elt Ideal) ((c.tc : Thread Cert.Kernel3Ideal.nD Cert.Kernel3Ideal.τ).loc Cert.Kernel3Ideal.main_v95)) (v11 : (c : Dev Cert.Kernel3Ideal.nD) → Buf (Elt Ideal) ((c.tc : Thread Cert.Kernel3Ideal.nD Cert.Kernel3Ideal.τ).loc Cert.Kernel3Ideal.main_v96)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v57_0) = v0 c
          ∧ r.2.mem ((c.tc : Thread Cert.Kernel3Ideal.nD Cert.Kernel3Ideal.τ).loc Cert.Kernel3Ideal.main_v60) = v1 c
          ∧ r.2.mem ((c.tc : Thread Cert.Kernel3Ideal.nD Cert.Kernel3Ideal.τ).loc Cert.Kernel3Ideal.main_v61) = v2 c
          ∧ r.2.mem ((c.tc : Thread Cert.Kernel3Ideal.nD Cert.Kernel3Ideal.τ).loc Cert.Kernel3Ideal.main_v68) = v3 c
          ∧ r.2.mem ((c.tc : Thread Cert.Kernel3Ideal.nD Cert.Kernel3Ideal.τ).loc Cert.Kernel3Ideal.main_v71) = v4 c
          ∧ r.2.mem ((c.tc : Thread Cert.Kernel3Ideal.nD Cert.Kernel3Ideal.τ).loc Cert.Kernel3Ideal.main_v74) = v5 c
          ∧ r.2.mem ((c.tc : Thread Cert.Kernel3Ideal.nD Cert.Kernel3Ideal.τ).loc Cert.Kernel3Ideal.main_v78) = v6 c
          ∧ r.2.mem ((c.tc : Thread Cert.Kernel3Ideal.nD Cert.Kernel3Ideal.τ).loc Cert.Kernel3Ideal.main_v85) = v7 c
          ∧ r.2.mem ((c.tc : Thread Cert.Kernel3Ideal.nD Cert.Kernel3Ideal.τ).loc Cert.Kernel3Ideal.main_v88) = v8 c
          ∧ r.2.mem ((c.tc : Thread Cert.Kernel3Ideal.nD Cert.Kernel3Ideal.τ).loc Cert.Kernel3Ideal.main_v91) = v9 c
          ∧ r.2.mem ((c.tc : Thread Cert.Kernel3Ideal.nD Cert.Kernel3Ideal.τ).loc Cert.Kernel3Ideal.main_v95) = v10 c
          ∧ r.2.mem ((c.tc : Thread Cert.Kernel3Ideal.nD Cert.Kernel3Ideal.τ).loc Cert.Kernel3Ideal.main_v96) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v97) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_v98) = v5 c
          ∧ r.2.mem ((c.tc : Thread Cert.Reference3Ideal.nD Cert.Reference3Ideal.τ).loc Cert.Reference3Ideal.main_v99) = v6 c
          ∧ r.2.mem ((c.tc : Thread Cert.Reference3Ideal.nD Cert.Reference3Ideal.τ).loc Cert.Reference3Ideal.main_v80) = v7 c
          ∧ r.2.mem ((c.tc : Thread Cert.Reference3Ideal.nD Cert.Reference3Ideal.τ).loc Cert.Reference3Ideal.main_v96) = v8 c
          ∧ r.2.mem ((c.tc : Thread Cert.Reference3Ideal.nD Cert.Reference3Ideal.τ).loc Cert.Reference3Ideal.main_v100) = v9 c
          ∧ r.2.mem ((c.tc : Thread Cert.Reference3Ideal.nD Cert.Reference3Ideal.τ).loc Cert.Reference3Ideal.main_v101) = v10 c
          ∧ r.2.mem ((c.tc : Thread Cert.Reference3Ideal.nD Cert.Reference3Ideal.τ).loc Cert.Reference3Ideal.main_v103) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v17)) (v2 : (c : Dev Cert.Kernel4Ideal.nD) → Buf (Elt Ideal) ((c.tc : Thread Cert.Kernel4Ideal.nD Cert.Kernel4Ideal.τ).loc Cert.Kernel4Ideal.main_v20)) (v3 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v17) = v1 c
          ∧ r.2.mem ((c.tc : Thread Cert.Kernel4Ideal.nD Cert.Kernel4Ideal.τ).loc Cert.Kernel4Ideal.main_v20) = v2 c
          ∧ r.2.mem ((c.tc : Thread Cert.Kernel4Ideal.nD Cert.Kernel4Ideal.τ).loc Cert.Kernel4Ideal.main_v21) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v108) = v2 c
          ∧ r.2.mem ((c.tc : Thread Cert.Reference4Ideal.nD Cert.Reference4Ideal.τ).loc Cert.Reference4Ideal.main_v111) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "log2e" .f32 0x3FB8AA3B#32 (((Real.log 2)⁻¹ : ℝ) : EReal)

def algebraic_Kernel5Ideal_ReferenceIdeal_pre_finite [hKernel5Ideal : Cert.Kernel5Ideal.Facts] [hReferenceIdeal : Cert.ReferenceIdeal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel5Ideal_finite m →
    (∀ c : Dev Cert.Kernel5Ideal.nD,
      m' ((c.tc : Thread Cert.ReferenceIdeal.nD Cert.ReferenceIdeal.τ).loc Cert.ReferenceIdeal.main_arg0) = m ((c.tc : Thread Cert.Kernel5Ideal.nD Cert.Kernel5Ideal.τ).loc Cert.Kernel5Ideal.main_arg0)
      ∧ m' ((c.tc : Thread Cert.ReferenceIdeal.nD Cert.ReferenceIdeal.τ).loc Cert.ReferenceIdeal.main_arg1) = m ((c.tc : Thread Cert.Kernel5Ideal.nD Cert.Kernel5Ideal.τ).loc Cert.Kernel5Ideal.main_arg1)
      ∧ m' ((c.tc : Thread Cert.ReferenceIdeal.nD Cert.ReferenceIdeal.τ).loc Cert.ReferenceIdeal.main_arg2) = m ((c.tc : Thread Cert.Kernel5Ideal.nD Cert.Kernel5Ideal.τ).loc Cert.Kernel5Ideal.main_arg2)
      ∧ m' ((c.tc : Thread Cert.ReferenceIdeal.nD Cert.ReferenceIdeal.τ).loc Cert.ReferenceIdeal.main_arg3) = m ((c.tc : Thread Cert.Kernel5Ideal.nD Cert.Kernel5Ideal.τ).loc Cert.Kernel5Ideal.main_arg3)
      ∧ m' ((c.tc : Thread Cert.ReferenceIdeal.nD Cert.ReferenceIdeal.τ).loc Cert.ReferenceIdeal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_ReferenceIdeal_pre_finite (hKernel5Ideal := hKernel5Ideal) (hReferenceIdeal := hReferenceIdeal) (hPre_finite := hPre_finite)
-- ==== Pre_finite.lean ====
abbrev S16x2048x6x64 : Shape := ⟨4, ![16, 2048, 6, 64]⟩
abbrev S16x2048x2x64 : Shape := ⟨4, ![16, 2048, 2, 64]⟩
abbrev S16x2048x384 : Shape := ⟨3, ![16, 2048, 384]⟩
abbrev S2x6 : Shape := ⟨2, ![2, 6]⟩
abbrev S_ : Shape := ⟨0, ![]⟩

class Facts : Prop where
  bcast_S_S16x2048x6x64 : S_.BroadcastsInDim S16x2048x6x64 (![] : Fin 0 → Fin S16x2048x6x64.rank)
  reducesTo_S16x2048x6x64_S_d0_1_2_3 : S16x2048x6x64.ReducesTo [0, 1, 2, 3] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_
  bcast_S_S2x6 : S_.BroadcastsInDim S2x6 (![] : Fin 0 → Fin S2x6.rank)
  reducesTo_S2x6_S_d0_1 : S2x6.ReducesTo [0, 1] S_

variable [Facts]

def fn {F : FTy → Type} [FloatOps F] (main_arg0 : FVec F S16x2048x6x64 .f32) (main_arg1 : FVec F S16x2048x2x64 .f32) (main_arg2 : FVec F S16x2048x2x64 .f32) (main_arg3 : FVec F S16x2048x384 .f32) (main_arg4 : FVec F S2x6 .f32) : IVec S_ 1 :=
  let main_v0 : FVec F S16x2048x6x64 .f32 := Host.absf main_arg0
  let main_cst : FVec F S_ .f32 := constant S_ .f32 0x7F800000#32
  let main_v1 : FVec F S16x2048x6x64 .f32 := broadcastInDim S16x2048x6x64 ![] bcast_S_S16x2048x6x64 main_cst
  let main_v2 : IVec S16x2048x6x64 1 := cmpf .olt main_v0 main_v1
  let main_c : IVec S_ 1 := constantI S_ 1 1#1
  let main_v3 : IVec S_ 1 := (fun x v => Host.reduce IntOp.andi x v reducesTo_S16x2048x6x64_S_d0_1_2_3 h_S_) main_v2 main_c
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_c_1 : IVec S_ 1 := constantI S_ 1 1#1
  let main_v7 : IVec S_ 1 := (fun x v => Host.reduce IntOp.andi x v reducesTo_S16x2048x2x64_S_d0_1_2_3 h_S_) main_v6 main_c_1
  let main_v8 : IVec S_ 1 := andi main_v3 main_v7
  let main_v9 : FVec F S2x6 .f32 := Host.absf main_arg4
  let main_cst_2 : FVec F S_ .f32 := constant S_ .f32 0x7F800000#32
  let main_v10 : FVec F S2x6 .f32 := broadcastInDim S2x6 ![] bcast_S_S2x6 main_cst_2
  let main_v11 : IVec S2x6 1 := cmpf .olt main_v9 main_v10
  let main_c_3 : IVec S_ 1 := constantI S_ 1 1#1
  let main_v12 : IVec S_ 1 := (fun x v => Host.reduce IntOp.andi x v reducesTo_S2x6_S_d0_1 h_S_) main_v11 main_c_3
  let main_v13 : IVec S_ 1 := andi main_v8 main_v12
  main_v13
-- ==== Kernel.lean ====
abbrev S16x2048x6x64 : Shape := ⟨4, ![16, 2048, 6, 64]⟩
abbrev S16x2048x2x64 : Shape := ⟨4, ![16, 2048, 2, 64]⟩
abbrev S16x2048x384 : Shape := ⟨3, ![16, 2048, 384]⟩
abbrev S2x6 : Shape := ⟨2, ![2, 6]⟩
abbrev S_ : Shape := ⟨0, ![]⟩
abbrev S16x2048x2x3x64 : Shape := ⟨5, ![16, 2048, 2, 3, 64]⟩
abbrev S16x2048x3x2x64 : Shape := ⟨5, ![16, 2048, 3, 2, 64]⟩
abbrev S16x2048x128 : Shape := ⟨3, ![16, 2048, 128]⟩
abbrev S16x2048x256 : Shape := ⟨3, ![16, 2048, 256]⟩
abbrev S1x2048x384 : Shape := ⟨3, ![1, 2048, 384]⟩
abbrev S1x2048x256 : Shape := ⟨3, ![1, 2048, 256]⟩
abbrev S2x2048x128 : Shape := ⟨3, ![2, 2048, 128]⟩
abbrev S128x2048 : Shape := ⟨2, ![128, 2048]⟩
abbrev S1x256x256 : Shape := ⟨3, ![1, 256, 256]⟩
abbrev S256x256 : Shape := ⟨2, ![256, 256]⟩
abbrev S256x128 : Shape := ⟨2, ![256, 128]⟩
abbrev S1x256x128 : Shape := ⟨3, ![1, 256, 128]⟩
abbrev S128x256 : Shape := ⟨2, ![128, 256]⟩
abbrev S1x384 : Shape := ⟨2, ![1, 384]⟩
abbrev S1x1 : Shape := ⟨2, ![1, 1]⟩
abbrev S256x384 : Shape := ⟨2, ![256, 384]⟩
abbrev S512x384 : Shape := ⟨2, ![512, 384]⟩
abbrev S16x128 : Shape := ⟨2, ![16, 128]⟩
abbrev S16x256 : Shape := ⟨2, ![16, 256]⟩
abbrev S1x128x128 : Shape := ⟨3, ![1, 128, 128]⟩
abbrev S128x128 : Shape := ⟨2, ![128, 128]⟩
abbrev S128x384 : Shape := ⟨2, ![128, 384]⟩
abbrev S512x128 : Shape := ⟨2, ![512, 128]⟩
abbrev S64x128 : Shape := ⟨2, ![64, 128]⟩
abbrev S80x128 : Shape := ⟨2, ![80, 128]⟩
abbrev S80x384 : Shape := ⟨2, ![80, 384]⟩
abbrev S64x384 : Shape := ⟨2, ![64, 384]⟩
abbrev S64x256 : Shape := ⟨2, ![64, 256]⟩
abbrev S80x256 : Shape := ⟨2, ![80, 256]⟩

abbrev nBuf : Space → Nat
  | .hbm => 29
  | .vmem => 10
  | .smem => 1
  | _ => 0

abbrev bufTy : (tb : Table) → Fin (tcTables nBuf tb) → BufTy
  | .hbm, ⟨0, _⟩ => ⟨S16x2048x6x64, .f32⟩
  | .hbm, ⟨1, _⟩ => ⟨S16x2048x2x64, .f32⟩
  | .hbm, ⟨2, _⟩ => ⟨S16x2048x2x64, .f32⟩
  | .hbm, ⟨3, _⟩ => ⟨S16x2048x384, .f32⟩
  | .hbm, ⟨4, _⟩ => ⟨S2x6, .f32⟩
  | .hbm, ⟨5, _⟩ => ⟨S_, .f32⟩
  | .hbm, ⟨6, _⟩ => ⟨S_, .f32⟩
  | .hbm, ⟨7, _⟩ => ⟨S16x2048x384, .f32⟩
  | .hbm, ⟨8, _⟩ => ⟨S16x2048x2x3x64, .f32⟩
  | .hbm, ⟨9, _⟩ => ⟨S16x2048x3x2x64, .f32⟩
  | .hbm, ⟨10, _⟩ => ⟨S16x2048x384, .f32⟩
  | .hbm, ⟨11, _⟩ => ⟨S_, .f32⟩
  | .hbm, ⟨12, _⟩ => ⟨S_, .f32⟩
  | .hbm, ⟨13, _⟩ => ⟨S16x2048x384, .f32⟩
  | .hbm, ⟨14, _⟩ => ⟨S16x2048x384, .f32⟩
  | .hbm, ⟨15, _⟩ => ⟨S16x2048x384, .bf16⟩
  | .hbm, ⟨16, _⟩ => ⟨S16x2048x2x3x64, .f32⟩
  | .hbm, ⟨17, _⟩ => ⟨S16x2048x3x2x64, .f32⟩
  | .hbm, ⟨18, _⟩ => ⟨S16x2048x384, .f32⟩
  | .hbm, ⟨19, _⟩ => ⟨S16x2048x384, .bf16⟩
  | .hbm, ⟨20, _⟩ => ⟨S16x2048x128, .f32⟩
  | .hbm, ⟨21, _⟩ => ⟨S16x2048x128, .f32⟩
  | .hbm, ⟨22, _⟩ => ⟨S16x2048x256, .f32⟩
  | .hbm, ⟨23, _⟩ => ⟨S16x2048x256, .bf16⟩
  | .hbm, ⟨24, _⟩ => ⟨S16x2048x384, .bf16⟩
  | .hbm, ⟨25, _⟩ => ⟨S16x2048x3x2x64, .bf16⟩
  | .hbm, ⟨26, _⟩ => ⟨S16x2048x2x3x64, .bf16⟩
  | .hbm, ⟨27, _⟩ => ⟨S16x2048x384, .bf16⟩
  | .hbm, ⟨28, _⟩ => ⟨S16x2048x384, .f32⟩
  | .local _ .vmem, ⟨0, _⟩ => ⟨S1x2048x384, .bf16⟩
  | .local _ .vmem, ⟨1, _⟩ => ⟨S1x2048x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x384, .bf16⟩
  | .local _ .vmem, ⟨7, _⟩ => ⟨S1x2048x384, .bf16⟩
  | .local _ .vmem, ⟨8, _⟩ => ⟨S2x2048x128, .bf16⟩
  | .local _ .vmem, ⟨9, _⟩ => ⟨S128x2048, .bf16⟩
  | .local _ .smem, ⟨0, _⟩ => ⟨S2x6, .f32⟩
  | _, _ => ⟨S16x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x6x64 : Shape := ⟨4, ![16, 2048, 6, 64]⟩
abbrev S16x2048x2x64 : Shape := ⟨4, ![16, 2048, 2, 64]⟩
abbrev S16x2048x384 : Shape := ⟨3, ![16, 2048, 384]⟩
abbrev S2x6 : Shape := ⟨2, ![2, 6]⟩
abbrev S1x6 : Shape := ⟨2, ![1, 6]⟩
abbrev S6 : Shape := ⟨1, ![6]⟩
abbrev S16x16x128x2x3x64 : Shape := ⟨6, ![16, 16, 128, 2, 3, 64]⟩
abbrev S_ : Shape := ⟨0, ![]⟩
abbrev S16x2176x2x64 : Shape := ⟨4, ![16, 2176, 2, 64]⟩
abbrev S16x16x128x2x64 : Shape := ⟨5, ![16, 16, 128, 2, 64]⟩
abbrev S16x16x256x2x64 : Shape := ⟨5, ![16, 16, 256, 2, 64]⟩
abbrev S16x16x2x256x128x3 : Shape := ⟨6, ![16, 16, 2, 256, 128, 3]⟩
abbrev S16x16x2x3x128x256 : Shape := ⟨6, ![16, 16, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x2x3x1x1 : Shape := ⟨6, ![1, 1, 2, 3, 1, 1]⟩
abbrev S16x16x2x3x128x1 : Shape := ⟨6, ![16, 16, 2, 3, 128, 1]⟩
abbrev S16x16x2x3x128x257 : Shape := ⟨6, ![16, 16, 2, 3, 128, 257]⟩
abbrev S16x16x2x3x128 : Shape := ⟨5, ![16, 16, 2, 3, 128]⟩
abbrev S16x16x2x64x3x128 : Shape := ⟨6, ![16, 16, 2, 64, 3, 128]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x2x64, .f32⟩
  | .hbm, ⟨2, _⟩ => ⟨S16x2048x2x64, .f32⟩
  | .hbm, ⟨3, _⟩ => ⟨S16x2048x384, .f32⟩
  | .hbm, ⟨4, _⟩ => ⟨S2x6, .f32⟩
  | .hbm, ⟨5, _⟩ => ⟨S1x6, .f32⟩
  | .hbm, ⟨6, _⟩ => ⟨S6, .f32⟩
  | .hbm, ⟨7, _⟩ => ⟨S16x16x128x2x3x64, .f32⟩
  | .hbm, ⟨8, _⟩ => ⟨S_, .i32⟩
  | .hbm, ⟨9, _⟩ => ⟨S_, .f32⟩
  | .hbm, ⟨10, _⟩ => ⟨S16x2176x2x64, .f32⟩
  | .hbm, ⟨11, _⟩ => ⟨S16x2048x2x64, .f32⟩
  | .hbm, ⟨12, _⟩ => ⟨S16x16x128x2x64, .f32⟩
  | .hbm, ⟨13, _⟩ => ⟨S16x16x128x2x64, .f32⟩
  | .hbm, ⟨14, _⟩ => ⟨S16x16x256x2x64, .f32⟩
  | .hbm, ⟨15, _⟩ => ⟨S_, .i32⟩
  | .hbm, ⟨16, _⟩ => ⟨S_, .f32⟩
  | .hbm, ⟨17, _⟩ => ⟨S16x2176x2x64, .f32⟩
  | .hbm, ⟨18, _⟩ => ⟨S16x2048x2x64, .f32⟩
  | .hbm, ⟨19, _⟩ => ⟨S16x16x128x2x64, .f32⟩
  | .hbm, ⟨20, _⟩ => ⟨S16x16x128x2x64, .f32⟩
  | .hbm, ⟨21, _⟩ => ⟨S16x16x256x2x64, .f32⟩
  | .hbm, ⟨22, _⟩ => ⟨S16x16x2x256x128x3, .f32⟩
  | .hbm, ⟨23, _⟩ => ⟨S16x16x2x3x128x256, .f32⟩
  | .hbm, ⟨24, _⟩ => ⟨S_, .f32⟩
  | .hbm, ⟨25, _⟩ => ⟨S16x16x2x3x128x256, .f32⟩
  | .hbm, ⟨26, _⟩ => ⟨S16x16x2x3x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S16x1x1, .i32⟩
  | .hbm, ⟨46, _⟩ => ⟨S1x128x256, .i1⟩
  | .hbm, ⟨47, _⟩ => ⟨S_, .i32⟩
  | .hbm, ⟨48, _⟩ => ⟨S16x1x1, .i32⟩
  | .hbm, ⟨49, _⟩ => ⟨S16x1x1, .i1⟩
  | .hbm, ⟨50, _⟩ => ⟨S1x1x256, .i32⟩
  | .hbm, ⟨51, _⟩ => ⟨S_, .i32⟩
  | .hbm, ⟨52, _⟩ => ⟨S1x1x256, .i32⟩
  | .hbm, ⟨53, _⟩ => ⟨S1x1x256, .i1⟩
  | .hbm, ⟨54, _⟩ => ⟨S16x1x256, .i1⟩
  | .hbm, ⟨55, _⟩ => ⟨S16x1x256, .i1⟩
  | .hbm, ⟨56, _⟩ => ⟨S16x1x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S1x16x1x1x128x256, .i1⟩
  | .hbm, ⟨61, _⟩ => ⟨S_, .f32⟩
  | .hbm, ⟨62, _⟩ => ⟨S_, .f32⟩
  | .hbm, ⟨63, _⟩ => ⟨S16x16x2x3x128x256, .i1⟩
  | .hbm, ⟨64, _⟩ => ⟨S16x16x2x3x128x256, .f32⟩
  | .hbm, ⟨65, _⟩ => ⟨S16x16x2x3x128x256, .f32⟩
  | .hbm, ⟨66, _⟩ => ⟨S1x1x2x3x1x1, .f32⟩
  | .hbm, ⟨67, _⟩ => ⟨S16x16x2x3x128x1, .f32⟩
  | .hbm, ⟨68, _⟩ => ⟨S16x16x2x3x128x257, .f32⟩
  | .hbm, ⟨69, _⟩ => ⟨S_, .f32⟩
  | .hbm, ⟨70, _⟩ => ⟨S16x16x2x3x128, .f32⟩
  | .hbm, ⟨71, _⟩ => ⟨S_, .f32⟩
  | .hbm, ⟨72, _⟩ => ⟨S16x16x2x3x128, .f32⟩
  | .hbm, ⟨73, _⟩ => ⟨S16x16x2x3x128, .f32⟩
  | .hbm, ⟨74, _⟩ => ⟨S16x16x2x3x128x1, .f32⟩
  | .hbm, ⟨75, _⟩ => ⟨S16x16x2x3x128x257, .f32⟩
  | .hbm, ⟨76, _⟩ => ⟨S16x16x2x3x128x257, .f32⟩
  | .hbm, ⟨77, _⟩ => ⟨S16x16x2x3x128x257, .f32⟩
  | .hbm, ⟨78, _⟩ => ⟨S_, .f32⟩
  | .hbm, ⟨79, _⟩ => ⟨S16x16x2x3x128, .f32⟩
  | .hbm, ⟨80, _⟩ => ⟨S16x16x2x3x128x1, .f32⟩
  | .hbm, ⟨81, _⟩ => ⟨S16x16x2x3x128x257, .f32⟩
  | .hbm, ⟨82, _⟩ => ⟨S16x16x2x3x128x257, .f32⟩
  | .hbm, ⟨83, _⟩ => ⟨S16x16x2x3x128x256, .f32⟩
  | .hbm, ⟨84, _⟩ => ⟨S16x16x2x64x3x128, .f32⟩
  | .hbm, ⟨85, _⟩ => ⟨S16x16x128x2x3x64, .f32⟩
  | .hbm, ⟨86, _⟩ => ⟨S16x2048x384, .f32⟩
  | .hbm, ⟨87, _⟩ => ⟨S16x2048x384, .f32⟩
  | _, _ => ⟨S16x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x1024 : Shape := ⟨2, ![2, 1024]⟩
abbrev S2x1024x2560 : Shape := ⟨3, ![2, 1024, 2560]⟩
abbrev S2x64 : Shape := ⟨2, ![2, 64]⟩
abbrev S2x1x1024 : Shape := ⟨3, ![2, 1, 1024]⟩
abbrev S2x1024x256 : Shape := ⟨3, ![2, 1024, 256]⟩
abbrev S2x1024x384 : Shape := ⟨3, ![2, 1024, 384]⟩
abbrev S2x1024x128 : Shape := ⟨3, ![2, 1024, 128]⟩
abbrev S2x1024x2x3x64 : Shape := ⟨5, ![2, 1024, 2, 3, 64]⟩
abbrev S2x1024x3x2x64 : Shape := ⟨5, ![2, 1024, 3, 2, 64]⟩
abbrev S2x128 : Shape := ⟨2, ![2, 128]⟩
abbrev S2x1x128 : Shape := ⟨3, ![2, 1, 128]⟩
abbrev S16x2048x256 : Shape := ⟨3, ![16, 2048, 256]⟩
abbrev S16x2048x384 : Shape := ⟨3, ![16, 2048, 384]⟩
abbrev S16x2048x128 : Shape := ⟨3, ![16, 2048, 128]⟩
abbrev S1x1024x1024 : Shape := ⟨3, ![1, 1024, 1024]⟩
abbrev S1x1x1024 : Shape := ⟨3, ![1, 1, 1024]⟩
abbrev S1x1024x2560 : Shape := ⟨3, ![1, 1024, 2560]⟩
abbrev S1x1x128 : Shape := ⟨3, ![1, 1, 128]⟩
abbrev S1x1024x256 : Shape := ⟨3, ![1, 1024, 256]⟩
abbrev S1x1024x384 : Shape := ⟨3, ![1, 1024, 384]⟩
abbrev S1x1024x128 : Shape := ⟨3, ![1, 1024, 128]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩
abbrev S1x128 : Shape := ⟨2, ![1, 128]⟩
abbrev S1x512x128 : Shape := ⟨3, ![1, 512, 128]⟩
abbrev S_ : Shape := ⟨0, ![]⟩
abbrev S16x2048x3x2x64 : Shape := ⟨5, ![16, 2048, 3, 2, 64]⟩
abbrev S16x2048x2x3x64 : Shape := ⟨5, ![16, 2048, 2, 3, 64]⟩
abbrev S16x2048x6x64 : Shape := ⟨4, ![16, 2048, 6, 64]⟩
abbrev S16x2048x2x64 : Shape := ⟨4, ![16, 2048, 2, 64]⟩

abbrev nBuf : Space → Nat
  | .hbm => 90
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2560, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x1x1024, .f32⟩
  | .hbm, ⟨8, _⟩ => ⟨S2x1024x256, .f32⟩
  | .hbm, ⟨9, _⟩ => ⟨S2x1024x256, .f32⟩
  | .hbm, ⟨10, _⟩ => ⟨S2x1024x384, .f32⟩
  | .hbm, ⟨11, _⟩ => ⟨S2x1024x128, .f32⟩
  | .hbm, ⟨12, _⟩ => ⟨S2x1024x128, .f32⟩
  | .hbm, ⟨13, _⟩ => ⟨S2x1024x384, .f32⟩
  | .hbm, ⟨14, _⟩ => ⟨S2x1024x384, .f32⟩
  | .hbm, ⟨15, _⟩ => ⟨S2x1024x128, .f32⟩
  | .hbm, ⟨16, _⟩ => ⟨S2x1024x128, .f32⟩
  | .hbm, ⟨17, _⟩ => ⟨S2x1024x384, .f32⟩
  | .hbm, ⟨18, _⟩ => ⟨S2x1024x2x3x64, .f32⟩
  | .hbm, ⟨19, _⟩ => ⟨S2x1024x3x2x64, .f32⟩
  | .hbm, ⟨20, _⟩ => ⟨S2x1024x384, .f32⟩
  | .hbm, ⟨21, _⟩ => ⟨S2x1024x2x3x64, .f32⟩
  | .hbm, ⟨22, _⟩ => ⟨S2x1024x3x2x64, .f32⟩
  | .hbm, ⟨23, _⟩ => ⟨S2x1024x384, .f32⟩
  | .hbm, ⟨24, _⟩ => ⟨S2x1024x2x3x64, .f32⟩
  | .hbm, ⟨25, _⟩ => ⟨S2x1024x3x2x64, .f32⟩
  | .hbm, ⟨26, _⟩ => ⟨S2x1024x384, .f32⟩
  | .hbm, ⟨27, _⟩ => ⟨S2x1024x2x3x64, .f32⟩
  | .hbm, ⟨28, _⟩ => ⟨S2x1024x3x2x64, .f32⟩
  | .hbm, ⟨29, _⟩ => ⟨S2x1024x384, .f32⟩
  | .hbm, ⟨30, _⟩ => ⟨S2x1024x2560, .f32⟩
  | .hbm, ⟨31, _⟩ => ⟨S2x1024x2560, .bf16⟩
  | .hbm, ⟨32, _⟩ => ⟨S2x128, .f32⟩
  | .hbm, ⟨33, _⟩ => ⟨S2x1x128, .f32⟩
  | .hbm, ⟨34, _⟩ => ⟨S2x128, .f32⟩
  | .hbm, ⟨35, _⟩ => ⟨S2x1x128, .f32⟩
  | .hbm, ⟨36, _⟩ => ⟨S2x128, .f32⟩
  | .hbm, ⟨37, _⟩ => ⟨S2x1x128, .f32⟩
  | .hbm, ⟨38, _⟩ => ⟨S2x128, .f32⟩
  | .hbm, ⟨39, _⟩ => ⟨S2x1x128, .f32⟩
  | .hbm, ⟨40, _⟩ => ⟨S16x2048x256, .bf16⟩
  | .hbm, ⟨41, _⟩ => ⟨S16x2048x256, .bf16⟩
  | .hbm, ⟨42, _⟩ => ⟨S16x2048x384, .bf16⟩
  | .hbm, ⟨43, _⟩ => ⟨S16x2048x384, .bf16⟩
  | .hbm, ⟨44, _⟩ => ⟨S16x2048x384, .bf16⟩
  | .hbm, ⟨45, _⟩ => ⟨S16x2048x128, .f32⟩
  | .hbm, ⟨46, _⟩ => ⟨S16x2048x384, .bf16⟩
  | .hbm, ⟨47, _⟩ => ⟨S16x2048x256, .bf16⟩
  | .hbm, ⟨48, _⟩ => ⟨S16x2048x256, .bf16⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x2048x256, .f32⟩
  | .hbm, ⟨54, _⟩ => ⟨S16x2048x256, .f32⟩
  | .hbm, ⟨55, _⟩ => ⟨S16x2048x3x2x64, .bf16⟩
  | .hbm, ⟨56, _⟩ => ⟨S16x2048x2x3x64, .bf16⟩
  | .hbm, ⟨57, _⟩ => ⟨S16x2048x384, .bf16⟩
  | .hbm, ⟨58, _⟩ => ⟨S16x2048x384, .f32⟩
  | .hbm, ⟨59, _⟩ => ⟨S16x2048x6x64, .f32⟩
  | .hbm, ⟨60, _⟩ => ⟨S16x2048x6x64, .f32⟩
  | .hbm, ⟨61, _⟩ => ⟨S16x2048x6x64, .f32⟩
  | .hbm, ⟨62, _⟩ => ⟨S16x2048x128, .bf16⟩
  | .hbm, ⟨63, _⟩ => ⟨S16x2048x128, .f32⟩
  | .hbm, ⟨64, _⟩ => ⟨S16x2048x2x64, .f32⟩
  | .hbm, ⟨65, _⟩ => ⟨S16x2048x128, .bf16⟩
  | .hbm, ⟨66, _⟩ => ⟨S16x2048x128, .f32⟩
  | .hbm, ⟨67, _⟩ => ⟨S16x2048x2x64, .f32⟩
  | .hbm, ⟨68, _⟩ => ⟨S16x2048x3x2x64, .bf16⟩
  | .hbm, ⟨69, _⟩ => ⟨S16x2048x2x3x64, .bf16⟩
  | .hbm, ⟨70, _⟩ => ⟨S16x2048x384, .bf16⟩
  | .hbm, ⟨71, _⟩ => ⟨S16x2048x384, .f32⟩
  | .hbm, ⟨72, _⟩ => ⟨S16x2048x3x2x64, .bf16⟩
  | .hbm, ⟨73, _⟩ => ⟨S16x2048x2x3x64, .bf16⟩
  | .hbm, ⟨74, _⟩ => ⟨S16x2048x384, .bf16⟩
  | .hbm, ⟨75, _⟩ => ⟨S16x2048x384, .f32⟩
  | .hbm, ⟨76, _⟩ => ⟨S16x2048x6x64, .f32⟩
  | .hbm, ⟨77, _⟩ => ⟨S16x2048x6x64, .f32⟩
  | .hbm, ⟨78, _⟩ => ⟨S16x2048x6x64, .f32⟩
  | .hbm, ⟨79, _⟩ => ⟨S16x2048x128, .bf16⟩
  | .hbm, ⟨80, _⟩ => ⟨S16x2048x128, .f32⟩
  | .hbm, ⟨81, _⟩ => ⟨S16x2048x2x64, .f32⟩
  | .hbm, ⟨82, _⟩ => ⟨S16x2048x128, .bf16⟩
  | .hbm, ⟨83, _⟩ => ⟨S16x2048x128, .f32⟩
  | .hbm, ⟨84, _⟩ => ⟨S16x2048x2x64, .f32⟩
  | .hbm, ⟨85, _⟩ => ⟨S16x2048x3x2x64, .bf16⟩
  | .hbm, ⟨86, _⟩ => ⟨S16x2048x2x3x64, .bf16⟩
  | .hbm, ⟨87, _⟩ => ⟨S16x2048x384, .bf16⟩
  | .hbm, ⟨88, _⟩ => ⟨S16x2048x384, .f32⟩
  | .hbm, ⟨89, _⟩ => ⟨S16x2048x2x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x2560, .bf16⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x384, .bf16⟩
  | .local _ .vmem, ⟨13, _⟩ => ⟨S1x1024x384, .bf16⟩
  | .local _ .vmem, ⟨14, _⟩ => ⟨S1x1024x384, .bf16⟩
  | .local _ .vmem, ⟨15, _⟩ => ⟨S1x1024x384, .bf16⟩
  | .local _ .vmem, ⟨16, _⟩ => ⟨S1x1024x384, .bf16⟩
  | .local _ .vmem, ⟨17, _⟩ => ⟨S1x1024x384, .bf16⟩
  | .local _ .vmem, ⟨18, _⟩ => ⟨S1x1024x128, .f32⟩
  | .local _ .vmem, ⟨19, _⟩ => ⟨S1x1024x128, .f32⟩
  | .local _ .vmem, ⟨20, _⟩ => ⟨S1x1024x384, .bf16⟩
  | .local _ .vmem, ⟨21, _⟩ => ⟨S1x1024x384, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x1024x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev main_v33_3 : Ref sig .tc := ⟨.hbm, 43, rfl⟩
abbrev main_v33_4 : Ref sig .tc := ⟨.hbm, 44, rfl⟩
abbrev main_v33_5 : Ref sig .tc := ⟨.hbm, 45, rfl⟩
abbrev main_v33_6 : Ref sig .tc := ⟨.hbm, 46, rfl⟩
abbrev main_v33_7 : Ref sig .tc := ⟨.hbm, 47, rfl⟩
abbrev main_v33_8 : Ref sig .tc := ⟨.hbm, 48, rfl⟩
abbrev main_cst : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel2Ideal.lean ====
variable {F : FTy → Type} [FloatOps F] [Named F]
def κ : String → Option EReal := fun
  | "qscale" => some (((1 / 8) * (Real.log 2)⁻¹ : ℝ) : EReal)
  | _ => none
-- ==== Reference2Ideal.lean ====
abbrev S16x2048x1024 : Shape := ⟨3, ![16, 2048, 1024]⟩
abbrev S2x1024 : Shape := ⟨2, ![2, 1024]⟩
abbrev S2x1024x2560 : Shape := ⟨3, ![2, 1024, 2560]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S16x2048x2560 : Shape := ⟨3, ![16, 2048, 2560]⟩
abbrev S16x2048x256 : Shape := ⟨3, ![16, 2048, 256]⟩
abbrev S16x2048x384 : Shape := ⟨3, ![16, 2048, 384]⟩
abbrev S16x2048x128 : Shape := ⟨3, ![16, 2048, 128]⟩
abbrev S16x2048x6x64 : Shape := ⟨4, ![16, 2048, 6, 64]⟩
abbrev S1x64 : Shape := ⟨2, ![1, 64]⟩
abbrev S64 : Shape := ⟨1, ![64]⟩
abbrev S16x2048x6 : Shape := ⟨3, ![16, 2048, 6]⟩
abbrev S16x2048x6x1 : Shape := ⟨4, ![16, 2048, 6, 1]⟩
abbrev S1x1x1x64 : Shape := ⟨4, ![1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x3x64 : Shape := ⟨5, ![16, 2048, 2, 3, 64]⟩

abbrev nBuf : Space → Nat
  | .hbm => 146
  | .vmem => 0
  | .smem => 0
  | _ => 0

abbrev hbmTy0_0 (i : Nat) : BufTy := match i % 128 with
  | 0 => ⟨S16x2048x1024, .f32⟩
  | 1 => ⟨S2x1024, .f32⟩
  | 2 => ⟨S2x1024x2560, .f32⟩
  | 3 => ⟨S2x64, .f32⟩
  | 4 => ⟨S2x64, .f32⟩
  | 5 => ⟨S2x64, .f32⟩
  | 6 => ⟨S2x64, .f32⟩
  | 7 => ⟨S1x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S1x1024x2560, .f32⟩
  | 26 => ⟨S1024x2560, .f32⟩
  | 27 => ⟨S16x2048x2560, .f32⟩
  | 28 => ⟨S16x2048x256, .f32⟩
  | 29 => ⟨S16x2048x256, .f32⟩
  | 30 => ⟨S16x2048x384, .f32⟩
  | 31 => ⟨S16x2048x128, .f32⟩
  | 32 => ⟨S16x2048x128, .f32⟩
  | 33 => ⟨S16x2048x384, .f32⟩
  | 34 => ⟨S16x2048x384, .f32⟩
  | 35 => ⟨S16x2048x128, .f32⟩
  | 36 => ⟨S16x2048x128, .f32⟩
  | 37 => ⟨S16x2048x384, .f32⟩
  | 38 => ⟨S16x2048x6x64, .f32⟩
  | 39 => ⟨S1x64, .f32⟩
  | 40 => ⟨S64, .f32⟩
  | 41 => ⟨S16x2048x6x64, .f32⟩
  | 42 => ⟨S_, .f32⟩
  | 43 => ⟨S16x2048x6, .f32⟩
  | 44 => ⟨S16x2048x6x1, .f32⟩
  | 45 => ⟨S_, .f32⟩
  | 46 => ⟨S16x2048x6x1, .f32⟩
  | 47 => ⟨S16x2048x6x1, .f32⟩
  | 48 => ⟨S_, .f32⟩
  | 49 => ⟨S16x2048x6x1, .f32⟩
  | 50 => ⟨S16x2048x6x1, .f32⟩
  | 51 => ⟨S16x2048x6x1, .f32⟩
  | 52 => ⟨S16x2048x6x64, .f32⟩
  | 53 => ⟨S16x2048x6x64, .f32⟩
  | 54 => ⟨S1x1x1x64, .f32⟩
  | 55 => ⟨S16x2048x6x64, .f32⟩
  | 56 => ⟨S16x2048x6x64, .f32⟩
  | 57 => ⟨S16x2048x2x64, .f32⟩
  | 58 => ⟨S1x64, .f32⟩
  | 59 => ⟨S64, .f32⟩
  | 60 => ⟨S16x2048x2x64, .f32⟩
  | 61 => ⟨S_, .f32⟩
  | 62 => ⟨S16x2048x2, .f32⟩
  | 63 => ⟨S16x2048x2x1, .f32⟩
  | 64 => ⟨S_, .f32⟩
  | 65 => ⟨S16x2048x2x1, .f32⟩
  | 66 => ⟨S16x2048x2x1, .f32⟩
  | 67 => ⟨S_, .f32⟩
  | 68 => ⟨S16x2048x2x1, .f32⟩
  | 69 => ⟨S16x2048x2x1, .f32⟩
  | 70 => ⟨S16x2048x2x1, .f32⟩
  | 71 => ⟨S16x2048x2x64, .f32⟩
  | 72 => ⟨S16x2048x2x64, .f32⟩
  | 73 => ⟨S1x1x1x64, .f32⟩
  | 74 => ⟨S16x2048x2x64, .f32⟩
  | 75 => ⟨S16x2048x2x64, .f32⟩
  | 76 => ⟨S16x2048x6x64, .f32⟩
  | 77 => ⟨S1x64, .f32⟩
  | 78 => ⟨S64, .f32⟩
  | 79 => ⟨S16x2048x6x64, .f32⟩
  | 80 => ⟨S_, .f32⟩
  | 81 => ⟨S16x2048x6, .f32⟩
  | 82 => ⟨S16x2048x6x1, .f32⟩
  | 83 => ⟨S_, .f32⟩
  | 84 => ⟨S16x2048x6x1, .f32⟩
  | 85 => ⟨S16x2048x6x1, .f32⟩
  | 86 => ⟨S_, .f32⟩
  | 87 => ⟨S16x2048x6x1, .f32⟩
  | 88 => ⟨S16x2048x6x1, .f32⟩
  | 89 => ⟨S16x2048x6x1, .f32⟩
  | 90 => ⟨S16x2048x6x64, .f32⟩
  | 91 => ⟨S16x2048x6x64, .f32⟩
  | 92 => ⟨S1x1x1x64, .f32⟩
  | 93 => ⟨S16x2048x6x64, .f32⟩
  | 94 => ⟨S16x2048x6x64, .f32⟩
  | 95 => ⟨S16x2048x2x64, .f32⟩
  | 96 => ⟨S1x64, .f32⟩
  | 97 => ⟨S64, .f32⟩
  | 98 => ⟨S16x2048x2x64, .f32⟩
  | 99 => ⟨S_, .f32⟩
  | 100 => ⟨S16x2048x2, .f32⟩
  | 101 => ⟨S16x2048x2x1, .f32⟩
  | 102 => ⟨S_, .f32⟩
  | 103 => ⟨S16x2048x2x1, .f32⟩
  | 104 => ⟨S16x2048x2x1, .f32⟩
  | 105 => ⟨S_, .f32⟩
  | 106 => ⟨S16x2048x2x1, .f32⟩
  | 107 => ⟨S16x2048x2x1, .f32⟩
  | 108 => ⟨S16x2048x2x1, .f32⟩
  | 109 => ⟨S16x2048x2x64, .f32⟩
  | 110 => ⟨S16x2048x2x64, .f32⟩
  | 111 => ⟨S1x1x1x64, .f32⟩
  | 112 => ⟨S16x2048x2x64, .f32⟩
  | 113 => ⟨S16x2048x2x64, .f32⟩
  | 114 => ⟨S16x2048x256, .f32⟩
  | 115 => ⟨S16x2048x256, .f32⟩
  | 116 => ⟨S_, .f32⟩
  | 117 => ⟨S16x2048x256, .f32⟩
  | 118 => ⟨S16x2048x256, .f32⟩
  | 119 => ⟨S_, .f32⟩
  | 120 => ⟨S16x2048x256, .f32⟩
  | 121 => ⟨S16x2048x256, .f32⟩
  | 122 => ⟨S16x2048x256, .f32⟩
  | 123 => ⟨S16x2048x2x64, .f32⟩
  | 124 => ⟨S16x2048x384, .f32⟩
  | 125 => ⟨S16x2048x384, .f32⟩
  | 126 => ⟨S_, .f32⟩
  | 127 => ⟨S16x2048x384, .f32⟩
  | _ => ⟨S16x2048x1024, .f32⟩

abbrev hbmTy0_1 (i : Nat) : BufTy := match i % 128 with
  | 0 => ⟨S16x2048x384, .f32⟩
  | 1 => ⟨S_, .f32⟩
  | 2 => ⟨S16x2048x384, .f32⟩
  | 3 => ⟨S16x2048x384, .f32⟩
  | 4 => ⟨S16x2048x384, .f32⟩
  | 5 => ⟨S16x2048x2x64, .f32⟩
  | 6 => ⟨S16x2048x384, .f32⟩
  | 7 => ⟨S16x2048x384, .f32⟩
  | 8 => ⟨S_, .f32⟩
  | 9 => ⟨S16x2048x384, .f32⟩
  | 10 => ⟨S16x2048x384, .f32⟩
  | 11 => ⟨S_, .f32⟩
  | 12 => ⟨S16x2048x384, .f32⟩
  | 13 => ⟨S16x2048x384, .f32⟩
  | 14 => ⟨S16x2048x384, .f32⟩
  | 15 => ⟨S16x2048x2x3x64, .f32⟩
  | 16 => ⟨S_, .f32⟩
  | 17 => ⟨S16x2048x2x64, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_11 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v92 : Ref sig .tc := ⟨.hbm, 122, rfl⟩
abbrev main_v93 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_call1_v5 : Ref sig .tc := ⟨.hbm, 131, rfl⟩
abbrev main_v94 : Ref sig .tc := ⟨.hbm, 132, rfl⟩
abbrev main_v95 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_call2_v5 : Ref sig .tc := ⟨.hbm, 141, rfl⟩
abbrev main_v96 : Ref sig .tc := ⟨.hbm, 142, rfl⟩
abbrev main_v97 : Ref sig .tc := ⟨.hbm, 143, rfl⟩
abbrev main_cst_14 : Ref sig .tc := ⟨.hbm, 144, rfl⟩
abbrev main_v98 : Ref sig .tc := ⟨.hbm, 145, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x256 : Shape := ⟨3, ![16, 2048, 256]⟩
abbrev S16x2048x384 : Shape := ⟨3, ![16, 2048, 384]⟩
abbrev S2x1024x1024 : Shape := ⟨3, ![2, 1024, 1024]⟩
abbrev S2x1024 : Shape := ⟨2, ![2, 1024]⟩
abbrev S2x1024x2560 : Shape := ⟨3, ![2, 1024, 2560]⟩
abbrev S2x64 : Shape := ⟨2, ![2, 64]⟩
abbrev S2x1x1024 : Shape := ⟨3, ![2, 1, 1024]⟩
abbrev S2x1024x256 : Shape := ⟨3, ![2, 1024, 256]⟩
abbrev S2x1024x384 : Shape := ⟨3, ![2, 1024, 384]⟩
abbrev S2x1024x128 : Shape := ⟨3, ![2, 1024, 128]⟩
abbrev S2x1024x2x3x64 : Shape := ⟨5, ![2, 1024, 2, 3, 64]⟩
abbrev S2x1024x3x2x64 : Shape := ⟨5, ![2, 1024, 3, 2, 64]⟩
abbrev S2x256x1024 : Shape := ⟨3, ![2, 256, 1024]⟩
abbrev S2x384x1024 : Shape := ⟨3, ![2, 384, 1024]⟩
abbrev S2x128 : Shape := ⟨2, ![2, 128]⟩
abbrev S2x1x128 : Shape := ⟨3, ![2, 1, 128]⟩
abbrev S16x2048x2x3x64 : Shape := ⟨5, ![16, 2048, 2, 3, 64]⟩
abbrev S16x2048x3x2x64 : Shape := ⟨5, ![16, 2048, 3, 2, 64]⟩
abbrev S16x2048x128 : Shape := ⟨3, ![16, 2048, 128]⟩
abbrev S1x1024x1024 : Shape := ⟨3, ![1, 1024, 1024]⟩
abbrev S1x1024x256 : Shape := ⟨3, ![1, 1024, 256]⟩
abbrev S1x1024x384 : Shape := ⟨3, ![1, 1024, 384]⟩
abbrev S1x1x1024 : Shape := ⟨3, ![1, 1, 1024]⟩
abbrev S1x1024x2560 : Shape := ⟨3, ![1, 1024, 2560]⟩
abbrev S1x1x128 : Shape := ⟨3, ![1, 1, 128]⟩
abbrev S1x1024x128 : Shape := ⟨3, ![1, 1024, 128]⟩
abbrev S1024x256 : Shape := ⟨2, ![1024, 256]⟩
abbrev S1024x384 : Shape := ⟨2, ![1024, 384]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩
abbrev S1x128 : Shape := ⟨2, ![1, 128]⟩
abbrev S1x512x128 : Shape := ⟨3, ![1, 512, 128]⟩
abbrev S_ : Shape := ⟨0, ![]⟩
abbrev S16x2048x6x64 : Shape := ⟨4, ![16, 2048, 6, 64]⟩
abbrev S16x2048x2x64 : Shape := ⟨4, ![16, 2048, 2, 64]⟩

abbrev nBuf : Space → Nat
  | .hbm => 119
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x384, .f32⟩
  | .hbm, ⟨3, _⟩ => ⟨S16x2048x384, .f32⟩
  | .hbm, ⟨4, _⟩ => ⟨S2x1024x1024, .f32⟩
  | .hbm, ⟨5, _⟩ => ⟨S2x1024, .f32⟩
  | .hbm, ⟨6, _⟩ => ⟨S2x1024x2560, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S2x1x1024, .f32⟩
  | .hbm, ⟨12, _⟩ => ⟨S2x1024x256, .f32⟩
  | .hbm, ⟨13, _⟩ => ⟨S2x1024x256, .f32⟩
  | .hbm, ⟨14, _⟩ => ⟨S2x1024x384, .f32⟩
  | .hbm, ⟨15, _⟩ => ⟨S2x1024x128, .f32⟩
  | .hbm, ⟨16, _⟩ => ⟨S2x1024x128, .f32⟩
  | .hbm, ⟨17, _⟩ => ⟨S2x1024x384, .f32⟩
  | .hbm, ⟨18, _⟩ => ⟨S2x1024x384, .f32⟩
  | .hbm, ⟨19, _⟩ => ⟨S2x1024x128, .f32⟩
  | .hbm, ⟨20, _⟩ => ⟨S2x1024x128, .f32⟩
  | .hbm, ⟨21, _⟩ => ⟨S2x1024x384, .f32⟩
  | .hbm, ⟨22, _⟩ => ⟨S2x1024x2x3x64, .f32⟩
  | .hbm, ⟨23, _⟩ => ⟨S2x1024x3x2x64, .f32⟩
  | .hbm, ⟨24, _⟩ => ⟨S2x1024x384, .f32⟩
  | .hbm, ⟨25, _⟩ => ⟨S2x1024x2x3x64, .f32⟩
  | .hbm, ⟨26, _⟩ => ⟨S2x1024x3x2x64, .f32⟩
  | .hbm, ⟨27, _⟩ => ⟨S2x1024x384, .f32⟩
  | .hbm, ⟨28, _⟩ => ⟨S2x1024x2x3x64, .f32⟩
  | .hbm, ⟨29, _⟩ => ⟨S2x1024x3x2x64, .f32⟩
  | .hbm, ⟨30, _⟩ => ⟨S2x1024x384, .f32⟩
  | .hbm, ⟨31, _⟩ => ⟨S2x1024x2x3x64, .f32⟩
  | .hbm, ⟨32, _⟩ => ⟨S2x1024x3x2x64, .f32⟩
  | .hbm, ⟨33, _⟩ => ⟨S2x1024x384, .f32⟩
  | .hbm, ⟨34, _⟩ => ⟨S2x1024x2560, .f32⟩
  | .hbm, ⟨35, _⟩ => ⟨S2x1024x2560, .bf16⟩
  | .hbm, ⟨36, _⟩ => ⟨S2x256x1024, .f32⟩
  | .hbm, ⟨37, _⟩ => ⟨S2x384x1024, .f32⟩
  | .hbm, ⟨38, _⟩ => ⟨S2x1024x384, .f32⟩
  | .hbm, ⟨39, _⟩ => ⟨S2x1024x2x3x64, .f32⟩
  | .hbm, ⟨40, _⟩ => ⟨S2x1024x3x2x64, .f32⟩
  | .hbm, ⟨41, _⟩ => ⟨S2x1024x384, .f32⟩
  | .hbm, ⟨42, _⟩ => ⟨S2x384x1024, .f32⟩
  | .hbm, ⟨43, _⟩ => ⟨S2x384x1024, .f32⟩
  | .hbm, ⟨44, _⟩ => ⟨S2x1024x384, .f32⟩
  | .hbm, ⟨45, _⟩ => ⟨S2x1024x2x3x64, .f32⟩
  | .hbm, ⟨46, _⟩ => ⟨S2x1024x3x2x64, .f32⟩
  | .hbm, ⟨47, _⟩ => ⟨S2x1024x384, .f32⟩
  | .hbm, ⟨48, _⟩ => ⟨S2x384x1024, .f32⟩
  | .hbm, ⟨49, _⟩ => ⟨S2x1024x1024, .f32⟩
  | .hbm, ⟨50, _⟩ => ⟨S2x1024x1024, .bf16⟩
  | .hbm, ⟨51, _⟩ => ⟨S2x128, .f32⟩
  | .hbm, ⟨52, _⟩ => ⟨S2x1x128, .f32⟩
  | .hbm, ⟨53, _⟩ => ⟨S2x128, .f32⟩
  | .hbm, ⟨54, _⟩ => ⟨S2x1x128, .f32⟩
  | .hbm, ⟨55, _⟩ => ⟨S2x128, .f32⟩
  | .hbm, ⟨56, _⟩ => ⟨S2x1x128, .f32⟩
  | .hbm, ⟨57, _⟩ => ⟨S2x128, .f32⟩
  | .hbm, ⟨58, _⟩ => ⟨S2x1x128, .f32⟩
  | .hbm, ⟨59, _⟩ => ⟨S16x2048x256, .bf16⟩
  | .hbm, ⟨60, _⟩ => ⟨S16x2048x2x3x64, .f32⟩
  | .hbm, ⟨61, _⟩ => ⟨S16x2048x3x2x64, .f32⟩
  | .hbm, ⟨62, _⟩ => ⟨S16x2048x384, .f32⟩
  | .hbm, ⟨63, _⟩ => ⟨S16x2048x384, .bf16⟩
  | .hbm, ⟨64, _⟩ => ⟨S16x2048x2x3x64, .f32⟩
  | .hbm, ⟨65, _⟩ => ⟨S16x2048x3x2x64, .f32⟩
  | .hbm, ⟨66, _⟩ => ⟨S16x2048x384, .f32⟩
  | .hbm, ⟨67, _⟩ => ⟨S16x2048x384, .bf16⟩
  | .hbm, ⟨68, _⟩ => ⟨S16x2048x1024, .f32⟩
  | .hbm, ⟨69, _⟩ => ⟨S16x2048x256, .bf16⟩
  | .hbm, ⟨70, _⟩ => ⟨S16x2048x256, .bf16⟩
  | .hbm, ⟨71, _⟩ => ⟨S16x2048x384, .bf16⟩
  | .hbm, ⟨72, _⟩ => ⟨S16x2048x384, .bf16⟩
  | .hbm, ⟨73, _⟩ => ⟨S16x2048x384, .bf16⟩
  | .hbm, ⟨74, _⟩ => ⟨S16x2048x128, .f32⟩
  | .hbm, ⟨75, _⟩ => ⟨S16x2048x384, .bf16⟩
  | .hbm, ⟨76, _⟩ => ⟨S16x2048x256, .bf16⟩
  | .hbm, ⟨77, _⟩ => ⟨S16x2048x256, .bf16⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x2048x256, .f32⟩
  | .hbm, ⟨83, _⟩ => ⟨S16x2048x256, .f32⟩
  | .hbm, ⟨84, _⟩ => ⟨S16x2048x3x2x64, .bf16⟩
  | .hbm, ⟨85, _⟩ => ⟨S16x2048x2x3x64, .bf16⟩
  | .hbm, ⟨86, _⟩ => ⟨S16x2048x384, .bf16⟩
  | .hbm, ⟨87, _⟩ => ⟨S16x2048x384, .f32⟩
  | .hbm, ⟨88, _⟩ => ⟨S16x2048x6x64, .f32⟩
  | .hbm, ⟨89, _⟩ => ⟨S16x2048x6x64, .f32⟩
  | .hbm, ⟨90, _⟩ => ⟨S16x2048x6x64, .f32⟩
  | .hbm, ⟨91, _⟩ => ⟨S16x2048x128, .bf16⟩
  | .hbm, ⟨92, _⟩ => ⟨S16x2048x128, .f32⟩
  | .hbm, ⟨93, _⟩ => ⟨S16x2048x2x64, .f32⟩
  | .hbm, ⟨94, _⟩ => ⟨S16x2048x128, .bf16⟩
  | .hbm, ⟨95, _⟩ => ⟨S16x2048x128, .f32⟩
  | .hbm, ⟨96, _⟩ => ⟨S16x2048x2x64, .f32⟩
  | .hbm, ⟨97, _⟩ => ⟨S16x2048x3x2x64, .bf16⟩
  | .hbm, ⟨98, _⟩ => ⟨S16x2048x2x3x64, .bf16⟩
  | .hbm, ⟨99, _⟩ => ⟨S16x2048x384, .bf16⟩
  | .hbm, ⟨100, _⟩ => ⟨S16x2048x384, .f32⟩
  | .hbm, ⟨101, _⟩ => ⟨S16x2048x3x2x64, .bf16⟩
  | .hbm, ⟨102, _⟩ => ⟨S16x2048x2x3x64, .bf16⟩
  | .hbm, ⟨103, _⟩ => ⟨S16x2048x384, .bf16⟩
  | .hbm, ⟨104, _⟩ => ⟨S16x2048x384, .f32⟩
  | .hbm, ⟨105, _⟩ => ⟨S16x2048x6x64, .f32⟩
  | .hbm, ⟨106, _⟩ => ⟨S16x2048x6x64, .f32⟩
  | .hbm, ⟨107, _⟩ => ⟨S16x2048x6x64, .f32⟩
  | .hbm, ⟨108, _⟩ => ⟨S16x2048x128, .bf16⟩
  | .hbm, ⟨109, _⟩ => ⟨S16x2048x128, .f32⟩
  | .hbm, ⟨110, _⟩ => ⟨S16x2048x2x64, .f32⟩
  | .hbm, ⟨111, _⟩ => ⟨S16x2048x128, .bf16⟩
  | .hbm, ⟨112, _⟩ => ⟨S16x2048x128, .f32⟩
  | .hbm, ⟨113, _⟩ => ⟨S16x2048x2x64, .f32⟩
  | .hbm, ⟨114, _⟩ => ⟨S16x2048x3x2x64, .bf16⟩
  | .hbm, ⟨115, _⟩ => ⟨S16x2048x2x3x64, .bf16⟩
  | .hbm, ⟨116, _⟩ => ⟨S16x2048x384, .bf16⟩
  | .hbm, ⟨117, _⟩ => ⟨S16x2048x384, .f32⟩
  | .hbm, ⟨118, _⟩ => ⟨S16x2048x2x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x384, .bf16⟩
  | .local _ .vmem, ⟨5, _⟩ => ⟨S1x1024x384, .bf16⟩
  | .local _ .vmem, ⟨6, _⟩ => ⟨S1x1024x384, .bf16⟩
  | .local _ .vmem, ⟨7, _⟩ => ⟨S1x1024x384, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1024x2560, .bf16⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x384, .bf16⟩
  | .local _ .vmem, ⟨22, _⟩ => ⟨S1x1024x384, .bf16⟩
  | .local _ .vmem, ⟨23, _⟩ => ⟨S1x1024x384, .bf16⟩
  | .local _ .vmem, ⟨24, _⟩ => ⟨S1x1024x384, .bf16⟩
  | .local _ .vmem, ⟨25, _⟩ => ⟨S1x1024x384, .bf16⟩
  | .local _ .vmem, ⟨26, _⟩ => ⟨S1x1024x384, .bf16⟩
  | .local _ .vmem, ⟨27, _⟩ => ⟨S1x1024x128, .f32⟩
  | .local _ .vmem, ⟨28, _⟩ => ⟨S1x1024x128, .f32⟩
  | .local _ .vmem, ⟨29, _⟩ => ⟨S1x1024x384, .bf16⟩
  | .local _ .vmem, ⟨30, _⟩ => ⟨S1x1024x384, .bf16⟩
  | .local _ .vmem, ⟨31, _⟩ => ⟨S1x1024x256, .bf16⟩
  | .local _ .vmem, ⟨32, _⟩ => ⟨S1x1024x256, .bf16⟩
  | .local _ .vmem, ⟨33, _⟩ => ⟨S1x1024x256, .bf16⟩
  | .local _ .vmem, ⟨34, _⟩ => ⟨S1x1024x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57_0 : Ref sig .tc := ⟨.hbm, 68, rfl⟩
abbrev main_v57_1 : Ref sig .tc := ⟨.hbm, 69, rfl⟩
abbrev main_v57_2 : Ref sig .tc := ⟨.hbm, 70, rfl⟩
abbrev main_v57_3 : Ref sig .tc := ⟨.hbm, 71, rfl⟩
abbrev main_v57_4 : Ref sig .tc := ⟨.hbm, 72, rfl⟩
abbrev main_v57_5 : Ref sig .tc := ⟨.hbm, 73, rfl⟩
abbrev main_v57_6 : Ref sig .tc := ⟨.hbm, 74, rfl⟩
abbrev main_v57_7 : Ref sig .tc := ⟨.hbm, 75, rfl⟩
abbrev main_v57_8 : Ref sig .tc := ⟨.hbm, 76, rfl⟩
abbrev main_v57_9 : Ref sig .tc := ⟨.hbm, 77, rfl⟩
abbrev main_cst : Ref sig .tc := ⟨.hbm, 78, rfl⟩
abbrev main_v58 : Ref sig .tc := ⟨.hbm, 79, rfl⟩
abbrev main_cst_0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel3Ideal.lean ====
variable {F : FTy → Type} [FloatOps F] [Named F]
def κ : String → Option EReal := fun
  | "qscale" => some (((1 / 8) * (Real.log 2)⁻¹ : ℝ) : EReal)
  | _ => none
-- ==== Reference3Ideal.lean ====
abbrev S16x2048x1024 : Shape := ⟨3, ![16, 2048, 1024]⟩
abbrev S16x2048x256 : Shape := ⟨3, ![16, 2048, 256]⟩
abbrev S16x2048x384 : Shape := ⟨3, ![16, 2048, 384]⟩
abbrev S2x1024x1024 : Shape := ⟨3, ![2, 1024, 1024]⟩
abbrev S2x1024 : Shape := ⟨2, ![2, 1024]⟩
abbrev S2x1024x2560 : Shape := ⟨3, ![2, 1024, 2560]⟩
abbrev S2x64 : Shape := ⟨2, ![2, 64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S16x2048x2560 : Shape := ⟨3, ![16, 2048, 2560]⟩
abbrev S16x2048x128 : Shape := ⟨3, ![16, 2048, 128]⟩
abbrev S16x2048x6x64 : Shape := ⟨4, ![16, 2048, 6, 64]⟩
abbrev S1x64 : Shape := ⟨2, ![1, 64]⟩
abbrev S64 : Shape := ⟨1, ![64]⟩
abbrev S16x2048x6 : Shape := ⟨3, ![16, 2048, 6]⟩
abbrev S16x2048x6x1 : Shape := ⟨4, ![16, 2048, 6, 1]⟩
abbrev S1x1x1x64 : Shape := ⟨4, ![1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x3x64 : Shape := ⟨5, ![16, 2048, 2, 3, 64]⟩

abbrev nBuf : Space → Nat
  | .hbm => 155
  | .vmem => 0
  | .smem => 0
  | _ => 0

abbrev hbmTy0_0 (i : Nat) : BufTy := match i % 128 with
  | 0 => ⟨S16x2048x1024, .f32⟩
  | 1 => ⟨S16x2048x256, .f32⟩
  | 2 => ⟨S16x2048x384, .f32⟩
  | 3 => ⟨S16x2048x384, .f32⟩
  | 4 => ⟨S2x1024x1024, .f32⟩
  | 5 => ⟨S2x1024, .f32⟩
  | 6 => ⟨S2x1024x2560, .f32⟩
  | 7 => ⟨S2x64, .f32⟩
  | 8 => ⟨S2x64, .f32⟩
  | 9 => ⟨S2x64, .f32⟩
  | 10 => ⟨S2x64, .f32⟩
  | 11 => ⟨S16x2048x1024, .f32⟩
  | 12 => ⟨S1x1024x1024, .f32⟩
  | 13 => ⟨S1024x1024, .f32⟩
  | 14 => ⟨S16x2048x1024, .f32⟩
  | 15 => ⟨S16x2048x1024, .f32⟩
  | 16 => ⟨S1x1024, .f32⟩
  | 17 => ⟨S1024, .f32⟩
  | 18 => ⟨S16x2048x1024, .f32⟩
  | 19 => ⟨S_, .f32⟩
  | 20 => ⟨S16x2048, .f32⟩
  | 21 => ⟨S16x2048x1, .f32⟩
  | 22 => ⟨S_, .f32⟩
  | 23 => ⟨S16x2048x1, .f32⟩
  | 24 => ⟨S16x2048x1, .f32⟩
  | 25 => ⟨S_, .f32⟩
  | 26 => ⟨S16x2048x1, .f32⟩
  | 27 => ⟨S16x2048x1, .f32⟩
  | 28 => ⟨S16x2048x1, .f32⟩
  | 29 => ⟨S16x2048x1024, .f32⟩
  | 30 => ⟨S16x2048x1024, .f32⟩
  | 31 => ⟨S1x1x1024, .f32⟩
  | 32 => ⟨S16x2048x1024, .f32⟩
  | 33 => ⟨S16x2048x1024, .f32⟩
  | 34 => ⟨S1x1024x2560, .f32⟩
  | 35 => ⟨S1024x2560, .f32⟩
  | 36 => ⟨S16x2048x2560, .f32⟩
  | 37 => ⟨S16x2048x256, .f32⟩
  | 38 => ⟨S16x2048x256, .f32⟩
  | 39 => ⟨S16x2048x384, .f32⟩
  | 40 => ⟨S16x2048x128, .f32⟩
  | 41 => ⟨S16x2048x128, .f32⟩
  | 42 => ⟨S16x2048x384, .f32⟩
  | 43 => ⟨S16x2048x384, .f32⟩
  | 44 => ⟨S16x2048x128, .f32⟩
  | 45 => ⟨S16x2048x128, .f32⟩
  | 46 => ⟨S16x2048x384, .f32⟩
  | 47 => ⟨S16x2048x6x64, .f32⟩
  | 48 => ⟨S1x64, .f32⟩
  | 49 => ⟨S64, .f32⟩
  | 50 => ⟨S16x2048x6x64, .f32⟩
  | 51 => ⟨S_, .f32⟩
  | 52 => ⟨S16x2048x6, .f32⟩
  | 53 => ⟨S16x2048x6x1, .f32⟩
  | 54 => ⟨S_, .f32⟩
  | 55 => ⟨S16x2048x6x1, .f32⟩
  | 56 => ⟨S16x2048x6x1, .f32⟩
  | 57 => ⟨S_, .f32⟩
  | 58 => ⟨S16x2048x6x1, .f32⟩
  | 59 => ⟨S16x2048x6x1, .f32⟩
  | 60 => ⟨S16x2048x6x1, .f32⟩
  | 61 => ⟨S16x2048x6x64, .f32⟩
  | 62 => ⟨S16x2048x6x64, .f32⟩
  | 63 => ⟨S1x1x1x64, .f32⟩
  | 64 => ⟨S16x2048x6x64, .f32⟩
  | 65 => ⟨S16x2048x6x64, .f32⟩
  | 66 => ⟨S16x2048x2x64, .f32⟩
  | 67 => ⟨S1x64, .f32⟩
  | 68 => ⟨S64, .f32⟩
  | 69 => ⟨S16x2048x2x64, .f32⟩
  | 70 => ⟨S_, .f32⟩
  | 71 => ⟨S16x2048x2, .f32⟩
  | 72 => ⟨S16x2048x2x1, .f32⟩
  | 73 => ⟨S_, .f32⟩
  | 74 => ⟨S16x2048x2x1, .f32⟩
  | 75 => ⟨S16x2048x2x1, .f32⟩
  | 76 => ⟨S_, .f32⟩
  | 77 => ⟨S16x2048x2x1, .f32⟩
  | 78 => ⟨S16x2048x2x1, .f32⟩
  | 79 => ⟨S16x2048x2x1, .f32⟩
  | 80 => ⟨S16x2048x2x64, .f32⟩
  | 81 => ⟨S16x2048x2x64, .f32⟩
  | 82 => ⟨S1x1x1x64, .f32⟩
  | 83 => ⟨S16x2048x2x64, .f32⟩
  | 84 => ⟨S16x2048x2x64, .f32⟩
  | 85 => ⟨S16x2048x6x64, .f32⟩
  | 86 => ⟨S1x64, .f32⟩
  | 87 => ⟨S64, .f32⟩
  | 88 => ⟨S16x2048x6x64, .f32⟩
  | 89 => ⟨S_, .f32⟩
  | 90 => ⟨S16x2048x6, .f32⟩
  | 91 => ⟨S16x2048x6x1, .f32⟩
  | 92 => ⟨S_, .f32⟩
  | 93 => ⟨S16x2048x6x1, .f32⟩
  | 94 => ⟨S16x2048x6x1, .f32⟩
  | 95 => ⟨S_, .f32⟩
  | 96 => ⟨S16x2048x6x1, .f32⟩
  | 97 => ⟨S16x2048x6x1, .f32⟩
  | 98 => ⟨S16x2048x6x1, .f32⟩
  | 99 => ⟨S16x2048x6x64, .f32⟩
  | 100 => ⟨S16x2048x6x64, .f32⟩
  | 101 => ⟨S1x1x1x64, .f32⟩
  | 102 => ⟨S16x2048x6x64, .f32⟩
  | 103 => ⟨S16x2048x6x64, .f32⟩
  | 104 => ⟨S16x2048x2x64, .f32⟩
  | 105 => ⟨S1x64, .f32⟩
  | 106 => ⟨S64, .f32⟩
  | 107 => ⟨S16x2048x2x64, .f32⟩
  | 108 => ⟨S_, .f32⟩
  | 109 => ⟨S16x2048x2, .f32⟩
  | 110 => ⟨S16x2048x2x1, .f32⟩
  | 111 => ⟨S_, .f32⟩
  | 112 => ⟨S16x2048x2x1, .f32⟩
  | 113 => ⟨S16x2048x2x1, .f32⟩
  | 114 => ⟨S_, .f32⟩
  | 115 => ⟨S16x2048x2x1, .f32⟩
  | 116 => ⟨S16x2048x2x1, .f32⟩
  | 117 => ⟨S16x2048x2x1, .f32⟩
  | 118 => ⟨S16x2048x2x64, .f32⟩
  | 119 => ⟨S16x2048x2x64, .f32⟩
  | 120 => ⟨S1x1x1x64, .f32⟩
  | 121 => ⟨S16x2048x2x64, .f32⟩
  | 122 => ⟨S16x2048x2x64, .f32⟩
  | 123 => ⟨S16x2048x256, .f32⟩
  | 124 => ⟨S16x2048x256, .f32⟩
  | 125 => ⟨S_, .f32⟩
  | 126 => ⟨S16x2048x256, .f32⟩
  | 127 => ⟨S16x2048x256, .f32⟩
  | _ => ⟨S16x2048x1024, .f32⟩

abbrev hbmTy0_1 (i : Nat) : BufTy := match i % 128 with
  | 0 => ⟨S_, .f32⟩
  | 1 => ⟨S16x2048x256, .f32⟩
  | 2 => ⟨S16x2048x256, .f32⟩
  | 3 => ⟨S16x2048x256, .f32⟩
  | 4 => ⟨S16x2048x2x64, .f32⟩
  | 5 => ⟨S16x2048x384, .f32⟩
  | 6 => ⟨S16x2048x384, .f32⟩
  | 7 => ⟨S_, .f32⟩
  | 8 => ⟨S16x2048x384, .f32⟩
  | 9 => ⟨S16x2048x384, .f32⟩
  | 10 => ⟨S_, .f32⟩
  | 11 => ⟨S16x2048x384, .f32⟩
  | 12 => ⟨S16x2048x384, .f32⟩
  | 13 => ⟨S16x2048x384, .f32⟩
  | 14 => ⟨S16x2048x2x64, .f32⟩
  | 15 => ⟨S16x2048x384, .f32⟩
  | 16 => ⟨S16x2048x384, .f32⟩
  | 17 => ⟨S_, .f32⟩
  | 18 => ⟨S16x2048x384, .f32⟩
  | 19 => ⟨S16x2048x384, .f32⟩
  | 20 => ⟨S_, .f32⟩
  | 21 => ⟨S16x2048x384, .f32⟩
  | 22 => ⟨S16x2048x384, .f32⟩
  | 23 => ⟨S16x2048x384, .f32⟩
  | 24 => ⟨S16x2048x2x3x64, .f32⟩
  | 25 => ⟨S_, .f32⟩
  | 26 => ⟨S16x2048x2x64, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_call0_v0 : Ref sig .tc := ⟨.hbm, 123, rfl⟩
abbrev main_call0_v1 : Ref sig .tc := ⟨.hbm, 124, rfl⟩
abbrev main_call0_cst : Ref sig .tc := ⟨.hbm, 125, rfl⟩
abbrev main_call0_v2 : Ref sig .tc := ⟨.hbm, 126, rfl⟩
abbrev main_call0_v3 : Ref sig .tc := ⟨.hbm, 127, rfl⟩
abbrev main_call0_cst_0 : Ref sig .tc := ⟨.hbm, 128, rfl⟩
abbrev main_call0_v4 : Ref sig .tc := ⟨.hbm, 129, rfl⟩
abbrev main_call0_v5 : Ref sig .tc := ⟨.hbm, 130, rfl⟩
abbrev main_v97 : Ref sig .tc := ⟨.hbm, 131, rfl⟩
abbrev main_v98 : Ref sig .tc := ⟨.hbm, 132, rfl⟩
abbrev main_call1_v0 : Ref sig .tc := ⟨.hbm, 133, rfl⟩
abbrev main_call1_v1 : Ref sig .tc := ⟨.hbm, 134, rfl⟩
abbrev main_call1_cst : Ref sig .tc := ⟨.hbm, 135, rfl⟩
abbrev main_call1_v2 : Ref sig .tc := ⟨.hbm, 136, rfl⟩
abbrev main_call1_v3 : Ref sig .tc := ⟨.hbm, 137, rfl⟩
abbrev main_call1_cst_0 : Ref sig .tc := ⟨.hbm, 138, rfl⟩
abbrev main_call1_v4 : Ref sig .tc := ⟨.hbm, 139, rfl⟩
abbrev main_call1_v5 : Ref sig .tc := ⟨.hbm, 140, rfl⟩
abbrev main_v99 : Ref sig .tc := ⟨.hbm, 141, rfl⟩
abbrev main_v100 : Ref sig .tc := ⟨.hbm, 142, rfl⟩
abbrev main_call2_v0 : Ref sig .tc := ⟨.hbm, 143, rfl⟩
abbrev main_call2_v1 : Ref sig .tc := ⟨.hbm, 144, rfl⟩
abbrev main_call2_cst : Ref sig .tc := ⟨.hbm, 145, rfl⟩
abbrev main_call2_v2 : Ref sig .tc := ⟨.hbm, 146, rfl⟩
abbrev main_call2_v3 : Ref sig .tc := ⟨.hbm, 147, rfl⟩
abbrev main_call2_cst_0 : Ref sig .tc := ⟨.hbm, 148, rfl⟩
abbrev main_call2_v4 : Ref sig .tc := ⟨.hbm, 149, rfl⟩
abbrev main_call2_v5 : Ref sig .tc := ⟨.hbm, 150, rfl⟩
abbrev main_v101 : Ref sig .tc := ⟨.hbm, 151, rfl⟩
abbrev main_v102 : Ref sig .tc := ⟨.hbm, 152, rfl⟩
abbrev main_cst_14 : Ref sig .tc := ⟨.hbm, 153, rfl⟩
abbrev main_v103 : Ref sig .tc := ⟨.hbm, 154, rfl⟩

abbrev nD : Nat := 1
abbrev τ : Topo := Topo.v7x

variable {F : FTy → Type} [FloatOps F]
-- ==== Kernel4.lean ====
abbrev S2x16x64 : Shape := ⟨3, ![2, 16, 64]⟩
abbrev S2x16 : Shape := ⟨2, ![2, 16]⟩
abbrev S2x16x64x16 : Shape := ⟨4, ![2, 16, 64, 16]⟩
abbrev S32x1x64 : Shape := ⟨3, ![32, 1, 64]⟩
abbrev S32x16x64 : Shape := ⟨3, ![32, 16, 64]⟩
abbrev S2x16x1 : Shape := ⟨3, ![2, 16, 1]⟩
abbrev S32x1x1 : Shape := ⟨3, ![32, 1, 1]⟩
abbrev S2x16x16x64 : Shape := ⟨4, ![2, 16, 16, 64]⟩
abbrev S32x64 : Shape := ⟨2, ![32, 64]⟩

abbrev nBuf : Space → Nat
  | .hbm => 30
  | .vmem => 9
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16, .f32⟩
  | .hbm, ⟨4, _⟩ => ⟨S2x16x64x16, .f32⟩
  | .hbm, ⟨5, _⟩ => ⟨S32x1x64, .f32⟩
  | .hbm, ⟨6, _⟩ => ⟨S32x16x64, .f32⟩
  | .hbm, ⟨7, _⟩ => ⟨S32x1x64, .f32⟩
  | .hbm, ⟨8, _⟩ => ⟨S32x16x64, .f32⟩
  | .hbm, ⟨9, _⟩ => ⟨S2x16x1, .f32⟩
  | .hbm, ⟨10, _⟩ => ⟨S32x1x1, .f32⟩
  | .hbm, ⟨11, _⟩ => ⟨S32x16x64, .f32⟩
  | .hbm, ⟨12, _⟩ => ⟨S2x16x16x64, .f32⟩
  | .hbm, ⟨13, _⟩ => ⟨S32x16x64, .f32⟩
  | .hbm, ⟨14, _⟩ => ⟨S2x16x16x64, .f32⟩
  | .hbm, ⟨15, _⟩ => ⟨S32x16x64, .f32⟩
  | .hbm, ⟨16, _⟩ => ⟨S32x16x64, .f32⟩
  | .hbm, ⟨17, _⟩ => ⟨S32x16x64, .f32⟩
  | .hbm, ⟨18, _⟩ => ⟨S32x16x64, .f32⟩
  | .hbm, ⟨19, _⟩ => ⟨S32x16x64, .f32⟩
  | .hbm, ⟨20, _⟩ => ⟨S32x1x64, .f32⟩
  | .hbm, ⟨21, _⟩ => ⟨S32x64, .f32⟩
  | .hbm, ⟨22, _⟩ => ⟨S2x16x64, .f32⟩
  | .hbm, ⟨23, _⟩ => ⟨S32x1x64, .f32⟩
  | .hbm, ⟨24, _⟩ => ⟨S32x64, .f32⟩
  | .hbm, ⟨25, _⟩ => ⟨S2x16x64, .f32⟩
  | .hbm, ⟨26, _⟩ => ⟨S2x16x16x64, .f32⟩
  | .hbm, ⟨27, _⟩ => ⟨S2x16x16x64, .f32⟩
  | .hbm, ⟨28, _⟩ => ⟨S2x16x64x16, .f32⟩
  | .hbm, ⟨29, _⟩ => ⟨S2x16x64x16, .f32⟩
  | .local _ .vmem, ⟨0, _⟩ => ⟨S32x16x64, .f32⟩
  | .local _ .vmem, ⟨1, _⟩ => ⟨S32x16x64, .f32⟩
  | .local _ .vmem, ⟨2, _⟩ => ⟨S32x16x64, .f32⟩
  | .local _ .vmem, ⟨3, _⟩ => ⟨S32x16x64, .f32⟩
  | .local _ .vmem, ⟨4, _⟩ => ⟨S32x16x64, .f32⟩
  | .local _ .vmem, ⟨5, _⟩ => ⟨S32x16x64, .f32⟩
  | .local _ .vmem, ⟨6, _⟩ => ⟨S32x16x64, .f32⟩
  | .local _ .vmem, ⟨7, _⟩ => ⟨S32x16x64, .f32⟩
  | .local _ .vmem, ⟨8, _⟩ => ⟨S32x16x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference4Ideal.lean ====
abbrev S2x16x64 : Shape := ⟨3, ![2, 16, 64]⟩
abbrev S2x16 : Shape := ⟨2, ![2, 16]⟩
abbrev S2x16x64x16 : Shape := ⟨4, ![2, 16, 64, 16]⟩
abbrev S1x16x64 : Shape := ⟨3, ![1, 16, 64]⟩
abbrev S16x64 : Shape := ⟨2, ![16, 64]⟩
abbrev S1x16 : Shape := ⟨2, ![1, 16]⟩
abbrev S16 : Shape := ⟨1, ![16]⟩
abbrev S1x16x64x16 : Shape := ⟨4, ![1, 16, 64, 16]⟩
abbrev S16x64x16 : Shape := ⟨3, ![16, 64, 16]⟩
abbrev S16x1 : Shape := ⟨2, ![16, 1]⟩
abbrev S_ : Shape := ⟨0, ![]⟩
abbrev S16x64x1 : Shape := ⟨3, ![16, 64, 1]⟩

abbrev nBuf : Space → Nat
  | .hbm => 119
  | .vmem => 0
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16, .f32⟩
  | .hbm, ⟨4, _⟩ => ⟨S2x16x64x16, .f32⟩
  | .hbm, ⟨5, _⟩ => ⟨S1x16x64, .f32⟩
  | .hbm, ⟨6, _⟩ => ⟨S16x64, .f32⟩
  | .hbm, ⟨7, _⟩ => ⟨S1x16x64, .f32⟩
  | .hbm, ⟨8, _⟩ => ⟨S16x64, .f32⟩
  | .hbm, ⟨9, _⟩ => ⟨S1x16, .f32⟩
  | .hbm, ⟨10, _⟩ => ⟨S16, .f32⟩
  | .hbm, ⟨11, _⟩ => ⟨S1x16x64x16, .f32⟩
  | .hbm, ⟨12, _⟩ => ⟨S16x64x16, .f32⟩
  | .hbm, ⟨13, _⟩ => ⟨S1x16x64x16, .f32⟩
  | .hbm, ⟨14, _⟩ => ⟨S16x64x16, .f32⟩
  | .hbm, ⟨15, _⟩ => ⟨S16, .f32⟩
  | .hbm, ⟨16, _⟩ => ⟨S16x1, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64, .f32⟩
  | .hbm, ⟨41, _⟩ => ⟨S16x64, .f32⟩
  | .hbm, ⟨42, _⟩ => ⟨S16x64x1, .f32⟩
  | .hbm, ⟨43, _⟩ => ⟨S16x64x16, .f32⟩
  | .hbm, ⟨44, _⟩ => ⟨S16x64x16, .f32⟩
  | .hbm, ⟨45, _⟩ => ⟨S16x64x1, .f32⟩
  | .hbm, ⟨46, _⟩ => ⟨S16x64x16, .f32⟩
  | .hbm, ⟨47, _⟩ => ⟨S16x64x16, .f32⟩
  | .hbm, ⟨48, _⟩ => ⟨S16x64x16, .f32⟩
  | .hbm, ⟨49, _⟩ => ⟨S16x64x1, .f32⟩
  | .hbm, ⟨50, _⟩ => ⟨S16x64x16, .f32⟩
  | .hbm, ⟨51, _⟩ => ⟨S16x64x16, .f32⟩
  | .hbm, ⟨52, _⟩ => ⟨S16x64x1, .f32⟩
  | .hbm, ⟨53, _⟩ => ⟨S16x64x16, .f32⟩
  | .hbm, ⟨54, _⟩ => ⟨S16x64x16, .f32⟩
  | .hbm, ⟨55, _⟩ => ⟨S16x64x16, .f32⟩
  | .hbm, ⟨56, _⟩ => ⟨S1x16x64, .f32⟩
  | .hbm, ⟨57, _⟩ => ⟨S16x64, .f32⟩
  | .hbm, ⟨58, _⟩ => ⟨S1x16x64, .f32⟩
  | .hbm, ⟨59, _⟩ => ⟨S16x64, .f32⟩
  | .hbm, ⟨60, _⟩ => ⟨S1x16, .f32⟩
  | .hbm, ⟨61, _⟩ => ⟨S16, .f32⟩
  | .hbm, ⟨62, _⟩ => ⟨S1x16x64x16, .f32⟩
  | .hbm, ⟨63, _⟩ => ⟨S16x64x16, .f32⟩
  | .hbm, ⟨64, _⟩ => ⟨S1x16x64x16, .f32⟩
  | .hbm, ⟨65, _⟩ => ⟨S16x64x16, .f32⟩
  | .hbm, ⟨66, _⟩ => ⟨S16, .f32⟩
  | .hbm, ⟨67, _⟩ => ⟨S16x1, .f32⟩
  | .hbm, ⟨68, _⟩ => ⟨S16x64, .f32⟩
  | .hbm, ⟨69, _⟩ => ⟨S16x64, .f32⟩
  | .hbm, ⟨70, _⟩ => ⟨S16x64, .f32⟩
  | .hbm, ⟨71, _⟩ => ⟨S16x64, .f32⟩
  | .hbm, ⟨72, _⟩ => ⟨S16x64, .f32⟩
  | .hbm, ⟨73, _⟩ => ⟨S16x64, .f32⟩
  | .hbm, ⟨74, _⟩ => ⟨S16x64, .f32⟩
  | .hbm, ⟨75, _⟩ => ⟨S16x64, .f32⟩
  | .hbm, ⟨76, _⟩ => ⟨S16x64, .f32⟩
  | .hbm, ⟨77, _⟩ => ⟨S16x64, .f32⟩
  | .hbm, ⟨78, _⟩ => ⟨S16x64, .f32⟩
  | .hbm, ⟨79, _⟩ => ⟨S16x64, .f32⟩
  | .hbm, ⟨80, _⟩ => ⟨S16x64, .f32⟩
  | .hbm, ⟨81, _⟩ => ⟨S16x64, .f32⟩
  | .hbm, ⟨82, _⟩ => ⟨S_, .f32⟩
  | .hbm, ⟨83, _⟩ => ⟨S16x64, .f32⟩
  | .hbm, ⟨84, _⟩ => ⟨S16x64, .f32⟩
  | .hbm, ⟨85, _⟩ => ⟨S16x64, .f32⟩
  | .hbm, ⟨86, _⟩ => ⟨S16x64, .f32⟩
  | .hbm, ⟨87, _⟩ => ⟨S16x64, .f32⟩
  | .hbm, ⟨88, _⟩ => ⟨S16x64, .f32⟩
  | .hbm, ⟨89, _⟩ => ⟨S16x64, .f32⟩
  | .hbm, ⟨90, _⟩ => ⟨S16x64, .f32⟩
  | .hbm, ⟨91, _⟩ => ⟨S16x64, .f32⟩
  | .hbm, ⟨92, _⟩ => ⟨S16x64, .f32⟩
  | .hbm, ⟨93, _⟩ => ⟨S16x64x1, .f32⟩
  | .hbm, ⟨94, _⟩ => ⟨S16x64x16, .f32⟩
  | .hbm, ⟨95, _⟩ => ⟨S16x64x16, .f32⟩
  | .hbm, ⟨96, _⟩ => ⟨S16x64x1, .f32⟩
  | .hbm, ⟨97, _⟩ => ⟨S16x64x16, .f32⟩
  | .hbm, ⟨98, _⟩ => ⟨S16x64x16, .f32⟩
  | .hbm, ⟨99, _⟩ => ⟨S16x64x16, .f32⟩
  | .hbm, ⟨100, _⟩ => ⟨S16x64x1, .f32⟩
  | .hbm, ⟨101, _⟩ => ⟨S16x64x16, .f32⟩
  | .hbm, ⟨102, _⟩ => ⟨S16x64x16, .f32⟩
  | .hbm, ⟨103, _⟩ => ⟨S16x64x1, .f32⟩
  | .hbm, ⟨104, _⟩ => ⟨S16x64x16, .f32⟩
  | .hbm, ⟨105, _⟩ => ⟨S16x64x16, .f32⟩
  | .hbm, ⟨106, _⟩ => ⟨S16x64x16, .f32⟩
  | .hbm, ⟨107, _⟩ => ⟨S1x16x64, .f32⟩
  | .hbm, ⟨108, _⟩ => ⟨S1x16x64, .f32⟩
  | .hbm, ⟨109, _⟩ => ⟨S2x16x64, .f32⟩
  | .hbm, ⟨110, _⟩ => ⟨S1x16x64, .f32⟩
  | .hbm, ⟨111, _⟩ => ⟨S1x16x64, .f32⟩
  | .hbm, ⟨112, _⟩ => ⟨S2x16x64, .f32⟩
  | .hbm, ⟨113, _⟩ => ⟨S1x16x64x16, .f32⟩
  | .hbm, ⟨114, _⟩ => ⟨S1x16x64x16, .f32⟩
  | .hbm, ⟨115, _⟩ => ⟨S2x16x64x16, .f32⟩
  | .hbm, ⟨116, _⟩ => ⟨S1x16x64x16, .f32⟩
  | .hbm, ⟨117, _⟩ => ⟨S1x16x64x16, .f32⟩
  | .hbm, ⟨118, _⟩ => ⟨S2x16x64x16, .f32⟩
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_cst_0 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩

abbrev nD : Nat := 1
abbrev τ : Topo := Topo.v7x

variable {F : FTy → Type} [FloatOps F]
-- ==== Kernel5.lean ====
abbrev S16x2048x6x64 : Shape := ⟨4, ![16, 2048, 6, 64]⟩
abbrev S16x2048x2x64 : Shape := ⟨4, ![16, 2048, 2, 64]⟩
abbrev S16x2048x384 : Shape := ⟨3, ![16, 2048, 384]⟩
abbrev S2x6 : Shape := ⟨2, ![2, 6]⟩
abbrev S_ : Shape := ⟨0, ![]⟩
abbrev S16x2048x2x3x64 : Shape := ⟨5, ![16, 2048, 2, 3, 64]⟩
abbrev S16x2048x3x2x64 : Shape := ⟨5, ![16, 2048, 3, 2, 64]⟩
abbrev S16x2048x128 : Shape := ⟨3, ![16, 2048, 128]⟩
abbrev S16x2048x256 : Shape := ⟨3, ![16, 2048, 256]⟩
abbrev S1x2048x384 : Shape := ⟨3, ![1, 2048, 384]⟩
abbrev S1x2048x256 : Shape := ⟨3, ![1, 2048, 256]⟩
abbrev S2x2048x128 : Shape := ⟨3, ![2, 2048, 128]⟩
abbrev S128x2048 : Shape := ⟨2, ![128, 2048]⟩
abbrev S1x256x256 : Shape := ⟨3, ![1, 256, 256]⟩
abbrev S256x256 : Shape := ⟨2, ![256, 256]⟩
abbrev S256x128 : Shape := ⟨2, ![256, 128]⟩
abbrev S1x256x128 : Shape := ⟨3, ![1, 256, 128]⟩
abbrev S128x256 : Shape := ⟨2, ![128, 256]⟩
abbrev S1x384 : Shape := ⟨2, ![1, 384]⟩
abbrev S1x1 : Shape := ⟨2, ![1, 1]⟩
abbrev S256x384 : Shape := ⟨2, ![256, 384]⟩
abbrev S512x384 : Shape := ⟨2, ![512, 384]⟩
abbrev S16x128 : Shape := ⟨2, ![16, 128]⟩
abbrev S16x256 : Shape := ⟨2, ![16, 256]⟩
abbrev S1x128x128 : Shape := ⟨3, ![1, 128, 128]⟩
abbrev S128x128 : Shape := ⟨2, ![128, 128]⟩
abbrev S128x384 : Shape := ⟨2, ![128, 384]⟩
abbrev S512x128 : Shape := ⟨2, ![512, 128]⟩
abbrev S384 : Shape := ⟨1, ![384]⟩
abbrev S64x128 : Shape := ⟨2, ![64, 128]⟩
abbrev S80x128 : Shape := ⟨2, ![80, 128]⟩
abbrev S80x384 : Shape := ⟨2, ![80, 384]⟩
abbrev S64x384 : Shape := ⟨2, ![64, 384]⟩
abbrev S64x256 : Shape := ⟨2, ![64, 256]⟩
abbrev S80x256 : Shape := ⟨2, ![80, 256]⟩

abbrev nBuf : Space → Nat
  | .hbm => 29
  | .vmem => 10
  | .smem => 1
  | _ => 0

abbrev bufTy : (tb : Table) → Fin (tcTables nBuf tb) → BufTy
  | .hbm, ⟨0, _⟩ => ⟨S16x2048x6x64, .f32⟩
  | .hbm, ⟨1, _⟩ => ⟨S16x2048x2x64, .f32⟩
  | .hbm, ⟨2, _⟩ => ⟨S16x2048x2x64, .f32⟩
  | .hbm, ⟨3, _⟩ => ⟨S16x2048x384, .f32⟩
  | .hbm, ⟨4, _⟩ => ⟨S2x6, .f32⟩
  | .hbm, ⟨5, _⟩ => ⟨S_, .f32⟩
  | .hbm, ⟨6, _⟩ => ⟨S_, .f32⟩
  | .hbm, ⟨7, _⟩ => ⟨S16x2048x384, .f32⟩
  | .hbm, ⟨8, _⟩ => ⟨S16x2048x2x3x64, .f32⟩
  | .hbm, ⟨9, _⟩ => ⟨S16x2048x3x2x64, .f32⟩
  | .hbm, ⟨10, _⟩ => ⟨S16x2048x384, .f32⟩
  | .hbm, ⟨11, _⟩ => ⟨S_, .f32⟩
  | .hbm, ⟨12, _⟩ => ⟨S_, .f32⟩
  | .hbm, ⟨13, _⟩ => ⟨S16x2048x384, .f32⟩
  | .hbm, ⟨14, _⟩ => ⟨S16x2048x384, .f32⟩
  | .hbm, ⟨15, _⟩ => ⟨S16x2048x384, .bf16⟩
  | .hbm, ⟨16, _⟩ => ⟨S16x2048x2x3x64, .f32⟩
  | .hbm, ⟨17, _⟩ => ⟨S16x2048x3x2x64, .f32⟩
  | .hbm, ⟨18, _⟩ => ⟨S16x2048x384, .f32⟩
  | .hbm, ⟨19, _⟩ => ⟨S16x2048x384, .bf16⟩
  | .hbm, ⟨20, _⟩ => ⟨S16x2048x128, .f32⟩
  | .hbm, ⟨21, _⟩ => ⟨S16x2048x128, .f32⟩
  | .hbm, ⟨22, _⟩ => ⟨S16x2048x256, .f32⟩
  | .hbm, ⟨23, _⟩ => ⟨S16x2048x256, .bf16⟩
  | .hbm, ⟨24, _⟩ => ⟨S16x2048x384, .bf16⟩
  | .hbm, ⟨25, _⟩ => ⟨S16x2048x3x2x64, .bf16⟩
  | .hbm, ⟨26, _⟩ => ⟨S16x2048x2x3x64, .bf16⟩
  | .hbm, ⟨27, _⟩ => ⟨S16x2048x384, .bf16⟩
  | .hbm, ⟨28, _⟩ => ⟨S16x2048x384, .f32⟩
  | .local _ .vmem, ⟨0, _⟩ => ⟨S1x2048x384, .bf16⟩
  | .local _ .vmem, ⟨1, _⟩ => ⟨S1x2048x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x384, .bf16⟩
  | .local _ .vmem, ⟨7, _⟩ => ⟨S1x2048x384, .bf16⟩
  | .local _ .vmem, ⟨8, _⟩ => ⟨S2x2048x128, .bf16⟩
  | .local _ .vmem, ⟨9, _⟩ => ⟨S128x2048, .bf16⟩
  | .local _ .smem, ⟨0, _⟩ => ⟨S2x6, .f32⟩
  | _, _ => ⟨S16x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel5Ideal.lean ====
variable {F : FTy → Type} [FloatOps F] [Named F]
def κ : String → Option EReal := fun
  | "log2e" => some (((Real.log 2)⁻¹ : ℝ) : EReal)
  | _ => none
-- ==== Proof.OutinFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1722000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

/-! ## The body's accesses -/

abbrev r0_0 : Rect S1x1024x256 := Rect.unit (s := S1x1024x256) ![0, 0, 0] S1x1024x256.size inb_S1x1024x256_S1x1024x256_0_0_0
abbrev r0_1 : Rect S1x1024x384 := Rect.unit (s := S1x1024x384) ![0, 0, 0] S1x1024x384.size inb_S1x1024x384_S1x1024x384_0_0_0
abbrev r0_2 : Rect S1x1024x1024 := Rect.unit (s := S1x1024x1024) ![0, 0, 0] S1x1024x1024.size inb_S1x1024x1024_S1x1024x1024_0_0_0
abbrev r0_3 : Rect S1x1x1024 := Rect.unit (s := S1x1x1024) ![0, 0, 0] S1x1x1024.size inb_S1x1x1024_S1x1x1024_0_0_0
abbrev r0_4 : Rect S1x1024x2560 := Rect.unit (s := S1x1024x2560) ![0, 0, 2048] S1x1024x512.size inb_S1x1024x2560_S1x1024x512_0_0_2048
abbrev r0_5 : Rect S1x1x128 := Rect.unit (s := S1x1x128) ![0, 0, 0] S1x1x128.size inb_S1x1x128_S1x1x128_0_0_0
abbrev r0_6 : Rect S1x1024x256 := Rect.unit (s := S1x1024x256) ![0, 0, 0] S1x512x128.size inb_S1x1024x256_S1x512x128_0_0_0
abbrev r0_7 : Rect S1x1024x256 := Rect.unit (s := S1x1024x256) ![0, 0, 128] S1x512x128.size inb_S1x1024x256_S1x512x128_0_0_128
abbrev r0_8 : Rect S1x1024x2560 := Rect.unit (s := S1x1024x2560) ![0, 0, 1536] S1x1024x512.size inb_S1x1024x2560_S1x1024x512_0_0_1536
abbrev r0_9 : Rect S1x1024x384 := Rect.unit (s := S1x1024x384) ![0, 0, 256] S1x512x128.size inb_S1x1024x384_S1x512x128_0_0_256
abbrev r0_10 : Rect S1x1024x384 := Rect.unit (s := S1x1024x384) ![0, 0, 128] S1x512x128.size inb_S1x1024x384_S1x512x128_0_0_128
abbrev r0_11 : Rect S1x1024x2560 := Rect.unit (s := S1x1024x2560) ![0, 0, 1024] S1x1024x512.size inb_S1x1024x2560_S1x1024x512_0_0_1024
abbrev r0_12 : Rect S1x1024x384 := Rect.unit (s := S1x1024x384) ![0, 0, 0] S1x512x128.size inb_S1x1024x384_S1x512x128_0_0_0
abbrev r0_13 : Rect S1x1024x128 := Rect.unit (s := S1x1024x128) ![0, 0, 0] S1x512x128.size inb_S1x1024x128_S1x512x128_0_0_0
abbrev r0_14 : Rect S1x1024x2560 := Rect.unit (s := S1x1024x2560) ![0, 0, 512] S1x1024x512.size inb_S1x1024x2560_S1x1024x512_0_0_512
abbrev r0_15 : Rect S1x1024x2560 := Rect.unit (s := S1x1024x2560) ![0, 0, 0] S1x1024x512.size inb_S1x1024x2560_S1x1024x512_0_0_0
abbrev r0_16 : Rect S1x1024x256 := Rect.unit (s := S1x1024x256) ![0, 512, 0] S1x512x128.size inb_S1x1024x256_S1x512x128_0_512_0
abbrev r0_17 : Rect S1x1024x256 := Rect.unit (s := S1x1024x256) ![0, 512, 128] S1x512x128.size inb_S1x1024x256_S1x512x128_0_512_128
abbrev r0_18 : Rect S1x1024x384 := Rect.unit (s := S1x1024x384) ![0, 512, 256] S1x512x128.size inb_S1x1024x384_S1x512x128_0_512_256
abbrev r0_19 : Rect S1x1024x384 := Rect.unit (s := S1x1024x384) ![0, 512, 128] S1x512x128.size inb_S1x1024x384_S1x512x128_0_512_128
abbrev r0_20 : Rect S1x1024x384 := Rect.unit (s := S1x1024x384) ![0, 512, 0] S1x512x128.size inb_S1x1024x384_S1x512x128_0_512_0
abbrev r0_21 : Rect S1x1024x128 := Rect.unit (s := S1x1024x128) ![0, 512, 0] S1x512x128.size inb_S1x1024x128_S1x512x128_0_512_0

/-! ## What the body leaves in each output window's buffer -/

/-! ### Values of the body that the stores' payloads, spelt out, would write more than once -/

def k0_pay129 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S1024x1024 .f32 :=
  k0_pay2 (View.ld x1 r0_0) (View.ld x2 r0_1) (View.ld x3 r0_1) (View.ld x0 r0_2) (View.ld x4 r0_2) -- `v12`
def k0_pay130 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1024 .bf16 :=
  k0_pay4 (View.ld x1 r0_0) (View.ld x2 r0_1) (View.ld x3 r0_1) (View.ld x0 r0_2) (View.ld x4 r0_2) (View.ld x5 r0_3) -- `v31`
def k0_pay131 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay5 (k0_pay130 x0 x1 x2 x3 x4 x5 x6 x7 x8 x9 x10) (View.ld x6 r0_4) -- `v34`
def k0_pay132 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay12 (k0_pay130 x0 x1 x2 x3 x4 x5 x6 x7 x8 x9 x10) (View.ld x6 r0_8) -- `v122`
def k0_pay133 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay14 (k0_pay130 x0 x1 x2 x3 x4 x5 x6 x7 x8 x9 x10) (View.ld x6 r0_8) -- `v130`
def k0_pay134 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S1x128 .f32 :=
  k0_pay15 (View.ld x9 r0_5) -- `v132`
def k0_pay135 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : IVec S512x128 1 :=
  k0_pay16 -- `v135`
def k0_pay136 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1 .f32 :=
  k0_pay18 (k0_pay130 x0 x1 x2 x3 x4 x5 x6 x7 x8 x9 x10) (View.ld x6 r0_8) -- `v144`
def k0_pay137 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1 .f32 :=
  k0_pay19 (k0_pay130 x0 x1 x2 x3 x4 x5 x6 x7 x8 x9 x10) (View.ld x6 r0_8) -- `v148`
def k0_pay138 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay24 (k0_pay130 x0 x1 x2 x3 x4 x5 x6 x7 x8 x9 x10) (View.ld x6 r0_11) -- `v179`
def k0_pay139 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay25 (k0_pay130 x0 x1 x2 x3 x4 x5 x6 x7 x8 x9 x10) (View.ld x6 r0_11) -- `v180`
def k0_pay140 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S1x128 .f32 :=
  k0_pay26 (View.ld x9 r0_5) -- `v182`
def k0_pay141 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : IVec S512x128 1 :=
  k0_pay27 -- `v185`
def k0_pay142 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay28 (k0_pay130 x0 x1 x2 x3 x4 x5 x6 x7 x8 x9 x10) (View.ld x6 r0_11) -- `v186`
def k0_pay143 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay29 (k0_pay130 x0 x1 x2 x3 x4 x5 x6 x7 x8 x9 x10) (View.ld x6 r0_11) -- `v188`
def k0_pay144 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay34 (k0_pay138 x0 x1 x2 x3 x4 x5 x6 x7 x8 x9 x10) -- `v227`
def k0_pay145 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S1x128 .f32 :=
  k0_pay35 (View.ld x9 r0_5) -- `v229`
def k0_pay146 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay42 (k0_pay130 x0 x1 x2 x3 x4 x5 x6 x7 x8 x9 x10) (View.ld x6 r0_14) -- `v279`
def k0_pay147 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1024 .bf16 :=
  k0_pay68 (k0_pay129 x0 x1 x2 x3 x4 x5 x6 x7 x8 x9 x10) (View.ld x5 r0_3) -- `v453`
def k0_pay148 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay69 (k0_pay129 x0 x1 x2 x3 x4 x5 x6 x7 x8 x9 x10) (View.ld x5 r0_3) (View.ld x6 r0_4) -- `v456`
def k0_pay149 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay85 (k0_pay147 x0 x1 x2 x3 x4 x5 x6 x7 x8 x9 x10) (View.ld x6 r0_8) -- `v544`
def k0_pay150 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay93 (k0_pay147 x0 x1 x2 x3 x4 x5 x6 x7 x8 x9 x10) (View.ld x6 r0_11) -- `v601`
def k0_pay151 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay94 (k0_pay147 x0 x1 x2 x3 x4 x5 x6 x7 x8 x9 x10) (View.ld x6 r0_11) -- `v602`
def k0_pay152 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S1x128 .f32 :=
  k0_pay95 (View.ld x9 r0_5) -- `v604`
def k0_pay153 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : IVec S512x128 1 :=
  k0_pay96 -- `v607`
def k0_pay154 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1 .f32 :=
  k0_pay98 (k0_pay147 x0 x1 x2 x3 x4 x5 x6 x7 x8 x9 x10) (View.ld x6 r0_11) -- `v626`
def k0_pay155 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay99 (k0_pay147 x0 x1 x2 x3 x4 x5 x6 x7 x8 x9 x10) (View.ld x6 r0_11) -- `v628`
def k0_pay156 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x128 .f32 :=
  k0_pay104 (k0_pay150 x0 x1 x2 x3 x4 x5 x6 x7 x8 x9 x10) -- `v649`
def k0_pay157 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S1x128 .f32 :=
  k0_pay105 (View.ld x9 r0_5) -- `v651`
def k0_pay158 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : IVec S512x128 1 :=
  k0_pay106 -- `v654`
def k0_pay159 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1 .f32 :=
  k0_pay108 (k0_pay150 x0 x1 x2 x3 x4 x5 x6 x7 x8 x9 x10) -- `v663`
def k0_pay160 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x1 .f32 :=
  k0_pay109 (k0_pay150 x0 x1 x2 x3 x4 x5 x6 x7 x8 x9 x10) -- `v668`
def k0_pay161 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : FVec F S512x512 .f32 :=
  k0_pay114 (k0_pay147 x0 x1 x2 x3 x4 x5 x6 x7 x8 x9 x10) (View.ld x6 r0_14) -- `v701`

def out0_11 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x1024 .f32 :=
  View.canon [⟨r0_2, k0_pay3 (View.ld x1 r0_0) (View.ld x2 r0_1) (View.ld x3 r0_1) (View.ld x0 r0_2) (View.ld x4 r0_2)⟩]

theorem cover0_11 (p0 : Vec F S1x1024x1024 .f32) (y : S1x1024x1024.Idx) :
    ∃ pc ∈ ([⟨r0_2, p0⟩] : List (View.Piece (Elt F) S1x1024x1024 .f32)), y ∈ pc.1.set :=
  View.cover_of_tiled [⟨r0_2, p0⟩] S1x1024x1024.size (by rfl) y

def out0_12 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x256 .bf16 :=
  View.canon [⟨r0_17, k0_pay1 (k0_pay125 (k0_pay147 x0 x1 x2 x3 x4 x5 x6 x7 x8 x9 x10) (View.ld x6 r0_15))⟩,
    ⟨r0_16, k0_pay127 (k0_pay147 x0 x1 x2 x3 x4 x5 x6 x7 x8 x9 x10) (View.ld x6 r0_15)⟩,
    ⟨r0_7, k0_pay67 (k0_pay62 (k0_pay130 x0 x1 x2 x3 x4 x5 x6 x7 x8 x9 x10) (View.ld x6 r0_15))⟩,
    ⟨r0_6, k0_pay64 (k0_pay130 x0 x1 x2 x3 x4 x5 x6 x7 x8 x9 x10) (View.ld x6 r0_15)⟩]

theorem cover0_12 (p0 : Vec F S1x512x128 .bf16) (p1 : Vec F S1x512x128 .bf16) (p2 : Vec F S1x512x128 .bf16) (p3 : Vec F S1x512x128 .bf16) (y : S1x1024x256.Idx) :
    ∃ pc ∈ ([⟨r0_17, p0⟩, ⟨r0_16, p1⟩, ⟨r0_7, p2⟩, ⟨r0_6, p3⟩] : List (View.Piece (Elt F) S1x1024x256 .bf16)), y ∈ pc.1.set :=
  View.cover_of_tiled [⟨r0_17, p0⟩, ⟨r0_16, p1⟩, ⟨r0_7, p2⟩, ⟨r0_6, p3⟩] S1x512x128.size (by rfl) y

def out0_13 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x256 .bf16 :=
  View.canon [⟨r0_17, k0_pay128 (k0_pay147 x0 x1 x2 x3 x4 x5 x6 x7 x8 x9 x10) (View.ld x6 r0_15)⟩,
    ⟨r0_16, k0_pay126 (k0_pay147 x0 x1 x2 x3 x4 x5 x6 x7 x8 x9 x10) (View.ld x6 r0_15)⟩,
    ⟨r0_7, k0_pay66 (k0_pay65 (k0_pay130 x0 x1 x2 x3 x4 x5 x6 x7 x8 x9 x10) (View.ld x6 r0_15))⟩,
    ⟨r0_6, k0_pay63 (k0_pay130 x0 x1 x2 x3 x4 x5 x6 x7 x8 x9 x10) (View.ld x6 r0_15)⟩]

theorem cover0_13 (p0 : Vec F S1x512x128 .bf16) (p1 : Vec F S1x512x128 .bf16) (p2 : Vec F S1x512x128 .bf16) (p3 : Vec F S1x512x128 .bf16) (y : S1x1024x256.Idx) :
    ∃ pc ∈ ([⟨r0_17, p0⟩, ⟨r0_16, p1⟩, ⟨r0_7, p2⟩, ⟨r0_6, p3⟩] : List (View.Piece (Elt F) S1x1024x256 .bf16)), y ∈ pc.1.set :=
  View.cover_of_tiled [⟨r0_17, p0⟩, ⟨r0_16, p1⟩, ⟨r0_7, p2⟩, ⟨r0_6, p3⟩] S1x512x128.size (by rfl) y

def out0_14 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x384 .bf16 :=
  View.canon [⟨r0_20, k0_pay124 (k0_pay161 x0 x1 x2 x3 x4 x5 x6 x7 x8 x9 x10) (View.ld x7 r0_5)⟩,
    ⟨r0_19, k0_pay121 (k0_pay120 (k0_pay161 x0 x1 x2 x3 x4 x5 x6 x7 x8 x9 x10)) (View.ld x7 r0_5)⟩,
    ⟨r0_18, k0_pay118 (k0_pay115 (k0_pay147 x0 x1 x2 x3 x4 x5 x6 x7 x8 x9 x10) (View.ld x6 r0_14)) (k0_pay116 (View.ld x7 r0_5)) (iota .tc S512x128 32 [1] iota_S512x128_d1_w32) k0_pay117⟩,
    ⟨r0_12, k0_pay61 (k0_pay55 (k0_pay146 x0 x1 x2 x3 x4 x5 x6 x7 x8 x9 x10)) (k0_pay56 (View.ld x7 r0_5)) k0_pay57 (k0_pay59 (k0_pay146 x0 x1 x2 x3 x4 x5 x6 x7 x8 x9 x10)) (k0_pay60 (k0_pay146 x0 x1 x2 x3 x4 x5 x6 x7 x8 x9 x10))⟩,
    ⟨r0_10, k0_pay53 (k0_pay47 (k0_pay146 x0 x1 x2 x3 x4 x5 x6 x7 x8 x9 x10)) (k0_pay48 (View.ld x7 r0_5)) k0_pay49 (k0_pay51 (k0_pay146 x0 x1 x2 x3 x4 x5 x6 x7 x8 x9 x10)) (k0_pay52 (k0_pay146 x0 x1 x2 x3 x4 x5 x6 x7 x8 x9 x10))⟩,
    ⟨r0_9, k0_pay45 (k0_pay43 (k0_pay130 x0 x1 x2 x3 x4 x5 x6 x7 x8 x9 x10) (View.ld x6 r0_14)) (k0_pay44 (View.ld x7 r0_5))⟩]

theorem cover0_14 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (y : S1x1024x384.Idx) :
    ∃ pc ∈ ([⟨r0_20, p0⟩, ⟨r0_19, p1⟩, ⟨r0_18, p2⟩, ⟨r0_12, p3⟩, ⟨r0_10, p4⟩, ⟨r0_9, p5⟩] : List (View.Piece (Elt F) S1x1024x384 .bf16)), y ∈ pc.1.set :=
  View.cover_of_tiled [⟨r0_20, p0⟩, ⟨r0_19, p1⟩, ⟨r0_18, p2⟩, ⟨r0_12, p3⟩, ⟨r0_10, p4⟩, ⟨r0_9, p5⟩] S1x512x128.size (by rfl) y

def out0_15 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x384 .bf16 :=
  View.canon [⟨r0_20, k0_pay123 (k0_pay122 (k0_pay161 x0 x1 x2 x3 x4 x5 x6 x7 x8 x9 x10))⟩,
    ⟨r0_19, k0_pay119 (k0_pay150 x0 x1 x2 x3 x4 x5 x6 x7 x8 x9 x10)⟩,
    ⟨r0_18, k0_pay113 (k0_pay150 x0 x1 x2 x3 x4 x5 x6 x7 x8 x9 x10)⟩,
    ⟨r0_12, k0_pay54 (k0_pay146 x0 x1 x2 x3 x4 x5 x6 x7 x8 x9 x10)⟩,
    ⟨r0_10, k0_pay46 (k0_pay138 x0 x1 x2 x3 x4 x5 x6 x7 x8 x9 x10)⟩,
    ⟨r0_9, k0_pay41 (k0_pay39 (k0_pay138 x0 x1 x2 x3 x4 x5 x6 x7 x8 x9 x10)) (k0_pay40 (k0_pay138 x0 x1 x2 x3 x4 x5 x6 x7 x8 x9 x10))⟩]

theorem cover0_15 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (y : S1x1024x384.Idx) :
    ∃ pc ∈ ([⟨r0_20, p0⟩, ⟨r0_19, p1⟩, ⟨r0_18, p2⟩, ⟨r0_12, p3⟩, ⟨r0_10, p4⟩, ⟨r0_9, p5⟩] : List (View.Piece (Elt F) S1x1024x384 .bf16)), y ∈ pc.1.set :=
  View.cover_of_tiled [⟨r0_20, p0⟩, ⟨r0_19, p1⟩, ⟨r0_18, p2⟩, ⟨r0_12, p3⟩, ⟨r0_10, p4⟩, ⟨r0_9, p5⟩] S1x512x128.size (by rfl) y

def out0_16 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x384 .bf16 :=
  View.canon [⟨r0_20, k0_pay111 (k0_pay156 x0 x1 x2 x3 x4 x5 x6 x7 x8 x9 x10) (k0_pay157 x0 x1 x2 x3 x4 x5 x6 x7 x8 x9 x10) (k0_pay158 x0 x1 x2 x3 x4 x5 x6 x7 x8 x9 x10) (k0_pay159 x0 x1 x2 x3 x4 x5 x6 x7 x8 x9 x10) (k0_pay160 x0 x1 x2 x3 x4 x5 x6 x7 x8 x9 x10) (Scalar.ofBits .f32 0x3C800000#32)⟩,
    ⟨r0_19, k0_pay102 (k0_pay151 x0 x1 x2 x3 x4 x5 x6 x7 x8 x9 x10) (k0_pay152 x0 x1 x2 x3 x4 x5 x6 x7 x8 x9 x10) (k0_pay153 x0 x1 x2 x3 x4 x5 x6 x7 x8 x9 x10) (k0_pay154 x0 x1 x2 x3 x4 x5 x6 x7 x8 x9 x10) (k0_pay155 x0 x1 x2 x3 x4 x5 x6 x7 x8 x9 x10)⟩,
    ⟨r0_18, k0_pay91 (k0_pay90 (k0_pay149 x0 x1 x2 x3 x4 x5 x6 x7 x8 x9 x10) (View.ld x9 r0_5))⟩,
    ⟨r0_12, k0_pay37 (k0_pay144 x0 x1 x2 x3 x4 x5 x6 x7 x8 x9 x10) (k0_pay145 x0 x1 x2 x3 x4 x5 x6 x7 x8 x9 x10)⟩,
    ⟨r0_10, k0_pay32 (k0_pay139 x0 x1 x2 x3 x4 x5 x6 x7 x8 x9 x10) (k0_pay140 x0 x1 x2 x3 x4 x5 x6 x7 x8 x9 x10) (k0_pay141 x0 x1 x2 x3 x4 x5 x6 x7 x8 x9 x10) (k0_pay142 x0 x1 x2 x3 x4 x5 x6 x7 x8 x9 x10) (k0_pay143 x0 x1 x2 x3 x4 x5 x6 x7 x8 x9 x10)⟩,
    ⟨r0_9, k0_pay22 (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10) (k0_pay137 x0 x1 x2 x3 x4 x5 x6 x7 x8 x9 x10)⟩]

theorem cover0_16 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (y : S1x1024x384.Idx) :
    ∃ pc ∈ ([⟨r0_20, p0⟩, ⟨r0_19, p1⟩, ⟨r0_18, p2⟩, ⟨r0_12, p3⟩, ⟨r0_10, p4⟩, ⟨r0_9, p5⟩] : List (View.Piece (Elt F) S1x1024x384 .bf16)), y ∈ pc.1.set :=
  View.cover_of_tiled [⟨r0_20, p0⟩, ⟨r0_19, p1⟩, ⟨r0_18, p2⟩, ⟨r0_12, p3⟩, ⟨r0_10, p4⟩, ⟨r0_9, p5⟩] S1x512x128.size (by rfl) y

def out0_17 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x128 .f32 :=
  View.canon [⟨r0_21, k0_pay112 (k0_pay101 (k0_pay89 (k0_pay84 (F := F)) (k0_pay149 x0 x1 x2 x3 x4 x5 x6 x7 x8 x9 x10) (View.ld x9 r0_5)) (k0_pay151 x0 x1 x2 x3 x4 x5 x6 x7 x8 x9 x10) (k0_pay152 x0 x1 x2 x3 x4 x5 x6 x7 x8 x9 x10) (k0_pay153 x0 x1 x2 x3 x4 x5 x6 x7 x8 x9 x10) (k0_pay154 x0 x1 x2 x3 x4 x5 x6 x7 x8 x9 x10) (k0_pay155 x0 x1 x2 x3 x4 x5 x6 x7 x8 x9 x10)) (k0_pay156 x0 x1 x2 x3 x4 x5 x6 x7 x8 x9 x10) (k0_pay157 x0 x1 x2 x3 x4 x5 x6 x7 x8 x9 x10) (k0_pay158 x0 x1 x2 x3 x4 x5 x6 x7 x8 x9 x10) (k0_pay159 x0 x1 x2 x3 x4 x5 x6 x7 x8 x9 x10) (k0_pay160 x0 x1 x2 x3 x4 x5 x6 x7 x8 x9 x10) (Scalar.ofBits .f32 0x3C800000#32)⟩,
    ⟨r0_13, k0_pay38 (k0_pay31 (k0_pay21 (k0_pay11 (F := F)) (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10) (k0_pay137 x0 x1 x2 x3 x4 x5 x6 x7 x8 x9 x10)) (k0_pay139 x0 x1 x2 x3 x4 x5 x6 x7 x8 x9 x10) (k0_pay140 x0 x1 x2 x3 x4 x5 x6 x7 x8 x9 x10) (k0_pay141 x0 x1 x2 x3 x4 x5 x6 x7 x8 x9 x10) (k0_pay142 x0 x1 x2 x3 x4 x5 x6 x7 x8 x9 x10) (k0_pay143 x0 x1 x2 x3 x4 x5 x6 x7 x8 x9 x10)) (k0_pay144 x0 x1 x2 x3 x4 x5 x6 x7 x8 x9 x10) (k0_pay145 x0 x1 x2 x3 x4 x5 x6 x7 x8 x9 x10)⟩]

theorem cover0_17 (p0 : Vec F S1x512x128 .f32) (p1 : Vec F S1x512x128 .f32) (y : S1x1024x128.Idx) :
    ∃ pc ∈ ([⟨r0_21, p0⟩, ⟨r0_13, p1⟩] : List (View.Piece (Elt F) S1x1024x128 .f32)), y ∈ pc.1.set :=
  View.cover_of_tiled [⟨r0_21, p0⟩, ⟨r0_13, p1⟩] S1x512x128.size (by rfl) y

def out0_18 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x384 .bf16 :=
  View.canon [⟨r0_20, k0_pay103 (k0_pay149 x0 x1 x2 x3 x4 x5 x6 x7 x8 x9 x10)⟩,
    ⟨r0_19, k0_pay92 (k0_pay149 x0 x1 x2 x3 x4 x5 x6 x7 x8 x9 x10)⟩,
    ⟨r0_18, k0_pay87 (k0_pay86 (k0_pay147 x0 x1 x2 x3 x4 x5 x6 x7 x8 x9 x10) (View.ld x6 r0_8))⟩,
    ⟨r0_12, k0_pay33 (k0_pay132 x0 x1 x2 x3 x4 x5 x6 x7 x8 x9 x10)⟩,
    ⟨r0_10, k0_pay23 (k0_pay132 x0 x1 x2 x3 x4 x5 x6 x7 x8 x9 x10)⟩,
    ⟨r0_9, k0_pay13 (k0_pay130 x0 x1 x2 x3 x4 x5 x6 x7 x8 x9 x10) (View.ld x6 r0_8)⟩]

theorem cover0_18 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (y : S1x1024x384.Idx) :
    ∃ pc ∈ ([⟨r0_20, p0⟩, ⟨r0_19, p1⟩, ⟨r0_18, p2⟩, ⟨r0_12, p3⟩, ⟨r0_10, p4⟩, ⟨r0_9, p5⟩] : List (View.Piece (Elt F) S1x1024x384 .bf16)), y ∈ pc.1.set :=
  View.cover_of_tiled [⟨r0_20, p0⟩, ⟨r0_19, p1⟩, ⟨r0_18, p2⟩, ⟨r0_12, p3⟩, ⟨r0_10, p4⟩, ⟨r0_9, p5⟩] S1x512x128.size (by rfl) y

def out0_19 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x256 .bf16 :=
  View.canon [⟨r0_17, k0_pay83 (k0_pay148 x0 x1 x2 x3 x4 x5 x6 x7 x8 x9 x10)⟩,
    ⟨r0_16, k0_pay82 (k0_pay77 (k0_pay148 x0 x1 x2 x3 x4 x5 x6 x7 x8 x9 x10)) (k0_pay78 (View.ld x8 r0_5)) k0_pay79 (k0_pay80 (k0_pay148 x0 x1 x2 x3 x4 x5 x6 x7 x8 x9 x10)) (k0_pay81 (k0_pay148 x0 x1 x2 x3 x4 x5 x6 x7 x8 x9 x10))⟩,
    ⟨r0_7, k0_pay10 (k0_pay131 x0 x1 x2 x3 x4 x5 x6 x7 x8 x9 x10)⟩,
    ⟨r0_6, k0_pay9 (k0_pay8 (k0_pay131 x0 x1 x2 x3 x4 x5 x6 x7 x8 x9 x10) (View.ld x8 r0_5))⟩]

theorem cover0_19 (p0 : Vec F S1x512x128 .bf16) (p1 : Vec F S1x512x128 .bf16) (p2 : Vec F S1x512x128 .bf16) (p3 : Vec F S1x512x128 .bf16) (y : S1x1024x256.Idx) :
    ∃ pc ∈ ([⟨r0_17, p0⟩, ⟨r0_16, p1⟩, ⟨r0_7, p2⟩, ⟨r0_6, p3⟩] : List (View.Piece (Elt F) S1x1024x256 .bf16)), y ∈ pc.1.set :=
  View.cover_of_tiled [⟨r0_17, p0⟩, ⟨r0_16, p1⟩, ⟨r0_7, p2⟩, ⟨r0_6, p3⟩] S1x512x128.size (by rfl) y

def out0_20 (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) : Vec F S1x1024x256 .bf16 :=
  View.canon [⟨r0_17, k0_pay76 (k0_pay148 x0 x1 x2 x3 x4 x5 x6 x7 x8 x9 x10)⟩,
    ⟨r0_16, k0_pay75 (k0_pay70 (k0_pay129 x0 x1 x2 x3 x4 x5 x6 x7 x8 x9 x10) (View.ld x5 r0_3) (View.ld x6 r0_4)) (k0_pay71 (View.ld x10 r0_5)) k0_pay72 (k0_pay73 (k0_pay129 x0 x1 x2 x3 x4 x5 x6 x7 x8 x9 x10) (View.ld x5 r0_3) (View.ld x6 r0_4)) (k0_pay74 (k0_pay129 x0 x1 x2 x3 x4 x5 x6 x7 x8 x9 x10) (View.ld x5 r0_3) (View.ld x6 r0_4)) (Scalar.ofBits .f32 0x00000000#32)⟩,
    ⟨r0_7, k0_pay7 (k0_pay131 x0 x1 x2 x3 x4 x5 x6 x7 x8 x9 x10)⟩,
    ⟨r0_6, k0_pay6 (k0_pay130 x0 x1 x2 x3 x4 x5 x6 x7 x8 x9 x10) (View.ld x6 r0_4) (View.ld x10 r0_5)⟩]

theorem cover0_20 (p0 : Vec F S1x512x128 .bf16) (p1 : Vec F S1x512x128 .bf16) (p2 : Vec F S1x512x128 .bf16) (p3 : Vec F S1x512x128 .bf16) (y : S1x1024x256.Idx) :
    ∃ pc ∈ ([⟨r0_17, p0⟩, ⟨r0_16, p1⟩, ⟨r0_7, p2⟩, ⟨r0_6, p3⟩] : List (View.Piece (Elt F) S1x1024x256 .bf16)), y ∈ pc.1.set :=
  View.cover_of_tiled [⟨r0_17, p0⟩, ⟨r0_16, p1⟩, ⟨r0_7, p2⟩, ⟨r0_6, p3⟩] S1x512x128.size (by rfl) y

/-! ## The body's triple -/

set_option maxHeartbeats 1000000 in
theorem sound_kernel (c : Dev nD) (E : Set ℕ) (i : grid0.Coords) (arg2 : Memref sig .tc .vmem S1x1024x1024 .f32) (harg2 : arg2.IsWhole) (arg3 : Memref sig .tc .vmem S1x1024x256 .bf16) (harg3 : arg3.IsWhole) (arg4 : Memref sig .tc .vmem S1x1024x384 .bf16) (harg4 : arg4.IsWhole) (arg5 : Memref sig .tc .vmem S1x1024x384 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x2560 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1024x1024 .f32) (harg13 : arg13.IsWhole) (arg14 : Memref sig .tc .vmem S1x1024x256 .bf16) (harg14 : arg14.IsWhole) (arg15 : Memref sig .tc .vmem S1x1024x256 .bf16) (harg15 : arg15.IsWhole) (arg16 : Memref sig .tc .vmem S1x1024x384 .bf16) (harg16 : arg16.IsWhole) (arg17 : Memref sig .tc .vmem S1x1024x384 .bf16) (harg17 : arg17.IsWhole) (arg18 : Memref sig .tc .vmem S1x1024x384 .bf16) (harg18 : arg18.IsWhole) (arg19 : Memref sig .tc .vmem S1x1024x128 .f32) (harg19 : arg19.IsWhole) (arg20 : Memref sig .tc .vmem S1x1024x384 .bf16) (harg20 : arg20.IsWhole) (arg21 : Memref sig .tc .vmem S1x1024x256 .bf16) (harg21 : arg21.IsWhole) (arg22 : Memref sig .tc .vmem S1x1024x256 .bf16) (harg22 : arg22.IsWhole)
    (x0 : Vec F S1x1024x1024 .f32) (x1 : Vec F S1x1024x256 .bf16) (x2 : Vec F S1x1024x384 .bf16) (x3 : Vec F S1x1024x384 .bf16) (x4 : Vec F S1x1024x1024 .bf16) (x5 : Vec F S1x1x1024 .f32) (x6 : Vec F S1x1024x2560 .bf16) (x7 : Vec F S1x1x128 .f32) (x8 : Vec F S1x1x128 .f32) (x9 : Vec F S1x1x128 .f32) (x10 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out0_11 x0 x1 x2 x3 x4 x5 x6 x7 x8 x9 x10) ∗ owns (c : Thread nD τ) arg14 fullShare (out0_12 x0 x1 x2 x3 x4 x5 x6 x7 x8 x9 x10) ∗ owns (c : Thread nD τ) arg15 fullShare (out0_13 x0 x1 x2 x3 x4 x5 x6 x7 x8 x9 x10) ∗ owns (c : Thread nD τ) arg16 fullShare (out0_14 x0 x1 x2 x3 x4 x5 x6 x7 x8 x9 x10) ∗ owns (c : Thread nD τ) arg17 fullShare (out0_15 x0 x1 x2 x3 x4 x5 x6 x7 x8 x9 x10) ∗ owns (c : Thread nD τ) arg18 fullShare (out0_16 x0 x1 x2 x3 x4 x5 x6 x7 x8 x9 x10) ∗ owns (c : Thread nD τ) arg19 fullShare (out0_17 x0 x1 x2 x3 x4 x5 x6 x7 x8 x9 x10) ∗ owns (c : Thread nD τ) arg20 fullShare (out0_18 x0 x1 x2 x3 x4 x5 x6 x7 x8 x9 x10) ∗ owns (c : Thread nD τ) arg21 fullShare (out0_19 x0 x1 x2 x3 x4 x5 x6 x7 x8 x9 x10) ∗ owns (c : Thread nD τ) arg22 fullShare (out0_20 x0 x1 x2 x3 x4 x5 x6 x7 x8 x9 x10)) -∗ K ⟨⟩))
      ⊢ wp frame (wpE (defs₀ (F := F)) Variants.none c none) E (cc0_outin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_outin_eq_skeleton]; unfold cc0_outin_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _ _ _)).trans ?_
    rfl
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _ _ _)).trans ?_
    rfl
  isplitl [H15]
  · iexists _; isplitr
    swap; · iexact H15
    ipureintro
    refine (View.read_writes_eq_canon _ _ _ (cover0_15 _ _ _ _ _ _)).trans ?_
    rfl
  isplitl [H16]
  · iexists _; isplitr
    swap; · iexact H16
    ipureintro
    refine (View.read_writes_eq_canon _ _ _ (cover0_16 _ _ _ _ _ _)).trans ?_
    rfl
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _ _ _ _ _ _)).trans ?_
    rfl
  isplitl [H19]
  · iexists _; isplitr
    swap; · iexact H19
    ipureintro
    refine (View.read_writes_eq_canon _ _ _ (cover0_19 _ _ _ _)).trans ?_
    rfl
  iexists _; isplitr
  swap; · iexact H20
  ipureintro
  refine (View.read_writes_eq_canon _ _ _ (cover0_20 _ _ _ _)).trans ?_
  rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel3Ideal.Gen

end
-- ==== Proof.Tile.lean ====
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! ## The boxes the body reads and writes -/

/-- The box of query block `n`, column tile `j`, of a query, gate or output block. -/
def rx (n j : ℕ) (hn : n < 16) (hj : j < 3) : Rect S1x2048x384 :=
  Rect.unit ![0, n * 128, j * 128] ![1, 128, 128] (fun a => match a with
    | ⟨0, _⟩ => by show 0 + 1 ≤ 1; omega
    | ⟨1, _⟩ => by show n * 128 + 128 ≤ 2048; omega
    | ⟨2, _⟩ => by show j * 128 + 128 ≤ 384; omega)

/-- The box of 256 rows of the packed keys and values that one preparation step reads. -/
def rkv (p : ℕ) (hp : p < 8) : Rect S1x2048x256 :=
  Rect.unit ![0, p * 256, 0] ![1, 256, 256] (fun a => match a with
    | ⟨0, _⟩ => by show 0 + 1 ≤ 1; omega
    | ⟨1, _⟩ => by show p * 256 + 256 ≤ 2048; omega
    | ⟨2, _⟩ => by show 0 + 256 ≤ 256; omega)

/-- The box of 256 rows of one head's zero-padded keys, as a preparation step writes it. -/
def rks (h p : ℕ) (hh : h < 2) (hp : p < 8) : Rect S2x2048x128 :=
  Rect.unit ![h, p * 256, 0] ![1, 256, 128] (fun a => match a with
    | ⟨0, _⟩ => by show h + 1 ≤ 2; omega
    | ⟨1, _⟩ => by show p * 256 + 256 ≤ 2048; omega
    | ⟨2, _⟩ => by show 0 + 128 ≤ 128; omega)

/-- The box of 256 columns of the transposed values, as a preparation step writes it. -/
def rvs (p : ℕ) (hp : p < 8) : Rect S128x2048 :=
  Rect.unit ![0, p * 256] ![128, 256] (fun a => match a with
    | ⟨0, _⟩ => by show 0 + 128 ≤ 128; omega
    | ⟨1, _⟩ => by show p * 256 + 256 ≤ 2048; omega)

/-- The box of head `h`'s padded keys of the 256 rows that query block `b + 1` attends to. -/
def rkb (h b : ℕ) (hh : h < 2) (hb : b < 15) : Rect S2x2048x128 :=
  Rect.unit ![h, b * 128, 0] ![1, 256, 128] (fun a => match a with
    | ⟨0, _⟩ => by show h + 1 ≤ 2; omega
    | ⟨1, _⟩ => by show b * 128 + 256 ≤ 2048; omega
    | ⟨2, _⟩ => by show 0 + 128 ≤ 128; omega)

/-- The box of head `h`'s transposed values of the 256 rows that query block `b + 1` attends to. -/
def rvb (h b : ℕ) (hh : h < 2) (hb : b < 15) : Rect S128x2048 :=
  Rect.unit ![h * 64, b * 128] ![64, 256] (fun a => match a with
    | ⟨0, _⟩ => by show h * 64 + 64 ≤ 128; omega
    | ⟨1, _⟩ => by show b * 128 + 256 ≤ 2048; omega)

/-- The box of head `h`'s padded keys of the 128 rows that query block 0 attends to. -/
def rk0 (h : ℕ) (hh : h < 2) : Rect S2x2048x128 :=
  Rect.unit ![h, 0, 0] ![1, 128, 128] (fun a => match a with
    | ⟨0, _⟩ => by show h + 1 ≤ 2; omega
    | ⟨1, _⟩ => by show 0 + 128 ≤ 2048; omega
    | ⟨2, _⟩ => by show 0 + 128 ≤ 128; omega)

/-- The box of head `h`'s transposed values of the 128 rows that query block 0 attends to. -/
def rv0 (h : ℕ) (hh : h < 2) : Rect S128x2048 :=
  Rect.unit ![h * 64, 0] ![64, 128] (fun a => match a with
    | ⟨0, _⟩ => by show h * 64 + 64 ≤ 128; omega
    | ⟨1, _⟩ => by show 0 + 128 ≤ 2048; omega)

/-- The word of the sink table the body loads for head `k` of layer 0. -/
def sinkWord (x0 : Vec F S2x6 .f32) (k : ℕ) (hk : k < 6) : Elt F .f32 :=
  View.ld x0 (Rect.unit ![0, k] ![1, 1] (fun a => match a with
    | ⟨0, _⟩ => by show 0 + 1 ≤ 2; omega
    | ⟨1, _⟩ => by show k + 1 ≤ 6; omega)) (Shape.Idx.first (numel1_S1x1.symm ▸ Nat.one_pos))

/-! ## What the two scratch buffers hold when the loop over query blocks begins -/

/-- The stores that fill the scratch of padded keys, last first. -/
def ksL (x3 : Vec F S1x2048x256 .bf16) : List (View.Piece (Elt F) S2x2048x128 .bf16) :=
  [⟨rks 1 7 (by omega) (by omega), k0_pay5 (View.ld x3 (rkv 7 (by omega)))⟩,
    ⟨rks 0 7 (by omega) (by omega), k0_pay4 (View.ld x3 (rkv 7 (by omega)))⟩,
    ⟨rks 1 6 (by omega) (by omega), k0_pay5 (View.ld x3 (rkv 6 (by omega)))⟩,
    ⟨rks 0 6 (by omega) (by omega), k0_pay4 (View.ld x3 (rkv 6 (by omega)))⟩,
    ⟨rks 1 5 (by omega) (by omega), k0_pay5 (View.ld x3 (rkv 5 (by omega)))⟩,
    ⟨rks 0 5 (by omega) (by omega), k0_pay4 (View.ld x3 (rkv 5 (by omega)))⟩,
    ⟨rks 1 4 (by omega) (by omega), k0_pay5 (View.ld x3 (rkv 4 (by omega)))⟩,
    ⟨rks 0 4 (by omega) (by omega), k0_pay4 (View.ld x3 (rkv 4 (by omega)))⟩,
    ⟨rks 1 3 (by omega) (by omega), k0_pay5 (View.ld x3 (rkv 3 (by omega)))⟩,
    ⟨rks 0 3 (by omega) (by omega), k0_pay4 (View.ld x3 (rkv 3 (by omega)))⟩,
    ⟨rks 1 2 (by omega) (by omega), k0_pay5 (View.ld x3 (rkv 2 (by omega)))⟩,
    ⟨rks 0 2 (by omega) (by omega), k0_pay4 (View.ld x3 (rkv 2 (by omega)))⟩,
    ⟨rks 1 1 (by omega) (by omega), k0_pay5 (View.ld x3 (rkv 1 (by omega)))⟩,
    ⟨rks 0 1 (by omega) (by omega), k0_pay4 (View.ld x3 (rkv 1 (by omega)))⟩,
    ⟨rks 1 0 (by omega) (by omega), k0_pay5 (View.ld x3 (rkv 0 (by omega)))⟩,
    ⟨rks 0 0 (by omega) (by omega), k0_pay4 (View.ld x3 (rkv 0 (by omega)))⟩]

/-- The stores that fill the scratch of transposed values, last first. -/
def vsL (x3 : Vec F S1x2048x256 .bf16) : List (View.Piece (Elt F) S128x2048 .bf16) :=
  [⟨rvs 7 (by omega), k0_pay6 (View.ld x3 (rkv 7 (by omega)))⟩,
    ⟨rvs 6 (by omega), k0_pay6 (View.ld x3 (rkv 6 (by omega)))⟩,
    ⟨rvs 5 (by omega), k0_pay6 (View.ld x3 (rkv 5 (by omega)))⟩,
    ⟨rvs 4 (by omega), k0_pay6 (View.ld x3 (rkv 4 (by omega)))⟩,
    ⟨rvs 3 (by omega), k0_pay6 (View.ld x3 (rkv 3 (by omega)))⟩,
    ⟨rvs 2 (by omega), k0_pay6 (View.ld x3 (rkv 2 (by omega)))⟩,
    ⟨rvs 1 (by omega), k0_pay6 (View.ld x3 (rkv 1 (by omega)))⟩,
    ⟨rvs 0 (by omega), k0_pay6 (View.ld x3 (rkv 0 (by omega)))⟩]

/-- The padded keys: head, row, lane. -/
def KS (x3 : Vec F S1x2048x256 .bf16) : S2x2048x128.Idx → Elt F .bf16 := View.canon (ksL x3)

/-- The transposed values: lane, row. -/
def VS (x3 : Vec F S1x2048x256 .bf16) : S128x2048.Idx → Elt F .bf16 := View.canon (vsL x3)

/-! ## One query block -/

/-- The sink logits of the first key-value head's three query heads, along the columns of the three tiles. -/
def sink0 (x0 : Vec F S2x6 .f32) : FVec F S1x384 .f32 :=
  k0_pay46 (sinkWord x0 0 (by omega)) (sinkWord x0 1 (by omega)) (sinkWord x0 2 (by omega))

/-- The same of the second key-value head. -/
def sink1 (x0 : Vec F S2x6 .f32) : FVec F S1x384 .f32 :=
  k0_pay46 (sinkWord x0 3 (by omega)) (sinkWord x0 4 (by omega)) (sinkWord x0 5 (by omega))

/-- The three query tiles of a block, transposed side by side. -/
def qT (x1 : Vec F S1x2048x384 .bf16) (n : ℕ) (hn : n < 16) : FVec F S128x384 .bf16 :=
  k0_pay79 (View.ld x1 (rx n 0 hn (by omega))) (View.ld x1 (rx n 1 hn (by omega))) (View.ld x1 (rx n 2 hn (by omega)))

/-- The masked scores of query block `b + 1`, both heads stacked. -/
def scoresB (x1 : Vec F S1x2048x384 .bf16) (x3 : Vec F S1x2048x256 .bf16) (b : ℕ) (hb : b < 15) : FVec F S512x384 .f32 :=
  k0_pay80 k0_pay52 (qT x1 (b + 1) (by omega)) (View.ld (KS x3) (rkb 0 b (by omega) hb)) (View.ld (KS x3) (rkb 1 b (by omega) hb))

/-- The normalised weighted values of query block `b + 1`, both heads stacked. -/
def accB (x0 : Vec F S2x6 .f32) (x1 : Vec F S1x2048x384 .bf16) (x3 : Vec F S1x2048x256 .bf16) (b : ℕ) (hb : b < 15) :
    FVec F S128x384 .f32 :=
  k0_pay81 (sink0 x0) (sink1 x0) k0_pay54 (scoresB x1 x3 b hb) (View.ld (VS x3) (rvb 0 b (by omega) hb))
    (View.ld (VS x3) (rvb 1 b (by omega) hb))

/-- The masked scores of query block 0, both heads stacked. -/
def scores0 (x1 : Vec F S1x2048x384 .bf16) (x3 : Vec F S1x2048x256 .bf16) : FVec F S256x384 .f32 :=
  k0_pay55 k0_pay51 (View.ld x1 (rx 0 0 (by omega) (by omega))) (View.ld x1 (rx 0 1 (by omega) (by omega)))
    (View.ld x1 (rx 0 2 (by omega) (by omega))) (View.ld (KS x3) (rk0 0 (by omega))) (View.ld (KS x3) (rk0 1 (by omega)))

/-- The normalised weighted values of query block 0, both heads stacked. -/
def acc0 (x0 : Vec F S2x6 .f32) (x1 : Vec F S1x2048x384 .bf16) (x3 : Vec F S1x2048x256 .bf16) : FVec F S128x384 .f32 :=
  k0_pay59 (sink0 x0) (sink1 x0) k0_pay53 (scores0 x1 x3) (View.ld (VS x3) (rv0 0 (by omega))) (View.ld (VS x3) (rv0 1 (by omega)))

/-- The stored tile `j` of a block: the block's values turned back and gated. -/
def store (A : FVec F S128x384 .f32) (x2 : Vec F S1x2048x384 .bf16) (n : ℕ) (hn : n < 16) : (j : Fin 3) → FVec F S1x128x128 .bf16
  | 0 => k0_pay1 (extractStridedSlice S128x128 ![0, 0] A slices_S128x384_o0_0_S128x128) (View.ld x2 (rx n 0 hn (by omega)))
  | 1 => k0_pay1 (extractStridedSlice S128x128 ![0, 128] A slices_S128x384_o0_128_S128x128) (View.ld x2 (rx n 1 hn (by omega)))
  | 2 => k0_pay1 (extractStridedSlice S128x128 ![0, 256] A slices_S128x384_o0_256_S128x128) (View.ld x2 (rx n 2 hn (by omega)))

/-- The stores of the output block, last first. -/
def outL (x0 : Vec F S2x6 .f32) (x1 x2 : Vec F S1x2048x384 .bf16) (x3 : Vec F S1x2048x256 .bf16) :
    List (View.Piece (Elt F) S1x2048x384 .bf16) :=
  [⟨rx 15 2 (by omega) (by omega), store (accB x0 x1 x3 14 (by omega)) x2 15 (by omega) 2⟩,
    ⟨rx 15 1 (by omega) (by omega), store (accB x0 x1 x3 14 (by omega)) x2 15 (by omega) 1⟩,
    ⟨rx 15 0 (by omega) (by omega), store (accB x0 x1 x3 14 (by omega)) x2 15 (by omega) 0⟩,
    ⟨rx 14 2 (by omega) (by omega), store (accB x0 x1 x3 13 (by omega)) x2 14 (by omega) 2⟩,
    ⟨rx 14 1 (by omega) (by omega), store (accB x0 x1 x3 13 (by omega)) x2 14 (by omega) 1⟩,
    ⟨rx 14 0 (by omega) (by omega), store (accB x0 x1 x3 13 (by omega)) x2 14 (by omega) 0⟩,
    ⟨rx 13 2 (by omega) (by omega), store (accB x0 x1 x3 12 (by omega)) x2 13 (by omega) 2⟩,
    ⟨rx 13 1 (by omega) (by omega), store (accB x0 x1 x3 12 (by omega)) x2 13 (by omega) 1⟩,
    ⟨rx 13 0 (by omega) (by omega), store (accB x0 x1 x3 12 (by omega)) x2 13 (by omega) 0⟩,
    ⟨rx 12 2 (by omega) (by omega), store (accB x0 x1 x3 11 (by omega)) x2 12 (by omega) 2⟩,
    ⟨rx 12 1 (by omega) (by omega), store (accB x0 x1 x3 11 (by omega)) x2 12 (by omega) 1⟩,
    ⟨rx 12 0 (by omega) (by omega), store (accB x0 x1 x3 11 (by omega)) x2 12 (by omega) 0⟩,
    ⟨rx 11 2 (by omega) (by omega), store (accB x0 x1 x3 10 (by omega)) x2 11 (by omega) 2⟩,
    ⟨rx 11 1 (by omega) (by omega), store (accB x0 x1 x3 10 (by omega)) x2 11 (by omega) 1⟩,
    ⟨rx 11 0 (by omega) (by omega), store (accB x0 x1 x3 10 (by omega)) x2 11 (by omega) 0⟩,
    ⟨rx 10 2 (by omega) (by omega), store (accB x0 x1 x3 9 (by omega)) x2 10 (by omega) 2⟩,
    ⟨rx 10 1 (by omega) (by omega), store (accB x0 x1 x3 9 (by omega)) x2 10 (by omega) 1⟩,
    ⟨rx 10 0 (by omega) (by omega), store (accB x0 x1 x3 9 (by omega)) x2 10 (by omega) 0⟩,
    ⟨rx 9 2 (by omega) (by omega), store (accB x0 x1 x3 8 (by omega)) x2 9 (by omega) 2⟩,
    ⟨rx 9 1 (by omega) (by omega), store (accB x0 x1 x3 8 (by omega)) x2 9 (by omega) 1⟩,
    ⟨rx 9 0 (by omega) (by omega), store (accB x0 x1 x3 8 (by omega)) x2 9 (by omega) 0⟩,
    ⟨rx 8 2 (by omega) (by omega), store (accB x0 x1 x3 7 (by omega)) x2 8 (by omega) 2⟩,
    ⟨rx 8 1 (by omega) (by omega), store (accB x0 x1 x3 7 (by omega)) x2 8 (by omega) 1⟩,
    ⟨rx 8 0 (by omega) (by omega), store (accB x0 x1 x3 7 (by omega)) x2 8 (by omega) 0⟩,
    ⟨rx 7 2 (by omega) (by omega), store (accB x0 x1 x3 6 (by omega)) x2 7 (by omega) 2⟩,
    ⟨rx 7 1 (by omega) (by omega), store (accB x0 x1 x3 6 (by omega)) x2 7 (by omega) 1⟩,
    ⟨rx 7 0 (by omega) (by omega), store (accB x0 x1 x3 6 (by omega)) x2 7 (by omega) 0⟩,
    ⟨rx 6 2 (by omega) (by omega), store (accB x0 x1 x3 5 (by omega)) x2 6 (by omega) 2⟩,
    ⟨rx 6 1 (by omega) (by omega), store (accB x0 x1 x3 5 (by omega)) x2 6 (by omega) 1⟩,
    ⟨rx 6 0 (by omega) (by omega), store (accB x0 x1 x3 5 (by omega)) x2 6 (by omega) 0⟩,
    ⟨rx 5 2 (by omega) (by omega), store (accB x0 x1 x3 4 (by omega)) x2 5 (by omega) 2⟩,
    ⟨rx 5 1 (by omega) (by omega), store (accB x0 x1 x3 4 (by omega)) x2 5 (by omega) 1⟩,
    ⟨rx 5 0 (by omega) (by omega), store (accB x0 x1 x3 4 (by omega)) x2 5 (by omega) 0⟩,
    ⟨rx 4 2 (by omega) (by omega), store (accB x0 x1 x3 3 (by omega)) x2 4 (by omega) 2⟩,
    ⟨rx 4 1 (by omega) (by omega), store (accB x0 x1 x3 3 (by omega)) x2 4 (by omega) 1⟩,
    ⟨rx 4 0 (by omega) (by omega), store (accB x0 x1 x3 3 (by omega)) x2 4 (by omega) 0⟩,
    ⟨rx 3 2 (by omega) (by omega), store (accB x0 x1 x3 2 (by omega)) x2 3 (by omega) 2⟩,
    ⟨rx 3 1 (by omega) (by omega), store (accB x0 x1 x3 2 (by omega)) x2 3 (by omega) 1⟩,
    ⟨rx 3 0 (by omega) (by omega), store (accB x0 x1 x3 2 (by omega)) x2 3 (by omega) 0⟩,
    ⟨rx 2 2 (by omega) (by omega), store (accB x0 x1 x3 1 (by omega)) x2 2 (by omega) 2⟩,
    ⟨rx 2 1 (by omega) (by omega), store (accB x0 x1 x3 1 (by omega)) x2 2 (by omega) 1⟩,
    ⟨rx 2 0 (by omega) (by omega), store (accB x0 x1 x3 1 (by omega)) x2 2 (by omega) 0⟩,
    ⟨rx 1 2 (by omega) (by omega), store (accB x0 x1 x3 0 (by omega)) x2 1 (by omega) 2⟩,
    ⟨rx 1 1 (by omega) (by omega), store (accB x0 x1 x3 0 (by omega)) x2 1 (by omega) 1⟩,
    ⟨rx 1 0 (by omega) (by omega), store (accB x0 x1 x3 0 (by omega)) x2 1 (by omega) 0⟩,
    ⟨rx 0 2 (by omega) (by omega), store (acc0 x0 x1 x3) x2 0 (by omega) 2⟩,
    ⟨rx 0 1 (by omega) (by omega), store (acc0 x0 x1 x3) x2 0 (by omega) 1⟩,
    ⟨rx 0 0 (by omega) (by omega), store (acc0 x0 x1 x3) x2 0 (by omega) 0⟩]

variable (m : (ℓ : Loc nD τ sig) → Buf (Elt F) ℓ)

set_option maxHeartbeats 4000000 in
/-- What the body leaves in the output's staging buffer at a grid point is the stores of `outL`. -/
theorem outsAt0_eq (c : Dev nD) (t : Fin cfg0.N) :
    outsAt0 m c t = View.canon (outL (iblk m c 0 t) (iblk m c 1 t) (iblk m c 2 t) (iblk m c 3 t)) := by
  unfold outsAt0 out0_A_4
  rw [View.read_writes_junk_eq_canon]
  unfold kernelRun0_A
  dsimp only
  sl_unfold_words
  simp only [View.readAt_eq_ld, Memref.IsWhole.read_unread, View.readCov_eq_canon']
  unfold outL
  refine congrArg View.canon ?_
  iterate 48 (refine congrArg₂ List.cons ?_ ?_; · rfl)
  rfl

end Cert.KernelIdeal.Val
-- ==== Proof.Payloads.lean ====
module

public import proofs.«01_k».proof.Proof.Tile
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open scoped BigOperators

/-- A lane is below 64 as a word exactly when it is as a number. -/
theorem slt64 : ∀ l : Fin 128, IntOp.cmpi CmpIPredicate.slt (BitVec.ofNat 32 l.val) 64#32 = if l.val < 64 then 1#1 else 0#1 := by
  decide +kernel

/-- A lane is at least 64 as a word exactly when it is as a number. -/
theorem sge64 : ∀ l : Fin 128, IntOp.cmpi CmpIPredicate.sge (BitVec.ofNat 32 l.val) 64#32 = if 64 ≤ l.val then 1#1 else 0#1 := by
  decide +kernel

theorem slt128 : ∀ l : Fin 384, IntOp.cmpi CmpIPredicate.slt (BitVec.ofNat 32 l.val) 128#32 = if l.val < 128 then 1#1 else 0#1 := by
  decide +kernel

theorem slt256 : ∀ l : Fin 384, IntOp.cmpi CmpIPredicate.slt (BitVec.ofNat 32 l.val) 256#32 = if l.val < 256 then 1#1 else 0#1 := by
  decide +kernel

theorem eq0 : ∀ l : Fin 16, IntOp.cmpi CmpIPredicate.eq (BitVec.ofNat 32 l.val) 0#32 = if l.val = 0 then 1#1 else 0#1 := by
  decide +kernel

/-- A difference of words is the word of the difference. -/
theorem sub_words (r t k : ℕ) (hr : r < 128) (ht : t < 256) (hk : k < 256) :
    IntOp.subi (BitVec.ofNat 32 r) (IntOp.subi (BitVec.ofNat 32 t) (BitVec.ofNat 32 k))
      = BitVec.ofInt 32 (((r + k + 256 - t : ℕ) : ℤ) - 256) := by
  show BitVec.ofNat 32 r - (BitVec.ofNat 32 t - BitVec.ofNat 32 k) = _
  apply BitVec.eq_of_toNat_eq
  rw [show (((r + k + 256 - t : ℕ) : ℤ) - 256) = (r : ℤ) + k - t by omega]
  simp only [BitVec.toNat_sub, BitVec.toNat_ofNat, BitVec.toNat_ofInt]
  omega

theorem band_int : ∀ d : Fin 640, IntOp.andi
      (IntOp.cmpi CmpIPredicate.sge (BitVec.ofInt 32 (((d.val : ℕ) : ℤ) - 256)) 0#32)
      (IntOp.cmpi CmpIPredicate.slt (BitVec.ofInt 32 (((d.val : ℕ) : ℤ) - 256)) 128#32)
    = if 256 ≤ d.val ∧ d.val < 384 then 1#1 else 0#1 := by
  decide +kernel

/-- The band condition, as the kernel computes it from words, of a query's row `r` and a key's row `t` of the 256. -/
theorem band_word (r : Fin 128) (t : Fin 256) :
    IntOp.andi
      (IntOp.cmpi CmpIPredicate.sge
        (IntOp.subi (BitVec.ofNat 32 r.val) (IntOp.subi (BitVec.ofNat 32 t.val) 128#32)) 0#32)
      (IntOp.cmpi CmpIPredicate.slt
        (IntOp.subi (BitVec.ofNat 32 r.val) (IntOp.subi (BitVec.ofNat 32 t.val) 128#32)) 128#32) =
    if r.val < t.val ∧ t.val ≤ r.val + 128 then 1#1 else 0#1 := by
  rw [sub_words r.val t.val 128 r.isLt t.isLt (by omega)]
  refine (band_int ⟨r.val + 128 + 256 - t.val, by omega⟩).trans ?_
  refine if_congr ?_ rfl rfl
  have := r.isLt; have := t.isLt
  constructor <;> intro h <;> simp only at h ⊢ <;> omega

/-- The same of block 0, whose keys are the block's own rows only. -/
theorem band_word0 (r : Fin 128) (t : Fin 128) :
    IntOp.andi
      (IntOp.cmpi CmpIPredicate.sge
        (IntOp.subi (BitVec.ofNat 32 r.val) (IntOp.subi (BitVec.ofNat 32 t.val) 0#32)) 0#32)
      (IntOp.cmpi CmpIPredicate.slt
        (IntOp.subi (BitVec.ofNat 32 r.val) (IntOp.subi (BitVec.ofNat 32 t.val) 0#32)) 128#32) =
    if t.val ≤ r.val then 1#1 else 0#1 := by
  rw [sub_words r.val t.val 0 r.isLt (by omega) (by omega)]
  refine (band_int ⟨r.val + 0 + 256 - t.val, by omega⟩).trans ?_
  refine if_congr ?_ rfl rfl
  have := r.isLt; have := t.isLt
  constructor <;> intro h <;> simp only at h ⊢ <;> omega

theorem and127 : ∀ c : Fin 384, IntOp.andi (BitVec.ofNat 32 c.val) 127#32 = BitVec.ofNat 32 (c.val % 128) := by
  decide +kernel

theorem and127' : ∀ c : Fin 256, IntOp.andi (BitVec.ofNat 32 c.val) 127#32 = BitVec.ofNat 32 (c.val % 128) := by
  decide +kernel

theorem and255 : ∀ c : Fin 512, IntOp.andi (BitVec.ofNat 32 c.val) 255#32 = BitVec.ofNat 32 (c.val % 256) := by
  decide +kernel

theorem pay4_apply (v : Vec Ideal S1x256x256 .bf16) (r : Fin 256) (l : Fin 128) :
    k0_pay4 v (ix3 0 r l) = if l.val < 64 then v (ix3 0 r ⟨l.val, by omega⟩) else 0 := by
  pointwise [k0_pay4, k0_pay3, k0_pay2]
  rw [slt64]; split <;> rfl

theorem pay6_apply (v : Vec Ideal S1x256x256 .bf16) (a : Fin 128) (r : Fin 256) :
    k0_pay6 v (ix2 a r) = v (ix3 0 r ⟨128 + a.val, by omega⟩) := by
  pointwise [k0_pay6, k0_pay2]

theorem pay1_apply (A : FVec Ideal S128x128 .f32) (G : Vec Ideal S1x128x128 .bf16) (r c : Fin 128) :
    k0_pay1 A G (ix3 0 r c) = A (ix2 c r) * G (ix3 0 r c) := by
  pointwise [k0_pay1]

theorem pay52_apply (a : Fin 512) (c : Fin 384) :
    k0_pay52 (ix2 a c) = if c.val % 128 < a.val % 256 ∧ a.val % 256 ≤ c.val % 128 + 128 then 1#1 else 0#1 := by
  pointwise [k0_pay52]
  rw [and127, and255]; exact band_word ⟨c.val % 128, by omega⟩ ⟨a.val % 256, by omega⟩

theorem pay54_apply (a : Fin 16) (c : Fin 256) :
    k0_pay54 (F := Ideal) (ix2 a c) = if a.val = 0 then 1 else 0 := by
  pointwise [k0_pay54]
  rw [eq0]; split <;> rfl
theorem pay46_apply (a b c : EReal) (x : Fin 384) :
    k0_pay46 (F := Ideal) a b c (ix2 0 x) = (if x.val < 128 then a else if x.val < 256 then b else c) * (((Real.log 2)⁻¹ : ℝ) : EReal) := by
  pointwise [k0_pay46]
  rw [slt128, slt256]; rw [IdealRules.named_const.ideal_named_scalar _ _ _ _ rfl]; split; · rfl
  split <;> rfl
theorem ninf : Ideal.ofBits FTy.f32 4286578688#32 = ⊥ := by
  simp [Ideal.ofBits, Ideal.ieee]

theorem pay5_apply (v : Vec Ideal S1x256x256 .bf16) (r : Fin 256) (l : Fin 128) :
    k0_pay5 v (ix3 0 r l) = if 64 ≤ l.val then v (ix3 0 r ⟨l.val, by omega⟩) else 0 := by
  pointwise [k0_pay5, k0_pay3, k0_pay2]
  rw [sge64]; split <;> rfl

theorem pay51_apply (a : Fin 256) (c : Fin 384) :
    k0_pay51 (ix2 a c) = if a.val % 128 ≤ c.val % 128 then 1#1 else 0#1 := by
  pointwise [k0_pay51]
  rw [and127, and127']; exact band_word0 ⟨c.val % 128, by omega⟩ ⟨a.val % 128, by omega⟩

theorem pay53_apply (a : Fin 16) (c : Fin 128) :
    k0_pay53 (F := Ideal) (ix2 a c) = if a.val = 0 then 1 else 0 := by
  pointwise [k0_pay53]
  rw [eq0]; split <;> rfl

end Cert.KernelIdeal.Val
-- ==== Proof.Block.lean ====
module

public import proofs.«01_k».proof.Proof.Payloads

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open scoped BigOperators

/-! ## The scratch buffers at an index -/

/-- The padded keys: head `h` keeps the lanes of its own half and is zero on the other. -/
def ksG (x3 : Vec Ideal S1x2048x256 .bf16) (y : S2x2048x128.Idx) : EReal :=
  if (y 2).val / 64 = (y 0).val then x3 (ix3 0 (y 1) ⟨(y 2).val, by have : (y 2).val < 128 := (y 2).isLt; omega⟩) else 0

/-- The transposed values. -/
def vsG (x3 : Vec Ideal S1x2048x256 .bf16) (y : S128x2048.Idx) : EReal :=
  x3 (ix3 0 (y 1) ⟨128 + (y 0).val, by have : (y 0).val < 128 := (y 0).isLt; omega⟩)

theorem ks_piece0 (x3 : Vec Ideal S1x2048x256 .bf16) (p : ℕ) (hp : p < 8) (x : S1x256x128.Idx) :
    k0_pay4 (View.ld x3 (rkv p hp)) x = ksG x3 ((rks 0 p (by omega) hp).emb x) := by
  idx_vars x
  obtain rfl : x0 = 0 := Subsingleton.elim _ _
  refine (pay4_apply _ _ _).trans ?_
  unfold ksG
  have e : (((rks 0 p (by omega) hp).emb (ix3 0 x1 x2) 2).val / 64 = ((rks 0 p (by omega) hp).emb (ix3 0 x1 x2) 0).val) ↔ x2.val < 64 := by
    show (0 + 1 * x2.val) / 64 = 0 + 1 * 0 ↔ _
    omega
  by_cases h : x2.val < 64
  · rw [if_pos h, if_pos (e.2 h)]
    refine congrArg x3 (funext fun a => Fin.ext ?_)
    match a with
    | ⟨0, _⟩ => rfl
    | ⟨1, _⟩ => rfl
    | ⟨2, _⟩ => rfl
  · rw [if_neg h, if_neg (fun h' => h (e.1 h'))]

theorem ks_piece1 (x3 : Vec Ideal S1x2048x256 .bf16) (p : ℕ) (hp : p < 8) (x : S1x256x128.Idx) :
    k0_pay5 (View.ld x3 (rkv p hp)) x = ksG x3 ((rks 1 p (by omega) hp).emb x) := by
  idx_vars x
  obtain rfl : x0 = 0 := Subsingleton.elim _ _
  refine (pay5_apply _ _ _).trans ?_
  unfold ksG
  have e : (((rks 1 p (by omega) hp).emb (ix3 0 x1 x2) 2).val / 64 = ((rks 1 p (by omega) hp).emb (ix3 0 x1 x2) 0).val) ↔ 64 ≤ x2.val := by
    show (0 + 1 * x2.val) / 64 = 1 + 1 * 0 ↔ _
    omega
  by_cases h : 64 ≤ x2.val
  · rw [if_pos h, if_pos (e.2 h)]
    refine congrArg x3 (funext fun a => Fin.ext ?_)
    match a with
    | ⟨0, _⟩ => rfl
    | ⟨1, _⟩ => rfl
    | ⟨2, _⟩ => rfl
  · rw [if_neg h, if_neg (fun h' => h (e.1 h'))]

theorem vs_piece (x3 : Vec Ideal S1x2048x256 .bf16) (p : ℕ) (hp : p < 8) (x : S128x256.Idx) :
    k0_pay6 (View.ld x3 (rkv p hp)) x = vsG x3 ((rvs p hp).emb x) := by
  idx_vars x
  refine (pay6_apply _ _ _).trans ?_
  unfold vsG
  refine congrArg x3 (funext fun a => Fin.ext ?_)
  match a with
  | ⟨0, _⟩ => rfl
  | ⟨1, _⟩ => rfl
  | ⟨2, _⟩ => show 0 + 1 * (128 + x0.val) = 128 + (0 + 1 * x0.val); omega

theorem ks_cover (x3 : Vec Ideal S1x2048x256 .bf16) (y : S2x2048x128.Idx) : ∃ pc ∈ ksL x3, y ∈ pc.1.set :=
  View.cover_of_tiledL (ksL x3) S1x256x128.size (by sl_kernel_rfl) y

theorem vs_cover (x3 : Vec Ideal S1x2048x256 .bf16) (y : S128x2048.Idx) : ∃ pc ∈ vsL x3, y ∈ pc.1.set :=
  View.cover_of_tiledL (vsL x3) S128x256.size (by sl_kernel_rfl) y

theorem KS_eq (x3 : Vec Ideal S1x2048x256 .bf16) : KS x3 = ksG x3 := by
  funext y
  refine View.canon_apply_of_pieces (ksG x3) (ksL x3) ?_ y (ks_cover x3 y)
  unfold ksL
  simp only [List.forall_mem_cons]
  exact ⟨ks_piece1 x3 7 _, ks_piece0 x3 7 _, ks_piece1 x3 6 _, ks_piece0 x3 6 _, ks_piece1 x3 5 _, ks_piece0 x3 5 _,
    ks_piece1 x3 4 _, ks_piece0 x3 4 _, ks_piece1 x3 3 _, ks_piece0 x3 3 _, ks_piece1 x3 2 _, ks_piece0 x3 2 _,
    ks_piece1 x3 1 _, ks_piece0 x3 1 _, ks_piece1 x3 0 _, ks_piece0 x3 0 _, by simp⟩

theorem VS_eq (x3 : Vec Ideal S1x2048x256 .bf16) : VS x3 = vsG x3 := by
  funext y
  refine View.canon_apply_of_pieces (vsG x3) (vsL x3) ?_ y (vs_cover x3 y)
  unfold vsL
  simp only [List.forall_mem_cons]
  exact ⟨vs_piece x3 7 _, vs_piece x3 6 _, vs_piece x3 5 _, vs_piece x3 4 _, vs_piece x3 3 _, vs_piece x3 2 _,
    vs_piece x3 1 _, vs_piece x3 0 _, by simp⟩

/-! ## The payloads of one query block at an index -/

theorem pay79_0 (q0 q1 q2 : Vec Ideal S1x128x128 .bf16) (l r : Fin 128) :
    k0_pay79 q0 q1 q2 (ix2 l ⟨0 * 128 + r.val, by omega⟩) = q0 (ix3 0 r l) := by
  pointwise [k0_pay79]

theorem pay79_1 (q0 q1 q2 : Vec Ideal S1x128x128 .bf16) (l r : Fin 128) :
    k0_pay79 q0 q1 q2 (ix2 l ⟨1 * 128 + r.val, by omega⟩) = q1 (ix3 0 r l) := by
  pointwise [k0_pay79]

theorem pay79_2 (q0 q1 q2 : Vec Ideal S1x128x128 .bf16) (l r : Fin 128) :
    k0_pay79 q0 q1 q2 (ix2 l ⟨2 * 128 + r.val, by omega⟩) = q2 (ix3 0 r l) := by
  pointwise [k0_pay79]
  rw [dif_neg (by omega), dif_neg (by omega)]
  exact congrArg q2 (congrArg (fun z : Fin 128 => ix3 0 z l)
    (a₁ := ⟨256 + r.val - 128 - 128, by omega⟩) (a₂ := r) (Fin.ext (by show 256 + r.val - 128 - 128 = r.val; omega)))

/-- A box of a query, gate or output block at an index. -/
theorem ld_rx (x : Vec Ideal S1x2048x384 .bf16) (n j : ℕ) (hn : n < 16) (hj : j < 3) (r c : Fin 128) :
    View.ld x (rx n j hn hj) (ix3 0 r c) = x (ix3 0 ⟨n * 128 + r.val, by omega⟩ ⟨j * 128 + c.val, by omega⟩) := by
  refine congrArg x (funext fun a => Fin.ext ?_)
  match a with
  | ⟨0, _⟩ => rfl
  | ⟨1, _⟩ => show n * 128 + 1 * r.val = _; rw [Nat.one_mul]; rfl
  | ⟨2, _⟩ => show j * 128 + 1 * c.val = _; rw [Nat.one_mul]; rfl

/-- The transposed query tiles: lane `l` of the tile `j` of row `r` of the block. -/
theorem qT_apply (x1 : Vec Ideal S1x2048x384 .bf16) (n : ℕ) (hn : n < 16) (l : Fin 128) (j : Fin 3) (r : Fin 128) :
    qT x1 n hn (ix2 l ⟨j.val * 128 + r.val, by omega⟩)
      = x1 (ix3 0 ⟨n * 128 + r.val, by omega⟩ ⟨j.val * 128 + l.val, by omega⟩) := by
  unfold qT
  match j with
  | 0 => exact (pay79_0 _ _ _ l r).trans (ld_rx x1 n 0 hn (by omega) r l)
  | 1 => exact (pay79_1 _ _ _ l r).trans (ld_rx x1 n 1 hn (by omega) r l)
  | 2 => exact (pay79_2 _ _ _ l r).trans (ld_rx x1 n 2 hn (by omega) r l)

/-- The masked scores of a block's columns: head 0's rows. -/
theorem pay80_0 (M : IVec S512x384 1) (Q : FVec Ideal S128x384 .bf16) (K0 K1 : Vec Ideal S1x256x128 .bf16) (t : Fin 256) (c : Fin 384) :
    k0_pay80 M Q K0 K1 (ix2 ⟨t.val, by omega⟩ c)
      = Scalar.select (M (ix2 ⟨t.val, by omega⟩ c)) (∑ l : Fin 128, K0 (ix3 0 t l) * Q (ix2 l c)) ⊥ := by
  pointwise [k0_pay80]
  rw [ninf]

/-- The masked scores of a block's columns: head 1's rows. -/
theorem pay80_1 (M : IVec S512x384 1) (Q : FVec Ideal S128x384 .bf16) (K0 K1 : Vec Ideal S1x256x128 .bf16) (t : Fin 256) (c : Fin 384) :
    k0_pay80 M Q K0 K1 (ix2 ⟨256 + t.val, by omega⟩ c)
      = Scalar.select (M (ix2 ⟨256 + t.val, by omega⟩ c)) (∑ l : Fin 128, K1 (ix3 0 t l) * Q (ix2 l c)) ⊥ := by
  pointwise [k0_pay80]
  rw [ninf]

/-- The normalised weighted values of a block: head 0's lanes. -/
theorem pay81_0 (s0 s1 : FVec Ideal S1x384 .f32) (one : FVec Ideal S16x256 .bf16) (S : FVec Ideal S512x384 .f32)
    (V0 V1 : Vec Ideal S64x256 .bf16) (d : Fin 64) (c : Fin 384) :
    k0_pay81 s0 s1 one S V0 V1 (ix2 ⟨d.val, by omega⟩ c)
      = (∑ t : Fin 256, V0 (ix2 d t) * Ideal.exp2 (S (ix2 ⟨t.val, by omega⟩ c)))
        * Ideal.div 1 (∑ t : Fin 256, one (ix2 0 t) * Ideal.exp2 (S (ix2 ⟨t.val, by omega⟩ c)) + Ideal.exp2 (s0 (ix2 0 c))) := by
  pointwise [k0_pay81]
  rfl

/-- The normalised weighted values of a block: head 1's lanes. -/
theorem pay81_1 (s0 s1 : FVec Ideal S1x384 .f32) (one : FVec Ideal S16x256 .bf16) (S : FVec Ideal S512x384 .f32)
    (V0 V1 : Vec Ideal S64x256 .bf16) (d : Fin 64) (c : Fin 384) :
    k0_pay81 s0 s1 one S V0 V1 (ix2 ⟨64 + d.val, by omega⟩ c)
      = (∑ t : Fin 256, V1 (ix2 d t) * Ideal.exp2 (S (ix2 ⟨256 + t.val, by omega⟩ c)))
        * Ideal.div 1 (∑ t : Fin 256, one (ix2 0 t) * Ideal.exp2 (S (ix2 ⟨256 + t.val, by omega⟩ c)) + Ideal.exp2 (s1 (ix2 0 c))) := by
  pointwise [k0_pay81]
  rfl

/-- Block 0's masked scores: head 0's rows. -/
theorem pay55_0 (M : IVec S256x384 1) (q0 q1 q2 K0 K1 : Vec Ideal S1x128x128 .bf16) (t : Fin 128) (c : Fin 384) :
    k0_pay55 M q0 q1 q2 K0 K1 (ix2 ⟨t.val, by omega⟩ c)
      = Scalar.select (M (ix2 ⟨t.val, by omega⟩ c)) (∑ l : Fin 128, K0 (ix3 0 t l) * k0_pay79 q0 q1 q2 (ix2 l c)) ⊥ := by
  pointwise [k0_pay55, k0_pay79]
  rw [ninf]

/-- Block 0's masked scores: head 1's rows. -/
theorem pay55_1 (M : IVec S256x384 1) (q0 q1 q2 K0 K1 : Vec Ideal S1x128x128 .bf16) (t : Fin 128) (c : Fin 384) :
    k0_pay55 M q0 q1 q2 K0 K1 (ix2 ⟨128 + t.val, by omega⟩ c)
      = Scalar.select (M (ix2 ⟨128 + t.val, by omega⟩ c)) (∑ l : Fin 128, K1 (ix3 0 t l) * k0_pay79 q0 q1 q2 (ix2 l c)) ⊥ := by
  pointwise [k0_pay55, k0_pay79]
  rw [ninf]

/-- Block 0's normalised weighted values: head 0's lanes. -/
theorem pay59_0 (s0 s1 : FVec Ideal S1x384 .f32) (one : FVec Ideal S16x128 .bf16) (S : FVec Ideal S256x384 .f32)
    (V0 V1 : Vec Ideal S64x128 .bf16) (d : Fin 64) (c : Fin 384) :
    k0_pay59 s0 s1 one S V0 V1 (ix2 ⟨d.val, by omega⟩ c)
      = (∑ t : Fin 128, V0 (ix2 d t) * Ideal.exp2 (S (ix2 ⟨t.val, by omega⟩ c)))
        * Ideal.div 1 (∑ t : Fin 128, one (ix2 0 t) * Ideal.exp2 (S (ix2 ⟨t.val, by omega⟩ c)) + Ideal.exp2 (s0 (ix2 0 c))) := by
  pointwise [k0_pay59]
  rfl

/-- Block 0's normalised weighted values: head 1's lanes. -/
theorem pay59_1 (s0 s1 : FVec Ideal S1x384 .f32) (one : FVec Ideal S16x128 .bf16) (S : FVec Ideal S256x384 .f32)
    (V0 V1 : Vec Ideal S64x128 .bf16) (d : Fin 64) (c : Fin 384) :
    k0_pay59 s0 s1 one S V0 V1 (ix2 ⟨64 + d.val, by omega⟩ c)
      = (∑ t : Fin 128, V1 (ix2 d t) * Ideal.exp2 (S (ix2 ⟨128 + t.val, by omega⟩ c)))
        * Ideal.div 1 (∑ t : Fin 128, one (ix2 0 t) * Ideal.exp2 (S (ix2 ⟨128 + t.val, by omega⟩ c)) + Ideal.exp2 (s1 (ix2 0 c))) := by
  pointwise [k0_pay59]
  rfl

/-! ## One query block in closed form -/

/-- The row of the key that band position `t` of block `n` names: a key of the block before, then one of the block's own. -/
def keyRow (n : Fin 16) (t : Fin 256) : Fin 2048 := ⟨n.val * 128 + t.val - 128, by omega⟩

/-- Band position `t` is a key that row `r` of block `n` attends to: it exists, and is at most 127 rows back. -/
def inBand (n : Fin 16) (r : Fin 128) (t : Fin 256) : Prop := 128 ≤ n.val * 128 + t.val ∧ r.val < t.val ∧ t.val ≤ r.val + 128

instance (n : Fin 16) (r : Fin 128) (t : Fin 256) : Decidable (inBand n r t) := by unfold inBand; infer_instance

/-- The lane of dimension `d` of head half `h` in column tile `j`. -/
def lane3 (j : Fin 3) (h : Fin 2) (d : Fin 64) : Fin 384 := ⟨j.val * 128 + (h.val * 64 + d.val), by omega⟩

/-- The lane of dimension `d` of the key head `h`. -/
def laneK (h : Fin 2) (d : Fin 64) : Fin 256 := ⟨h.val * 64 + d.val, by omega⟩

/-- The lane of dimension `d` of the value head `h`. -/
def laneV (h : Fin 2) (d : Fin 64) : Fin 256 := ⟨128 + (h.val * 64 + d.val), by omega⟩

/-- The score of a key against a query: their product over the head's 64 dimensions. -/
def dotQK (x1 : Vec Ideal S1x2048x384 .bf16) (x3 : Vec Ideal S1x2048x256 .bf16) (j : Fin 3) (h : Fin 2) (row key : Fin 2048) : EReal :=
  ∑ d : Fin 64, x3 (ix3 0 key (laneK h d)) * x1 (ix3 0 row (lane3 j h d))

/-- The row `r` of block `n`. -/
def qRow (n : Fin 16) (r : Fin 128) : Fin 2048 := ⟨n.val * 128 + r.val, by omega⟩

/-- The weight of band position `t`: two to the score inside the band, zero outside. -/
def wt (x1 : Vec Ideal S1x2048x384 .bf16) (x3 : Vec Ideal S1x2048x256 .bf16) (n : Fin 16) (r : Fin 128) (j : Fin 3) (h : Fin 2)
    (t : Fin 256) : EReal :=
  if inBand n r t then Ideal.exp2 (dotQK x1 x3 j h (qRow n r) (keyRow n t)) else 0

/-- The weight of the sink of the query head at half `h` of tile `j`. -/
def wtSink (x0 : Vec Ideal S2x6 .f32) (j : Fin 3) (h : Fin 2) : EReal :=
  Ideal.exp2 (x0 (ix2 0 ⟨h.val * 3 + j.val, by omega⟩) * (((Real.log 2)⁻¹ : ℝ) : EReal))

/-- The normalised weighted value. -/
def att (x0 : Vec Ideal S2x6 .f32) (x1 : Vec Ideal S1x2048x384 .bf16) (x3 : Vec Ideal S1x2048x256 .bf16)
    (n : Fin 16) (r : Fin 128) (j : Fin 3) (h : Fin 2) (d : Fin 64) : EReal :=
  (∑ t : Fin 256, x3 (ix3 0 (keyRow n t) (laneV h d)) * wt x1 x3 n r j h t)
    * Ideal.div 1 (∑ t : Fin 256, wt x1 x3 n r j h t + wtSink x0 j h)

/-- A sum over 128 lanes of a head's padded keys is the sum over the head's 64 dimensions. -/
theorem half_sum (x1 : Vec Ideal S1x2048x384 .bf16) (x3 : Vec Ideal S1x2048x256 .bf16) (j : Fin 3) (h : Fin 2) (row key : Fin 2048) :
    ∑ l : Fin 128, ksG x3 (ix3 h key l) * x1 (ix3 0 row ⟨j.val * 128 + l.val, by omega⟩) = dotQK x1 x3 j h row key := by
  have H := Fin.sum_univ_add (a := 64) (b := 64)
    (fun l : Fin 128 => ksG x3 (ix3 h key l) * x1 (ix3 0 row ⟨j.val * 128 + l.val, by omega⟩))
  refine H.trans ?_
  have z : ∀ l : Fin 128, ¬ l.val / 64 = h.val → ksG x3 (ix3 h key l) = 0 := fun l hl => if_neg hl
  have nz : ∀ (d : Fin 64) (l : Fin 128) (hl : l.val = h.val * 64 + d.val), ksG x3 (ix3 h key l) = x3 (ix3 0 key (laneK h d)) := by
    intro d l hl
    have : ksG x3 (ix3 h key l) = x3 (ix3 0 key ⟨l.val, by omega⟩) := if_pos (by show l.val / 64 = h.val; omega)
    rw [this]
    exact congrArg (fun z : Fin 256 => x3 (ix3 0 key z)) (Fin.ext hl)
  match h, z, nz with
  | 0, z, nz =>
    have e2 : ∑ i : Fin 64, ksG x3 (ix3 0 key (Fin.natAdd 64 i)) * x1 (ix3 0 row ⟨j.val * 128 + (Fin.natAdd 64 i).val, by have := (Fin.natAdd 64 i).isLt; omega⟩) = 0 := by
      refine Finset.sum_eq_zero fun i _ => ?_
      rw [z (Fin.natAdd 64 i) (by show ¬ (64 + i.val) / 64 = 0; omega), zero_mul]
    refine (congrArg₂ (· + ·) rfl e2).trans ?_
    rw [add_zero]
    unfold dotQK
    refine Finset.sum_congr rfl fun d _ => ?_
    rw [nz d (Fin.castAdd 64 d) (by show d.val = 0 * 64 + d.val; omega)]
    exact congrArg (fun z : Fin 384 => x3 (ix3 0 key (laneK 0 d)) * x1 (ix3 0 row z)) (Fin.ext (by show j.val * 128 + d.val = j.val * 128 + (0 * 64 + d.val); omega))
  | 1, z, nz =>
    have e2 : ∑ i : Fin 64, ksG x3 (ix3 1 key (Fin.castAdd 64 i)) * x1 (ix3 0 row ⟨j.val * 128 + (Fin.castAdd 64 i).val, by have := (Fin.castAdd 64 i).isLt; omega⟩) = 0 := by
      refine Finset.sum_eq_zero fun i _ => ?_
      rw [z (Fin.castAdd 64 i) (by show ¬ i.val / 64 = 1; omega), zero_mul]
    refine (congrArg₂ (· + ·) e2 rfl).trans ?_
    rw [zero_add]
    unfold dotQK
    refine Finset.sum_congr rfl fun d _ => ?_
    rw [nz d (Fin.natAdd 64 d) (by show 64 + d.val = 1 * 64 + d.val; omega)]
    exact congrArg (fun z : Fin 384 => x3 (ix3 0 key (laneK 1 d)) * x1 (ix3 0 row z)) (Fin.ext (by show j.val * 128 + (64 + d.val) = j.val * 128 + (1 * 64 + d.val); omega))

end Cert.KernelIdeal.Val
-- ==== Proof.Att.lean ====
module

public import proofs.«01_k».proof.Proof.Block

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open scoped BigOperators

/-- The power of two of a masked score is the power of two inside the mask and zero outside. -/
theorem exp2_sel (m : BitVec 1) (p : Prop) [Decidable p] (hm : m = if p then 1#1 else 0#1) (X : EReal) :
    Ideal.exp2 (Scalar.select m X ⊥) = if p then Ideal.exp2 X else 0 := by
  subst hm
  by_cases h : p
  · rw [if_pos h, if_pos h]; rfl
  · rw [if_neg h, if_neg h]; exact Ideal.exp2_bot

/-- The word the body loads from the sink table. -/
theorem sinkWord_apply (x0 : Vec Ideal S2x6 .f32) (k : ℕ) (hk : k < 6) : sinkWord x0 k hk = x0 (ix2 0 ⟨k, hk⟩) := by
  refine congrArg x0 (funext fun a => Fin.ext ?_)
  match a with
  | ⟨0, _⟩ => rfl
  | ⟨1, _⟩ => rfl

/-- The sink logit of the column `r` of tile `j`, first key-value head. -/
theorem sink0_apply (x0 : Vec Ideal S2x6 .f32) (j : Fin 3) (r : Fin 128) :
    Ideal.exp2 (sink0 x0 (ix2 0 ⟨j.val * 128 + r.val, by omega⟩)) = wtSink x0 j 0 := by
  unfold sink0 wtSink
  refine congrArg Ideal.exp2 ((pay46_apply _ _ _ _).trans (congrArg (· * (((Real.log 2)⁻¹ : ℝ) : EReal)) ?_))
  match j with
  | 0 => exact (if_pos (by show 0 * 128 + r.val < 128; omega)).trans (sinkWord_apply x0 0 _)
  | 1 => exact (if_neg (by show ¬ 1 * 128 + r.val < 128; omega)).trans ((if_pos (by show 1 * 128 + r.val < 256; omega)).trans (sinkWord_apply x0 1 _))
  | 2 => exact (if_neg (by show ¬ 2 * 128 + r.val < 128; omega)).trans ((if_neg (by show ¬ 2 * 128 + r.val < 256; omega)).trans (sinkWord_apply x0 2 _))

/-- The sink logit of the column `r` of tile `j`, second key-value head. -/
theorem sink1_apply (x0 : Vec Ideal S2x6 .f32) (j : Fin 3) (r : Fin 128) :
    Ideal.exp2 (sink1 x0 (ix2 0 ⟨j.val * 128 + r.val, by omega⟩)) = wtSink x0 j 1 := by
  unfold sink1 wtSink
  refine congrArg Ideal.exp2 ((pay46_apply _ _ _ _).trans (congrArg (· * (((Real.log 2)⁻¹ : ℝ) : EReal)) ?_))
  match j with
  | 0 => exact (if_pos (by show 0 * 128 + r.val < 128; omega)).trans (sinkWord_apply x0 3 _)
  | 1 => exact (if_neg (by show ¬ 1 * 128 + r.val < 128; omega)).trans ((if_pos (by show 1 * 128 + r.val < 256; omega)).trans (sinkWord_apply x0 4 _))
  | 2 => exact (if_neg (by show ¬ 2 * 128 + r.val < 128; omega)).trans ((if_neg (by show ¬ 2 * 128 + r.val < 256; omega)).trans (sinkWord_apply x0 5 _))

/-! ## The blocks after the first -/

/-- The padded keys a later block loads. -/
theorem ld_rkb (x3 : Vec Ideal S1x2048x256 .bf16) (h : Fin 2) (b : ℕ) (hb : b < 15) (t : Fin 256) (l : Fin 128) :
    View.ld (KS x3) (rkb h.val b h.isLt hb) (ix3 0 t l) = ksG x3 (ix3 h (keyRow ⟨b + 1, by omega⟩ t) l) := by
  rw [KS_eq]
  refine congrArg (ksG x3) (funext fun a => Fin.ext ?_)
  match a with
  | ⟨0, _⟩ => rfl
  | ⟨1, _⟩ => show b * 128 + 1 * t.val = (b + 1) * 128 + t.val - 128; omega
  | ⟨2, _⟩ => show 0 + 1 * l.val = l.val; omega

/-- The transposed values a later block loads. -/
theorem ld_rvb (x3 : Vec Ideal S1x2048x256 .bf16) (h : Fin 2) (b : ℕ) (hb : b < 15) (d : Fin 64) (t : Fin 256) :
    View.ld (VS x3) (rvb h.val b h.isLt hb) (ix2 d t) = x3 (ix3 0 (keyRow ⟨b + 1, by omega⟩ t) (laneV h d)) := by
  rw [VS_eq]
  refine congrArg x3 (funext fun a => Fin.ext ?_)
  match a with
  | ⟨0, _⟩ => rfl
  | ⟨1, _⟩ => show b * 128 + 1 * t.val = (b + 1) * 128 + t.val - 128; omega
  | ⟨2, _⟩ => show 128 + (h.val * 64 + 1 * d.val) = 128 + (h.val * 64 + d.val); omega

/-- The product of a key with the transposed queries is the score. -/
theorem score_sum (x1 : Vec Ideal S1x2048x384 .bf16) (x3 : Vec Ideal S1x2048x256 .bf16) (n : Fin 16) (r : Fin 128) (j : Fin 3) (h : Fin 2)
    (key : Fin 2048) (K : Fin 128 → EReal) (hK : ∀ l, K l = ksG x3 (ix3 h key l)) :
    ∑ l : Fin 128, K l * qT x1 n.val n.isLt (ix2 l ⟨j.val * 128 + r.val, by omega⟩) = dotQK x1 x3 j h (qRow n r) key := by
  refine Eq.trans (Finset.sum_congr rfl fun l _ => ?_) (half_sum x1 x3 j h (qRow n r) key)
  rw [hK l]
  exact congrArg (_ * ·) (qT_apply x1 n.val n.isLt l j r)

/-- The weights of a later block, head 0. -/
theorem scoresB_0 (x1 : Vec Ideal S1x2048x384 .bf16) (x3 : Vec Ideal S1x2048x256 .bf16) (b : ℕ) (hb : b < 15) (t : Fin 256) (r : Fin 128) (j : Fin 3) :
    Ideal.exp2 (scoresB x1 x3 b hb (ix2 ⟨t.val, by omega⟩ ⟨j.val * 128 + r.val, by omega⟩)) = wt x1 x3 ⟨b + 1, by omega⟩ r j 0 t := by
  unfold scoresB wt
  refine (congrArg Ideal.exp2 (pay80_0 _ _ _ _ t _)).trans ?_
  refine (exp2_sel _ (inBand ⟨b + 1, by omega⟩ r t) ?_ _).trans ?_
  · refine (pay52_apply _ _).trans (if_congr ?_ rfl rfl)
    unfold inBand
    show (j.val * 128 + r.val) % 128 < t.val % 256 ∧ t.val % 256 ≤ (j.val * 128 + r.val) % 128 + 128 ↔ 128 ≤ (b + 1) * 128 + t.val ∧ _
    omega
  · refine if_congr Iff.rfl (congrArg Ideal.exp2 ?_) rfl
    exact score_sum x1 x3 ⟨b + 1, by omega⟩ r j 0 _ _ (fun l => ld_rkb x3 0 b hb t l)

/-- The weights of a later block, head 1. -/
theorem scoresB_1 (x1 : Vec Ideal S1x2048x384 .bf16) (x3 : Vec Ideal S1x2048x256 .bf16) (b : ℕ) (hb : b < 15) (t : Fin 256) (r : Fin 128) (j : Fin 3) :
    Ideal.exp2 (scoresB x1 x3 b hb (ix2 ⟨256 + t.val, by omega⟩ ⟨j.val * 128 + r.val, by omega⟩)) = wt x1 x3 ⟨b + 1, by omega⟩ r j 1 t := by
  unfold scoresB wt
  refine (congrArg Ideal.exp2 (pay80_1 _ _ _ _ t _)).trans ?_
  refine (exp2_sel _ (inBand ⟨b + 1, by omega⟩ r t) ?_ _).trans ?_
  · refine (pay52_apply _ _).trans (if_congr ?_ rfl rfl)
    unfold inBand
    show (j.val * 128 + r.val) % 128 < (256 + t.val) % 256 ∧ (256 + t.val) % 256 ≤ (j.val * 128 + r.val) % 128 + 128 ↔ 128 ≤ (b + 1) * 128 + t.val ∧ _
    omega
  · refine if_congr Iff.rfl (congrArg Ideal.exp2 ?_) rfl
    exact score_sum x1 x3 ⟨b + 1, by omega⟩ r j 1 _ _ (fun l => ld_rkb x3 1 b hb t l)

theorem accB_0 (x0 : Vec Ideal S2x6 .f32) (x1 : Vec Ideal S1x2048x384 .bf16) (x3 : Vec Ideal S1x2048x256 .bf16) (b : ℕ) (hb : b < 15)
    (r : Fin 128) (j : Fin 3) (d : Fin 64) :
    accB x0 x1 x3 b hb (ix2 ⟨d.val, by omega⟩ ⟨j.val * 128 + r.val, by omega⟩) = att x0 x1 x3 ⟨b + 1, by omega⟩ r j 0 d := by
  unfold accB att
  refine (pay81_0 _ _ _ _ _ _ d _).trans ?_
  refine congrArg₂ (· * ·) (Finset.sum_congr rfl fun t _ => ?_)
    (congrArg (Ideal.div 1) (congrArg₂ (· + ·) (Finset.sum_congr rfl fun t _ => ?_) (sink0_apply x0 j r)))
  · exact congrArg₂ (· * ·) (ld_rvb x3 0 b hb d t) (scoresB_0 x1 x3 b hb t r j)
  · refine (congrArg₂ (· * ·) (pay54_apply 0 t) (scoresB_0 x1 x3 b hb t r j)).trans ?_
    exact (congrArg (· * _) (if_pos rfl)).trans (one_mul _)

theorem accB_1 (x0 : Vec Ideal S2x6 .f32) (x1 : Vec Ideal S1x2048x384 .bf16) (x3 : Vec Ideal S1x2048x256 .bf16) (b : ℕ) (hb : b < 15)
    (r : Fin 128) (j : Fin 3) (d : Fin 64) :
    accB x0 x1 x3 b hb (ix2 ⟨64 + d.val, by omega⟩ ⟨j.val * 128 + r.val, by omega⟩) = att x0 x1 x3 ⟨b + 1, by omega⟩ r j 1 d := by
  unfold accB att
  refine (pay81_1 _ _ _ _ _ _ d _).trans ?_
  refine congrArg₂ (· * ·) (Finset.sum_congr rfl fun t _ => ?_)
    (congrArg (Ideal.div 1) (congrArg₂ (· + ·) (Finset.sum_congr rfl fun t _ => ?_) (sink1_apply x0 j r)))
  · exact congrArg₂ (· * ·) (ld_rvb x3 1 b hb d t) (scoresB_1 x1 x3 b hb t r j)
  · refine (congrArg₂ (· * ·) (pay54_apply 0 t) (scoresB_1 x1 x3 b hb t r j)).trans ?_
    exact (congrArg (· * _) (if_pos rfl)).trans (one_mul _)

/-! ## The first block -/

/-- The padded keys the first block loads. -/
theorem ld_rk0 (x3 : Vec Ideal S1x2048x256 .bf16) (h : Fin 2) (t : Fin 128) (l : Fin 128) :
    View.ld (KS x3) (rk0 h.val h.isLt) (ix3 0 t l) = ksG x3 (ix3 h (keyRow 0 (Fin.natAdd 128 t)) l) := by
  rw [KS_eq]
  refine congrArg (ksG x3) (funext fun a => Fin.ext ?_)
  match a with
  | ⟨0, _⟩ => rfl
  | ⟨1, _⟩ => show 0 + 1 * t.val = 0 * 128 + (128 + t.val) - 128; omega
  | ⟨2, _⟩ => show 0 + 1 * l.val = l.val; omega

/-- The transposed values the first block loads. -/
theorem ld_rv0 (x3 : Vec Ideal S1x2048x256 .bf16) (h : Fin 2) (d : Fin 64) (t : Fin 128) :
    View.ld (VS x3) (rv0 h.val h.isLt) (ix2 d t) = x3 (ix3 0 (keyRow 0 (Fin.natAdd 128 t)) (laneV h d)) := by
  rw [VS_eq]
  refine congrArg x3 (funext fun a => Fin.ext ?_)
  match a with
  | ⟨0, _⟩ => rfl
  | ⟨1, _⟩ => show 0 + 1 * t.val = 0 * 128 + (128 + t.val) - 128; omega
  | ⟨2, _⟩ => show 128 + (h.val * 64 + 1 * d.val) = 128 + (h.val * 64 + d.val); omega

/-- The first block's weights, head 0: its own 128 rows are the second half of the band. -/
theorem scores0_0 (x1 : Vec Ideal S1x2048x384 .bf16) (x3 : Vec Ideal S1x2048x256 .bf16) (t : Fin 128) (r : Fin 128) (j : Fin 3) :
    Ideal.exp2 (scores0 x1 x3 (ix2 ⟨t.val, by omega⟩ ⟨j.val * 128 + r.val, by omega⟩)) = wt x1 x3 0 r j 0 (Fin.natAdd 128 t) := by
  unfold scores0 wt
  refine (congrArg Ideal.exp2 (pay55_0 _ _ _ _ _ _ t _)).trans ?_
  refine (exp2_sel _ (inBand 0 r (Fin.natAdd 128 t)) ?_ _).trans ?_
  · refine (pay51_apply _ _).trans (if_congr ?_ rfl rfl)
    unfold inBand
    show t.val % 128 ≤ (j.val * 128 + r.val) % 128 ↔ 128 ≤ 0 * 128 + (128 + t.val) ∧ r.val < 128 + t.val ∧ 128 + t.val ≤ r.val + 128
    omega
  · refine if_congr Iff.rfl (congrArg Ideal.exp2 ?_) rfl
    exact score_sum x1 x3 0 r j 0 _ _ (fun l => ld_rk0 x3 0 t l)

/-- The first block's weights, head 1. -/
theorem scores0_1 (x1 : Vec Ideal S1x2048x384 .bf16) (x3 : Vec Ideal S1x2048x256 .bf16) (t : Fin 128) (r : Fin 128) (j : Fin 3) :
    Ideal.exp2 (scores0 x1 x3 (ix2 ⟨128 + t.val, by omega⟩ ⟨j.val * 128 + r.val, by omega⟩)) = wt x1 x3 0 r j 1 (Fin.natAdd 128 t) := by
  unfold scores0 wt
  refine (congrArg Ideal.exp2 (pay55_1 _ _ _ _ _ _ t _)).trans ?_
  refine (exp2_sel _ (inBand 0 r (Fin.natAdd 128 t)) ?_ _).trans ?_
  · refine (pay51_apply _ _).trans (if_congr ?_ rfl rfl)
    unfold inBand
    show (128 + t.val) % 128 ≤ (j.val * 128 + r.val) % 128 ↔ 128 ≤ 0 * 128 + (128 + t.val) ∧ r.val < 128 + t.val ∧ 128 + t.val ≤ r.val + 128
    omega
  · refine if_congr Iff.rfl (congrArg Ideal.exp2 ?_) rfl
    exact score_sum x1 x3 0 r j 1 _ _ (fun l => ld_rk0 x3 1 t l)

/-- A sum over the band whose first half vanishes is the sum over the second half. -/
theorem sum_half (f : Fin 256 → EReal) (g : Fin 128 → EReal) (hz : ∀ t : Fin 128, f (Fin.castAdd 128 t) = 0)
    (hg : ∀ t : Fin 128, g t = f (Fin.natAdd 128 t)) : ∑ t : Fin 128, g t = ∑ t : Fin 256, f t := by
  refine Eq.trans ?_ (Fin.sum_univ_add (a := 128) (b := 128) f).symm
  rw [Finset.sum_eq_zero (fun t _ => hz t), zero_add]
  exact Finset.sum_congr rfl fun t _ => hg t

/-- The first block has no key before its own rows. -/
theorem wt_zero (x1 : Vec Ideal S1x2048x384 .bf16) (x3 : Vec Ideal S1x2048x256 .bf16) (r : Fin 128) (j : Fin 3) (h : Fin 2) (t : Fin 128) :
    wt x1 x3 0 r j h (Fin.castAdd 128 t) = 0 :=
  if_neg (by unfold inBand; show ¬ (128 ≤ 0 * 128 + t.val ∧ _); omega)

theorem acc0_0 (x0 : Vec Ideal S2x6 .f32) (x1 : Vec Ideal S1x2048x384 .bf16) (x3 : Vec Ideal S1x2048x256 .bf16)
    (r : Fin 128) (j : Fin 3) (d : Fin 64) :
    acc0 x0 x1 x3 (ix2 ⟨d.val, by omega⟩ ⟨j.val * 128 + r.val, by omega⟩) = att x0 x1 x3 0 r j 0 d := by
  unfold acc0 att
  refine (pay59_0 _ _ _ _ _ _ d _).trans ?_
  refine congrArg₂ (· * ·) (sum_half _ _ (fun t => ?_) fun t => ?_)
    (congrArg (Ideal.div 1) (congrArg₂ (· + ·) (sum_half _ _ (fun t => wt_zero x1 x3 r j 0 t) fun t => ?_) (sink0_apply x0 j r)))
  · rw [wt_zero, mul_zero]
  · exact congrArg₂ (· * ·) (ld_rv0 x3 0 d t) (scores0_0 x1 x3 t r j)
  · refine (congrArg₂ (· * ·) (pay53_apply 0 t) (scores0_0 x1 x3 t r j)).trans ?_
    exact (congrArg (· * _) (if_pos rfl)).trans (one_mul _)

theorem acc0_1 (x0 : Vec Ideal S2x6 .f32) (x1 : Vec Ideal S1x2048x384 .bf16) (x3 : Vec Ideal S1x2048x256 .bf16)
    (r : Fin 128) (j : Fin 3) (d : Fin 64) :
    acc0 x0 x1 x3 (ix2 ⟨64 + d.val, by omega⟩ ⟨j.val * 128 + r.val, by omega⟩) = att x0 x1 x3 0 r j 1 d := by
  unfold acc0 att
  refine (pay59_1 _ _ _ _ _ _ d _).trans ?_
  refine congrArg₂ (· * ·) (sum_half _ _ (fun t => ?_) fun t => ?_)
    (congrArg (Ideal.div 1) (congrArg₂ (· + ·) (sum_half _ _ (fun t => wt_zero x1 x3 r j 1 t) fun t => ?_) (sink1_apply x0 j r)))
  · rw [wt_zero, mul_zero]
  · exact congrArg₂ (· * ·) (ld_rv0 x3 1 d t) (scores0_1 x1 x3 t r j)
  · refine (congrArg₂ (· * ·) (pay53_apply 0 t) (scores0_1 x1 x3 t r j)).trans ?_
    exact (congrArg (· * _) (if_pos rfl)).trans (one_mul _)

/-! ## The output block -/

/-- What the grid point leaves in its output block, at row, lane. -/
def outG (x0 : Vec Ideal S2x6 .f32) (x1 x2 : Vec Ideal S1x2048x384 .bf16) (x3 : Vec Ideal S1x2048x256 .bf16) (y : S1x2048x384.Idx) : EReal :=
  att x0 x1 x3 ⟨(y 1).val / 128, by have : (y 1).val < 2048 := (y 1).isLt; omega⟩ ⟨(y 1).val % 128, by omega⟩
    ⟨(y 2).val / 128, by have : (y 2).val < 384 := (y 2).isLt; omega⟩ ⟨(y 2).val % 128 / 64, by omega⟩ ⟨(y 2).val % 64, by omega⟩
  * x2 y

/-- One stored tile is the closed form on its box, once the block's values are. -/
theorem store_piece (X0 : Vec Ideal S2x6 .f32) (X1 X2 : Vec Ideal S1x2048x384 .bf16) (X3 : Vec Ideal S1x2048x256 .bf16)
    (A : FVec Ideal S128x384 .f32) (n : Fin 16)
    (h0 : ∀ (r : Fin 128) (j : Fin 3) (d : Fin 64), A (ix2 ⟨d.val, by omega⟩ ⟨j.val * 128 + r.val, by omega⟩) = att X0 X1 X3 n r j 0 d)
    (h1 : ∀ (r : Fin 128) (j : Fin 3) (d : Fin 64), A (ix2 ⟨64 + d.val, by omega⟩ ⟨j.val * 128 + r.val, by omega⟩) = att X0 X1 X3 n r j 1 d)
    (j : Fin 3) (x : S1x128x128.Idx) :
    store A X2 n.val n.isLt j x = outG X0 X1 X2 X3 ((rx n.val j.val n.isLt j.isLt).emb x) := by
  idx_vars x
  obtain rfl : x0 = 0 := Subsingleton.elim _ _
  have hA : store A X2 n.val n.isLt j (ix3 0 x1 x2)
      = A (ix2 x2 ⟨j.val * 128 + x1.val, by omega⟩) * X2 ((rx n.val j.val n.isLt j.isLt).emb (ix3 0 x1 x2)) := by
    match j with
    | 0 =>
      refine (pay1_apply _ _ _ _).trans (congrArg (· * _) ?_)
      rw [extractStridedSlice_apply]
      intro a
      match a with
      | ⟨0, _⟩ => show x2.val = 0 + x2.val; omega
      | ⟨1, _⟩ => show 0 * 128 + x1.val = 0 + x1.val; omega
    | 1 =>
      refine (pay1_apply _ _ _ _).trans (congrArg (· * _) ?_)
      rw [extractStridedSlice_apply]
      intro a
      match a with
      | ⟨0, _⟩ => show x2.val = 0 + x2.val; omega
      | ⟨1, _⟩ => show 1 * 128 + x1.val = 128 + x1.val; omega
    | 2 =>
      refine (pay1_apply _ _ _ _).trans (congrArg (· * _) ?_)
      rw [extractStridedSlice_apply]
      intro a
      match a with
      | ⟨0, _⟩ => show x2.val = 0 + x2.val; omega
      | ⟨1, _⟩ => show 2 * 128 + x1.val = 256 + x1.val; omega
  refine hA.trans ?_
  unfold outG
  refine congrArg (· * _) ?_
  have c1 : ((rx n.val j.val n.isLt j.isLt).emb (ix3 0 x1 x2) 1).val = n.val * 128 + x1.val := by
    show n.val * 128 + 1 * x1.val = _; omega
  have c2 : ((rx n.val j.val n.isLt j.isLt).emb (ix3 0 x1 x2) 2).val = j.val * 128 + x2.val := by
    show j.val * 128 + 1 * x2.val = _; omega
  have key : ∀ (n' : Fin 16) (r' : Fin 128) (j' : Fin 3) (h' : Fin 2) (d' : Fin 64), n'.val = n.val → r'.val = x1.val → j'.val = j.val →
      h'.val = x2.val / 64 → d'.val = x2.val % 64 →
      A (ix2 x2 ⟨j.val * 128 + x1.val, by omega⟩) = att X0 X1 X3 n' r' j' h' d' := by
    intro n' r' j' h' d' e1 e2 e3 e4 e5
    obtain rfl := Fin.ext e1
    obtain rfl := Fin.ext e2
    obtain rfl := Fin.ext e3
    match h' with
    | 0 =>
      have : x2.val / 64 = 0 := e4.symm
      refine Eq.trans ?_ (h0 _ _ d')
      exact congrArg (fun z : Fin 128 => A (ix2 z _)) (Fin.ext (by show x2.val = d'.val; omega))
    | 1 =>
      have : x2.val / 64 = 1 := e4.symm
      refine Eq.trans ?_ (h1 _ _ d')
      exact congrArg (fun z : Fin 128 => A (ix2 z _)) (Fin.ext (by show x2.val = 64 + d'.val; omega))
  refine key _ _ _ _ _ ?_ ?_ ?_ ?_ ?_
  · show _ / 128 = _; rw [c1]; omega
  · show _ % 128 = _; rw [c1]; omega
  · show _ / 128 = _; rw [c2]; omega
  · show _ % 128 / 64 = _; rw [c2]; omega
  · show _ % 64 = _; rw [c2]; omega

/-- A stored tile of a later block. -/
theorem pieceB (X0 : Vec Ideal S2x6 .f32) (X1 X2 : Vec Ideal S1x2048x384 .bf16) (X3 : Vec Ideal S1x2048x256 .bf16) (b : ℕ) (hb : b < 15)
    (j : Fin 3) (x : S1x128x128.Idx) :
    store (accB X0 X1 X3 b hb) X2 (b + 1) (by omega) j x = outG X0 X1 X2 X3 ((rx (b + 1) j.val (by omega) j.isLt).emb x) :=
  store_piece X0 X1 X2 X3 _ ⟨b + 1, by omega⟩ (fun r j d => accB_0 X0 X1 X3 b hb r j d) (fun r j d => accB_1 X0 X1 X3 b hb r j d) j x

/-- A stored tile of the first block. -/
theorem piece0 (X0 : Vec Ideal S2x6 .f32) (X1 X2 : Vec Ideal S1x2048x384 .bf16) (X3 : Vec Ideal S1x2048x256 .bf16)
    (j : Fin 3) (x : S1x128x128.Idx) :
    store (acc0 X0 X1 X3) X2 0 (by omega) j x = outG X0 X1 X2 X3 ((rx 0 j.val (by omega) j.isLt).emb x) :=
  store_piece X0 X1 X2 X3 _ 0 (fun r j d => acc0_0 X0 X1 X3 r j d) (fun r j d => acc0_1 X0 X1 X3 r j d) j x

theorem out_cover (X0 : Vec Ideal S2x6 .f32) (X1 X2 : Vec Ideal S1x2048x384 .bf16) (X3 : Vec Ideal S1x2048x256 .bf16) (y : S1x2048x384.Idx) :
    ∃ pc ∈ outL X0 X1 X2 X3, y ∈ pc.1.set :=
  View.cover_of_tiledL (outL X0 X1 X2 X3) S1x128x128.size (by sl_kernel_rfl) y

/-- The stores of the output block leave the closed form everywhere. -/
theorem outL_eq (X0 : Vec Ideal S2x6 .f32) (X1 X2 : Vec Ideal S1x2048x384 .bf16) (X3 : Vec Ideal S1x2048x256 .bf16) :
    View.canon (outL X0 X1 X2 X3) = outG X0 X1 X2 X3 := by
  funext y
  refine View.canon_apply_of_pieces (outG X0 X1 X2 X3) (outL X0 X1 X2 X3) ?_ y (out_cover X0 X1 X2 X3 y)
  unfold outL
  simp only [List.forall_mem_cons]
  exact ⟨pieceB X0 X1 X2 X3 14 _ 2, pieceB X0 X1 X2 X3 14 _ 1, pieceB X0 X1 X2 X3 14 _ 0, pieceB X0 X1 X2 X3 13 _ 2, pieceB X0 X1 X2 X3 13 _ 1, pieceB X0 X1 X2 X3 13 _ 0, pieceB X0 X1 X2 X3 12 _ 2, pieceB X0 X1 X2 X3 12 _ 1, pieceB X0 X1 X2 X3 12 _ 0, pieceB X0 X1 X2 X3 11 _ 2, pieceB X0 X1 X2 X3 11 _ 1, pieceB X0 X1 X2 X3 11 _ 0, pieceB X0 X1 X2 X3 10 _ 2, pieceB X0 X1 X2 X3 10 _ 1, pieceB X0 X1 X2 X3 10 _ 0, pieceB X0 X1 X2 X3 9 _ 2, pieceB X0 X1 X2 X3 9 _ 1, pieceB X0 X1 X2 X3 9 _ 0, pieceB X0 X1 X2 X3 8 _ 2, pieceB X0 X1 X2 X3 8 _ 1, pieceB X0 X1 X2 X3 8 _ 0, pieceB X0 X1 X2 X3 7 _ 2, pieceB X0 X1 X2 X3 7 _ 1, pieceB X0 X1 X2 X3 7 _ 0, pieceB X0 X1 X2 X3 6 _ 2, pieceB X0 X1 X2 X3 6 _ 1, pieceB X0 X1 X2 X3 6 _ 0, pieceB X0 X1 X2 X3 5 _ 2, pieceB X0 X1 X2 X3 5 _ 1, pieceB X0 X1 X2 X3 5 _ 0, pieceB X0 X1 X2 X3 4 _ 2, pieceB X0 X1 X2 X3 4 _ 1, pieceB X0 X1 X2 X3 4 _ 0, pieceB X0 X1 X2 X3 3 _ 2, pieceB X0 X1 X2 X3 3 _ 1, pieceB X0 X1 X2 X3 3 _ 0, pieceB X0 X1 X2 X3 2 _ 2, pieceB X0 X1 X2 X3 2 _ 1, pieceB X0 X1 X2 X3 2 _ 0, pieceB X0 X1 X2 X3 1 _ 2, pieceB X0 X1 X2 X3 1 _ 1, pieceB X0 X1 X2 X3 1 _ 0, pieceB X0 X1 X2 X3 0 _ 2, pieceB X0 X1 X2 X3 0 _ 1, pieceB X0 X1 X2 X3 0 _ 0, piece0 X0 X1 X2 X3 2, piece0 X0 X1 X2 X3 1, piece0 X0 X1 X2 X3 0, by simp⟩

end Cert.KernelIdeal.Val
-- ==== Proof.Host.lean ====
module

public import proofs.«01_k».proof.Proof.Att
public import Idealize.ShloMosaic.Lib.StableHlo.ReadAt
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open scoped BigOperators

variable (m : (ℓ : Loc nD τ sig) → Buf (Elt Ideal) ℓ) (c : Dev nD)

/-- The factor the host multiplies the queries by. -/
def scaleK : EReal := Ideal.div (Ideal.ofBits .f32 0x3E000000#32) (Ideal.log (Ideal.ofBits .f32 0x40000000#32))

/-- The queries as launched. -/
abbrev argQ : S16x2048x6x64.Idx → EReal := m ((c : Thread nD τ).loc main_arg0)
/-- The keys as launched. -/
abbrev argK : S16x2048x2x64.Idx → EReal := m ((c : Thread nD τ).loc main_arg1)
/-- The values as launched. -/
abbrev argV : S16x2048x2x64.Idx → EReal := m ((c : Thread nD τ).loc main_arg2)
/-- The gate as launched. -/
abbrev argG : S16x2048x384.Idx → EReal := m ((c : Thread nD τ).loc main_arg3)
/-- The sink logits as launched. -/
abbrev argS : S2x6.Idx → EReal := m ((c : Thread nD τ).loc main_arg4)

/-- The query head at half `h` of tile `j`. -/
def headQ (j : Fin 3) (h : Fin 2) : Fin 6 := ⟨h.val * 3 + j.val, by omega⟩

/-- The column of dimension `d` of the query head at half `h` of tile `j`. -/
def colQ (j : Fin 3) (h : Fin 2) (d : Fin 64) : Fin 384 := ⟨h.val * 192 + j.val * 64 + d.val, by omega⟩

/-- The kernel's queries: the launched ones, head by tile, scaled. -/
theorem V_q (b : Fin 16) (s : Fin 2048) (j : Fin 3) (h : Fin 2) (d : Fin 64) :
    (V m c main_v8 : S16x2048x384.Idx → EReal) (ix3 b s (lane3 j h d)) = argQ m c (ix4 b s (headQ j h) d) * scaleK := by
  unfold V lane3
  after_reads_at
  refine congrArg₂ (· * ·) (congrArg (argQ m c) (congrArg₂ (fun (y : Fin 6) (z : Fin 64) => ix4 b s y z) (Fin.ext ?_) (Fin.ext ?_))) rfl
  · show ((j.val * 128 + (h.val * 64 + d.val)) / 64 % 2 * 192 + (j.val * 128 + (h.val * 64 + d.val)) / 128 * 64
      + (j.val * 128 + (h.val * 64 + d.val)) % 64) / 64 = h.val * 3 + j.val
    omega
  · show ((j.val * 128 + (h.val * 64 + d.val)) / 64 % 2 * 192 + (j.val * 128 + (h.val * 64 + d.val)) / 128 * 64
      + (j.val * 128 + (h.val * 64 + d.val)) % 64) % 64 = d.val
    omega

/-- The kernel's gate: the launched one, head by tile. -/
theorem V_g (b : Fin 16) (s : Fin 2048) (j : Fin 3) (h : Fin 2) (d : Fin 64) :
    (V m c main_v12 : S16x2048x384.Idx → EReal) (ix3 b s (lane3 j h d)) = argG m c (ix3 b s (colQ j h d)) := by
  unfold V lane3
  after_reads_at
  refine congrArg (argG m c) (congrArg (fun z : Fin 384 => ix3 b s z) (Fin.ext ?_))
  show _ = h.val * 192 + j.val * 64 + d.val
  show (j.val * 128 + (h.val * 64 + d.val)) / 64 % 2 * 192 + (j.val * 128 + (h.val * 64 + d.val)) / 128 * 64 + (j.val * 128 + (h.val * 64 + d.val)) % 64 = _
  omega

/-- The first half of the packed keys and values is the keys. -/
theorem V_k (b : Fin 16) (s : Fin 2048) (h : Fin 2) (d : Fin 64) :
    (V m c main_v16 : S16x2048x256.Idx → EReal) (ix3 b s (laneK h d)) = argK m c (ix4 b s h d) := by
  unfold V laneK
  after_reads_at
  rw [dif_pos (by omega)]
  after_reads_at

/-- The second half is the values. -/
theorem V_v (b : Fin 16) (s : Fin 2048) (h : Fin 2) (d : Fin 64) :
    (V m c main_v16 : S16x2048x256.Idx → EReal) (ix3 b s (laneV h d)) = argV m c (ix4 b s h d) := by
  unfold V laneV
  after_reads_at
  after_reads_at

/-! ## The blocks at a grid point -/

/-- The batch row of a grid point. -/
def batch (t : Fin cfg0.N) : Fin 16 := ⟨t.val, t.isLt⟩

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![t.val, 0, 0] := by decide +kernel

theorem blk_s (t : Fin cfg0.N) (y : S2x6.Idx) : (iblk m c 0 t : S2x6.Idx → EReal) y = argS m c y := by
  blk_simp [iblk]
  refine (congrFun (V_main_arg4 m c) _).trans (congrArg (argS m c) ?_)
  blk_ext [idx0 t]

theorem blk_q (t : Fin cfg0.N) (s : Fin 2048) (l : Fin 384) :
    (iblk m c 1 t : S1x2048x384.Idx → EReal) (ix3 0 s l) = (V m c main_v8 : S16x2048x384.Idx → EReal) (ix3 (batch t) s l) := by
  blk_simp [iblk]
  refine congrArg (V m c main_v8) ?_
  blk_ext [idx1 t, batch]

theorem blk_g (t : Fin cfg0.N) (s : Fin 2048) (l : Fin 384) :
    (iblk m c 2 t : S1x2048x384.Idx → EReal) (ix3 0 s l) = (V m c main_v12 : S16x2048x384.Idx → EReal) (ix3 (batch t) s l) := by
  blk_simp [iblk]
  refine congrArg (V m c main_v12) ?_
  blk_ext [idx2 t, batch]

theorem blk_kv (t : Fin cfg0.N) (s : Fin 2048) (l : Fin 256) :
    (iblk m c 3 t : S1x2048x256.Idx → EReal) (ix3 0 s l) = (V m c main_v16 : S16x2048x256.Idx → EReal) (ix3 (batch t) s l) := by
  blk_simp [iblk]
  refine congrArg (V m c main_v16) ?_
  blk_ext [idx3 t, batch]

/-! ## The array after the run -/

/-- The grid point of a batch row. -/
def point (b : Fin 16) : Fin cfg0.N := ⟨b.val, b.isLt⟩

/-- The kernel's result array: each batch row what its grid point computes. -/
def arrG (i : S16x2048x384.Idx) : EReal :=
  outG (iblk m c 0 (point (i 0))) (iblk m c 1 (point (i 0))) (iblk m c 2 (point (i 0))) (iblk m c 3 (point (i 0))) (ix3 0 (i 1) (i 2))

theorem arr_eq : (dats m 0 c).arrAt 4 cfg0.N = arrG m c := by
  refine (dats m 0 c).arrAt_eq_of_covers 4 _ (by decide +kernel) fun t hf y => ?_
  blk_simp
  rw [after0_4, outsAt0_eq, outL_eq]
  have e : ((win0_4.blk t).view.emb y : S16x2048x384.Idx) = ix3 (batch t) (y 1) (y 2) := by
    have y0 : (y 0).val = 0 := by have : (y 0).val < 1 := (y 0).isLt; omega
    blk_ext [idx4 t, batch]
  have e' : y = (ix3 0 (y 1) (y 2) : S1x2048x384.Idx) := by
    funext a
    match a with
    | ⟨0, _⟩ => exact Subsingleton.elim (α := Fin 1) _ _
    | ⟨1, _⟩ => rfl
    | ⟨2, _⟩ => rfl
  rw [e]
  exact congrArg (outG (iblk m c 0 t) (iblk m c 1 t) (iblk m c 2 t) (iblk m c 3 t)) e'

/-- The host lines after the kernel turn the tiles back into heads. -/
theorem tail_apply (b : Fin 16) (s : Fin 2048) (j : Fin 3) (h : Fin 2) (d : Fin 64) :
    (Pipeline.afterTail₀ cfgs (dats m) 0 (V0 m) [hostOps1] c main_v21 : S16x2048x384.Idx → EReal) (ix3 b s (colQ j h d))
      = arrG m c (ix3 b s (lane3 j h d)) := by
  unfold Pipeline.afterTail₀
  after_reads_at
  refine (congrFun (Pipeline.withArrays_arr (cfgs 0).spec launch0.win.arr_inj c (V0 m c) _ 4) _).trans ?_
  refine (congrFun (arr_eq m c) _).trans (congrArg (arrG m c) (congrArg (fun z : Fin 384 => ix3 b s z) (Fin.ext ?_)))
  show (h.val * 192 + j.val * 64 + d.val) / 64 % 3 * 128 + (h.val * 192 + j.val * 64 + d.val) / 192 * 64 + (h.val * 192 + j.val * 64 + d.val) % 64
    = j.val * 128 + (h.val * 64 + d.val)
  omega

/-! ## The result from the launched arguments -/

/-- The weight of band position `t` from the arguments. -/
def wtK (Q : S16x2048x6x64.Idx → EReal) (K : S16x2048x2x64.Idx → EReal) (b : Fin 16) (n : Fin 16) (r : Fin 128) (j : Fin 3) (h : Fin 2)
    (t : Fin 256) : EReal :=
  if inBand n r t then Ideal.exp2 (∑ d : Fin 64, K (ix4 b (keyRow n t) h d) * (Q (ix4 b (qRow n r) (headQ j h) d) * scaleK)) else 0

/-- The kernel's result from the arguments: batch `b`, row `r` of block `n`, head half `h` of tile `j`, dimension `d`. -/
def resK (Q : S16x2048x6x64.Idx → EReal) (K V : S16x2048x2x64.Idx → EReal) (G : S16x2048x384.Idx → EReal) (S : S2x6.Idx → EReal)
    (b n : Fin 16) (r : Fin 128) (j : Fin 3) (h : Fin 2) (d : Fin 64) : EReal :=
  (∑ t : Fin 256, V (ix4 b (keyRow n t) h d) * wtK Q K b n r j h t)
    * Ideal.div 1 (∑ t : Fin 256, wtK Q K b n r j h t + Ideal.exp2 (S (ix2 0 (headQ j h)) * (((Real.log 2)⁻¹ : ℝ) : EReal)))
  * G (ix3 b (qRow n r) (colQ j h d))

theorem arrG_apply (b n : Fin 16) (r : Fin 128) (j : Fin 3) (h : Fin 2) (d : Fin 64) :
    arrG m c (ix3 b (qRow n r) (lane3 j h d)) = resK (argQ m c) (argK m c) (argV m c) (argG m c) (argS m c) b n r j h d := by
  have hw : ∀ t, wt (iblk m c 1 (point b)) (iblk m c 3 (point b)) n r j h t = wtK (argQ m c) (argK m c) b n r j h t := by
    intro t
    unfold wt wtK dotQK
    refine if_congr Iff.rfl (congrArg Ideal.exp2 (Finset.sum_congr rfl fun d _ => ?_)) rfl
    exact congrArg₂ (· * ·) ((blk_kv m c _ _ _).trans (V_k m c b _ h d)) ((blk_q m c _ _ _).trans (V_q m c b _ j h d))
  show outG (iblk m c 0 (point b)) (iblk m c 1 (point b)) (iblk m c 2 (point b)) (iblk m c 3 (point b)) (ix3 0 (qRow n r) (lane3 j h d)) = _
  unfold outG resK
  refine congrArg₂ (· * ·) ?_ ((blk_g m c _ _ _).trans (V_g m c b _ j h d))
  have key : ∀ (n' : Fin 16) (r' : Fin 128) (j' : Fin 3) (h' : Fin 2) (d' : Fin 64), n'.val = n.val → r'.val = r.val → j'.val = j.val →
      h'.val = h.val → d'.val = d.val →
      att (iblk m c 0 (point b)) (iblk m c 1 (point b)) (iblk m c 3 (point b)) n' r' j' h' d'
        = (∑ t : Fin 256, argV m c (ix4 b (keyRow n t) h d) * wtK (argQ m c) (argK m c) b n r j h t)
          * Ideal.div 1 (∑ t : Fin 256, wtK (argQ m c) (argK m c) b n r j h t + Ideal.exp2 (argS m c (ix2 0 (headQ j h)) * (((Real.log 2)⁻¹ : ℝ) : EReal))) := by
    intro n' r' j' h' d' e1 e2 e3 e4 e5
    obtain rfl := Fin.ext e1
    obtain rfl := Fin.ext e2
    obtain rfl := Fin.ext e3
    obtain rfl := Fin.ext e4
    obtain rfl := Fin.ext e5
    unfold att
    refine congrArg₂ (· * ·) (Finset.sum_congr rfl fun t _ => ?_)
      (congrArg (Ideal.div 1) (congrArg₂ (· + ·) (Finset.sum_congr rfl fun t _ => hw t) ?_))
    · exact congrArg₂ (· * ·) ((blk_kv m c _ _ _).trans (V_v m c b _ h' d')) (hw t)
    · unfold wtSink
      exact congrArg (fun z => Ideal.exp2 (z * _)) (blk_s m c _ _)
  refine key _ _ _ _ _ ?_ ?_ ?_ ?_ ?_
  · show (n.val * 128 + r.val) / 128 = n.val; omega
  · show (n.val * 128 + r.val) % 128 = r.val; omega
  · show (j.val * 128 + (h.val * 64 + d.val)) / 128 = j.val; omega
  · show (j.val * 128 + (h.val * 64 + d.val)) % 128 / 64 = h.val; omega
  · show (j.val * 128 + (h.val * 64 + d.val)) % 64 = d.val; omega

/-- The result buffer from the launched arguments. -/
theorem result_apply (b n : Fin 16) (r : Fin 128) (j : Fin 3) (h : Fin 2) (d : Fin 64) :
    (Pipeline.afterTail₀ cfgs (dats m) 0 (V0 m) [hostOps1] c main_v21 : S16x2048x384.Idx → EReal) (ix3 b (qRow n r) (colQ j h d))
      = resK (argQ m c) (argK m c) (argV m c) (argG m c) (argS m c) b n r j h d :=
  (tail_apply m c b _ j h d).trans (arrG_apply m c b n r j h d)

end Cert.KernelIdeal.Val
-- ==== Proof.Ref.lean ====
module

public import proofs.«01_k».proof.Proof.Host
public import proofs.«01_k».proof.Proof.Gen.ReferenceIdeal.Read
public import Idealize.ShloMosaic.Lib.Pointwise
public import Idealize.ShloMosaic.Lib.ValueIdxRank6

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.ShloMosaic.Tactic
open Idealize.SL Idealize.SL.Sem
open Cert.KernelIdeal.Val (inBand keyRow qRow headQ colQ)
open scoped BigOperators

/-- An index of rank six is known by its coordinates. -/
theorem idx6 {n0 n1 n2 n3 n4 n5 : ℕ} {i : (⟨6, ![n0, n1, n2, n3, n4, n5]⟩ : Shape).Idx} {a : Fin n0} {b : Fin n1} {c : Fin n2} {d : Fin n3} {e : Fin n4} {f : Fin n5}
    (h0 : (i 0).val = a.val) (h1 : (i 1).val = b.val) (h2 : (i 2).val = c.val) (h3 : (i 3).val = d.val) (h4 : (i 4).val = e.val) (h5 : (i 5).val = f.val) :
    i = ix6 a b c d e f := by
  funext x
  apply Fin.ext
  match x with
  | ⟨0, _⟩ => exact h0
  | ⟨1, _⟩ => exact h1
  | ⟨2, _⟩ => exact h2
  | ⟨3, _⟩ => exact h3
  | ⟨4, _⟩ => exact h4
  | ⟨5, _⟩ => exact h5

/-- An index of rank five is known by its coordinates. -/
theorem idx5 {n0 n1 n2 n3 n4 : ℕ} {i : (⟨5, ![n0, n1, n2, n3, n4]⟩ : Shape).Idx} {a : Fin n0} {b : Fin n1} {c : Fin n2} {d : Fin n3} {e : Fin n4}
    (h0 : (i 0).val = a.val) (h1 : (i 1).val = b.val) (h2 : (i 2).val = c.val) (h3 : (i 3).val = d.val) (h4 : (i 4).val = e.val) : i = ix5 a b c d e := by
  funext x
  apply Fin.ext
  match x with
  | ⟨0, _⟩ => exact h0
  | ⟨1, _⟩ => exact h1
  | ⟨2, _⟩ => exact h2
  | ⟨3, _⟩ => exact h3
  | ⟨4, _⟩ => exact h4

theorem gt0 : ∀ n : Fin 16, IntOp.cmpi CmpIPredicate.sgt (BitVec.ofNat 32 n.val) 0#32 = if 0 < n.val then 1#1 else 0#1 := by decide +kernel

theorem ge128 : ∀ t : Fin 256, IntOp.cmpi CmpIPredicate.sge (BitVec.ofNat 32 t.val) 128#32 = if 128 ≤ t.val then 1#1 else 0#1 := by decide +kernel

/-- The reference's window mask: the key lies within the window and after the start of the sequence. -/
theorem mask_apply (b n : Fin 16) (h : Fin 2) (g : Fin 3) (r : Fin 128) (t : Fin 256) :
    val_main_call2_v1 (F := Ideal) (ix6 b n h g r t) = if inBand n r t then 1#1 else 0#1 := by
  pointwise [val_main_call2_v1, val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_c_1, val_main_c_2, val_main_c_3, val_main_c_4, val_main_c_5]
  have hr := r.isLt
  have ht := t.isLt
  have hn := n.isLt
  have w : IntOp.subi (IntOp.addi (BitVec.ofNat 32 r.val) 128#32) (BitVec.ofNat 32 t.val) = BitVec.ofInt 32 (((r.val + 128 + 256 - t.val : ℕ) : ℤ) - 256) := by
    show BitVec.ofNat 32 r.val + BitVec.ofNat 32 128 - BitVec.ofNat 32 t.val = _
    apply BitVec.eq_of_toNat_eq
    rw [show (((r.val + 128 + 256 - t.val : ℕ) : ℤ) - 256) = (r.val : ℤ) + 128 - t.val by omega]
    simp only [BitVec.toNat_sub, BitVec.toNat_add, BitVec.toNat_ofNat, BitVec.toNat_ofInt]
    omega
  have o : IntOp.ori (IntOp.cmpi CmpIPredicate.sgt (BitVec.ofNat 32 n.val) 0#32) (IntOp.cmpi CmpIPredicate.sge (BitVec.ofNat 32 t.val) 128#32)
      = if 128 ≤ n.val * 128 + t.val then 1#1 else 0#1 := by
    have g : IntOp.cmpi CmpIPredicate.sgt (BitVec.ofNat 32 n.val) 0#32 = if 0 < n.val then 1#1 else 0#1 := gt0 n
    have l : IntOp.cmpi CmpIPredicate.sge (BitVec.ofNat 32 t.val) 128#32 = if 128 ≤ t.val then 1#1 else 0#1 := ge128 t
    rw [g, l]
    by_cases a1 : 0 < n.val
    · rw [if_pos a1, if_pos (show 128 ≤ n.val * 128 + t.val by omega)]
      split_ifs <;> rfl
    · rw [if_neg a1]
      by_cases a2 : 128 ≤ t.val
      · rw [if_pos a2, if_pos (show 128 ≤ n.val * 128 + t.val by omega)]
        rfl
      · rw [if_neg a2, if_neg (show ¬ 128 ≤ n.val * 128 + t.val by omega)]
        rfl
  rw [w, o, Cert.KernelIdeal.Val.band_int ⟨r.val + 128 + 256 - t.val, by omega⟩]
  by_cases e : inBand n r t
  · have e' := e
    unfold inBand at e'
    rw [if_pos e, if_pos (show 128 ≤ n.val * 128 + t.val from e'.1), if_pos (show 256 ≤ r.val + 128 + 256 - t.val ∧ r.val + 128 + 256 - t.val < 384 by omega)]
    rfl
  · have e' := e
    unfold inBand at e'
    rw [if_neg e]
    by_cases a : 128 ≤ n.val * 128 + t.val
    · rw [if_pos a, if_neg (show ¬(256 ≤ r.val + 128 + 256 - t.val ∧ r.val + 128 + 256 - t.val < 384) by omega)]
      rfl
    · rw [if_neg a]
      split_ifs <;> rfl

/-- The band of keys: a block's rows and the block's before it, zero before the start of the sequence. -/
theorem band_apply (x1 : S16x2048x2x64.Idx → EReal) (b n : Fin 16) (t : Fin 256) (h : Fin 2) (d : Fin 64) :
    val_main_v7 (F := Ideal) x1 (ix5 b n t h d) = if 128 ≤ n.val * 128 + t.val then x1 (ix4 b (keyRow n t) h d) else 0 := by
  pointwise [val_main_v7, val_main_v6, val_main_v5, val_main_v4, val_main_v3, val_main_call0_v0, val_main_c]
  have ht := t.isLt
  have hn := n.isLt
  have z : (FloatOps.sitofp (F := Ideal) FTy.f32 (0#32) : EReal) = 0 := by
    show ((((0#32 : BitVec 32).toInt : ℝ)) : EReal) = 0
    simp
  rw [z]
  have kr : (keyRow n t).val = n.val * 128 + t.val - 128 := rfl
  by_cases h1 : t.val < 128
  · refine (dif_pos h1).trans ?_
    by_cases h2 : 128 ≤ n.val * 128 + t.val
    · refine (dif_pos ⟨h2, by omega⟩).trans ((congrArg x1 ?_).trans (if_pos h2).symm)
      exact congrArg (fun u => ix4 b u h d) (Fin.ext kr.symm)
    · exact (dif_neg (fun e => h2 e.1)).trans (if_neg h2).symm
  · refine (dif_neg h1).trans ((congrArg x1 ?_).trans (if_pos (show 128 ≤ n.val * 128 + t.val by omega)).symm)
    exact congrArg (fun u => ix4 b u h d) (Fin.ext ((show n.val * 128 + (t.val - 128) = n.val * 128 + t.val - 128 by omega).trans kr.symm))

/-- The maximum over the last axis is a real number as soon as no entry is `⊤` and the last entry of the row is not `⊥`. -/
theorem max_real (y : FVec Ideal S16x16x2x3x128x257 .f32) (b n : Fin 16) (h : Fin 2) (g : Fin 3) (r : Fin 128)
    (top : ∀ (b n : Fin 16) (h : Fin 2) (g : Fin 3) (r : Fin 128) (t : Fin 257), (y (ix6 b n h g r t) : EReal) < ⊤) (bot : (⊥ : EReal) < y (ix6 b n h g r 256)) :
    ∃ M : ℝ, (Host.reduce (FloatOps.maximumf (F := Ideal) (φ := .f32)) y (val_main_cst_7 (F := Ideal)) reducesTo_S16x16x2x3x128x257_S16x16x2x3x128_d5 h_S_ (ix5 b n h g r) : EReal) = (M : EReal) := by
  pointwise [val_main_cst_7]
  rw [Cert.KernelIdeal.Val.ninf]
  have up : Finset.fold max (⊥ : EReal) y {i | reducesTo_S16x16x2x3x128x257_S16x16x2x3x128_d5.drop i = ix5 b n h g r} < ⊤ :=
    (Finset.fold_max_lt _).mpr ⟨bot_lt_top, fun i _ => by
      have e : i = ix6 (i 0) (i 1) (i 2) (i 3) (i 4) (i 5) := by
        funext a
        match a with
        | ⟨0, _⟩ => rfl
        | ⟨1, _⟩ => rfl
        | ⟨2, _⟩ => rfl
        | ⟨3, _⟩ => rfl
        | ⟨4, _⟩ => rfl
        | ⟨5, _⟩ => rfl
      rw [e]
      exact top _ _ _ _ _ _⟩
  have lo : ⊥ < Finset.fold max (⊥ : EReal) y {i | reducesTo_S16x16x2x3x128x257_S16x16x2x3x128_d5.drop i = ix5 b n h g r} :=
    (Finset.lt_fold_max _).mpr (Or.inr ⟨ix6 b n h g r 256, by
      rw [Finset.mem_filter]
      refine ⟨Finset.mem_univ _, ?_⟩
      funext a
      apply Fin.ext
      match a with
      | ⟨0, _⟩ => exact Shape.ReducesTo.drop_apply_val _ _ _
      | ⟨1, _⟩ => exact Shape.ReducesTo.drop_apply_val _ _ _
      | ⟨2, _⟩ => exact Shape.ReducesTo.drop_apply_val _ _ _
      | ⟨3, _⟩ => exact Shape.ReducesTo.drop_apply_val _ _ _
      | ⟨4, _⟩ => exact Shape.ReducesTo.drop_apply_val _ _ _, bot⟩)
  exact ⟨_, (EReal.coe_toReal up.ne lo.ne').symm⟩

/-- The queries in blocks of 128 rows and by head. -/
theorem q_apply (x0 : S16x2048x6x64.Idx → EReal) (b n : Fin 16) (r : Fin 128) (h : Fin 2) (g : Fin 3) (d : Fin 64) :
    val_main_v2 (F := Ideal) x0 (ix6 b n r h g d) = x0 (ix4 b (qRow n r) (headQ g h) d) := by
  unfold val_main_v2
  refine shapeCast_apply _ _ _ _ ?_
  rw [Shape.rowMajor_val_six, Shape.rowMajor_val_four]
  show ((b.val * 2048 + (n.val * 128 + r.val)) * 6 + (h.val * 3 + g.val)) * 64 + d.val
    = ((((b.val * 16 + n.val) * 128 + r.val) * 2 + h.val) * 3 + g.val) * 64 + d.val
  omega

/-- A score: the product of a key and a query, times one eighth. -/
theorem score_apply (x0 : S16x2048x6x64.Idx → EReal) (x1 : S16x2048x2x64.Idx → EReal) (b n : Fin 16) (h : Fin 2) (g : Fin 3) (r : Fin 128) (t : Fin 256) :
    val_main_v16 (F := Ideal) x0 x1 (ix6 b n h g r t)
      = (∑ d : Fin 64, val_main_v7 (F := Ideal) x1 (ix5 b n t h d) * val_main_v2 (F := Ideal) x0 (ix6 b n r h g d)) * Ideal.ofBits .f32 0x3E000000#32 := by
  rw [val_main_v16_apply, val_main_v14_apply, val_main_v13_apply]
  refine congrArg₂ (· * ·) (Finset.sum_congr rfl fun d _ => congrArg₂ (· * ·) (congrArg _ ?_) (congrArg _ ?_)) rfl
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

/-- The band of values is read like the band of keys. -/
theorem bandV_apply (x2 : S16x2048x2x64.Idx → EReal) (b n : Fin 16) (t : Fin 256) (h : Fin 2) (d : Fin 64) :
    val_main_v12 (F := Ideal) x2 (ix5 b n t h d) = if 128 ≤ n.val * 128 + t.val then x2 (ix4 b (keyRow n t) h d) else 0 :=
  band_apply x2 b n t h d

/-- The scores with the sink's column: the first 256 columns. -/
theorem cat_key (x0 : S16x2048x6x64.Idx → EReal) (x1 : S16x2048x2x64.Idx → EReal) (x4 : S2x6.Idx → EReal) (b n : Fin 16) (h : Fin 2) (g : Fin 3) (r : Fin 128) (t : Fin 256) :
    val_main_v49 (F := Ideal) x0 x1 x4 (ix6 b n h g r t.castSucc)
      = if inBand n r t then (∑ d : Fin 64, x1 (ix4 b (keyRow n t) h d) * x0 (ix4 b (qRow n r) (headQ g h) d)) * Ideal.ofBits .f32 0x3E000000#32 else ⊥ := by
  have e : val_main_v49 (F := Ideal) x0 x1 x4 (ix6 b n h g r t.castSucc) = val_main_v46 (F := Ideal) x0 x1 (ix6 b n h g r t) := by
    pointwise [val_main_v49]
    exact dif_pos t.isLt
  rw [e, val_main_v46_apply]
  have m : val_main_call2_v2 (F := Ideal) (ix6 b n h g r t) = (⊥ : EReal) := Cert.KernelIdeal.Val.ninf
  by_cases hb : inBand n r t
  · rw [if_pos hb, mask_apply, if_pos hb, score_apply]
    refine congrArg (· * Ideal.ofBits .f32 0x3E000000#32) (Finset.sum_congr rfl fun d _ => ?_)
    rw [band_apply, q_apply, if_pos hb.1]
  · rw [if_neg hb, mask_apply, if_neg hb, m]
    rfl

/-- The last column: the sink's logit. -/
theorem cat_sink (x0 : S16x2048x6x64.Idx → EReal) (x1 : S16x2048x2x64.Idx → EReal) (x4 : S2x6.Idx → EReal) (b n : Fin 16) (h : Fin 2) (g : Fin 3) (r : Fin 128) :
    val_main_v49 (F := Ideal) x0 x1 x4 (ix6 b n h g r (Fin.last 256)) = x4 (ix2 0 (headQ g h)) := by
  have e : ∀ (u : FVec Ideal S16x16x2x3x128x256 .f32) (w : FVec Ideal S16x16x2x3x128x1 .f32),
      (concatenate S16x16x2x3x128x257 5 [⟨S16x16x2x3x128x256, u⟩, ⟨S16x16x2x3x128x1, w⟩] concatenates_S16x16x2x3x128x256_S16x16x2x3x128x1_S16x16x2x3x128x257_d5)
        (ix6 b n h g r (Fin.last 256)) = w (ix6 b n h g r 0) := by
    intro u w
    refine concatenate_pair_apply_right (t := S16x16x2x3x128x257) (s₁ := S16x16x2x3x128x256) (s₂ := S16x16x2x3x128x1) 5 u w
      concatenates_S16x16x2x3x128x256_S16x16x2x3x128x1_S16x16x2x3x128x257_d5 (ix6 b n h g r (Fin.last 256)) rfl rfl (ix6 b n h g r 0) ?_ rfl
    intro a ne
    match a with
    | ⟨0, _⟩ => rfl
    | ⟨1, _⟩ => rfl
    | ⟨2, _⟩ => rfl
    | ⟨3, _⟩ => rfl
    | ⟨4, _⟩ => rfl
    | ⟨5, _⟩ => exact absurd rfl ne
  refine (e _ _).trans ?_
  pointwise [val_main_v48, val_main_v47, val_main_v1, val_main_v0]
  rfl

/-- A softmax weight of the reference. -/
theorem prob_apply (x0 : S16x2048x6x64.Idx → EReal) (x1 : S16x2048x2x64.Idx → EReal) (x4 : S2x6.Idx → EReal) (b n : Fin 16) (h : Fin 2) (g : Fin 3) (r : Fin 128) (t : Fin 256) :
    val_main_v61 (F := Ideal) x0 x1 x4 (ix6 b n h g r t)
      = Ideal.div (Ideal.exp (val_main_v49 (F := Ideal) x0 x1 x4 (ix6 b n h g r t.castSucc) - val_main_v52 (F := Ideal) x0 x1 x4 (ix5 b n h g r)))
        (0 + ∑ k : Fin 257, Ideal.exp (val_main_v49 (F := Ideal) x0 x1 x4 (ix6 b n h g r k) - val_main_v52 (F := Ideal) x0 x1 x4 (ix5 b n h g r))) := by
  have z : (FloatOps.ofBits (F := Ideal) .f32 0x00000000#32 : EReal) = 0 := by
    show Ideal.ofBits .f32 0x00000000#32 = 0
    simp [Ideal.ofBits, Ideal.ieee]
  have c : idx_main_v61 (ix6 b n h g r t) = ix6 b n h g r t.castSucc := idx6 rfl rfl rfl rfl rfl rfl
  have mx : ∀ k : Fin 257, val_main_v54 (F := Ideal) x0 x1 x4 (ix6 b n h g r k) = val_main_v52 (F := Ideal) x0 x1 x4 (ix5 b n h g r) := by
    intro k
    rw [val_main_v54_apply, val_main_v53_apply]
    exact congrArg _ (idx5 rfl rfl rfl rfl rfl)
  have ex : ∀ k : Fin 257, val_main_v56 (F := Ideal) x0 x1 x4 (ix6 b n h g r k)
      = Ideal.exp (val_main_v49 (F := Ideal) x0 x1 x4 (ix6 b n h g r k) - val_main_v52 (F := Ideal) x0 x1 x4 (ix5 b n h g r)) := by
    intro k
    rw [val_main_v56_apply, val_main_v55_apply, mx]
    rfl
  have dn : val_main_v59 (F := Ideal) x0 x1 x4 (ix6 b n h g r t.castSucc)
      = 0 + ∑ k : Fin 257, Ideal.exp (val_main_v49 (F := Ideal) x0 x1 x4 (ix6 b n h g r k) - val_main_v52 (F := Ideal) x0 x1 x4 (ix5 b n h g r)) := by
    rw [val_main_v59_apply, val_main_v58_apply, val_main_v57_apply, val_main_cst_9_apply, z]
    refine congrArg (0 + ·) (Finset.sum_congr rfl fun k _ => ?_)
    rw [← ex k]
    exact congrArg _ (idx6 rfl rfl rfl rfl rfl rfl)
  rw [val_main_v61_apply, c, val_main_v60_apply, ex, dn]
  rfl

/-- A row of the reference's result. -/
theorem ref_apply (x0 : S16x2048x6x64.Idx → EReal) (x1 x2 : S16x2048x2x64.Idx → EReal) (x3 : S16x2048x384.Idx → EReal) (x4 : S2x6.Idx → EReal) (b n : Fin 16) (h : Fin 2) (g : Fin 3) (r : Fin 128) (d : Fin 64) :
    val_main_v65 (F := Ideal) x0 x1 x2 x3 x4 (ix3 b (qRow n r) (colQ g h d))
      = (∑ t : Fin 256, val_main_v12 (F := Ideal) x2 (ix5 b n t h d) * val_main_v61 (F := Ideal) x0 x1 x4 (ix6 b n h g r t)) * x3 (ix3 b (qRow n r) (colQ g h d)) := by
  rw [val_main_v65_apply]
  refine congrArg (· * x3 (ix3 b (qRow n r) (colQ g h d))) ?_
  have e : val_main_v64 (F := Ideal) x0 x1 x2 x4 (ix3 b (qRow n r) (colQ g h d)) = val_main_v63 (F := Ideal) x0 x1 x2 x4 (ix6 b n r h g d) := by
    unfold val_main_v64
    refine shapeCast_apply _ _ _ _ ?_
    rw [Shape.rowMajor_val_six, Shape.rowMajor_val_three]
    show ((((b.val * 16 + n.val) * 128 + r.val) * 2 + h.val) * 3 + g.val) * 64 + d.val = (b.val * 2048 + (n.val * 128 + r.val)) * 384 + (h.val * 192 + g.val * 64 + d.val)
    omega
  rw [e, val_main_v63_apply, val_main_v62_apply]
  refine Finset.sum_congr rfl fun t _ => congrArg₂ (· * ·) (congrArg _ ?_) (congrArg _ ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

end Cert.ReferenceIdeal.Val
-- ==== Proof.Softmax.lean ====
module

public import proofs.«01_k».proof.Proof.Host

@[expose] public section

noncomputable section

namespace Cert.KernelIdeal.Val

open Idealize.ShloMosaic
open scoped BigOperators

/-- Division by a real number other than zero is multiplication by its inverse. -/
theorem div_real (x y : ℝ) (hy : y ≠ 0) : Ideal.div (x : EReal) (y : EReal) = ((x * y⁻¹ : ℝ) : EReal) := by
  have e : (y : EReal) ≠ 0 := by exact_mod_cast hy
  unfold Ideal.div
  rw [if_neg e, ← EReal.coe_inv, ← EReal.coe_mul]

/-- A finite sum of real numbers is the real sum. -/
theorem sum_real {n : ℕ} (f : Fin n → ℝ) : ∑ t, ((f t : ℝ) : EReal) = ((∑ t, f t : ℝ) : EReal) := by
  induction n with
  | zero => simp
  | succ n ih => rw [Fin.sum_univ_castSucc, Fin.sum_univ_castSucc, ih, EReal.coe_add]

/-- A real factor that is not negative comes out of a sum whose other factors may be infinite. -/
theorem sum_mul_real {n : ℕ} (f : Fin n → EReal) (c : ℝ) (hc : 0 ≤ c) : ∑ t, f t * (c : EReal) = (∑ t, f t) * (c : EReal) := by
  have h0 : (0 : EReal) ≤ (c : EReal) := by exact_mod_cast hc
  induction n with
  | zero => simp
  | succ n ih =>
    rw [Fin.sum_univ_castSucc, Fin.sum_univ_castSucc, ih, mul_comm _ (c : EReal), mul_comm _ (c : EReal), mul_comm _ (c : EReal),
      EReal.left_distrib_of_nonneg_of_ne_top h0 (EReal.coe_ne_top c)]

/-- The word of one eighth. -/
theorem eighth : Ideal.ofBits .f32 0x3E000000#32 = ((1 / 8 : ℝ) : EReal) := by
  simp [Ideal.ofBits, Ideal.ieee]
  rw [← EReal.coe_mul]
  norm_num

/-- The word of two. -/
theorem two : Ideal.ofBits .f32 0x40000000#32 = ((2 : ℝ) : EReal) := by
  simp [Ideal.ofBits, Ideal.ieee]
  rw [← EReal.coe_mul]
  norm_num

/-- The factor the host applies to the queries: one eighth over the logarithm of two. -/
theorem scaleK_real : scaleK = ((1 / 8 * (Real.log 2)⁻¹ : ℝ) : EReal) := by
  unfold scaleK
  rw [eighth, two, Ideal.log_coe, if_neg (by norm_num)]
  exact div_real _ _ (Real.log_pos one_lt_two).ne'

/-- A power of two whose exponent was divided by the logarithm of two is the exponential. -/
theorem exp2_real (x : ℝ) : Ideal.exp2 ((x * (Real.log 2)⁻¹ : ℝ) : EReal) = ((Real.exp x : ℝ) : EReal) := by
  have l : Real.log 2 ≠ 0 := (Real.log_pos one_lt_two).ne'
  rw [Ideal.exp2_coe]
  show (((2 : ℝ) ^ (x * (Real.log 2)⁻¹) : ℝ) : EReal) = _
  rw [Real.rpow_def_of_pos two_pos]
  congr 2
  field_simp

/-- Softmax weights with the row's maximum taken out: whatever real number is subtracted, a weight is the exponential over the plain sum. -/
theorem softmax_real (B : Fin 256 → Prop) [DecidablePred B] (x : Fin 256 → ℝ) (z M : ℝ) (y : Fin 257 → EReal)
    (hy : ∀ t : Fin 256, y t.castSucc = if B t then (x t : EReal) else ⊥) (hz : y (Fin.last 256) = (z : EReal)) (t : Fin 256) :
    Ideal.div (Ideal.exp (y t.castSucc - (M : EReal))) (0 + ∑ k : Fin 257, Ideal.exp (y k - (M : EReal)))
      = (((if B t then Real.exp (x t) else 0) * (∑ t, (if B t then Real.exp (x t) else 0) + Real.exp z)⁻¹ : ℝ) : EReal) := by
  have e : ∀ t : Fin 256, Ideal.exp (y t.castSucc - (M : EReal)) = (((if B t then Real.exp (x t) else 0) * Real.exp (-M) : ℝ) : EReal) := by
    intro t
    rw [hy t]
    by_cases b : B t
    · rw [if_pos b, if_pos b, ← EReal.coe_sub, Ideal.exp_coe, ← Real.exp_add, sub_eq_add_neg]
    · rw [if_neg b, if_neg b, zero_mul, EReal.bot_sub, Ideal.exp_bot]
      rfl
  have s : Ideal.exp (y (Fin.last 256) - (M : EReal)) = ((Real.exp z * Real.exp (-M) : ℝ) : EReal) := by
    rw [hz, ← EReal.coe_sub, Ideal.exp_coe, ← Real.exp_add, sub_eq_add_neg]
  have pos : 0 < ∑ t, (if B t then Real.exp (x t) else 0) + Real.exp z :=
    add_pos_of_nonneg_of_pos (Finset.sum_nonneg fun t _ => by split_ifs <;> positivity) (Real.exp_pos z)
  rw [Fin.sum_univ_castSucc, s, e t, Finset.sum_congr rfl fun t _ => e t, sum_real, ← EReal.coe_add, zero_add, ← Finset.sum_mul, ← add_mul,
    div_real _ _ (mul_pos pos (Real.exp_pos _)).ne']
  congr 1
  have c := (Real.exp_pos (-M)).ne'
  have p := pos.ne'
  field_simp

/-- The kernel's row of the window attention over real queries, keys and sink: the weights are exponentials of the scaled products. -/
theorem resK_real (Q : S16x2048x6x64.Idx → EReal) (K V : S16x2048x2x64.Idx → EReal) (G : S16x2048x384.Idx → EReal) (S : S2x6.Idx → EReal)
    (q : S16x2048x6x64.Idx → ℝ) (k : S16x2048x2x64.Idx → ℝ) (s : S2x6.Idx → ℝ)
    (hq : ∀ i, Q i = (q i : EReal)) (hk : ∀ i, K i = (k i : EReal)) (hs : ∀ i, S i = (s i : EReal))
    (b n : Fin 16) (r : Fin 128) (j : Fin 3) (h : Fin 2) (d : Fin 64) :
    resK Q K V G S b n r j h d
      = (∑ t : Fin 256, V (ix4 b (keyRow n t) h d)
          * (((if inBand n r t then Real.exp ((∑ d : Fin 64, k (ix4 b (keyRow n t) h d) * q (ix4 b (qRow n r) (headQ j h) d)) * (1 / 8)) else 0)
            * (∑ t, (if inBand n r t then Real.exp ((∑ d : Fin 64, k (ix4 b (keyRow n t) h d) * q (ix4 b (qRow n r) (headQ j h) d)) * (1 / 8)) else 0)
              + Real.exp (s (ix2 0 (headQ j h))))⁻¹ : ℝ) : EReal))
        * G (ix3 b (qRow n r) (colQ j h d)) := by
  have w : ∀ t : Fin 256, wtK Q K b n r j h t
      = (((if inBand n r t then Real.exp ((∑ d : Fin 64, k (ix4 b (keyRow n t) h d) * q (ix4 b (qRow n r) (headQ j h) d)) * (1 / 8)) else 0 : ℝ)) : EReal) := by
    intro t
    unfold wtK
    by_cases hb : inBand n r t
    · rw [if_pos hb, if_pos hb, ← exp2_real]
      congr 1
      rw [Finset.sum_congr rfl fun d _ => show K (ix4 b (keyRow n t) h d) * (Q (ix4 b (qRow n r) (headQ j h) d) * scaleK)
        = ((k (ix4 b (keyRow n t) h d) * q (ix4 b (qRow n r) (headQ j h) d) * (1 / 8 * (Real.log 2)⁻¹) : ℝ) : EReal) by
          rw [hq, hk, scaleK_real, ← EReal.coe_mul, ← EReal.coe_mul, mul_assoc], sum_real, ← Finset.sum_mul, mul_assoc]
    · rw [if_neg hb, if_neg hb]
      rfl
  have z : Ideal.exp2 (S (ix2 0 (headQ j h)) * (((Real.log 2)⁻¹ : ℝ) : EReal)) = ((Real.exp (s (ix2 0 (headQ j h))) : ℝ) : EReal) := by
    rw [hs, ← EReal.coe_mul, exp2_real]
  unfold resK
  rw [z, Finset.sum_congr rfl fun t _ => congrArg (V (ix4 b (keyRow n t) h d) * ·) (w t), Finset.sum_congr rfl fun t _ => w t, sum_real, ← EReal.coe_add]
  have pos : 0 < ∑ t, (if inBand n r t then Real.exp ((∑ d : Fin 64, k (ix4 b (keyRow n t) h d) * q (ix4 b (qRow n r) (headQ j h) d)) * (1 / 8)) else 0)
      + Real.exp (s (ix2 0 (headQ j h))) :=
    add_pos_of_nonneg_of_pos (Finset.sum_nonneg fun t _ => by split_ifs <;> positivity) (Real.exp_pos _)
  rw [← EReal.coe_one, div_real _ _ pos.ne', one_mul, ← sum_mul_real _ _ (inv_nonneg.mpr pos.le)]
  congr 1
  refine Finset.sum_congr rfl fun t _ => ?_
  rw [mul_assoc, ← EReal.coe_mul]

end Cert.KernelIdeal.Val
-- ==== Proof.Equation.lean ====
module

public import proofs.«01_k».proof.Proof.Ref
public import proofs.«01_k».proof.Proof.Softmax

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.ShloMosaic.Tactic
open Idealize.SL Idealize.SL.Sem
open Cert.KernelIdeal.Val (inBand keyRow qRow headQ colQ resK)
open scoped BigOperators

variable (Q : S16x2048x6x64.Idx → EReal) (K V : S16x2048x2x64.Idx → EReal) (G : S16x2048x384.Idx → EReal) (S : S2x6.Idx → EReal)
variable (q : S16x2048x6x64.Idx → ℝ) (k : S16x2048x2x64.Idx → ℝ) (s : S2x6.Idx → ℝ)

/-- The product of a key and a query over real numbers, times one eighth. -/
def logit (b n : Fin 16) (h : Fin 2) (g : Fin 3) (r : Fin 128) (t : Fin 256) : ℝ :=
  (∑ d : Fin 64, k (ix4 b (keyRow n t) h d) * q (ix4 b (qRow n r) (headQ g h) d)) * (1 / 8)

variable {Q K S q k s} (hq : ∀ i, Q i = (q i : EReal)) (hk : ∀ i, K i = (k i : EReal)) (hs : ∀ i, S i = (s i : EReal))

include hq hk in
/-- A key's column of the scores: a real number inside the window, `⊥` outside it. -/
theorem col_real (b n : Fin 16) (h : Fin 2) (g : Fin 3) (r : Fin 128) (t : Fin 256) :
    val_main_v49 (F := Ideal) Q K S (ix6 b n h g r t.castSucc) = if inBand n r t then (logit q k b n h g r t : EReal) else ⊥ := by
  rw [cat_key]
  by_cases hb : inBand n r t
  · rw [if_pos hb, if_pos hb, Finset.sum_congr rfl fun d _ => show K (ix4 b (keyRow n t) h d) * Q (ix4 b (qRow n r) (headQ g h) d)
      = ((k (ix4 b (keyRow n t) h d) * q (ix4 b (qRow n r) (headQ g h) d) : ℝ) : EReal) by rw [hq, hk, EReal.coe_mul],
      Cert.KernelIdeal.Val.sum_real, Cert.KernelIdeal.Val.eighth, ← EReal.coe_mul]
    rfl
  · rw [if_neg hb, if_neg hb]

include hq hk hs in
/-- The row's maximum is a real number. -/
theorem rowMax_real (b n : Fin 16) (h : Fin 2) (g : Fin 3) (r : Fin 128) :
    ∃ M : ℝ, (val_main_v52 (F := Ideal) Q K S (ix5 b n h g r) : EReal) = (M : EReal) := by
  obtain ⟨M, e⟩ := max_real (val_main_v49 (F := Ideal) Q K S) b n h g r (fun b n h g r t => by
      refine Fin.lastCases ?_ (fun t => ?_) t
      · rw [cat_sink, hs]
        exact EReal.coe_lt_top _
      · rw [col_real hq hk]
        split_ifs
        · exact EReal.coe_lt_top _
        · exact bot_lt_top) (by
      show (⊥ : EReal) < val_main_v49 (F := Ideal) Q K S (ix6 b n h g r (Fin.last 256))
      rw [cat_sink, hs]
      exact EReal.bot_lt_coe _)
  refine ⟨M, ?_⟩
  have f : val_main_v51 (F := Ideal) (ix5 b n h g r) = (⊥ : EReal) := Cert.KernelIdeal.Val.ninf
  rw [val_main_v52_apply, f]
  refine (congrFun (congrFun Ideal.maximumf_eq_max _) _).trans ((max_eq_right bot_le).trans ?_)
  exact e

include hq hk hs in
/-- Where the queries, the keys and the sinks are real numbers the reference's result is the kernel's, at every element. -/
theorem ref_eq_kernel (b n : Fin 16) (r : Fin 128) (g : Fin 3) (h : Fin 2) (d : Fin 64) :
    val_main_v65 (F := Ideal) Q K V G S (ix3 b (qRow n r) (colQ g h d)) = resK Q K V G S b n r g h d := by
  obtain ⟨M, hM⟩ := rowMax_real hq hk hs b n h g r
  rw [ref_apply, Cert.KernelIdeal.Val.resK_real Q K V G S q k s hq hk hs]
  refine congrArg (· * G (ix3 b (qRow n r) (colQ g h d))) (Finset.sum_congr rfl fun t _ => ?_)
  rw [prob_apply, hM, Cert.KernelIdeal.Val.softmax_real (fun t => inBand n r t) (logit q k b n h g r) (s (ix2 0 (headQ g h))) M
    (fun c => val_main_v49 (F := Ideal) Q K S (ix6 b n h g r c)) (col_real hq hk b n h g r) ((cat_sink Q K S b n h g r).trans (hs _)) t, bandV_apply]
  by_cases hb : inBand n r t
  · rw [if_pos hb.1]
    rfl
  · simp only [if_neg hb, zero_mul, EReal.coe_zero, mul_zero]

end Cert.ReferenceIdeal.Val
-- ==== Proof.Algebraic.lean ====
module

public import proofs.«01_k».proof.Defs
public import proofs.«01_k».proof.Proof.Equation
public import proofs.«01_k».proof.Proof.Gen.Pre_finite
public import proofs.«01_k».proof.Proof.Gen.KernelIdeal.Frame
public import Idealize.ShloMosaic.Lib.ReduceAll

@[expose] public section

set_option maxRecDepth 16384

noncomputable section

namespace Cert.Proof.Window

open Idealize.ShloMosaic Idealize.ShloMosaic.TcCoe Idealize.SL.Sem
open Cert.KernelIdeal.Val (keyRow qRow headQ colQ resK argQ argK argV argG argS)

/-- A value whose absolute value is below infinity is a real number. -/
theorem real_of_abs_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have l : Ideal.cmp .olt (max x (-x)) (Ideal.ofBits .f32 0x7F800000#32) = 1#1 := h
  rw [htop] at l
  have lt : max x (-x) < ⊤ := by
    by_contra n
    have : Ideal.cmp .olt (max x (-x)) ⊤ = 0#1 := by simp [Ideal.cmp, n]
    rw [this] at l
    exact absurd l (by decide)
  induction x with
  | bot => simp at lt
  | top => simp at lt
  | coe r => exact ⟨r, rfl⟩

/-- The precondition, read: every query, every key and every sink is a real number. -/
theorem pre_real (a0 : FVec Ideal Cert.Pre_finite.S16x2048x6x64 .f32) (a1 a2 : FVec Ideal Cert.Pre_finite.S16x2048x2x64 .f32) (a3 : FVec Ideal Cert.Pre_finite.S16x2048x384 .f32)
    (a4 : FVec Ideal Cert.Pre_finite.S2x6 .f32) (h : Cert.Pre_finite.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a4 i = (r : EReal)) := by
  have z : Subsingleton Cert.Pre_finite.S_.Idx := ⟨fun i j => funext fun a => a.elim0⟩
  have e := congrFun h (fun a => a.elim0)
  dsimp only [Cert.Pre_finite.fn] at e
  obtain ⟨e01, e4⟩ := IntOp.andi_eq_one.mp e
  obtain ⟨e0, e1⟩ := IntOp.andi_eq_one.mp e01
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e4 i)⟩

/-- Every index of the result is a row of a block and an entry of a head. -/
theorem idx_split (i : Cert.KernelIdeal.S16x2048x384.Idx) :
    ∃ (b n : Fin 16) (r : Fin 128) (g : Fin 3) (h : Fin 2) (d : Fin 64), i = ix3 b (qRow n r) (colQ g h d) := by
  have h0 : (i 0).val < 16 := (i 0).isLt
  have h1 : (i 1).val < 2048 := (i 1).isLt
  have h2 : (i 2).val < 384 := (i 2).isLt
  refine ⟨⟨(i 0).val, h0⟩, ⟨(i 1).val / 128, by omega⟩, ⟨(i 1).val % 128, by omega⟩, ⟨(i 2).val % 192 / 64, by omega⟩, ⟨(i 2).val / 192, by omega⟩, ⟨(i 2).val % 64, by omega⟩, ?_⟩
  funext a
  apply Fin.ext
  match a with
  | ⟨0, _⟩ => rfl
  | ⟨1, _⟩ =>
    show (i 1).val = (i 1).val / 128 * 128 + (i 1).val % 128
    omega
  | ⟨2, _⟩ =>
    show (i 2).val = (i 2).val / 192 * 192 + (i 2).val % 192 / 64 * 64 + (i 2).val % 64
    omega

/-- Of one argument tuple the two programs' results are equal wherever queries, keys and sinks are real. -/
theorem result_eq (m : (ℓ : Loc Cert.KernelIdeal.nD Cert.KernelIdeal.τ Cert.KernelIdeal.sig) → Buf (Elt Ideal) ℓ) (c : Dev Cert.KernelIdeal.nD)
    (h : Cert.Pre_finite.fn (F := Ideal) (argQ m c) (argK m c) (argV m c) (argG m c) (argS m c) = fun _ => 1#1) :
    (Cert.ReferenceIdeal.Read.val_main_v65 (F := Ideal) (argQ m c) (argK m c) (argV m c) (argG m c) (argS m c) : Cert.KernelIdeal.S16x2048x384.Idx → EReal)
      = (Pipeline.afterTail₀ Cert.KernelIdeal.cfgs (Cert.KernelIdeal.Gen.dats m) 0 (Cert.KernelIdeal.Gen.V0 m) [Cert.KernelIdeal.Gen.hostOps1] c Cert.KernelIdeal.main_v21 : Cert.KernelIdeal.S16x2048x384.Idx → EReal) := by
  obtain ⟨hq, hk, hs⟩ := pre_real _ _ _ _ _ h
  choose q hq using hq
  choose k hk using hk
  choose s hs using hs
  funext i
  obtain ⟨b, n, r, g, hh, d, rfl⟩ := idx_split i
  rw [Cert.KernelIdeal.Val.result_apply]
  exact Cert.ReferenceIdeal.Val.ref_eq_kernel (argV m c) (argG m c) hq hk hs b n r g hh d

/-- From memories that agree on the arguments both programs run and end with equal results. -/
theorem algebraic : Cert.algebraic_KernelIdeal_ReferenceIdeal_pre_finite := by
  intro m g m' g' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v21, ?_, ?_⟩
  · refine (θ_run Cert.KernelIdeal.defs _ _).mono (fun r h c => ⟨(h.1 c).2 _ (by decide), h.2 c⟩)
      (θ_run_and (Cert.KernelIdeal.Gen.run_main (F := Ideal) m g) (Cert.KernelIdeal.Gen.unchanged (F := Ideal) m g))
  · refine (θ_run Cert.ReferenceIdeal.defs _ _).mono (fun _ h c => ⟨(h c).1.trans ?_, (h c).2⟩)
      (Cert.ReferenceIdeal.Value.run (F := Ideal) m' g')
    obtain ⟨e0, e1, e2, e3, e4⟩ := hagree c
    rw [Cert.ReferenceIdeal.Read.val_main_v65_eq, e0, e1, e2, e3, e4]
    exact result_eq m c (hpre c)

end Cert.Proof.Window
-- ==== Proof.EdgeTile.lean ====
module

public import proofs.«01_k».proof.Proof.Gen.Kernel2Ideal.Frame
public import Idealize.ShloMosaic.Lib.Pointwise

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.Sem
open scoped BigOperators

/-! ## The pieces the kernel stores, each as one of five shapes of tile -/

abbrev Tl := FVec Ideal S512x128 .f32
abbrev Ck := FVec Ideal S512x512 .f32

/-- A chunk of 512 projected columns for 512 rows. -/
def chunk (h : FVec Ideal S512x1024 .bf16) (w : Vec Ideal S1x1024x512 .bf16) : Ck := k0_pay23 h w

def sl0 (C : Ck) : Tl := extractStridedSlice S512x128 ![0, 0] C slices_S512x512_o0_0_S512x128
def sl1 (C : Ck) : Tl := extractStridedSlice S512x128 ![0, 128] C slices_S512x512_o0_128_S512x128
def sl2 (C : Ck) : Tl := extractStridedSlice S512x128 ![0, 256] C slices_S512x512_o0_256_S512x128
def sl3 (C : Ck) : Tl := extractStridedSlice S512x128 ![0, 384] C slices_S512x512_o0_384_S512x128

/-- A tile of two heads, each normalised over its own 64 lanes and scaled by its gain. -/
def normT (t : Tl) (g : Vec Ideal S1x1x128 .f32) : Tl := k0_pay97 t g

/-- A tile as stored. -/
def putV (t : Tl) : FVec Ideal S1x512x128 .bf16 := shapeCast S1x512x128 (truncf .bf16 t bitsLt_bf16_f32) shapeCasts_S512x128_S1x512x128

/-- A gate's tile as stored. -/
def putG (t : Tl) : FVec Ideal S1x512x128 .bf16 := putV (mulf t (logistic t))

/-- A tile of keys as stored. -/
def putK (t : Tl) (g : Vec Ideal S1x1x128 .f32) : FVec Ideal S1x512x128 .bf16 := putV (normT t g)

/-- A tile of queries as stored: scaled. -/
def putQ (t : Tl) (g : Vec Ideal S1x1x128 .f32) : FVec Ideal S1x512x128 .bf16 :=
  putV (mulf (normT t g) (broadcast S512x128 (Named.named κ "qscale" 0x3E38AA3B#32 : Ideal .f32)))

/-- The sum of three tiles of queries as stored. -/
def putS (t2 t1 t0 : Tl) (g : Vec Ideal S1x1x128 .f32) : FVec Ideal S1x512x128 .f32 :=
  shapeCast S1x512x128 (addf (addf (addf (k0_pay22 (F := Ideal)) (normT t2 g)) (normT t1 g)) (normT t0 g)) shapeCasts_S512x128_S1x512x128

section
variable (x0 : Vec Ideal S1x1024x1024 .f32) (x1 : Vec Ideal S1x1x1024 .f32) (x2 : Vec Ideal S1x1024x2560 .bf16) (x3 : Vec Ideal S1x1x128 .f32) (x4 : Vec Ideal S1x1x128 .f32) (x5 : Vec Ideal S1x1x128 .f32) (x6 : Vec Ideal S1x1x128 .f32)

theorem out7_eq : out0_7 x0 x1 x2 x3 x4 x5 x6 = View.canon [⟨r0_15, putV (sl1 (chunk (k0_pay143 x0 x1 x2 x3 x4 x5 x6) (View.ld x2 r0_13)))⟩,
    ⟨r0_14, putV (sl0 (chunk (k0_pay143 x0 x1 x2 x3 x4 x5 x6) (View.ld x2 r0_13)))⟩,
    ⟨r0_5, putV (sl1 (chunk (k0_pay130 x0 x1 x2 x3 x4 x5 x6) (View.ld x2 r0_13)))⟩,
    ⟨r0_4, putV (sl0 (chunk (k0_pay130 x0 x1 x2 x3 x4 x5 x6) (View.ld x2 r0_13)))⟩] := rfl

theorem out8_eq : out0_8 x0 x1 x2 x3 x4 x5 x6 = View.canon [⟨r0_15, putG (sl3 (chunk (k0_pay143 x0 x1 x2 x3 x4 x5 x6) (View.ld x2 r0_13)))⟩,
    ⟨r0_14, putG (sl2 (chunk (k0_pay143 x0 x1 x2 x3 x4 x5 x6) (View.ld x2 r0_13)))⟩,
    ⟨r0_5, putG (sl3 (chunk (k0_pay130 x0 x1 x2 x3 x4 x5 x6) (View.ld x2 r0_13)))⟩,
    ⟨r0_4, putG (sl2 (chunk (k0_pay130 x0 x1 x2 x3 x4 x5 x6) (View.ld x2 r0_13)))⟩] := rfl

theorem out9_eq : out0_9 x0 x1 x2 x3 x4 x5 x6 = View.canon [⟨r0_18, putQ (sl0 (chunk (k0_pay143 x0 x1 x2 x3 x4 x5 x6) (View.ld x2 r0_12))) (View.ld x3 r0_3)⟩,
    ⟨r0_17, putQ (sl1 (chunk (k0_pay143 x0 x1 x2 x3 x4 x5 x6) (View.ld x2 r0_12))) (View.ld x3 r0_3)⟩,
    ⟨r0_16, putQ (sl2 (chunk (k0_pay143 x0 x1 x2 x3 x4 x5 x6) (View.ld x2 r0_12))) (View.ld x3 r0_3)⟩,
    ⟨r0_10, putQ (sl0 (chunk (k0_pay130 x0 x1 x2 x3 x4 x5 x6) (View.ld x2 r0_12))) (View.ld x3 r0_3)⟩,
    ⟨r0_8, putQ (sl1 (chunk (k0_pay130 x0 x1 x2 x3 x4 x5 x6) (View.ld x2 r0_12))) (View.ld x3 r0_3)⟩,
    ⟨r0_7, putQ (sl2 (chunk (k0_pay130 x0 x1 x2 x3 x4 x5 x6) (View.ld x2 r0_12))) (View.ld x3 r0_3)⟩] := rfl

theorem out10_eq : out0_10 x0 x1 x2 x3 x4 x5 x6 = View.canon [⟨r0_18, putG (sl3 (chunk (k0_pay143 x0 x1 x2 x3 x4 x5 x6) (View.ld x2 r0_12)))⟩,
    ⟨r0_17, putG (sl0 (chunk (k0_pay143 x0 x1 x2 x3 x4 x5 x6) (View.ld x2 r0_9)))⟩,
    ⟨r0_16, putG (sl1 (chunk (k0_pay143 x0 x1 x2 x3 x4 x5 x6) (View.ld x2 r0_9)))⟩,
    ⟨r0_10, putG (sl3 (chunk (k0_pay130 x0 x1 x2 x3 x4 x5 x6) (View.ld x2 r0_12)))⟩,
    ⟨r0_8, putG (sl0 (chunk (k0_pay130 x0 x1 x2 x3 x4 x5 x6) (View.ld x2 r0_9)))⟩,
    ⟨r0_7, putG (sl1 (chunk (k0_pay130 x0 x1 x2 x3 x4 x5 x6) (View.ld x2 r0_9)))⟩] := rfl

theorem out11_eq : out0_11 x0 x1 x2 x3 x4 x5 x6 = View.canon [⟨r0_18, putQ (sl2 (chunk (k0_pay143 x0 x1 x2 x3 x4 x5 x6) (View.ld x2 r0_9))) (View.ld x5 r0_3)⟩,
    ⟨r0_17, putQ (sl3 (chunk (k0_pay143 x0 x1 x2 x3 x4 x5 x6) (View.ld x2 r0_9))) (View.ld x5 r0_3)⟩,
    ⟨r0_16, putQ (sl0 (chunk (k0_pay143 x0 x1 x2 x3 x4 x5 x6) (View.ld x2 r0_6))) (View.ld x5 r0_3)⟩,
    ⟨r0_10, putQ (sl2 (chunk (k0_pay130 x0 x1 x2 x3 x4 x5 x6) (View.ld x2 r0_9))) (View.ld x5 r0_3)⟩,
    ⟨r0_8, putQ (sl3 (chunk (k0_pay130 x0 x1 x2 x3 x4 x5 x6) (View.ld x2 r0_9))) (View.ld x5 r0_3)⟩,
    ⟨r0_7, putQ (sl0 (chunk (k0_pay130 x0 x1 x2 x3 x4 x5 x6) (View.ld x2 r0_6))) (View.ld x5 r0_3)⟩] := rfl

theorem out12_eq : out0_12 x0 x1 x2 x3 x4 x5 x6 = View.canon [⟨r0_19, putS (sl0 (chunk (k0_pay143 x0 x1 x2 x3 x4 x5 x6) (View.ld x2 r0_6))) (sl3 (chunk (k0_pay143 x0 x1 x2 x3 x4 x5 x6) (View.ld x2 r0_9))) (sl2 (chunk (k0_pay143 x0 x1 x2 x3 x4 x5 x6) (View.ld x2 r0_9))) (View.ld x5 r0_3)⟩,
    ⟨r0_11, putS (sl0 (chunk (k0_pay130 x0 x1 x2 x3 x4 x5 x6) (View.ld x2 r0_6))) (sl3 (chunk (k0_pay130 x0 x1 x2 x3 x4 x5 x6) (View.ld x2 r0_9))) (sl2 (chunk (k0_pay130 x0 x1 x2 x3 x4 x5 x6) (View.ld x2 r0_9))) (View.ld x5 r0_3)⟩] := rfl

theorem out13_eq : out0_13 x0 x1 x2 x3 x4 x5 x6 = View.canon [⟨r0_18, putG (sl1 (chunk (k0_pay143 x0 x1 x2 x3 x4 x5 x6) (View.ld x2 r0_6)))⟩,
    ⟨r0_17, putG (sl2 (chunk (k0_pay143 x0 x1 x2 x3 x4 x5 x6) (View.ld x2 r0_6)))⟩,
    ⟨r0_16, putG (sl3 (chunk (k0_pay143 x0 x1 x2 x3 x4 x5 x6) (View.ld x2 r0_6)))⟩,
    ⟨r0_10, putG (sl1 (chunk (k0_pay130 x0 x1 x2 x3 x4 x5 x6) (View.ld x2 r0_6)))⟩,
    ⟨r0_8, putG (sl2 (chunk (k0_pay130 x0 x1 x2 x3 x4 x5 x6) (View.ld x2 r0_6)))⟩,
    ⟨r0_7, putG (sl3 (chunk (k0_pay130 x0 x1 x2 x3 x4 x5 x6) (View.ld x2 r0_6)))⟩] := rfl

theorem out14_eq : out0_14 x0 x1 x2 x3 x4 x5 x6 = View.canon [⟨r0_15, putV (sl1 (chunk (k0_pay143 x0 x1 x2 x3 x4 x5 x6) (View.ld x2 r0_2)))⟩,
    ⟨r0_14, putK (sl0 (chunk (k0_pay143 x0 x1 x2 x3 x4 x5 x6) (View.ld x2 r0_2))) (View.ld x4 r0_3)⟩,
    ⟨r0_5, putV (sl1 (chunk (k0_pay130 x0 x1 x2 x3 x4 x5 x6) (View.ld x2 r0_2)))⟩,
    ⟨r0_4, putK (sl0 (chunk (k0_pay130 x0 x1 x2 x3 x4 x5 x6) (View.ld x2 r0_2))) (View.ld x4 r0_3)⟩] := rfl

theorem out15_eq : out0_15 x0 x1 x2 x3 x4 x5 x6 = View.canon [⟨r0_15, putV (sl3 (chunk (k0_pay143 x0 x1 x2 x3 x4 x5 x6) (View.ld x2 r0_2)))⟩,
    ⟨r0_14, putK (sl2 (chunk (k0_pay143 x0 x1 x2 x3 x4 x5 x6) (View.ld x2 r0_2))) (View.ld x6 r0_3)⟩,
    ⟨r0_5, putV (sl3 (chunk (k0_pay130 x0 x1 x2 x3 x4 x5 x6) (View.ld x2 r0_2)))⟩,
    ⟨r0_4, putK (sl2 (chunk (k0_pay130 x0 x1 x2 x3 x4 x5 x6) (View.ld x2 r0_2))) (View.ld x6 r0_3)⟩] := rfl

end

end Cert.Kernel2Ideal.Val
-- ==== Proof.EdgePay.lean ====
module

public import proofs.«01_k».proof.Proof.EdgeTile
public import Idealize.ShloMosaic.Lib.Pointwise

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.Sem
open scoped BigOperators

theorem sl0_apply (C : Ck) (r : Fin 512) (c : Fin 128) : sl0 C (ix2 r c) = C (ix2 r ⟨c.val, by omega⟩) := by
  pointwise [sl0]

theorem sl1_apply (C : Ck) (r : Fin 512) (c : Fin 128) : sl1 C (ix2 r c) = C (ix2 r ⟨128 + c.val, by omega⟩) := by
  pointwise [sl1]

theorem sl2_apply (C : Ck) (r : Fin 512) (c : Fin 128) : sl2 C (ix2 r c) = C (ix2 r ⟨256 + c.val, by omega⟩) := by
  pointwise [sl2]

theorem sl3_apply (C : Ck) (r : Fin 512) (c : Fin 128) : sl3 C (ix2 r c) = C (ix2 r ⟨384 + c.val, by omega⟩) := by
  pointwise [sl3]

theorem chunk_apply (h : FVec Ideal S512x1024 .bf16) (w : Vec Ideal S1x1024x512 .bf16) (r c : Fin 512) :
    chunk h w (ix2 r c) = ∑ k : Fin 1024, h (ix2 r k) * w (ix3 0 k c) := by
  pointwise [chunk, k0_pay23]

theorem putV_apply (t : Tl) (r : Fin 512) (c : Fin 128) : putV t (ix3 0 r c) = t (ix2 r c) := by
  pointwise [putV]

/-- A value times its logistic. -/
def sil (z : EReal) : EReal := z * Ideal.logistic z

theorem putG_apply (t : Tl) (r : Fin 512) (c : Fin 128) : putG t (ix3 0 r c) = sil (t (ix2 r c)) := by
  pointwise [putG, putV, sil]

theorem putQ_apply (t : Tl) (g : Vec Ideal S1x1x128 .f32) (r : Fin 512) (c : Fin 128) :
    putQ t g (ix3 0 r c) = normT t g (ix2 r c) * (Named.named κ "qscale" 0x3E38AA3B#32 : Ideal .f32) := by
  pointwise [putQ, putV]

theorem putS_apply (t2 t1 t0 : Tl) (g : Vec Ideal S1x1x128 .f32) (r : Fin 512) (c : Fin 128) :
    putS t2 t1 t0 g (ix3 0 r c) = normT t2 g (ix2 r c) + normT t1 g (ix2 r c) + normT t0 g (ix2 r c) := by
  pointwise [putS, k0_pay22]

theorem putK_apply (t : Tl) (g : Vec Ideal S1x1x128 .f32) (r : Fin 512) (c : Fin 128) :
    putK t g (ix3 0 r c) = normT t g (ix2 r c) := by
  pointwise [putK, putV]

/-! ## What the tiles hold, from one row of the input -/

/-- The small constant under the roots. -/
def eps : EReal := Ideal.ofBits FTy.f32 0x358637BD#32

/-- A row normalised and scaled. -/
def inH (x g : Fin 1024 → EReal) (k : Fin 1024) : EReal :=
  x k * Ideal.rsqrt (Ideal.div (∑ j, x j * x j) (Ideal.ofBits FTy.f32 0x44800000#32) + eps) * g k

/-- A row projected. -/
def prj (h : Fin 1024 → EReal) (w : Fin 1024 → Fin 2560 → EReal) (c : Fin 2560) : EReal := ∑ k, h k * w k c

/-- A column of a projected row, normalised over the 64 columns of its head and scaled. -/
def nrm (P : Fin 2560 → EReal) (g : Fin 128 → EReal) (c : Fin 2560) : EReal :=
  P c * Ideal.rsqrt ((∑ d : Fin 64, P ⟨c.val / 64 * 64 + d.val, by omega⟩ * P ⟨c.val / 64 * 64 + d.val, by omega⟩)
      * Ideal.ofBits FTy.f32 0x3C800000#32 + eps) * g ⟨c.val % 128, by omega⟩

theorem pay4_apply (x0 : Vec Ideal S1x1024x1024 .f32) (x1 : Vec Ideal S1x1x1024 .f32) (r : Fin 512) (k : Fin 1024) :
    k0_pay4 x0 x1 (ix2 r k) = inH (fun j => x0 (ix3 0 ⟨r.val, by omega⟩ j)) (fun j => x1 (ix3 0 0 j)) k := by
  pointwise [k0_pay4, k0_pay3]
  rfl

theorem pay66_apply (x0 : Vec Ideal S1x1024x1024 .f32) (x1 : Vec Ideal S1x1x1024 .f32) (r : Fin 512) (k : Fin 1024) :
    k0_pay66 (k0_pay65 (k0_pay3 x0)) x1 (ix2 r k) = inH (fun j => x0 (ix3 0 ⟨512 + r.val, by omega⟩ j)) (fun j => x1 (ix3 0 0 j)) k := by
  pointwise [k0_pay66, k0_pay65, k0_pay3]
  rfl

/-- A lane is below 64 as a word exactly when it is as a number. -/
theorem below64 : ∀ l : Fin 128, IntOp.cmpi CmpIPredicate.slt (BitVec.ofNat 32 l.val) 64#32 = if l.val < 64 then 1#1 else 0#1 := by
  decide +kernel

theorem sel64 (l : Fin 128) (a b : EReal) :
    Scalar.select (IntOp.cmpi CmpIPredicate.slt (BitVec.ofNat 32 l.val) 64#32) a b = if l.val < 64 then a else b := by
  rw [below64]
  by_cases h : l.val < 64
  · rw [if_pos h, if_pos h]; rfl
  · rw [if_neg h, if_neg h]; rfl

theorem sum_halves (f : Fin 128 → EReal) : ∑ x, f x = (∑ d : Fin 64, f ⟨d.val, by omega⟩) + ∑ d : Fin 64, f ⟨64 + d.val, by omega⟩ :=
  Fin.sum_univ_add (a := 64) (b := 64) f

theorem sum_lo (f : Fin 128 → EReal) : (∑ x : Fin 128, if x.val < 64 then f x else 0) = ∑ d : Fin 64, f ⟨d.val, by omega⟩ := by
  rw [sum_halves]
  rw [Finset.sum_congr rfl (g := fun d : Fin 64 => f ⟨d.val, by omega⟩) fun d _ => if_pos d.isLt,
    Finset.sum_congr rfl (s₁ := Finset.univ) (g := fun _ : Fin 64 => (0 : EReal)) fun d _ => if_neg (by show ¬ 64 + d.val < 64; omega)]
  rw [Finset.sum_const_zero, add_zero]

theorem sum_hi (f : Fin 128 → EReal) : (∑ x : Fin 128, if x.val < 64 then 0 else f x) = ∑ d : Fin 64, f ⟨64 + d.val, by omega⟩ := by
  rw [sum_halves]
  rw [Finset.sum_congr rfl (g := fun _ : Fin 64 => (0 : EReal)) fun d _ => if_pos d.isLt,
    Finset.sum_congr rfl (s₁ := Finset.univ) (g := fun d : Fin 64 => f ⟨64 + d.val, by omega⟩) fun d _ => if_neg (by show ¬ 64 + d.val < 64; omega)]
  rw [Finset.sum_const_zero, zero_add]

theorem normT_apply (t : Tl) (g : Vec Ideal S1x1x128 .f32) (P : Fin 2560 → EReal) (r : Fin 512) (b : ℕ) (hb : b % 128 = 0) (hb' : b + 128 ≤ 2560)
    (ht : ∀ c : Fin 128, t (ix2 r c) = P ⟨b + c.val, by omega⟩) (c : Fin 128) :
    normT t g (ix2 r c) = nrm P (fun l => g (ix3 0 0 l)) ⟨b + c.val, by omega⟩ := by
  pointwise [normT, k0_pay97]
  simp only [sel64, ht]
  rw [sum_lo (fun x => P ⟨b + x.val, by omega⟩ * P ⟨b + x.val, by omega⟩), sum_hi (fun x => P ⟨b + x.val, by omega⟩ * P ⟨b + x.val, by omega⟩)]
  unfold nrm eps
  have eg : (⟨(b + c.val) % 128, by omega⟩ : Fin 128) = c := Fin.ext (by show (b + c.val) % 128 = c.val; omega)
  rw [eg]
  by_cases h : c.val < 64
  · rw [if_pos h]
    have e : ∀ d : Fin 64, (⟨(b + c.val) / 64 * 64 + d.val, by omega⟩ : Fin 2560) = ⟨b + d.val, by omega⟩ := fun d => Fin.ext (by show (b + c.val) / 64 * 64 + d.val = b + d.val; omega)
    simp only [e]
  · rw [if_neg h]
    have e : ∀ d : Fin 64, (⟨(b + c.val) / 64 * 64 + d.val, by omega⟩ : Fin 2560) = ⟨b + (64 + d.val), by omega⟩ := fun d => Fin.ext (by show (b + c.val) / 64 * 64 + d.val = b + (64 + d.val); omega)
    simp only [e]

end Cert.Kernel2Ideal.Val
-- ==== Proof.EdgeBlock.lean ====
module

public import proofs.«01_k».proof.Proof.EdgePay

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.Sem
open scoped BigOperators

/-! ## What one block of the grid leaves in each output -/

section
variable (x0 : Vec Ideal S1x1024x1024 .f32) (x1 : Vec Ideal S1x1x1024 .f32) (x2 : Vec Ideal S1x1024x2560 .bf16) (x3 : Vec Ideal S1x1x128 .f32) (x4 : Vec Ideal S1x1x128 .f32) (x5 : Vec Ideal S1x1x128 .f32) (x6 : Vec Ideal S1x1x128 .f32)

theorem ld_x : View.ld x0 r0_0 = x0 := by
  funext y
  exact congrArg x0 (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_g : View.ld x1 r0_1 = x1 := by
  funext y
  exact congrArg x1 (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_h : View.ld x3 r0_3 = x3 := by
  funext y
  exact congrArg x3 (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

/-- Row `R` of the block, normalised and projected. -/
def Pb (R : Fin 1024) : Fin 2560 → EReal :=
  prj (inH (fun j => x0 (ix3 0 R j)) (fun j => x1 (ix3 0 0 j))) (fun k c => x2 (ix3 0 k c))

theorem h0_apply (r : Fin 512) (k : Fin 1024) : k0_pay130 x0 x1 x2 x3 x4 x5 x6 (ix2 r k)
    = inH (fun j => x0 (ix3 0 ⟨r.val, by omega⟩ j)) (fun j => x1 (ix3 0 0 j)) k := by
  unfold k0_pay130
  rw [ld_x, ld_g]
  exact pay4_apply x0 x1 r k

theorem h1_apply (r : Fin 512) (k : Fin 1024) : k0_pay143 x0 x1 x2 x3 x4 x5 x6 (ix2 r k)
    = inH (fun j => x0 (ix3 0 ⟨512 + r.val, by omega⟩ j)) (fun j => x1 (ix3 0 0 j)) k := by
  unfold k0_pay143 k0_pay142
  rw [ld_x, ld_g]
  exact pay66_apply x0 x1 r k

theorem w0_apply (k : Fin 1024) (c : Fin 512) : View.ld x2 r0_13 (ix3 0 k c) = x2 (ix3 0 k ⟨0 + c.val, by omega⟩) := by
  refine congrArg x2 (funext fun a => Fin.ext ?_)
  match a with
  | ⟨0, _⟩ => rfl
  | ⟨1, _⟩ => show 0 + 1 * k.val = k.val; omega
  | ⟨2, _⟩ => show 0 + 1 * c.val = 0 + c.val; omega

theorem ck0_0 (r c : Fin 512) : chunk (k0_pay130 x0 x1 x2 x3 x4 x5 x6) (View.ld x2 r0_13) (ix2 r c) = Pb x0 x1 x2 ⟨r.val, by omega⟩ ⟨0 + c.val, by omega⟩ := by
  refine (chunk_apply _ _ r c).trans ?_
  unfold Pb prj
  refine Finset.sum_congr rfl fun k _ => ?_
  rw [h0_apply, w0_apply]

theorem ck1_0 (r c : Fin 512) : chunk (k0_pay143 x0 x1 x2 x3 x4 x5 x6) (View.ld x2 r0_13) (ix2 r c) = Pb x0 x1 x2 ⟨512 + r.val, by omega⟩ ⟨0 + c.val, by omega⟩ := by
  refine (chunk_apply _ _ r c).trans ?_
  unfold Pb prj
  refine Finset.sum_congr rfl fun k _ => ?_
  rw [h1_apply, w0_apply]

theorem w512_apply (k : Fin 1024) (c : Fin 512) : View.ld x2 r0_12 (ix3 0 k c) = x2 (ix3 0 k ⟨512 + c.val, by omega⟩) := by
  refine congrArg x2 (funext fun a => Fin.ext ?_)
  match a with
  | ⟨0, _⟩ => rfl
  | ⟨1, _⟩ => show 0 + 1 * k.val = k.val; omega
  | ⟨2, _⟩ => show 512 + 1 * c.val = 512 + c.val; omega

theorem ck0_512 (r c : Fin 512) : chunk (k0_pay130 x0 x1 x2 x3 x4 x5 x6) (View.ld x2 r0_12) (ix2 r c) = Pb x0 x1 x2 ⟨r.val, by omega⟩ ⟨512 + c.val, by omega⟩ := by
  refine (chunk_apply _ _ r c).trans ?_
  unfold Pb prj
  refine Finset.sum_congr rfl fun k _ => ?_
  rw [h0_apply, w512_apply]

theorem ck1_512 (r c : Fin 512) : chunk (k0_pay143 x0 x1 x2 x3 x4 x5 x6) (View.ld x2 r0_12) (ix2 r c) = Pb x0 x1 x2 ⟨512 + r.val, by omega⟩ ⟨512 + c.val, by omega⟩ := by
  refine (chunk_apply _ _ r c).trans ?_
  unfold Pb prj
  refine Finset.sum_congr rfl fun k _ => ?_
  rw [h1_apply, w512_apply]

theorem w1024_apply (k : Fin 1024) (c : Fin 512) : View.ld x2 r0_9 (ix3 0 k c) = x2 (ix3 0 k ⟨1024 + c.val, by omega⟩) := by
  refine congrArg x2 (funext fun a => Fin.ext ?_)
  match a with
  | ⟨0, _⟩ => rfl
  | ⟨1, _⟩ => show 0 + 1 * k.val = k.val; omega
  | ⟨2, _⟩ => show 1024 + 1 * c.val = 1024 + c.val; omega

theorem ck0_1024 (r c : Fin 512) : chunk (k0_pay130 x0 x1 x2 x3 x4 x5 x6) (View.ld x2 r0_9) (ix2 r c) = Pb x0 x1 x2 ⟨r.val, by omega⟩ ⟨1024 + c.val, by omega⟩ := by
  refine (chunk_apply _ _ r c).trans ?_
  unfold Pb prj
  refine Finset.sum_congr rfl fun k _ => ?_
  rw [h0_apply, w1024_apply]

theorem ck1_1024 (r c : Fin 512) : chunk (k0_pay143 x0 x1 x2 x3 x4 x5 x6) (View.ld x2 r0_9) (ix2 r c) = Pb x0 x1 x2 ⟨512 + r.val, by omega⟩ ⟨1024 + c.val, by omega⟩ := by
  refine (chunk_apply _ _ r c).trans ?_
  unfold Pb prj
  refine Finset.sum_congr rfl fun k _ => ?_
  rw [h1_apply, w1024_apply]

theorem w1536_apply (k : Fin 1024) (c : Fin 512) : View.ld x2 r0_6 (ix3 0 k c) = x2 (ix3 0 k ⟨1536 + c.val, by omega⟩) := by
  refine congrArg x2 (funext fun a => Fin.ext ?_)
  match a with
  | ⟨0, _⟩ => rfl
  | ⟨1, _⟩ => show 0 + 1 * k.val = k.val; omega
  | ⟨2, _⟩ => show 1536 + 1 * c.val = 1536 + c.val; omega

theorem ck0_1536 (r c : Fin 512) : chunk (k0_pay130 x0 x1 x2 x3 x4 x5 x6) (View.ld x2 r0_6) (ix2 r c) = Pb x0 x1 x2 ⟨r.val, by omega⟩ ⟨1536 + c.val, by omega⟩ := by
  refine (chunk_apply _ _ r c).trans ?_
  unfold Pb prj
  refine Finset.sum_congr rfl fun k _ => ?_
  rw [h0_apply, w1536_apply]

theorem ck1_1536 (r c : Fin 512) : chunk (k0_pay143 x0 x1 x2 x3 x4 x5 x6) (View.ld x2 r0_6) (ix2 r c) = Pb x0 x1 x2 ⟨512 + r.val, by omega⟩ ⟨1536 + c.val, by omega⟩ := by
  refine (chunk_apply _ _ r c).trans ?_
  unfold Pb prj
  refine Finset.sum_congr rfl fun k _ => ?_
  rw [h1_apply, w1536_apply]

theorem w2048_apply (k : Fin 1024) (c : Fin 512) : View.ld x2 r0_2 (ix3 0 k c) = x2 (ix3 0 k ⟨2048 + c.val, by omega⟩) := by
  refine congrArg x2 (funext fun a => Fin.ext ?_)
  match a with
  | ⟨0, _⟩ => rfl
  | ⟨1, _⟩ => show 0 + 1 * k.val = k.val; omega
  | ⟨2, _⟩ => show 2048 + 1 * c.val = 2048 + c.val; omega

theorem ck0_2048 (r c : Fin 512) : chunk (k0_pay130 x0 x1 x2 x3 x4 x5 x6) (View.ld x2 r0_2) (ix2 r c) = Pb x0 x1 x2 ⟨r.val, by omega⟩ ⟨2048 + c.val, by omega⟩ := by
  refine (chunk_apply _ _ r c).trans ?_
  unfold Pb prj
  refine Finset.sum_congr rfl fun k _ => ?_
  rw [h0_apply, w2048_apply]

theorem ck1_2048 (r c : Fin 512) : chunk (k0_pay143 x0 x1 x2 x3 x4 x5 x6) (View.ld x2 r0_2) (ix2 r c) = Pb x0 x1 x2 ⟨512 + r.val, by omega⟩ ⟨2048 + c.val, by omega⟩ := by
  refine (chunk_apply _ _ r c).trans ?_
  unfold Pb prj
  refine Finset.sum_congr rfl fun k _ => ?_
  rw [h1_apply, w2048_apply]

theorem tl0_0 (r : Fin 512) (c : Fin 128) : sl0 (chunk (k0_pay130 x0 x1 x2 x3 x4 x5 x6) (View.ld x2 r0_13)) (ix2 r c) = Pb x0 x1 x2 ⟨r.val, by omega⟩ ⟨0 + c.val, by omega⟩ :=
  (sl0_apply _ r c).trans ((ck0_0 x0 x1 x2 x3 x4 x5 x6 r _).trans (congrArg (Pb x0 x1 x2 _) (Fin.ext (by
    show 0 + c.val = 0 + c.val; omega))))

theorem tl1_0 (r : Fin 512) (c : Fin 128) : sl0 (chunk (k0_pay143 x0 x1 x2 x3 x4 x5 x6) (View.ld x2 r0_13)) (ix2 r c) = Pb x0 x1 x2 ⟨512 + r.val, by omega⟩ ⟨0 + c.val, by omega⟩ :=
  (sl0_apply _ r c).trans ((ck1_0 x0 x1 x2 x3 x4 x5 x6 r _).trans (congrArg (Pb x0 x1 x2 _) (Fin.ext (by
    show 0 + c.val = 0 + c.val; omega))))

theorem tl0_128 (r : Fin 512) (c : Fin 128) : sl1 (chunk (k0_pay130 x0 x1 x2 x3 x4 x5 x6) (View.ld x2 r0_13)) (ix2 r c) = Pb x0 x1 x2 ⟨r.val, by omega⟩ ⟨128 + c.val, by omega⟩ :=
  (sl1_apply _ r c).trans ((ck0_0 x0 x1 x2 x3 x4 x5 x6 r _).trans (congrArg (Pb x0 x1 x2 _) (Fin.ext (by
    show 0 + (128 + c.val) = 128 + c.val; omega))))

theorem tl1_128 (r : Fin 512) (c : Fin 128) : sl1 (chunk (k0_pay143 x0 x1 x2 x3 x4 x5 x6) (View.ld x2 r0_13)) (ix2 r c) = Pb x0 x1 x2 ⟨512 + r.val, by omega⟩ ⟨128 + c.val, by omega⟩ :=
  (sl1_apply _ r c).trans ((ck1_0 x0 x1 x2 x3 x4 x5 x6 r _).trans (congrArg (Pb x0 x1 x2 _) (Fin.ext (by
    show 0 + (128 + c.val) = 128 + c.val; omega))))

theorem tl0_256 (r : Fin 512) (c : Fin 128) : sl2 (chunk (k0_pay130 x0 x1 x2 x3 x4 x5 x6) (View.ld x2 r0_13)) (ix2 r c) = Pb x0 x1 x2 ⟨r.val, by omega⟩ ⟨256 + c.val, by omega⟩ :=
  (sl2_apply _ r c).trans ((ck0_0 x0 x1 x2 x3 x4 x5 x6 r _).trans (congrArg (Pb x0 x1 x2 _) (Fin.ext (by
    show 0 + (256 + c.val) = 256 + c.val; omega))))

theorem tl1_256 (r : Fin 512) (c : Fin 128) : sl2 (chunk (k0_pay143 x0 x1 x2 x3 x4 x5 x6) (View.ld x2 r0_13)) (ix2 r c) = Pb x0 x1 x2 ⟨512 + r.val, by omega⟩ ⟨256 + c.val, by omega⟩ :=
  (sl2_apply _ r c).trans ((ck1_0 x0 x1 x2 x3 x4 x5 x6 r _).trans (congrArg (Pb x0 x1 x2 _) (Fin.ext (by
    show 0 + (256 + c.val) = 256 + c.val; omega))))

theorem tl0_384 (r : Fin 512) (c : Fin 128) : sl3 (chunk (k0_pay130 x0 x1 x2 x3 x4 x5 x6) (View.ld x2 r0_13)) (ix2 r c) = Pb x0 x1 x2 ⟨r.val, by omega⟩ ⟨384 + c.val, by omega⟩ :=
  (sl3_apply _ r c).trans ((ck0_0 x0 x1 x2 x3 x4 x5 x6 r _).trans (congrArg (Pb x0 x1 x2 _) (Fin.ext (by
    show 0 + (384 + c.val) = 384 + c.val; omega))))

theorem tl1_384 (r : Fin 512) (c : Fin 128) : sl3 (chunk (k0_pay143 x0 x1 x2 x3 x4 x5 x6) (View.ld x2 r0_13)) (ix2 r c) = Pb x0 x1 x2 ⟨512 + r.val, by omega⟩ ⟨384 + c.val, by omega⟩ :=
  (sl3_apply _ r c).trans ((ck1_0 x0 x1 x2 x3 x4 x5 x6 r _).trans (congrArg (Pb x0 x1 x2 _) (Fin.ext (by
    show 0 + (384 + c.val) = 384 + c.val; omega))))

theorem tl0_512 (r : Fin 512) (c : Fin 128) : sl0 (chunk (k0_pay130 x0 x1 x2 x3 x4 x5 x6) (View.ld x2 r0_12)) (ix2 r c) = Pb x0 x1 x2 ⟨r.val, by omega⟩ ⟨512 + c.val, by omega⟩ :=
  (sl0_apply _ r c).trans ((ck0_512 x0 x1 x2 x3 x4 x5 x6 r _).trans (congrArg (Pb x0 x1 x2 _) (Fin.ext (by
    show 512 + c.val = 512 + c.val; omega))))

theorem tl1_512 (r : Fin 512) (c : Fin 128) : sl0 (chunk (k0_pay143 x0 x1 x2 x3 x4 x5 x6) (View.ld x2 r0_12)) (ix2 r c) = Pb x0 x1 x2 ⟨512 + r.val, by omega⟩ ⟨512 + c.val, by omega⟩ :=
  (sl0_apply _ r c).trans ((ck1_512 x0 x1 x2 x3 x4 x5 x6 r _).trans (congrArg (Pb x0 x1 x2 _) (Fin.ext (by
    show 512 + c.val = 512 + c.val; omega))))

theorem tl0_640 (r : Fin 512) (c : Fin 128) : sl1 (chunk (k0_pay130 x0 x1 x2 x3 x4 x5 x6) (View.ld x2 r0_12)) (ix2 r c) = Pb x0 x1 x2 ⟨r.val, by omega⟩ ⟨640 + c.val, by omega⟩ :=
  (sl1_apply _ r c).trans ((ck0_512 x0 x1 x2 x3 x4 x5 x6 r _).trans (congrArg (Pb x0 x1 x2 _) (Fin.ext (by
    show 512 + (128 + c.val) = 640 + c.val; omega))))

theorem tl1_640 (r : Fin 512) (c : Fin 128) : sl1 (chunk (k0_pay143 x0 x1 x2 x3 x4 x5 x6) (View.ld x2 r0_12)) (ix2 r c) = Pb x0 x1 x2 ⟨512 + r.val, by omega⟩ ⟨640 + c.val, by omega⟩ :=
  (sl1_apply _ r c).trans ((ck1_512 x0 x1 x2 x3 x4 x5 x6 r _).trans (congrArg (Pb x0 x1 x2 _) (Fin.ext (by
    show 512 + (128 + c.val) = 640 + c.val; omega))))

theorem tl0_768 (r : Fin 512) (c : Fin 128) : sl2 (chunk (k0_pay130 x0 x1 x2 x3 x4 x5 x6) (View.ld x2 r0_12)) (ix2 r c) = Pb x0 x1 x2 ⟨r.val, by omega⟩ ⟨768 + c.val, by omega⟩ :=
  (sl2_apply _ r c).trans ((ck0_512 x0 x1 x2 x3 x4 x5 x6 r _).trans (congrArg (Pb x0 x1 x2 _) (Fin.ext (by
    show 512 + (256 + c.val) = 768 + c.val; omega))))

theorem tl1_768 (r : Fin 512) (c : Fin 128) : sl2 (chunk (k0_pay143 x0 x1 x2 x3 x4 x5 x6) (View.ld x2 r0_12)) (ix2 r c) = Pb x0 x1 x2 ⟨512 + r.val, by omega⟩ ⟨768 + c.val, by omega⟩ :=
  (sl2_apply _ r c).trans ((ck1_512 x0 x1 x2 x3 x4 x5 x6 r _).trans (congrArg (Pb x0 x1 x2 _) (Fin.ext (by
    show 512 + (256 + c.val) = 768 + c.val; omega))))

theorem tl0_896 (r : Fin 512) (c : Fin 128) : sl3 (chunk (k0_pay130 x0 x1 x2 x3 x4 x5 x6) (View.ld x2 r0_12)) (ix2 r c) = Pb x0 x1 x2 ⟨r.val, by omega⟩ ⟨896 + c.val, by omega⟩ :=
  (sl3_apply _ r c).trans ((ck0_512 x0 x1 x2 x3 x4 x5 x6 r _).trans (congrArg (Pb x0 x1 x2 _) (Fin.ext (by
    show 512 + (384 + c.val) = 896 + c.val; omega))))

theorem tl1_896 (r : Fin 512) (c : Fin 128) : sl3 (chunk (k0_pay143 x0 x1 x2 x3 x4 x5 x6) (View.ld x2 r0_12)) (ix2 r c) = Pb x0 x1 x2 ⟨512 + r.val, by omega⟩ ⟨896 + c.val, by omega⟩ :=
  (sl3_apply _ r c).trans ((ck1_512 x0 x1 x2 x3 x4 x5 x6 r _).trans (congrArg (Pb x0 x1 x2 _) (Fin.ext (by
    show 512 + (384 + c.val) = 896 + c.val; omega))))

theorem tl0_1024 (r : Fin 512) (c : Fin 128) : sl0 (chunk (k0_pay130 x0 x1 x2 x3 x4 x5 x6) (View.ld x2 r0_9)) (ix2 r c) = Pb x0 x1 x2 ⟨r.val, by omega⟩ ⟨1024 + c.val, by omega⟩ :=
  (sl0_apply _ r c).trans ((ck0_1024 x0 x1 x2 x3 x4 x5 x6 r _).trans (congrArg (Pb x0 x1 x2 _) (Fin.ext (by
    show 1024 + c.val = 1024 + c.val; omega))))

theorem tl1_1024 (r : Fin 512) (c : Fin 128) : sl0 (chunk (k0_pay143 x0 x1 x2 x3 x4 x5 x6) (View.ld x2 r0_9)) (ix2 r c) = Pb x0 x1 x2 ⟨512 + r.val, by omega⟩ ⟨1024 + c.val, by omega⟩ :=
  (sl0_apply _ r c).trans ((ck1_1024 x0 x1 x2 x3 x4 x5 x6 r _).trans (congrArg (Pb x0 x1 x2 _) (Fin.ext (by
    show 1024 + c.val = 1024 + c.val; omega))))

theorem tl0_1152 (r : Fin 512) (c : Fin 128) : sl1 (chunk (k0_pay130 x0 x1 x2 x3 x4 x5 x6) (View.ld x2 r0_9)) (ix2 r c) = Pb x0 x1 x2 ⟨r.val, by omega⟩ ⟨1152 + c.val, by omega⟩ :=
  (sl1_apply _ r c).trans ((ck0_1024 x0 x1 x2 x3 x4 x5 x6 r _).trans (congrArg (Pb x0 x1 x2 _) (Fin.ext (by
    show 1024 + (128 + c.val) = 1152 + c.val; omega))))

theorem tl1_1152 (r : Fin 512) (c : Fin 128) : sl1 (chunk (k0_pay143 x0 x1 x2 x3 x4 x5 x6) (View.ld x2 r0_9)) (ix2 r c) = Pb x0 x1 x2 ⟨512 + r.val, by omega⟩ ⟨1152 + c.val, by omega⟩ :=
  (sl1_apply _ r c).trans ((ck1_1024 x0 x1 x2 x3 x4 x5 x6 r _).trans (congrArg (Pb x0 x1 x2 _) (Fin.ext (by
    show 1024 + (128 + c.val) = 1152 + c.val; omega))))

theorem tl0_1280 (r : Fin 512) (c : Fin 128) : sl2 (chunk (k0_pay130 x0 x1 x2 x3 x4 x5 x6) (View.ld x2 r0_9)) (ix2 r c) = Pb x0 x1 x2 ⟨r.val, by omega⟩ ⟨1280 + c.val, by omega⟩ :=
  (sl2_apply _ r c).trans ((ck0_1024 x0 x1 x2 x3 x4 x5 x6 r _).trans (congrArg (Pb x0 x1 x2 _) (Fin.ext (by
    show 1024 + (256 + c.val) = 1280 + c.val; omega))))

theorem tl1_1280 (r : Fin 512) (c : Fin 128) : sl2 (chunk (k0_pay143 x0 x1 x2 x3 x4 x5 x6) (View.ld x2 r0_9)) (ix2 r c) = Pb x0 x1 x2 ⟨512 + r.val, by omega⟩ ⟨1280 + c.val, by omega⟩ :=
  (sl2_apply _ r c).trans ((ck1_1024 x0 x1 x2 x3 x4 x5 x6 r _).trans (congrArg (Pb x0 x1 x2 _) (Fin.ext (by
    show 1024 + (256 + c.val) = 1280 + c.val; omega))))

theorem tl0_1408 (r : Fin 512) (c : Fin 128) : sl3 (chunk (k0_pay130 x0 x1 x2 x3 x4 x5 x6) (View.ld x2 r0_9)) (ix2 r c) = Pb x0 x1 x2 ⟨r.val, by omega⟩ ⟨1408 + c.val, by omega⟩ :=
  (sl3_apply _ r c).trans ((ck0_1024 x0 x1 x2 x3 x4 x5 x6 r _).trans (congrArg (Pb x0 x1 x2 _) (Fin.ext (by
    show 1024 + (384 + c.val) = 1408 + c.val; omega))))

theorem tl1_1408 (r : Fin 512) (c : Fin 128) : sl3 (chunk (k0_pay143 x0 x1 x2 x3 x4 x5 x6) (View.ld x2 r0_9)) (ix2 r c) = Pb x0 x1 x2 ⟨512 + r.val, by omega⟩ ⟨1408 + c.val, by omega⟩ :=
  (sl3_apply _ r c).trans ((ck1_1024 x0 x1 x2 x3 x4 x5 x6 r _).trans (congrArg (Pb x0 x1 x2 _) (Fin.ext (by
    show 1024 + (384 + c.val) = 1408 + c.val; omega))))

theorem tl0_1536 (r : Fin 512) (c : Fin 128) : sl0 (chunk (k0_pay130 x0 x1 x2 x3 x4 x5 x6) (View.ld x2 r0_6)) (ix2 r c) = Pb x0 x1 x2 ⟨r.val, by omega⟩ ⟨1536 + c.val, by omega⟩ :=
  (sl0_apply _ r c).trans ((ck0_1536 x0 x1 x2 x3 x4 x5 x6 r _).trans (congrArg (Pb x0 x1 x2 _) (Fin.ext (by
    show 1536 + c.val = 1536 + c.val; omega))))

theorem tl1_1536 (r : Fin 512) (c : Fin 128) : sl0 (chunk (k0_pay143 x0 x1 x2 x3 x4 x5 x6) (View.ld x2 r0_6)) (ix2 r c) = Pb x0 x1 x2 ⟨512 + r.val, by omega⟩ ⟨1536 + c.val, by omega⟩ :=
  (sl0_apply _ r c).trans ((ck1_1536 x0 x1 x2 x3 x4 x5 x6 r _).trans (congrArg (Pb x0 x1 x2 _) (Fin.ext (by
    show 1536 + c.val = 1536 + c.val; omega))))

theorem tl0_1664 (r : Fin 512) (c : Fin 128) : sl1 (chunk (k0_pay130 x0 x1 x2 x3 x4 x5 x6) (View.ld x2 r0_6)) (ix2 r c) = Pb x0 x1 x2 ⟨r.val, by omega⟩ ⟨1664 + c.val, by omega⟩ :=
  (sl1_apply _ r c).trans ((ck0_1536 x0 x1 x2 x3 x4 x5 x6 r _).trans (congrArg (Pb x0 x1 x2 _) (Fin.ext (by
    show 1536 + (128 + c.val) = 1664 + c.val; omega))))

theorem tl1_1664 (r : Fin 512) (c : Fin 128) : sl1 (chunk (k0_pay143 x0 x1 x2 x3 x4 x5 x6) (View.ld x2 r0_6)) (ix2 r c) = Pb x0 x1 x2 ⟨512 + r.val, by omega⟩ ⟨1664 + c.val, by omega⟩ :=
  (sl1_apply _ r c).trans ((ck1_1536 x0 x1 x2 x3 x4 x5 x6 r _).trans (congrArg (Pb x0 x1 x2 _) (Fin.ext (by
    show 1536 + (128 + c.val) = 1664 + c.val; omega))))

theorem tl0_1792 (r : Fin 512) (c : Fin 128) : sl2 (chunk (k0_pay130 x0 x1 x2 x3 x4 x5 x6) (View.ld x2 r0_6)) (ix2 r c) = Pb x0 x1 x2 ⟨r.val, by omega⟩ ⟨1792 + c.val, by omega⟩ :=
  (sl2_apply _ r c).trans ((ck0_1536 x0 x1 x2 x3 x4 x5 x6 r _).trans (congrArg (Pb x0 x1 x2 _) (Fin.ext (by
    show 1536 + (256 + c.val) = 1792 + c.val; omega))))

theorem tl1_1792 (r : Fin 512) (c : Fin 128) : sl2 (chunk (k0_pay143 x0 x1 x2 x3 x4 x5 x6) (View.ld x2 r0_6)) (ix2 r c) = Pb x0 x1 x2 ⟨512 + r.val, by omega⟩ ⟨1792 + c.val, by omega⟩ :=
  (sl2_apply _ r c).trans ((ck1_1536 x0 x1 x2 x3 x4 x5 x6 r _).trans (congrArg (Pb x0 x1 x2 _) (Fin.ext (by
    show 1536 + (256 + c.val) = 1792 + c.val; omega))))

theorem tl0_1920 (r : Fin 512) (c : Fin 128) : sl3 (chunk (k0_pay130 x0 x1 x2 x3 x4 x5 x6) (View.ld x2 r0_6)) (ix2 r c) = Pb x0 x1 x2 ⟨r.val, by omega⟩ ⟨1920 + c.val, by omega⟩ :=
  (sl3_apply _ r c).trans ((ck0_1536 x0 x1 x2 x3 x4 x5 x6 r _).trans (congrArg (Pb x0 x1 x2 _) (Fin.ext (by
    show 1536 + (384 + c.val) = 1920 + c.val; omega))))

theorem tl1_1920 (r : Fin 512) (c : Fin 128) : sl3 (chunk (k0_pay143 x0 x1 x2 x3 x4 x5 x6) (View.ld x2 r0_6)) (ix2 r c) = Pb x0 x1 x2 ⟨512 + r.val, by omega⟩ ⟨1920 + c.val, by omega⟩ :=
  (sl3_apply _ r c).trans ((ck1_1536 x0 x1 x2 x3 x4 x5 x6 r _).trans (congrArg (Pb x0 x1 x2 _) (Fin.ext (by
    show 1536 + (384 + c.val) = 1920 + c.val; omega))))

theorem tl0_2048 (r : Fin 512) (c : Fin 128) : sl0 (chunk (k0_pay130 x0 x1 x2 x3 x4 x5 x6) (View.ld x2 r0_2)) (ix2 r c) = Pb x0 x1 x2 ⟨r.val, by omega⟩ ⟨2048 + c.val, by omega⟩ :=
  (sl0_apply _ r c).trans ((ck0_2048 x0 x1 x2 x3 x4 x5 x6 r _).trans (congrArg (Pb x0 x1 x2 _) (Fin.ext (by
    show 2048 + c.val = 2048 + c.val; omega))))

theorem tl1_2048 (r : Fin 512) (c : Fin 128) : sl0 (chunk (k0_pay143 x0 x1 x2 x3 x4 x5 x6) (View.ld x2 r0_2)) (ix2 r c) = Pb x0 x1 x2 ⟨512 + r.val, by omega⟩ ⟨2048 + c.val, by omega⟩ :=
  (sl0_apply _ r c).trans ((ck1_2048 x0 x1 x2 x3 x4 x5 x6 r _).trans (congrArg (Pb x0 x1 x2 _) (Fin.ext (by
    show 2048 + c.val = 2048 + c.val; omega))))

theorem tl0_2176 (r : Fin 512) (c : Fin 128) : sl1 (chunk (k0_pay130 x0 x1 x2 x3 x4 x5 x6) (View.ld x2 r0_2)) (ix2 r c) = Pb x0 x1 x2 ⟨r.val, by omega⟩ ⟨2176 + c.val, by omega⟩ :=
  (sl1_apply _ r c).trans ((ck0_2048 x0 x1 x2 x3 x4 x5 x6 r _).trans (congrArg (Pb x0 x1 x2 _) (Fin.ext (by
    show 2048 + (128 + c.val) = 2176 + c.val; omega))))

theorem tl1_2176 (r : Fin 512) (c : Fin 128) : sl1 (chunk (k0_pay143 x0 x1 x2 x3 x4 x5 x6) (View.ld x2 r0_2)) (ix2 r c) = Pb x0 x1 x2 ⟨512 + r.val, by omega⟩ ⟨2176 + c.val, by omega⟩ :=
  (sl1_apply _ r c).trans ((ck1_2048 x0 x1 x2 x3 x4 x5 x6 r _).trans (congrArg (Pb x0 x1 x2 _) (Fin.ext (by
    show 2048 + (128 + c.val) = 2176 + c.val; omega))))

theorem tl0_2304 (r : Fin 512) (c : Fin 128) : sl2 (chunk (k0_pay130 x0 x1 x2 x3 x4 x5 x6) (View.ld x2 r0_2)) (ix2 r c) = Pb x0 x1 x2 ⟨r.val, by omega⟩ ⟨2304 + c.val, by omega⟩ :=
  (sl2_apply _ r c).trans ((ck0_2048 x0 x1 x2 x3 x4 x5 x6 r _).trans (congrArg (Pb x0 x1 x2 _) (Fin.ext (by
    show 2048 + (256 + c.val) = 2304 + c.val; omega))))

theorem tl1_2304 (r : Fin 512) (c : Fin 128) : sl2 (chunk (k0_pay143 x0 x1 x2 x3 x4 x5 x6) (View.ld x2 r0_2)) (ix2 r c) = Pb x0 x1 x2 ⟨512 + r.val, by omega⟩ ⟨2304 + c.val, by omega⟩ :=
  (sl2_apply _ r c).trans ((ck1_2048 x0 x1 x2 x3 x4 x5 x6 r _).trans (congrArg (Pb x0 x1 x2 _) (Fin.ext (by
    show 2048 + (256 + c.val) = 2304 + c.val; omega))))

theorem tl0_2432 (r : Fin 512) (c : Fin 128) : sl3 (chunk (k0_pay130 x0 x1 x2 x3 x4 x5 x6) (View.ld x2 r0_2)) (ix2 r c) = Pb x0 x1 x2 ⟨r.val, by omega⟩ ⟨2432 + c.val, by omega⟩ :=
  (sl3_apply _ r c).trans ((ck0_2048 x0 x1 x2 x3 x4 x5 x6 r _).trans (congrArg (Pb x0 x1 x2 _) (Fin.ext (by
    show 2048 + (384 + c.val) = 2432 + c.val; omega))))

theorem tl1_2432 (r : Fin 512) (c : Fin 128) : sl3 (chunk (k0_pay143 x0 x1 x2 x3 x4 x5 x6) (View.ld x2 r0_2)) (ix2 r c) = Pb x0 x1 x2 ⟨512 + r.val, by omega⟩ ⟨2432 + c.val, by omega⟩ :=
  (sl3_apply _ r c).trans ((ck1_2048 x0 x1 x2 x3 x4 x5 x6 r _).trans (congrArg (Pb x0 x1 x2 _) (Fin.ext (by
    show 2048 + (384 + c.val) = 2432 + c.val; omega))))

theorem nt0_512 (r : Fin 512) (c : Fin 128) : normT (sl0 (chunk (k0_pay130 x0 x1 x2 x3 x4 x5 x6) (View.ld x2 r0_12))) (View.ld x3 r0_3) (ix2 r c)
    = nrm (Pb x0 x1 x2 ⟨r.val, by omega⟩) (fun l => x3 (ix3 0 0 l)) ⟨512 + c.val, by omega⟩ := by
  rw [ld_h]
  exact normT_apply _ x3 _ r 512 (by omega) (by omega) (tl0_512 x0 x1 x2 x3 x4 x5 x6 r) c

theorem nt1_512 (r : Fin 512) (c : Fin 128) : normT (sl0 (chunk (k0_pay143 x0 x1 x2 x3 x4 x5 x6) (View.ld x2 r0_12))) (View.ld x3 r0_3) (ix2 r c)
    = nrm (Pb x0 x1 x2 ⟨512 + r.val, by omega⟩) (fun l => x3 (ix3 0 0 l)) ⟨512 + c.val, by omega⟩ := by
  rw [ld_h]
  exact normT_apply _ x3 _ r 512 (by omega) (by omega) (tl1_512 x0 x1 x2 x3 x4 x5 x6 r) c

theorem nt0_640 (r : Fin 512) (c : Fin 128) : normT (sl1 (chunk (k0_pay130 x0 x1 x2 x3 x4 x5 x6) (View.ld x2 r0_12))) (View.ld x3 r0_3) (ix2 r c)
    = nrm (Pb x0 x1 x2 ⟨r.val, by omega⟩) (fun l => x3 (ix3 0 0 l)) ⟨640 + c.val, by omega⟩ := by
  rw [ld_h]
  exact normT_apply _ x3 _ r 640 (by omega) (by omega) (tl0_640 x0 x1 x2 x3 x4 x5 x6 r) c

theorem nt1_640 (r : Fin 512) (c : Fin 128) : normT (sl1 (chunk (k0_pay143 x0 x1 x2 x3 x4 x5 x6) (View.ld x2 r0_12))) (View.ld x3 r0_3) (ix2 r c)
    = nrm (Pb x0 x1 x2 ⟨512 + r.val, by omega⟩) (fun l => x3 (ix3 0 0 l)) ⟨640 + c.val, by omega⟩ := by
  rw [ld_h]
  exact normT_apply _ x3 _ r 640 (by omega) (by omega) (tl1_640 x0 x1 x2 x3 x4 x5 x6 r) c

theorem nt0_768 (r : Fin 512) (c : Fin 128) : normT (sl2 (chunk (k0_pay130 x0 x1 x2 x3 x4 x5 x6) (View.ld x2 r0_12))) (View.ld x3 r0_3) (ix2 r c)
    = nrm (Pb x0 x1 x2 ⟨r.val, by omega⟩) (fun l => x3 (ix3 0 0 l)) ⟨768 + c.val, by omega⟩ := by
  rw [ld_h]
  exact normT_apply _ x3 _ r 768 (by omega) (by omega) (tl0_768 x0 x1 x2 x3 x4 x5 x6 r) c

theorem nt1_768 (r : Fin 512) (c : Fin 128) : normT (sl2 (chunk (k0_pay143 x0 x1 x2 x3 x4 x5 x6) (View.ld x2 r0_12))) (View.ld x3 r0_3) (ix2 r c)
    = nrm (Pb x0 x1 x2 ⟨512 + r.val, by omega⟩) (fun l => x3 (ix3 0 0 l)) ⟨768 + c.val, by omega⟩ := by
  rw [ld_h]
  exact normT_apply _ x3 _ r 768 (by omega) (by omega) (tl1_768 x0 x1 x2 x3 x4 x5 x6 r) c

theorem nt0_2048 (r : Fin 512) (c : Fin 128) : normT (sl0 (chunk (k0_pay130 x0 x1 x2 x3 x4 x5 x6) (View.ld x2 r0_2))) (View.ld x4 r0_3) (ix2 r c)
    = nrm (Pb x0 x1 x2 ⟨r.val, by omega⟩) (fun l => x4 (ix3 0 0 l)) ⟨2048 + c.val, by omega⟩ := by
  rw [ld_h]
  exact normT_apply _ x4 _ r 2048 (by omega) (by omega) (tl0_2048 x0 x1 x2 x3 x4 x5 x6 r) c

theorem nt1_2048 (r : Fin 512) (c : Fin 128) : normT (sl0 (chunk (k0_pay143 x0 x1 x2 x3 x4 x5 x6) (View.ld x2 r0_2))) (View.ld x4 r0_3) (ix2 r c)
    = nrm (Pb x0 x1 x2 ⟨512 + r.val, by omega⟩) (fun l => x4 (ix3 0 0 l)) ⟨2048 + c.val, by omega⟩ := by
  rw [ld_h]
  exact normT_apply _ x4 _ r 2048 (by omega) (by omega) (tl1_2048 x0 x1 x2 x3 x4 x5 x6 r) c

theorem nt0_1280 (r : Fin 512) (c : Fin 128) : normT (sl2 (chunk (k0_pay130 x0 x1 x2 x3 x4 x5 x6) (View.ld x2 r0_9))) (View.ld x5 r0_3) (ix2 r c)
    = nrm (Pb x0 x1 x2 ⟨r.val, by omega⟩) (fun l => x5 (ix3 0 0 l)) ⟨1280 + c.val, by omega⟩ := by
  rw [ld_h]
  exact normT_apply _ x5 _ r 1280 (by omega) (by omega) (tl0_1280 x0 x1 x2 x3 x4 x5 x6 r) c

theorem nt1_1280 (r : Fin 512) (c : Fin 128) : normT (sl2 (chunk (k0_pay143 x0 x1 x2 x3 x4 x5 x6) (View.ld x2 r0_9))) (View.ld x5 r0_3) (ix2 r c)
    = nrm (Pb x0 x1 x2 ⟨512 + r.val, by omega⟩) (fun l => x5 (ix3 0 0 l)) ⟨1280 + c.val, by omega⟩ := by
  rw [ld_h]
  exact normT_apply _ x5 _ r 1280 (by omega) (by omega) (tl1_1280 x0 x1 x2 x3 x4 x5 x6 r) c

theorem nt0_1408 (r : Fin 512) (c : Fin 128) : normT (sl3 (chunk (k0_pay130 x0 x1 x2 x3 x4 x5 x6) (View.ld x2 r0_9))) (View.ld x5 r0_3) (ix2 r c)
    = nrm (Pb x0 x1 x2 ⟨r.val, by omega⟩) (fun l => x5 (ix3 0 0 l)) ⟨1408 + c.val, by omega⟩ := by
  rw [ld_h]
  exact normT_apply _ x5 _ r 1408 (by omega) (by omega) (tl0_1408 x0 x1 x2 x3 x4 x5 x6 r) c

theorem nt1_1408 (r : Fin 512) (c : Fin 128) : normT (sl3 (chunk (k0_pay143 x0 x1 x2 x3 x4 x5 x6) (View.ld x2 r0_9))) (View.ld x5 r0_3) (ix2 r c)
    = nrm (Pb x0 x1 x2 ⟨512 + r.val, by omega⟩) (fun l => x5 (ix3 0 0 l)) ⟨1408 + c.val, by omega⟩ := by
  rw [ld_h]
  exact normT_apply _ x5 _ r 1408 (by omega) (by omega) (tl1_1408 x0 x1 x2 x3 x4 x5 x6 r) c

theorem nt0_1536 (r : Fin 512) (c : Fin 128) : normT (sl0 (chunk (k0_pay130 x0 x1 x2 x3 x4 x5 x6) (View.ld x2 r0_6))) (View.ld x5 r0_3) (ix2 r c)
    = nrm (Pb x0 x1 x2 ⟨r.val, by omega⟩) (fun l => x5 (ix3 0 0 l)) ⟨1536 + c.val, by omega⟩ := by
  rw [ld_h]
  exact normT_apply _ x5 _ r 1536 (by omega) (by omega) (tl0_1536 x0 x1 x2 x3 x4 x5 x6 r) c

theorem nt1_1536 (r : Fin 512) (c : Fin 128) : normT (sl0 (chunk (k0_pay143 x0 x1 x2 x3 x4 x5 x6) (View.ld x2 r0_6))) (View.ld x5 r0_3) (ix2 r c)
    = nrm (Pb x0 x1 x2 ⟨512 + r.val, by omega⟩) (fun l => x5 (ix3 0 0 l)) ⟨1536 + c.val, by omega⟩ := by
  rw [ld_h]
  exact normT_apply _ x5 _ r 1536 (by omega) (by omega) (tl1_1536 x0 x1 x2 x3 x4 x5 x6 r) c

theorem nt0_2304 (r : Fin 512) (c : Fin 128) : normT (sl2 (chunk (k0_pay130 x0 x1 x2 x3 x4 x5 x6) (View.ld x2 r0_2))) (View.ld x6 r0_3) (ix2 r c)
    = nrm (Pb x0 x1 x2 ⟨r.val, by omega⟩) (fun l => x6 (ix3 0 0 l)) ⟨2304 + c.val, by omega⟩ := by
  rw [ld_h]
  exact normT_apply _ x6 _ r 2304 (by omega) (by omega) (tl0_2304 x0 x1 x2 x3 x4 x5 x6 r) c

theorem nt1_2304 (r : Fin 512) (c : Fin 128) : normT (sl2 (chunk (k0_pay143 x0 x1 x2 x3 x4 x5 x6) (View.ld x2 r0_2))) (View.ld x6 r0_3) (ix2 r c)
    = nrm (Pb x0 x1 x2 ⟨512 + r.val, by omega⟩) (fun l => x6 (ix3 0 0 l)) ⟨2304 + c.val, by omega⟩ := by
  rw [ld_h]
  exact normT_apply _ x6 _ r 2304 (by omega) (by omega) (tl1_2304 x0 x1 x2 x3 x4 x5 x6 r) c

/-- The S5 input. -/
def f7 (R : Fin 1024) (c : Fin 256) : EReal := Pb x0 x1 x2 R ⟨c.val, by omega⟩

/-- The S5 gate. -/
def f8 (R : Fin 1024) (c : Fin 256) : EReal := sil (Pb x0 x1 x2 R ⟨256 + c.val, by omega⟩)

/-- The window attention queries. -/
def f9 (R : Fin 1024) (c : Fin 384) : EReal := nrm (Pb x0 x1 x2 R) (fun l => x3 (ix3 0 0 l)) ⟨512 + c.val, by omega⟩ * (Named.named κ "qscale" 0x3E38AA3B#32 : Ideal .f32)

/-- The window attention gate. -/
def f10 (R : Fin 1024) (c : Fin 384) : EReal := sil (Pb x0 x1 x2 R ⟨896 + c.val, by omega⟩)

/-- The MoBA queries. -/
def f11 (R : Fin 1024) (c : Fin 384) : EReal := nrm (Pb x0 x1 x2 R) (fun l => x5 (ix3 0 0 l)) ⟨1280 + c.val, by omega⟩ * (Named.named κ "qscale" 0x3E38AA3B#32 : Ideal .f32)

/-- The MoBA queries added over a group. -/
def f12 (R : Fin 1024) (c : Fin 128) : EReal := nrm (Pb x0 x1 x2 R) (fun l => x5 (ix3 0 0 l)) ⟨1536 + c.val, by omega⟩ + nrm (Pb x0 x1 x2 R) (fun l => x5 (ix3 0 0 l)) ⟨1408 + c.val, by omega⟩ + nrm (Pb x0 x1 x2 R) (fun l => x5 (ix3 0 0 l)) ⟨1280 + c.val, by omega⟩

/-- The MoBA gate. -/
def f13 (R : Fin 1024) (c : Fin 384) : EReal := sil (Pb x0 x1 x2 R ⟨1664 + c.val, by omega⟩)

/-- The window attention keys and values. -/
def f14 (R : Fin 1024) (c : Fin 256) : EReal := if c.val < 128 then nrm (Pb x0 x1 x2 R) (fun l => x4 (ix3 0 0 l)) ⟨2048 + c.val, by omega⟩ else Pb x0 x1 x2 R ⟨2048 + c.val, by omega⟩

/-- The MoBA keys and values. -/
def f15 (R : Fin 1024) (c : Fin 256) : EReal := if c.val < 128 then nrm (Pb x0 x1 x2 R) (fun l => x6 (ix3 0 0 l)) ⟨2304 + c.val, by omega⟩ else Pb x0 x1 x2 R ⟨2304 + c.val, by omega⟩

theorem out7_apply (R : Fin 1024) (c : Fin 256) : out0_7 x0 x1 x2 x3 x4 x5 x6 (ix3 0 R c) = f7 x0 x1 x2 R c := by
  rw [out7_eq]
  refine View.canon_apply_of_pieces (Val := Elt Ideal) (fun y => f7 x0 x1 x2 (y 1) (y 2)) _ ?_ (ix3 0 R c) (cover0_7 _ _ _ _ _)
  simp only [List.forall_mem_cons]
  refine ⟨fun z => ?_, fun z => ?_, fun z => ?_, fun z => ?_, by simp⟩
  · idx_vars z
    obtain rfl : z0 = 0 := Subsingleton.elim _ _
    refine ((putV_apply _ z1 z2).trans (tl1_128 x0 x1 x2 x3 x4 x5 x6 z1 z2)).trans ?_
    have eR : (⟨512 + 1 * z1.val, by omega⟩ : Fin 1024) = ⟨512 + z1.val, by omega⟩ := Fin.ext (by show 512 + 1 * z1.val = 512 + z1.val; omega)
    show _ = f7 x0 x1 x2 ⟨512 + 1 * z1.val, by omega⟩ ⟨128 + 1 * z2.val, by omega⟩
    rw [eR]; unfold f7
    simp only [Nat.one_mul, Nat.zero_add, ← Nat.add_assoc, Nat.reduceAdd]
  · idx_vars z
    obtain rfl : z0 = 0 := Subsingleton.elim _ _
    refine ((putV_apply _ z1 z2).trans (tl1_0 x0 x1 x2 x3 x4 x5 x6 z1 z2)).trans ?_
    have eR : (⟨512 + 1 * z1.val, by omega⟩ : Fin 1024) = ⟨512 + z1.val, by omega⟩ := Fin.ext (by show 512 + 1 * z1.val = 512 + z1.val; omega)
    show _ = f7 x0 x1 x2 ⟨512 + 1 * z1.val, by omega⟩ ⟨0 + 1 * z2.val, by omega⟩
    rw [eR]; unfold f7
    simp only [Nat.one_mul, Nat.zero_add, ← Nat.add_assoc, Nat.reduceAdd]
  · idx_vars z
    obtain rfl : z0 = 0 := Subsingleton.elim _ _
    refine ((putV_apply _ z1 z2).trans (tl0_128 x0 x1 x2 x3 x4 x5 x6 z1 z2)).trans ?_
    have eR : (⟨0 + 1 * z1.val, by omega⟩ : Fin 1024) = ⟨z1.val, by omega⟩ := Fin.ext (by show 0 + 1 * z1.val = z1.val; omega)
    show _ = f7 x0 x1 x2 ⟨0 + 1 * z1.val, by omega⟩ ⟨128 + 1 * z2.val, by omega⟩
    rw [eR]; unfold f7
    simp only [Nat.one_mul, Nat.zero_add, ← Nat.add_assoc, Nat.reduceAdd]
  · idx_vars z
    obtain rfl : z0 = 0 := Subsingleton.elim _ _
    refine ((putV_apply _ z1 z2).trans (tl0_0 x0 x1 x2 x3 x4 x5 x6 z1 z2)).trans ?_
    have eR : (⟨0 + 1 * z1.val, by omega⟩ : Fin 1024) = ⟨z1.val, by omega⟩ := Fin.ext (by show 0 + 1 * z1.val = z1.val; omega)
    show _ = f7 x0 x1 x2 ⟨0 + 1 * z1.val, by omega⟩ ⟨0 + 1 * z2.val, by omega⟩
    rw [eR]; unfold f7
    simp only [Nat.one_mul, Nat.zero_add, ← Nat.add_assoc, Nat.reduceAdd]

theorem out8_apply (R : Fin 1024) (c : Fin 256) : out0_8 x0 x1 x2 x3 x4 x5 x6 (ix3 0 R c) = f8 x0 x1 x2 R c := by
  rw [out8_eq]
  refine View.canon_apply_of_pieces (Val := Elt Ideal) (fun y => f8 x0 x1 x2 (y 1) (y 2)) _ ?_ (ix3 0 R c) (cover0_8 _ _ _ _ _)
  simp only [List.forall_mem_cons]
  refine ⟨fun z => ?_, fun z => ?_, fun z => ?_, fun z => ?_, by simp⟩
  · idx_vars z
    obtain rfl : z0 = 0 := Subsingleton.elim _ _
    refine ((putG_apply _ z1 z2).trans (congrArg sil (tl1_384 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f8 x0 x1 x2 ⟨512 + 1 * z1.val, by omega⟩ ⟨128 + 1 * z2.val, by omega⟩
    rw [eR]; unfold f8
    simp only [Nat.one_mul, Nat.zero_add, ← Nat.add_assoc, Nat.reduceAdd]
  · idx_vars z
    obtain rfl : z0 = 0 := Subsingleton.elim _ _
    refine ((putG_apply _ z1 z2).trans (congrArg sil (tl1_256 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f8 x0 x1 x2 ⟨512 + 1 * z1.val, by omega⟩ ⟨0 + 1 * z2.val, by omega⟩
    rw [eR]; unfold f8
    simp only [Nat.one_mul, Nat.zero_add, ← Nat.add_assoc, Nat.reduceAdd]
  · idx_vars z
    obtain rfl : z0 = 0 := Subsingleton.elim _ _
    refine ((putG_apply _ z1 z2).trans (congrArg sil (tl0_384 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f8 x0 x1 x2 ⟨0 + 1 * z1.val, by omega⟩ ⟨128 + 1 * z2.val, by omega⟩
    rw [eR]; unfold f8
    simp only [Nat.one_mul, Nat.zero_add, ← Nat.add_assoc, Nat.reduceAdd]
  · idx_vars z
    obtain rfl : z0 = 0 := Subsingleton.elim _ _
    refine ((putG_apply _ z1 z2).trans (congrArg sil (tl0_256 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f8 x0 x1 x2 ⟨0 + 1 * z1.val, by omega⟩ ⟨0 + 1 * z2.val, by omega⟩
    rw [eR]; unfold f8
    simp only [Nat.one_mul, Nat.zero_add, ← Nat.add_assoc, Nat.reduceAdd]

theorem out9_apply (R : Fin 1024) (c : Fin 384) : out0_9 x0 x1 x2 x3 x4 x5 x6 (ix3 0 R c) = f9 x0 x1 x2 x3 R c := by
  rw [out9_eq]
  refine View.canon_apply_of_pieces (Val := Elt Ideal) (fun y => f9 x0 x1 x2 x3 (y 1) (y 2)) _ ?_ (ix3 0 R c) (cover0_9 _ _ _ _ _ _ _)
  simp only [List.forall_mem_cons]
  refine ⟨fun z => ?_, fun z => ?_, fun z => ?_, fun z => ?_, fun z => ?_, fun z => ?_, by simp⟩
  · idx_vars z
    obtain rfl : z0 = 0 := Subsingleton.elim _ _
    refine ((putQ_apply _ _ z1 z2).trans (congrArg (· * (Named.named κ "qscale" 0x3E38AA3B#32 : Ideal .f32)) (nt1_512 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f9 x0 x1 x2 x3 ⟨512 + 1 * z1.val, by omega⟩ ⟨0 + 1 * z2.val, by omega⟩
    rw [eR]; unfold f9
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt1_640 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f9 x0 x1 x2 x3 ⟨512 + 1 * z1.val, by omega⟩ ⟨128 + 1 * z2.val, by omega⟩
    rw [eR]; unfold f9
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt1_768 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f9 x0 x1 x2 x3 ⟨512 + 1 * z1.val, by omega⟩ ⟨256 + 1 * z2.val, by omega⟩
    rw [eR]; unfold f9
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt0_512 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f9 x0 x1 x2 x3 ⟨0 + 1 * z1.val, by omega⟩ ⟨0 + 1 * z2.val, by omega⟩
    rw [eR]; unfold f9
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt0_640 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f9 x0 x1 x2 x3 ⟨0 + 1 * z1.val, by omega⟩ ⟨128 + 1 * z2.val, by omega⟩
    rw [eR]; unfold f9
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt0_768 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f9 x0 x1 x2 x3 ⟨0 + 1 * z1.val, by omega⟩ ⟨256 + 1 * z2.val, by omega⟩
    rw [eR]; unfold f9
    simp only [Nat.one_mul, Nat.zero_add, ← Nat.add_assoc, Nat.reduceAdd]

theorem out10_apply (R : Fin 1024) (c : Fin 384) : out0_10 x0 x1 x2 x3 x4 x5 x6 (ix3 0 R c) = f10 x0 x1 x2 R c := by
  rw [out10_eq]
  refine View.canon_apply_of_pieces (Val := Elt Ideal) (fun y => f10 x0 x1 x2 (y 1) (y 2)) _ ?_ (ix3 0 R c) (cover0_10 _ _ _ _ _ _ _)
  simp only [List.forall_mem_cons]
  refine ⟨fun z => ?_, fun z => ?_, fun z => ?_, fun z => ?_, fun z => ?_, fun z => ?_, by simp⟩
  · idx_vars z
    obtain rfl : z0 = 0 := Subsingleton.elim _ _
    refine ((putG_apply _ z1 z2).trans (congrArg sil (tl1_896 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f10 x0 x1 x2 ⟨512 + 1 * z1.val, by omega⟩ ⟨0 + 1 * z2.val, by omega⟩
    rw [eR]; unfold f10
    simp only [Nat.one_mul, Nat.zero_add, ← Nat.add_assoc, Nat.reduceAdd]
  · idx_vars z
    obtain rfl : z0 = 0 := Subsingleton.elim _ _
    refine ((putG_apply _ z1 z2).trans (congrArg sil (tl1_1024 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f10 x0 x1 x2 ⟨512 + 1 * z1.val, by omega⟩ ⟨128 + 1 * z2.val, by omega⟩
    rw [eR]; unfold f10
    simp only [Nat.one_mul, Nat.zero_add, ← Nat.add_assoc, Nat.reduceAdd]
  · idx_vars z
    obtain rfl : z0 = 0 := Subsingleton.elim _ _
    refine ((putG_apply _ z1 z2).trans (congrArg sil (tl1_1152 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f10 x0 x1 x2 ⟨512 + 1 * z1.val, by omega⟩ ⟨256 + 1 * z2.val, by omega⟩
    rw [eR]; unfold f10
    simp only [Nat.one_mul, Nat.zero_add, ← Nat.add_assoc, Nat.reduceAdd]
  · idx_vars z
    obtain rfl : z0 = 0 := Subsingleton.elim _ _
    refine ((putG_apply _ z1 z2).trans (congrArg sil (tl0_896 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f10 x0 x1 x2 ⟨0 + 1 * z1.val, by omega⟩ ⟨0 + 1 * z2.val, by omega⟩
    rw [eR]; unfold f10
    simp only [Nat.one_mul, Nat.zero_add, ← Nat.add_assoc, Nat.reduceAdd]
  · idx_vars z
    obtain rfl : z0 = 0 := Subsingleton.elim _ _
    refine ((putG_apply _ z1 z2).trans (congrArg sil (tl0_1024 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f10 x0 x1 x2 ⟨0 + 1 * z1.val, by omega⟩ ⟨128 + 1 * z2.val, by omega⟩
    rw [eR]; unfold f10
    simp only [Nat.one_mul, Nat.zero_add, ← Nat.add_assoc, Nat.reduceAdd]
  · idx_vars z
    obtain rfl : z0 = 0 := Subsingleton.elim _ _
    refine ((putG_apply _ z1 z2).trans (congrArg sil (tl0_1152 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f10 x0 x1 x2 ⟨0 + 1 * z1.val, by omega⟩ ⟨256 + 1 * z2.val, by omega⟩
    rw [eR]; unfold f10
    simp only [Nat.one_mul, Nat.zero_add, ← Nat.add_assoc, Nat.reduceAdd]

theorem out11_apply (R : Fin 1024) (c : Fin 384) : out0_11 x0 x1 x2 x3 x4 x5 x6 (ix3 0 R c) = f11 x0 x1 x2 x5 R c := by
  rw [out11_eq]
  refine View.canon_apply_of_pieces (Val := Elt Ideal) (fun y => f11 x0 x1 x2 x5 (y 1) (y 2)) _ ?_ (ix3 0 R c) (cover0_11 _ _ _ _ _ _ _)
  simp only [List.forall_mem_cons]
  refine ⟨fun z => ?_, fun z => ?_, fun z => ?_, fun z => ?_, fun z => ?_, fun z => ?_, by simp⟩
  · idx_vars z
    obtain rfl : z0 = 0 := Subsingleton.elim _ _
    refine ((putQ_apply _ _ z1 z2).trans (congrArg (· * (Named.named κ "qscale" 0x3E38AA3B#32 : Ideal .f32)) (nt1_1280 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f11 x0 x1 x2 x5 ⟨512 + 1 * z1.val, by omega⟩ ⟨0 + 1 * z2.val, by omega⟩
    rw [eR]; unfold f11
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt1_1408 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f11 x0 x1 x2 x5 ⟨512 + 1 * z1.val, by omega⟩ ⟨128 + 1 * z2.val, by omega⟩
    rw [eR]; unfold f11
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt1_1536 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f11 x0 x1 x2 x5 ⟨512 + 1 * z1.val, by omega⟩ ⟨256 + 1 * z2.val, by omega⟩
    rw [eR]; unfold f11
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt0_1280 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f11 x0 x1 x2 x5 ⟨0 + 1 * z1.val, by omega⟩ ⟨0 + 1 * z2.val, by omega⟩
    rw [eR]; unfold f11
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt0_1408 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f11 x0 x1 x2 x5 ⟨0 + 1 * z1.val, by omega⟩ ⟨128 + 1 * z2.val, by omega⟩
    rw [eR]; unfold f11
    simp only [Nat.one_mul, Nat.zero_add, ← Nat.add_assoc, Nat.reduceAdd]
  · idx_vars z
    obtain rfl : z0 = 0 := Subsingleton.elim _ _
    refine ((putQ_apply _ _ z1 z2).trans (congrArg (· * (Named.named κ "qscale" 0x3E38AA3B#32 : Ideal .f32)) (nt0_1536 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f11 x0 x1 x2 x5 ⟨0 + 1 * z1.val, by omega⟩ ⟨256 + 1 * z2.val, by omega⟩
    rw [eR]; unfold f11
    simp only [Nat.one_mul, Nat.zero_add, ← Nat.add_assoc, Nat.reduceAdd]

theorem out12_apply (R : Fin 1024) (c : Fin 128) : out0_12 x0 x1 x2 x3 x4 x5 x6 (ix3 0 R c) = f12 x0 x1 x2 x5 R c := by
  rw [out12_eq]
  refine View.canon_apply_of_pieces (Val := Elt Ideal) (fun y => f12 x0 x1 x2 x5 (y 1) (y 2)) _ ?_ (ix3 0 R c) (cover0_12 _ _ _)
  simp only [List.forall_mem_cons]
  refine ⟨fun z => ?_, fun z => ?_, by simp⟩
  · idx_vars z
    obtain rfl : z0 = 0 := Subsingleton.elim _ _
    refine ((putS_apply _ _ _ _ z1 z2).trans (congrArg₂ (· + ·) (congrArg₂ (· + ·) (nt1_1536 x0 x1 x2 x3 x4 x5 x6 z1 z2) (nt1_1408 x0 x1 x2 x3 x4 x5 x6 z1 z2)) (nt1_1280 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f12 x0 x1 x2 x5 ⟨512 + 1 * z1.val, by omega⟩ ⟨0 + 1 * z2.val, by omega⟩
    rw [eR]; unfold f12
    simp only [Nat.one_mul, Nat.zero_add, ← Nat.add_assoc, Nat.reduceAdd]
  · idx_vars z
    obtain rfl : z0 = 0 := Subsingleton.elim _ _
    refine ((putS_apply _ _ _ _ z1 z2).trans (congrArg₂ (· + ·) (congrArg₂ (· + ·) (nt0_1536 x0 x1 x2 x3 x4 x5 x6 z1 z2) (nt0_1408 x0 x1 x2 x3 x4 x5 x6 z1 z2)) (nt0_1280 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f12 x0 x1 x2 x5 ⟨0 + 1 * z1.val, by omega⟩ ⟨0 + 1 * z2.val, by omega⟩
    rw [eR]; unfold f12
    simp only [Nat.one_mul, Nat.zero_add, ← Nat.add_assoc, Nat.reduceAdd]

theorem out13_apply (R : Fin 1024) (c : Fin 384) : out0_13 x0 x1 x2 x3 x4 x5 x6 (ix3 0 R c) = f13 x0 x1 x2 R c := by
  rw [out13_eq]
  refine View.canon_apply_of_pieces (Val := Elt Ideal) (fun y => f13 x0 x1 x2 (y 1) (y 2)) _ ?_ (ix3 0 R c) (cover0_13 _ _ _ _ _ _ _)
  simp only [List.forall_mem_cons]
  refine ⟨fun z => ?_, fun z => ?_, fun z => ?_, fun z => ?_, fun z => ?_, fun z => ?_, by simp⟩
  · idx_vars z
    obtain rfl : z0 = 0 := Subsingleton.elim _ _
    refine ((putG_apply _ z1 z2).trans (congrArg sil (tl1_1664 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f13 x0 x1 x2 ⟨512 + 1 * z1.val, by omega⟩ ⟨0 + 1 * z2.val, by omega⟩
    rw [eR]; unfold f13
    simp only [Nat.one_mul, Nat.zero_add, ← Nat.add_assoc, Nat.reduceAdd]
  · idx_vars z
    obtain rfl : z0 = 0 := Subsingleton.elim _ _
    refine ((putG_apply _ z1 z2).trans (congrArg sil (tl1_1792 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f13 x0 x1 x2 ⟨512 + 1 * z1.val, by omega⟩ ⟨128 + 1 * z2.val, by omega⟩
    rw [eR]; unfold f13
    simp only [Nat.one_mul, Nat.zero_add, ← Nat.add_assoc, Nat.reduceAdd]
  · idx_vars z
    obtain rfl : z0 = 0 := Subsingleton.elim _ _
    refine ((putG_apply _ z1 z2).trans (congrArg sil (tl1_1920 x0 x1 x2 x3 x4 x5 x6 z1 z2))).trans ?_
    have eR : (⟨512 + 1 * z1.val, by omega⟩ : Fin 1024) = ⟨512 + z1.val, by omega⟩ := Fin.ext (by show 512 + 1 * z1.val = 512 + z1.val; omega)
    show _ = f13 x0 x1 x2 ⟨512 + 1 * z1.val, by omega⟩ ⟨256 + 1 * z2.val, by omega⟩
    rw [eR]; unfold f13
    simp only [Nat.one_mul, Nat.zero_add, ← Nat.add_assoc, Nat.reduceAdd]
  · idx_vars z
    obtain rfl : z0 = 0 := Subsingleton.elim _ _
    refine ((putG_apply _ z1 z2).trans (congrArg sil (tl0_1664 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f13 x0 x1 x2 ⟨0 + 1 * z1.val, by omega⟩ ⟨0 + 1 * z2.val, by omega⟩
    rw [eR]; unfold f13
    simp only [Nat.one_mul, Nat.zero_add, ← Nat.add_assoc, Nat.reduceAdd]
  · idx_vars z
    obtain rfl : z0 = 0 := Subsingleton.elim _ _
    refine ((putG_apply _ z1 z2).trans (congrArg sil (tl0_1792 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f13 x0 x1 x2 ⟨0 + 1 * z1.val, by omega⟩ ⟨128 + 1 * z2.val, by omega⟩
    rw [eR]; unfold f13
    simp only [Nat.one_mul, Nat.zero_add, ← Nat.add_assoc, Nat.reduceAdd]
  · idx_vars z
    obtain rfl : z0 = 0 := Subsingleton.elim _ _
    refine ((putG_apply _ z1 z2).trans (congrArg sil (tl0_1920 x0 x1 x2 x3 x4 x5 x6 z1 z2))).trans ?_
    have eR : (⟨0 + 1 * z1.val, by omega⟩ : Fin 1024) = ⟨z1.val, by omega⟩ := Fin.ext (by show 0 + 1 * z1.val = z1.val; omega)
    show _ = f13 x0 x1 x2 ⟨0 + 1 * z1.val, by omega⟩ ⟨256 + 1 * z2.val, by omega⟩
    rw [eR]; unfold f13
    simp only [Nat.one_mul, Nat.zero_add, ← Nat.add_assoc, Nat.reduceAdd]

theorem out14_apply (R : Fin 1024) (c : Fin 256) : out0_14 x0 x1 x2 x3 x4 x5 x6 (ix3 0 R c) = f14 x0 x1 x2 x4 R c := by
  rw [out14_eq]
  refine View.canon_apply_of_pieces (Val := Elt Ideal) (fun y => f14 x0 x1 x2 x4 (y 1) (y 2)) _ ?_ (ix3 0 R c) (cover0_14 _ _ _ _ _)
  simp only [List.forall_mem_cons]
  refine ⟨fun z => ?_, fun z => ?_, fun z => ?_, fun z => ?_, by simp⟩
  · idx_vars z
    obtain rfl : z0 = 0 := Subsingleton.elim _ _
    refine ((putV_apply _ z1 z2).trans (tl1_2176 x0 x1 x2 x3 x4 x5 x6 z1 z2)).trans ?_
    have eR : (⟨512 + 1 * z1.val, by omega⟩ : Fin 1024) = ⟨512 + z1.val, by omega⟩ := Fin.ext (by show 512 + 1 * z1.val = 512 + z1.val; omega)
    show _ = f14 x0 x1 x2 x4 ⟨512 + 1 * z1.val, by omega⟩ ⟨128 + 1 * z2.val, by omega⟩
    rw [eR]; unfold f14
    rw [if_neg (by show ¬ 128 + 1 * z2.val < 128; omega)]
    simp only [Nat.one_mul, Nat.zero_add, ← Nat.add_assoc, Nat.reduceAdd]
  · idx_vars z
    obtain rfl : z0 = 0 := Subsingleton.elim _ _
    refine ((putK_apply _ _ z1 z2).trans (nt1_2048 x0 x1 x2 x3 x4 x5 x6 z1 z2)).trans ?_
    have eR : (⟨512 + 1 * z1.val, by omega⟩ : Fin 1024) = ⟨512 + z1.val, by omega⟩ := Fin.ext (by show 512 + 1 * z1.val = 512 + z1.val; omega)
    show _ = f14 x0 x1 x2 x4 ⟨512 + 1 * z1.val, by omega⟩ ⟨0 + 1 * z2.val, by omega⟩
    rw [eR]; unfold f14
    rw [if_pos (by show 0 + 1 * z2.val < 128; omega)]
    simp only [Nat.one_mul, Nat.zero_add, ← Nat.add_assoc, Nat.reduceAdd]
  · idx_vars z
    obtain rfl : z0 = 0 := Subsingleton.elim _ _
    refine ((putV_apply _ z1 z2).trans (tl0_2176 x0 x1 x2 x3 x4 x5 x6 z1 z2)).trans ?_
    have eR : (⟨0 + 1 * z1.val, by omega⟩ : Fin 1024) = ⟨z1.val, by omega⟩ := Fin.ext (by show 0 + 1 * z1.val = z1.val; omega)
    show _ = f14 x0 x1 x2 x4 ⟨0 + 1 * z1.val, by omega⟩ ⟨128 + 1 * z2.val, by omega⟩
    rw [eR]; unfold f14
    rw [if_neg (by show ¬ 128 + 1 * z2.val < 128; omega)]
    simp only [Nat.one_mul, Nat.zero_add, ← Nat.add_assoc, Nat.reduceAdd]
  · idx_vars z
    obtain rfl : z0 = 0 := Subsingleton.elim _ _
    refine ((putK_apply _ _ z1 z2).trans (nt0_2048 x0 x1 x2 x3 x4 x5 x6 z1 z2)).trans ?_
    have eR : (⟨0 + 1 * z1.val, by omega⟩ : Fin 1024) = ⟨z1.val, by omega⟩ := Fin.ext (by show 0 + 1 * z1.val = z1.val; omega)
    show _ = f14 x0 x1 x2 x4 ⟨0 + 1 * z1.val, by omega⟩ ⟨0 + 1 * z2.val, by omega⟩
    rw [eR]; unfold f14
    rw [if_pos (by show 0 + 1 * z2.val < 128; omega)]
    simp only [Nat.one_mul, Nat.zero_add, ← Nat.add_assoc, Nat.reduceAdd]

theorem out15_apply (R : Fin 1024) (c : Fin 256) : out0_15 x0 x1 x2 x3 x4 x5 x6 (ix3 0 R c) = f15 x0 x1 x2 x6 R c := by
  rw [out15_eq]
  refine View.canon_apply_of_pieces (Val := Elt Ideal) (fun y => f15 x0 x1 x2 x6 (y 1) (y 2)) _ ?_ (ix3 0 R c) (cover0_15 _ _ _ _ _)
  simp only [List.forall_mem_cons]
  refine ⟨fun z => ?_, fun z => ?_, fun z => ?_, fun z => ?_, by simp⟩
  · idx_vars z
    obtain rfl : z0 = 0 := Subsingleton.elim _ _
    refine ((putV_apply _ z1 z2).trans (tl1_2432 x0 x1 x2 x3 x4 x5 x6 z1 z2)).trans ?_
    have eR : (⟨512 + 1 * z1.val, by omega⟩ : Fin 1024) = ⟨512 + z1.val, by omega⟩ := Fin.ext (by show 512 + 1 * z1.val = 512 + z1.val; omega)
    show _ = f15 x0 x1 x2 x6 ⟨512 + 1 * z1.val, by omega⟩ ⟨128 + 1 * z2.val, by omega⟩
    rw [eR]; unfold f15
    rw [if_neg (by show ¬ 128 + 1 * z2.val < 128; omega)]
    simp only [Nat.one_mul, Nat.zero_add, ← Nat.add_assoc, Nat.reduceAdd]
  · idx_vars z
    obtain rfl : z0 = 0 := Subsingleton.elim _ _
    refine ((putK_apply _ _ z1 z2).trans (nt1_2304 x0 x1 x2 x3 x4 x5 x6 z1 z2)).trans ?_
    have eR : (⟨512 + 1 * z1.val, by omega⟩ : Fin 1024) = ⟨512 + z1.val, by omega⟩ := Fin.ext (by show 512 + 1 * z1.val = 512 + z1.val; omega)
    show _ = f15 x0 x1 x2 x6 ⟨512 + 1 * z1.val, by omega⟩ ⟨0 + 1 * z2.val, by omega⟩
    rw [eR]; unfold f15
    rw [if_pos (by show 0 + 1 * z2.val < 128; omega)]
    simp only [Nat.one_mul, Nat.zero_add, ← Nat.add_assoc, Nat.reduceAdd]
  · idx_vars z
    obtain rfl : z0 = 0 := Subsingleton.elim _ _
    refine ((putV_apply _ z1 z2).trans (tl0_2432 x0 x1 x2 x3 x4 x5 x6 z1 z2)).trans ?_
    have eR : (⟨0 + 1 * z1.val, by omega⟩ : Fin 1024) = ⟨z1.val, by omega⟩ := Fin.ext (by show 0 + 1 * z1.val = z1.val; omega)
    show _ = f15 x0 x1 x2 x6 ⟨0 + 1 * z1.val, by omega⟩ ⟨128 + 1 * z2.val, by omega⟩
    rw [eR]; unfold f15
    rw [if_neg (by show ¬ 128 + 1 * z2.val < 128; omega)]
    simp only [Nat.one_mul, Nat.zero_add, ← Nat.add_assoc, Nat.reduceAdd]
  · idx_vars z
    obtain rfl : z0 = 0 := Subsingleton.elim _ _
    refine ((putK_apply _ _ z1 z2).trans (nt0_2304 x0 x1 x2 x3 x4 x5 x6 z1 z2)).trans ?_
    have eR : (⟨0 + 1 * z1.val, by omega⟩ : Fin 1024) = ⟨z1.val, by omega⟩ := Fin.ext (by show 0 + 1 * z1.val = z1.val; omega)
    show _ = f15 x0 x1 x2 x6 ⟨0 + 1 * z1.val, by omega⟩ ⟨0 + 1 * z2.val, by omega⟩
    rw [eR]; unfold f15
    rw [if_pos (by show 0 + 1 * z2.val < 128; omega)]
    simp only [Nat.one_mul, Nat.zero_add, ← Nat.add_assoc, Nat.reduceAdd]

end

end Cert.Kernel2Ideal.Val
-- ==== Proof.EdgeHost.lean ====
module

public import proofs.«01_k».proof.Proof.EdgeBlock
public import Idealize.ShloMosaic.Lib.StableHlo.ReadAt
public import Idealize.ShloMosaic.Lib.Pipeline.ValueKit

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.Sem
open scoped BigOperators

variable (m : (ℓ : Loc nD τ sig) → Buf (Elt Ideal) ℓ) (c : Dev nD)

/-- The residual stream as launched. -/
abbrev argX : S16x2048x1024.Idx → EReal := m ((c : Thread nD τ).loc main_arg0)
/-- The gains of the norm as launched. -/
abbrev argN : S2x1024.Idx → EReal := m ((c : Thread nD τ).loc main_arg1)
/-- The weights as launched. -/
abbrev argW : S2x1024x2560.Idx → EReal := m ((c : Thread nD τ).loc main_arg2)
/-- The gains of the window attention queries as launched. -/
abbrev argA : S2x64.Idx → EReal := m ((c : Thread nD τ).loc main_arg3)
/-- The gains of the window attention keys as launched. -/
abbrev argB : S2x64.Idx → EReal := m ((c : Thread nD τ).loc main_arg4)
/-- The gains of the MoBA queries as launched. -/
abbrev argC : S2x64.Idx → EReal := m ((c : Thread nD τ).loc main_arg5)
/-- The gains of the MoBA keys as launched. -/
abbrev argD : S2x64.Idx → EReal := m ((c : Thread nD τ).loc main_arg6)

/-- The column, before the heads are laid out by tile, of a column of three tiles. -/
def untile (n : ℕ) : ℕ := n / 64 % 2 * 192 + n / 128 * 64 + n % 64

theorem untile_lt (n : ℕ) (h : n < 384) : untile n < 384 := by unfold untile; omega

/-! ## The prepared arrays -/

theorem V_n (k : Fin 1024) : (V m c main_v0 : S2x1x1024.Idx → EReal) (ix3 0 0 k) = argN m c (ix2 0 k) := by
  unfold V
  after_reads_at

theorem V_a (l : Fin 128) : (V m c main_v26 : S2x1x128.Idx → EReal) (ix3 0 0 l) = argA m c (ix2 0 ⟨l.val % 64, by omega⟩) := by
  unfold V
  after_reads_at
  by_cases h : l.val < 64
  · rw [dif_pos (by omega)]
    after_reads_at
    refine congrArg (argA m c) (congrArg _ (Fin.ext ?_))
    show l.val = l.val % 64
    omega
  · rw [dif_neg (by omega)]
    after_reads_at
    refine congrArg (argA m c) (congrArg _ (Fin.ext ?_))
    show l.val - 64 = l.val % 64
    omega

theorem V_b (l : Fin 128) : (V m c main_v28 : S2x1x128.Idx → EReal) (ix3 0 0 l) = argB m c (ix2 0 ⟨l.val % 64, by omega⟩) := by
  unfold V
  after_reads_at
  by_cases h : l.val < 64
  · rw [dif_pos (by omega)]
    after_reads_at
    refine congrArg (argB m c) (congrArg _ (Fin.ext ?_))
    show l.val = l.val % 64
    omega
  · rw [dif_neg (by omega)]
    after_reads_at
    refine congrArg (argB m c) (congrArg _ (Fin.ext ?_))
    show l.val - 64 = l.val % 64
    omega

theorem V_c (l : Fin 128) : (V m c main_v30 : S2x1x128.Idx → EReal) (ix3 0 0 l) = argC m c (ix2 0 ⟨l.val % 64, by omega⟩) := by
  unfold V
  after_reads_at
  by_cases h : l.val < 64
  · rw [dif_pos (by omega)]
    after_reads_at
    refine congrArg (argC m c) (congrArg _ (Fin.ext ?_))
    show l.val = l.val % 64
    omega
  · rw [dif_neg (by omega)]
    after_reads_at
    refine congrArg (argC m c) (congrArg _ (Fin.ext ?_))
    show l.val - 64 = l.val % 64
    omega

theorem V_d (l : Fin 128) : (V m c main_v32 : S2x1x128.Idx → EReal) (ix3 0 0 l) = argD m c (ix2 0 ⟨l.val % 64, by omega⟩) := by
  unfold V
  after_reads_at
  by_cases h : l.val < 64
  · rw [dif_pos (by omega)]
    after_reads_at
    refine congrArg (argD m c) (congrArg _ (Fin.ext ?_))
    show l.val = l.val % 64
    omega
  · rw [dif_neg (by omega)]
    after_reads_at
    refine congrArg (argD m c) (congrArg _ (Fin.ext ?_))
    show l.val - 64 = l.val % 64
    omega

theorem W_u (k : Fin 1024) (j : Fin 256) : (V m c main_v24 : S2x1024x2560.Idx → EReal) (ix3 0 k ⟨0 + j.val, by omega⟩) = argW m c (ix3 0 k ⟨0 + j.val, by omega⟩) := by
  unfold V
  after_reads_at
  after_reads_at

theorem W_sg (k : Fin 1024) (j : Fin 256) : (V m c main_v24 : S2x1024x2560.Idx → EReal) (ix3 0 k ⟨256 + j.val, by omega⟩) = argW m c (ix3 0 k ⟨256 + j.val, by omega⟩) := by
  unfold V
  after_reads_at
  after_reads_at

theorem W_aq (k : Fin 1024) (j : Fin 384) : (V m c main_v24 : S2x1024x2560.Idx → EReal) (ix3 0 k ⟨512 + j.val, by omega⟩) = argW m c (ix3 0 k ⟨512 + untile j.val, by have := untile_lt j.val j.isLt; omega⟩) := by
  unfold V
  after_reads_at
  rw [dif_neg (by omega), dif_neg (by omega), dif_pos (by omega)]
  after_reads_at
  refine congrArg (argW m c) (congrArg _ (Fin.ext ?_))
  unfold untile
  dsimp only
  omega

theorem W_ag (k : Fin 1024) (j : Fin 384) : (V m c main_v24 : S2x1024x2560.Idx → EReal) (ix3 0 k ⟨896 + j.val, by omega⟩) = argW m c (ix3 0 k ⟨1152 + untile j.val, by have := untile_lt j.val j.isLt; omega⟩) := by
  unfold V
  after_reads_at
  rw [dif_neg (by omega), dif_neg (by omega), dif_neg (by omega), dif_pos (by omega)]
  after_reads_at
  refine congrArg (argW m c) (congrArg _ (Fin.ext ?_))
  unfold untile
  dsimp only
  omega

theorem W_mq (k : Fin 1024) (j : Fin 384) : (V m c main_v24 : S2x1024x2560.Idx → EReal) (ix3 0 k ⟨1280 + j.val, by omega⟩) = argW m c (ix3 0 k ⟨1536 + untile j.val, by have := untile_lt j.val j.isLt; omega⟩) := by
  unfold V
  after_reads_at
  rw [dif_neg (by omega), dif_neg (by omega), dif_neg (by omega), dif_neg (by omega), dif_pos (by omega)]
  after_reads_at
  refine congrArg (argW m c) (congrArg _ (Fin.ext ?_))
  unfold untile
  dsimp only
  omega

theorem W_mg (k : Fin 1024) (j : Fin 384) : (V m c main_v24 : S2x1024x2560.Idx → EReal) (ix3 0 k ⟨1664 + j.val, by omega⟩) = argW m c (ix3 0 k ⟨2176 + untile j.val, by have := untile_lt j.val j.isLt; omega⟩) := by
  unfold V
  after_reads_at
  rw [dif_neg (by omega), dif_neg (by omega), dif_neg (by omega), dif_neg (by omega), dif_neg (by omega), dif_pos (by omega)]
  after_reads_at
  refine congrArg (argW m c) (congrArg _ (Fin.ext ?_))
  unfold untile
  dsimp only
  omega

theorem W_ak (k : Fin 1024) (j : Fin 128) : (V m c main_v24 : S2x1024x2560.Idx → EReal) (ix3 0 k ⟨2048 + j.val, by omega⟩) = argW m c (ix3 0 k ⟨896 + j.val, by omega⟩) := by
  unfold V
  after_reads_at
  rw [dif_neg (by omega), dif_neg (by omega), dif_neg (by omega), dif_neg (by omega), dif_neg (by omega), dif_neg (by omega), dif_pos (by omega)]
  after_reads_at
  refine congrArg (argW m c) (congrArg _ (Fin.ext ?_))
  dsimp only
  omega

theorem W_av (k : Fin 1024) (j : Fin 128) : (V m c main_v24 : S2x1024x2560.Idx → EReal) (ix3 0 k ⟨2176 + j.val, by omega⟩) = argW m c (ix3 0 k ⟨1024 + j.val, by omega⟩) := by
  unfold V
  after_reads_at
  rw [dif_neg (by omega), dif_neg (by omega), dif_neg (by omega), dif_neg (by omega), dif_neg (by omega), dif_neg (by omega), dif_neg (by omega), dif_pos (by omega)]
  after_reads_at
  refine congrArg (argW m c) (congrArg _ (Fin.ext ?_))
  dsimp only
  omega

theorem W_mk (k : Fin 1024) (j : Fin 128) : (V m c main_v24 : S2x1024x2560.Idx → EReal) (ix3 0 k ⟨2304 + j.val, by omega⟩) = argW m c (ix3 0 k ⟨1920 + j.val, by omega⟩) := by
  unfold V
  after_reads_at
  rw [dif_neg (by omega), dif_neg (by omega), dif_neg (by omega), dif_neg (by omega), dif_neg (by omega), dif_neg (by omega), dif_neg (by omega), dif_neg (by omega), dif_pos (by omega)]
  after_reads_at
  refine congrArg (argW m c) (congrArg _ (Fin.ext ?_))
  dsimp only
  omega

theorem W_mv (k : Fin 1024) (j : Fin 128) : (V m c main_v24 : S2x1024x2560.Idx → EReal) (ix3 0 k ⟨2432 + j.val, by omega⟩) = argW m c (ix3 0 k ⟨2048 + j.val, by omega⟩) := by
  unfold V
  after_reads_at
  rw [dif_neg (by omega), dif_neg (by omega), dif_neg (by omega), dif_neg (by omega), dif_neg (by omega), dif_neg (by omega), dif_neg (by omega), dif_neg (by omega), dif_neg (by omega)]
  after_reads_at
  refine congrArg (argW m c) (congrArg _ (Fin.ext ?_))
  dsimp only
  omega

/-! ## The blocks -/

/-- The batch row of a grid point. -/
def batch (t : Fin cfg0.N) : Fin 16 := ⟨t.val / 2, by have h : t.val < 32 := t.isLt; omega⟩

/-- The row of the sequence of row `R` of a block. -/
def row (t : Fin cfg0.N) (R : Fin 1024) : Fin 2048 := ⟨t.val % 2 * 1024 + R.val, by omega⟩

theorem idx0 : ∀ t : Fin cfg0.N, win0_0.index t = ![t.val / 2, t.val % 2, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![t.val / 2, t.val % 2, 0] := by decide +kernel
theorem idx8 : ∀ t : Fin cfg0.N, win0_8.index t = ![t.val / 2, t.val % 2, 0] := by decide +kernel
theorem idx9 : ∀ t : Fin cfg0.N, win0_9.index t = ![t.val / 2, t.val % 2, 0] := by decide +kernel
theorem idx10 : ∀ t : Fin cfg0.N, win0_10.index t = ![t.val / 2, t.val % 2, 0] := by decide +kernel
theorem idx11 : ∀ t : Fin cfg0.N, win0_11.index t = ![t.val / 2, t.val % 2, 0] := by decide +kernel
theorem idx12 : ∀ t : Fin cfg0.N, win0_12.index t = ![t.val / 2, t.val % 2, 0] := by decide +kernel
theorem idx13 : ∀ t : Fin cfg0.N, win0_13.index t = ![t.val / 2, t.val % 2, 0] := by decide +kernel
theorem idx14 : ∀ t : Fin cfg0.N, win0_14.index t = ![t.val / 2, t.val % 2, 0] := by decide +kernel
theorem idx15 : ∀ t : Fin cfg0.N, win0_15.index t = ![t.val / 2, t.val % 2, 0] := by decide +kernel

theorem blk_x (t : Fin cfg0.N) (R k : Fin 1024) :
    (iblk m c 0 t : S1x1024x1024.Idx → EReal) (ix3 0 R k) = argX m c (ix3 (batch t) (row t R) k) := by
  blk_simp [iblk]
  refine (congrFun (V_main_arg0 m c) _).trans (congrArg (argX m c) ?_)
  blk_ext [idx0 t, batch, row]

theorem blk_n (t : Fin cfg0.N) (k : Fin 1024) :
    (iblk m c 1 t : S1x1x1024.Idx → EReal) (ix3 0 0 k) = argN m c (ix2 0 k) := by
  refine Eq.trans ?_ (V_n m c k)
  blk_simp [iblk]
  refine congrArg (V m c main_v0) ?_
  blk_ext [idx1 t]

theorem blk_w (t : Fin cfg0.N) (k : Fin 1024) (j : Fin 2560) :
    (iblk m c 2 t : S1x1024x2560.Idx → EReal) (ix3 0 k j) = (V m c main_v24 : S2x1024x2560.Idx → EReal) (ix3 0 k j) := by
  blk_simp [iblk]
  refine congrArg (V m c main_v24) ?_
  blk_ext [idx2 t]

theorem blk_a (t : Fin cfg0.N) (l : Fin 128) :
    (iblk m c 3 t : S1x1x128.Idx → EReal) (ix3 0 0 l) = argA m c (ix2 0 ⟨l.val % 64, by omega⟩) := by
  refine Eq.trans ?_ (V_a m c l)
  blk_simp [iblk]
  refine congrArg (V m c main_v26) ?_
  blk_ext [idx3 t]

theorem blk_b (t : Fin cfg0.N) (l : Fin 128) :
    (iblk m c 4 t : S1x1x128.Idx → EReal) (ix3 0 0 l) = argB m c (ix2 0 ⟨l.val % 64, by omega⟩) := by
  refine Eq.trans ?_ (V_b m c l)
  blk_simp [iblk]
  refine congrArg (V m c main_v28) ?_
  blk_ext [idx4 t]

theorem blk_c (t : Fin cfg0.N) (l : Fin 128) :
    (iblk m c 5 t : S1x1x128.Idx → EReal) (ix3 0 0 l) = argC m c (ix2 0 ⟨l.val % 64, by omega⟩) := by
  refine Eq.trans ?_ (V_c m c l)
  blk_simp [iblk]
  refine congrArg (V m c main_v30) ?_
  blk_ext [idx5 t]

theorem blk_d (t : Fin cfg0.N) (l : Fin 128) :
    (iblk m c 6 t : S1x1x128.Idx → EReal) (ix3 0 0 l) = argD m c (ix2 0 ⟨l.val % 64, by omega⟩) := by
  refine Eq.trans ?_ (V_d m c l)
  blk_simp [iblk]
  refine congrArg (V m c main_v32) ?_
  blk_ext [idx6 t]

/-- Row `s` of batch `b`, normalised and projected, in the kernel's order of columns. -/
def PK (b : Fin 16) (s : Fin 2048) : Fin 2560 → EReal :=
  prj (inH (fun j => argX m c (ix3 b s j)) (fun j => argN m c (ix2 0 j))) (fun k j => (V m c main_v24 : S2x1024x2560.Idx → EReal) (ix3 0 k j))

theorem Pb_eq (t : Fin cfg0.N) (R : Fin 1024) : Pb (iblk m c 0 t) (iblk m c 1 t) (iblk m c 2 t) R = PK m c (batch t) (row t R) := by
  unfold Pb PK
  rw [funext fun j => blk_x m c t R j, funext fun j => blk_n m c t j, funext fun k => funext fun j => blk_w m c t k j]

/-- The gain of a pair of heads. -/
def pair (g : S2x64.Idx → EReal) (l : Fin 128) : EReal := g (ix2 0 ⟨l.val % 64, by omega⟩)

/-! ## The arrays after the run -/

def arr7 (b : Fin 16) (s : Fin 2048) (l : Fin 256) : EReal := PK m c b s ⟨l.val, by omega⟩

theorem arr7_eq : (dats m 0 c).arrAt 7 cfg0.N = fun i : S16x2048x256.Idx => arr7 m c (i 0) (i 1) (i 2) := by
  refine (dats m 0 c).arrAt_eq_of_covers 7 _ (by decide +kernel) fun t hf y => ?_
  blk_simp
  rw [after0_7]
  have e : ((win0_7.blk t).view.emb y : S16x2048x256.Idx) = ix3 (batch t) (row t (y 1)) (y 2) := by
    have y0 : (y 0).val = 0 := by have : (y 0).val < 1 := (y 0).isLt; omega
    blk_ext [idx7 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_7 (iblk m c 0 t) (iblk m c 1 t) (iblk m c 2 t) (iblk m c 3 t) (iblk m c 4 t) (iblk m c 5 t) (iblk m c 6 t)) e').trans ?_
  refine (out7_apply (iblk m c 0 t) (iblk m c 1 t) (iblk m c 2 t) (iblk m c 3 t) (iblk m c 4 t) (iblk m c 5 t) (iblk m c 6 t) (y 1) (y 2)).trans ?_
  show f7 (iblk m c 0 t) (iblk m c 1 t) (iblk m c 2 t) (y 1) (y 2) = arr7 m c (batch t) (row t (y 1)) (y 2)
  generalize (y 2 : Fin 256) = l
  generalize (y 1 : Fin 1024) = R
  unfold f7 arr7
  rw [Pb_eq m c t R]

def arr8 (b : Fin 16) (s : Fin 2048) (l : Fin 256) : EReal := sil (PK m c b s ⟨256 + l.val, by omega⟩)

theorem arr8_eq : (dats m 0 c).arrAt 8 cfg0.N = fun i : S16x2048x256.Idx => arr8 m c (i 0) (i 1) (i 2) := by
  refine (dats m 0 c).arrAt_eq_of_covers 8 _ (by decide +kernel) fun t hf y => ?_
  blk_simp
  rw [after0_8]
  have e : ((win0_8.blk t).view.emb y : S16x2048x256.Idx) = ix3 (batch t) (row t (y 1)) (y 2) := by
    have y0 : (y 0).val = 0 := by have : (y 0).val < 1 := (y 0).isLt; omega
    blk_ext [idx8 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_8 (iblk m c 0 t) (iblk m c 1 t) (iblk m c 2 t) (iblk m c 3 t) (iblk m c 4 t) (iblk m c 5 t) (iblk m c 6 t)) e').trans ?_
  refine (out8_apply (iblk m c 0 t) (iblk m c 1 t) (iblk m c 2 t) (iblk m c 3 t) (iblk m c 4 t) (iblk m c 5 t) (iblk m c 6 t) (y 1) (y 2)).trans ?_
  show f8 (iblk m c 0 t) (iblk m c 1 t) (iblk m c 2 t) (y 1) (y 2) = arr8 m c (batch t) (row t (y 1)) (y 2)
  generalize (y 2 : Fin 256) = l
  generalize (y 1 : Fin 1024) = R
  unfold f8 arr8
  rw [Pb_eq m c t R]

def arr9 (b : Fin 16) (s : Fin 2048) (l : Fin 384) : EReal := nrm (PK m c b s) (pair (argA m c)) ⟨512 + l.val, by omega⟩ * (Named.named κ "qscale" 0x3E38AA3B#32 : Ideal .f32)

theorem arr9_eq : (dats m 0 c).arrAt 9 cfg0.N = fun i : S16x2048x384.Idx => arr9 m c (i 0) (i 1) (i 2) := by
  refine (dats m 0 c).arrAt_eq_of_covers 9 _ (by decide +kernel) fun t hf y => ?_
  blk_simp
  rw [after0_9]
  have e : ((win0_9.blk t).view.emb y : S16x2048x384.Idx) = ix3 (batch t) (row t (y 1)) (y 2) := by
    have y0 : (y 0).val = 0 := by have : (y 0).val < 1 := (y 0).isLt; omega
    blk_ext [idx9 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_9 (iblk m c 0 t) (iblk m c 1 t) (iblk m c 2 t) (iblk m c 3 t) (iblk m c 4 t) (iblk m c 5 t) (iblk m c 6 t)) e').trans ?_
  refine (out9_apply (iblk m c 0 t) (iblk m c 1 t) (iblk m c 2 t) (iblk m c 3 t) (iblk m c 4 t) (iblk m c 5 t) (iblk m c 6 t) (y 1) (y 2)).trans ?_
  show f9 (iblk m c 0 t) (iblk m c 1 t) (iblk m c 2 t) (iblk m c 3 t) (y 1) (y 2) = arr9 m c (batch t) (row t (y 1)) (y 2)
  generalize (y 2 : Fin 384) = l
  generalize (y 1 : Fin 1024) = R
  unfold f9 arr9
  rw [Pb_eq m c t R, funext fun l => blk_a m c t l]
  rfl

def arr10 (b : Fin 16) (s : Fin 2048) (l : Fin 384) : EReal := sil (PK m c b s ⟨896 + l.val, by omega⟩)

theorem arr10_eq : (dats m 0 c).arrAt 10 cfg0.N = fun i : S16x2048x384.Idx => arr10 m c (i 0) (i 1) (i 2) := by
  refine (dats m 0 c).arrAt_eq_of_covers 10 _ (by decide +kernel) fun t hf y => ?_
  blk_simp
  rw [after0_10]
  have e : ((win0_10.blk t).view.emb y : S16x2048x384.Idx) = ix3 (batch t) (row t (y 1)) (y 2) := by
    have y0 : (y 0).val = 0 := by have : (y 0).val < 1 := (y 0).isLt; omega
    blk_ext [idx10 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_10 (iblk m c 0 t) (iblk m c 1 t) (iblk m c 2 t) (iblk m c 3 t) (iblk m c 4 t) (iblk m c 5 t) (iblk m c 6 t)) e').trans ?_
  refine (out10_apply (iblk m c 0 t) (iblk m c 1 t) (iblk m c 2 t) (iblk m c 3 t) (iblk m c 4 t) (iblk m c 5 t) (iblk m c 6 t) (y 1) (y 2)).trans ?_
  show f10 (iblk m c 0 t) (iblk m c 1 t) (iblk m c 2 t) (y 1) (y 2) = arr10 m c (batch t) (row t (y 1)) (y 2)
  generalize (y 2 : Fin 384) = l
  generalize (y 1 : Fin 1024) = R
  unfold f10 arr10
  rw [Pb_eq m c t R]

def arr11 (b : Fin 16) (s : Fin 2048) (l : Fin 384) : EReal := nrm (PK m c b s) (pair (argC m c)) ⟨1280 + l.val, by omega⟩ * (Named.named κ "qscale" 0x3E38AA3B#32 : Ideal .f32)

theorem arr11_eq : (dats m 0 c).arrAt 11 cfg0.N = fun i : S16x2048x384.Idx => arr11 m c (i 0) (i 1) (i 2) := by
  refine (dats m 0 c).arrAt_eq_of_covers 11 _ (by decide +kernel) fun t hf y => ?_
  blk_simp
  rw [after0_11]
  have e : ((win0_11.blk t).view.emb y : S16x2048x384.Idx) = ix3 (batch t) (row t (y 1)) (y 2) := by
    have y0 : (y 0).val = 0 := by have : (y 0).val < 1 := (y 0).isLt; omega
    blk_ext [idx11 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_11 (iblk m c 0 t) (iblk m c 1 t) (iblk m c 2 t) (iblk m c 3 t) (iblk m c 4 t) (iblk m c 5 t) (iblk m c 6 t)) e').trans ?_
  refine (out11_apply (iblk m c 0 t) (iblk m c 1 t) (iblk m c 2 t) (iblk m c 3 t) (iblk m c 4 t) (iblk m c 5 t) (iblk m c 6 t) (y 1) (y 2)).trans ?_
  show f11 (iblk m c 0 t) (iblk m c 1 t) (iblk m c 2 t) (iblk m c 5 t) (y 1) (y 2) = arr11 m c (batch t) (row t (y 1)) (y 2)
  generalize (y 2 : Fin 384) = l
  generalize (y 1 : Fin 1024) = R
  unfold f11 arr11
  rw [Pb_eq m c t R, funext fun l => blk_c m c t l]
  rfl

def arr12 (b : Fin 16) (s : Fin 2048) (l : Fin 128) : EReal := nrm (PK m c b s) (pair (argC m c)) ⟨1536 + l.val, by omega⟩ + nrm (PK m c b s) (pair (argC m c)) ⟨1408 + l.val, by omega⟩ + nrm (PK m c b s) (pair (argC m c)) ⟨1280 + l.val, by omega⟩

theorem arr12_eq : (dats m 0 c).arrAt 12 cfg0.N = fun i : S16x2048x128.Idx => arr12 m c (i 0) (i 1) (i 2) := by
  refine (dats m 0 c).arrAt_eq_of_covers 12 _ (by decide +kernel) fun t hf y => ?_
  blk_simp
  rw [after0_12]
  have e : ((win0_12.blk t).view.emb y : S16x2048x128.Idx) = ix3 (batch t) (row t (y 1)) (y 2) := by
    have y0 : (y 0).val = 0 := by have : (y 0).val < 1 := (y 0).isLt; omega
    blk_ext [idx12 t, batch, row]
  have e' : y = (ix3 0 (y 1) (y 2) : S1x1024x128.Idx) := by
    funext a
    match a with
    | ⟨0, _⟩ => exact Subsingleton.elim (α := Fin 1) _ _
    | ⟨1, _⟩ => rfl
    | ⟨2, _⟩ => rfl
  rw [e]
  refine (congrArg (out0_12 (iblk m c 0 t) (iblk m c 1 t) (iblk m c 2 t) (iblk m c 3 t) (iblk m c 4 t) (iblk m c 5 t) (iblk m c 6 t)) e').trans ?_
  refine (out12_apply (iblk m c 0 t) (iblk m c 1 t) (iblk m c 2 t) (iblk m c 3 t) (iblk m c 4 t) (iblk m c 5 t) (iblk m c 6 t) (y 1) (y 2)).trans ?_
  show f12 (iblk m c 0 t) (iblk m c 1 t) (iblk m c 2 t) (iblk m c 5 t) (y 1) (y 2) = arr12 m c (batch t) (row t (y 1)) (y 2)
  generalize (y 2 : Fin 128) = l
  generalize (y 1 : Fin 1024) = R
  unfold f12 arr12
  rw [Pb_eq m c t R, funext fun l => blk_c m c t l]
  rfl

def arr13 (b : Fin 16) (s : Fin 2048) (l : Fin 384) : EReal := sil (PK m c b s ⟨1664 + l.val, by omega⟩)

theorem arr13_eq : (dats m 0 c).arrAt 13 cfg0.N = fun i : S16x2048x384.Idx => arr13 m c (i 0) (i 1) (i 2) := by
  refine (dats m 0 c).arrAt_eq_of_covers 13 _ (by decide +kernel) fun t hf y => ?_
  blk_simp
  rw [after0_13]
  have e : ((win0_13.blk t).view.emb y : S16x2048x384.Idx) = ix3 (batch t) (row t (y 1)) (y 2) := by
    have y0 : (y 0).val = 0 := by have : (y 0).val < 1 := (y 0).isLt; omega
    blk_ext [idx13 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_13 (iblk m c 0 t) (iblk m c 1 t) (iblk m c 2 t) (iblk m c 3 t) (iblk m c 4 t) (iblk m c 5 t) (iblk m c 6 t)) e').trans ?_
  refine (out13_apply (iblk m c 0 t) (iblk m c 1 t) (iblk m c 2 t) (iblk m c 3 t) (iblk m c 4 t) (iblk m c 5 t) (iblk m c 6 t) (y 1) (y 2)).trans ?_
  show f13 (iblk m c 0 t) (iblk m c 1 t) (iblk m c 2 t) (y 1) (y 2) = arr13 m c (batch t) (row t (y 1)) (y 2)
  generalize (y 2 : Fin 384) = l
  generalize (y 1 : Fin 1024) = R
  unfold f13 arr13
  rw [Pb_eq m c t R]

def arr14 (b : Fin 16) (s : Fin 2048) (l : Fin 256) : EReal := if l.val < 128 then nrm (PK m c b s) (pair (argB m c)) ⟨2048 + l.val, by omega⟩ else PK m c b s ⟨2048 + l.val, by omega⟩

theorem arr14_eq : (dats m 0 c).arrAt 14 cfg0.N = fun i : S16x2048x256.Idx => arr14 m c (i 0) (i 1) (i 2) := by
  refine (dats m 0 c).arrAt_eq_of_covers 14 _ (by decide +kernel) fun t hf y => ?_
  blk_simp
  rw [after0_14]
  have e : ((win0_14.blk t).view.emb y : S16x2048x256.Idx) = ix3 (batch t) (row t (y 1)) (y 2) := by
    have y0 : (y 0).val = 0 := by have : (y 0).val < 1 := (y 0).isLt; omega
    blk_ext [idx14 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_14 (iblk m c 0 t) (iblk m c 1 t) (iblk m c 2 t) (iblk m c 3 t) (iblk m c 4 t) (iblk m c 5 t) (iblk m c 6 t)) e').trans ?_
  refine (out14_apply (iblk m c 0 t) (iblk m c 1 t) (iblk m c 2 t) (iblk m c 3 t) (iblk m c 4 t) (iblk m c 5 t) (iblk m c 6 t) (y 1) (y 2)).trans ?_
  show f14 (iblk m c 0 t) (iblk m c 1 t) (iblk m c 2 t) (iblk m c 4 t) (y 1) (y 2) = arr14 m c (batch t) (row t (y 1)) (y 2)
  generalize (y 2 : Fin 256) = l
  generalize (y 1 : Fin 1024) = R
  unfold f14 arr14
  rw [Pb_eq m c t R, funext fun l => blk_b m c t l]
  rfl

def arr15 (b : Fin 16) (s : Fin 2048) (l : Fin 256) : EReal := if l.val < 128 then nrm (PK m c b s) (pair (argD m c)) ⟨2304 + l.val, by omega⟩ else PK m c b s ⟨2304 + l.val, by omega⟩

theorem arr15_eq : (dats m 0 c).arrAt 15 cfg0.N = fun i : S16x2048x256.Idx => arr15 m c (i 0) (i 1) (i 2) := by
  refine (dats m 0 c).arrAt_eq_of_covers 15 _ (by decide +kernel) fun t hf y => ?_
  blk_simp
  rw [after0_15]
  have e : ((win0_15.blk t).view.emb y : S16x2048x256.Idx) = ix3 (batch t) (row t (y 1)) (y 2) := by
    have y0 : (y 0).val = 0 := by have : (y 0).val < 1 := (y 0).isLt; omega
    blk_ext [idx15 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_15 (iblk m c 0 t) (iblk m c 1 t) (iblk m c 2 t) (iblk m c 3 t) (iblk m c 4 t) (iblk m c 5 t) (iblk m c 6 t)) e').trans ?_
  refine (out15_apply (iblk m c 0 t) (iblk m c 1 t) (iblk m c 2 t) (iblk m c 3 t) (iblk m c 4 t) (iblk m c 5 t) (iblk m c 6 t) (y 1) (y 2)).trans ?_
  show f15 (iblk m c 0 t) (iblk m c 1 t) (iblk m c 2 t) (iblk m c 6 t) (y 1) (y 2) = arr15 m c (batch t) (row t (y 1)) (y 2)
  generalize (y 2 : Fin 256) = l
  generalize (y 1 : Fin 1024) = R
  unfold f15 arr15
  rw [Pb_eq m c t R, funext fun l => blk_d m c t l]
  rfl

end Cert.Kernel2Ideal.Val
-- ==== Proof.EdgeTail.lean ====
module

public import proofs.«01_k».proof.Proof.EdgeHost

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.Sem
open scoped BigOperators

variable (m : (ℓ : Loc nD τ sig) → Buf (Elt Ideal) ℓ) (c : Dev nD)

/-- The column, heads laid out by tile, of dimension `d` of query head `h`. -/
def qcol (h : Fin 6) (d : Fin 64) : Fin 384 := ⟨h.val % 3 * 128 + h.val / 3 * 64 + d.val, by omega⟩

/-- The column, heads laid out by tile, of a column in the order of the heads. -/
def gcol (l : Fin 384) : Fin 384 := ⟨l.val / 64 % 3 * 128 + l.val / 192 * 64 + l.val % 64, by omega⟩

/-- The column of dimension `d` of key head `h`. -/
def kcol (h : Fin 2) (d : Fin 64) : Fin 256 := ⟨h.val * 64 + d.val, by omega⟩

/-- The column of dimension `d` of value head `h`. -/
def vcol (h : Fin 2) (d : Fin 64) : Fin 256 := ⟨128 + (h.val * 64 + d.val), by omega⟩

/-- The factor that undoes the scale of the queries. -/
def unscale : EReal := Ideal.div (Ideal.log (Ideal.ofBits FTy.f32 0x40000000#32)) (Ideal.ofBits FTy.f32 0x3E000000#32)

theorem tail_v36 (b : Fin 16) (s : Fin 2048) (l : Fin 256) : (Pipeline.afterTail₀ cfgs (dats m) 0 (V0 m) [hostOps1] c main_v36 : S16x2048x256.Idx → EReal) (ix3 b s l) = arr7 m c b s l := by
  unfold Pipeline.afterTail₀
  after_reads_at
  refine (congrFun (Pipeline.withArrays_arr (cfgs 0).spec launch0.win.arr_inj c (V0 m c) _ 7) _).trans ?_
  refine (congrFun (arr7_eq m c) _).trans ?_
  rfl

theorem tail_v37 (b : Fin 16) (s : Fin 2048) (l : Fin 256) : (Pipeline.afterTail₀ cfgs (dats m) 0 (V0 m) [hostOps1] c main_v37 : S16x2048x256.Idx → EReal) (ix3 b s l) = arr8 m c b s l := by
  unfold Pipeline.afterTail₀
  after_reads_at
  refine (congrFun (Pipeline.withArrays_arr (cfgs 0).spec launch0.win.arr_inj c (V0 m c) _ 8) _).trans ?_
  refine (congrFun (arr8_eq m c) _).trans ?_
  rfl

theorem tail_v44 (b : Fin 16) (s : Fin 2048) (h : Fin 6) (d : Fin 64) : (Pipeline.afterTail₀ cfgs (dats m) 0 (V0 m) [hostOps1] c main_v44 : S16x2048x6x64.Idx → EReal) (ix4 b s h d) = arr9 m c b s (qcol h d) * unscale := by
  unfold Pipeline.afterTail₀
  after_reads_at
  refine congrArg₂ (· * ·) ?_ rfl
  refine (congrFun (Pipeline.withArrays_arr (cfgs 0).spec launch0.win.arr_inj c (V0 m c) _ 9) _).trans ?_
  refine (congrFun (arr9_eq m c) _).trans ?_
  exact congrArg (arr9 m c b s) (Fin.ext (by show (h.val * 64 + d.val) / 64 % 3 * 128 + (h.val * 64 + d.val) / 192 * 64 + (h.val * 64 + d.val) % 64 = h.val % 3 * 128 + h.val / 3 * 64 + d.val; omega))

theorem tail_v47 (b : Fin 16) (s : Fin 2048) (h : Fin 2) (d : Fin 64) : (Pipeline.afterTail₀ cfgs (dats m) 0 (V0 m) [hostOps1] c main_v47 : S16x2048x2x64.Idx → EReal) (ix4 b s h d) = arr14 m c b s (kcol h d) := by
  unfold Pipeline.afterTail₀
  after_reads_at
  refine (congrFun (Pipeline.withArrays_arr (cfgs 0).spec launch0.win.arr_inj c (V0 m c) _ 14) _).trans ?_
  refine (congrFun (arr14_eq m c) _).trans ?_
  rfl

theorem tail_v50 (b : Fin 16) (s : Fin 2048) (h : Fin 2) (d : Fin 64) : (Pipeline.afterTail₀ cfgs (dats m) 0 (V0 m) [hostOps1] c main_v50 : S16x2048x2x64.Idx → EReal) (ix4 b s h d) = arr14 m c b s (vcol h d) := by
  unfold Pipeline.afterTail₀
  after_reads_at
  refine (congrFun (Pipeline.withArrays_arr (cfgs 0).spec launch0.win.arr_inj c (V0 m c) _ 14) _).trans ?_
  refine (congrFun (arr14_eq m c) _).trans ?_
  rfl

theorem tail_v54 (b : Fin 16) (s : Fin 2048) (l : Fin 384) : (Pipeline.afterTail₀ cfgs (dats m) 0 (V0 m) [hostOps1] c main_v54 : S16x2048x384.Idx → EReal) (ix3 b s l) = arr10 m c b s (gcol l) := by
  unfold Pipeline.afterTail₀
  after_reads_at
  refine (congrFun (Pipeline.withArrays_arr (cfgs 0).spec launch0.win.arr_inj c (V0 m c) _ 10) _).trans ?_
  refine (congrFun (arr10_eq m c) _).trans ?_
  rfl

theorem tail_v61 (b : Fin 16) (s : Fin 2048) (h : Fin 6) (d : Fin 64) : (Pipeline.afterTail₀ cfgs (dats m) 0 (V0 m) [hostOps1] c main_v61 : S16x2048x6x64.Idx → EReal) (ix4 b s h d) = arr11 m c b s (qcol h d) * unscale := by
  unfold Pipeline.afterTail₀
  after_reads_at
  refine congrArg₂ (· * ·) ?_ rfl
  refine (congrFun (Pipeline.withArrays_arr (cfgs 0).spec launch0.win.arr_inj c (V0 m c) _ 11) _).trans ?_
  refine (congrFun (arr11_eq m c) _).trans ?_
  exact congrArg (arr11 m c b s) (Fin.ext (by show (h.val * 64 + d.val) / 64 % 3 * 128 + (h.val * 64 + d.val) / 192 * 64 + (h.val * 64 + d.val) % 64 = h.val % 3 * 128 + h.val / 3 * 64 + d.val; omega))

theorem tail_v64 (b : Fin 16) (s : Fin 2048) (h : Fin 2) (d : Fin 64) : (Pipeline.afterTail₀ cfgs (dats m) 0 (V0 m) [hostOps1] c main_v64 : S16x2048x2x64.Idx → EReal) (ix4 b s h d) = arr15 m c b s (kcol h d) := by
  unfold Pipeline.afterTail₀
  after_reads_at
  refine (congrFun (Pipeline.withArrays_arr (cfgs 0).spec launch0.win.arr_inj c (V0 m c) _ 15) _).trans ?_
  refine (congrFun (arr15_eq m c) _).trans ?_
  rfl

theorem tail_v67 (b : Fin 16) (s : Fin 2048) (h : Fin 2) (d : Fin 64) : (Pipeline.afterTail₀ cfgs (dats m) 0 (V0 m) [hostOps1] c main_v67 : S16x2048x2x64.Idx → EReal) (ix4 b s h d) = arr15 m c b s (vcol h d) := by
  unfold Pipeline.afterTail₀
  after_reads_at
  refine (congrFun (Pipeline.withArrays_arr (cfgs 0).spec launch0.win.arr_inj c (V0 m c) _ 15) _).trans ?_
  refine (congrFun (arr15_eq m c) _).trans ?_
  rfl

theorem tail_v71 (b : Fin 16) (s : Fin 2048) (l : Fin 384) : (Pipeline.afterTail₀ cfgs (dats m) 0 (V0 m) [hostOps1] c main_v71 : S16x2048x384.Idx → EReal) (ix3 b s l) = arr13 m c b s (gcol l) := by
  unfold Pipeline.afterTail₀
  after_reads_at
  refine (congrFun (Pipeline.withArrays_arr (cfgs 0).spec launch0.win.arr_inj c (V0 m c) _ 13) _).trans ?_
  refine (congrFun (arr13_eq m c) _).trans ?_
  rfl

theorem tail_v72 (b : Fin 16) (s : Fin 2048) (h : Fin 2) (d : Fin 64) : (Pipeline.afterTail₀ cfgs (dats m) 0 (V0 m) [hostOps1] c main_v72 : S16x2048x2x64.Idx → EReal) (ix4 b s h d) = arr12 m c b s ⟨h.val * 64 + d.val, by omega⟩ := by
  unfold Pipeline.afterTail₀
  after_reads_at
  refine (congrFun (Pipeline.withArrays_arr (cfgs 0).spec launch0.win.arr_inj c (V0 m c) _ 12) _).trans ?_
  refine (congrFun (arr12_eq m c) _).trans ?_
  rfl

theorem untile_tile (t a e : ℕ) (ht : t < 3) (ha : a < 2) (he : e < 64) : untile (t * 128 + a * 64 + e) = a * 192 + t * 64 + e := by
  unfold untile
  omega

/-! ## The results from the launched arguments -/

/-- A row normalised and projected, in the layer's order of columns. -/
def PR (x : S16x2048x1024.Idx → EReal) (g : S2x1024.Idx → EReal) (w : S2x1024x2560.Idx → EReal) (b : Fin 16) (s : Fin 2048) : Fin 2560 → EReal :=
  prj (inH (fun j => x (ix3 b s j)) (fun j => g (ix2 0 j))) (fun k j => w (ix3 0 k j))

/-- A head normalised: its entries over the root of the mean of their squares, times the gains. -/
def hd (p g : Fin 64 → EReal) (d : Fin 64) : EReal :=
  p d * Ideal.rsqrt ((∑ e : Fin 64, p e * p e) * Ideal.ofBits FTy.f32 0x3C800000#32 + eps) * g d

theorem nrm_hd (P : Fin 2560 → EReal) (g : Fin 128 → EReal) (col : Fin 2560) (p q : Fin 64 → EReal) (d : Fin 64) (hc : col.val % 64 = d.val)
    (hp : ∀ e : Fin 64, P ⟨col.val / 64 * 64 + e.val, by omega⟩ = p e) (hg : g ⟨col.val % 128, by omega⟩ = q d) : nrm P g col = hd p q d := by
  have e0 : P col = p d := (congrArg P (Fin.ext (by show col.val = col.val / 64 * 64 + d.val; omega))).trans (hp d)
  unfold nrm hd
  rw [e0, hg, Finset.sum_congr rfl fun e _ => congrArg₂ (· * ·) (hp e) (hp e)]

theorem PK_of (b : Fin 16) (s : Fin 2048) (col col' : Fin 2560)
    (h : ∀ k, (V m c main_v24 : S2x1024x2560.Idx → EReal) (ix3 0 k col) = argW m c (ix3 0 k col')) :
    PK m c b s col = PR (argX m c) (argN m c) (argW m c) b s col' := by
  unfold PK PR prj
  exact Finset.sum_congr rfl fun k _ => congrArg₂ (· * ·) rfl (h k)

theorem PK_u (b : Fin 16) (s : Fin 2048) (col col' : Fin 2560) (j : Fin 256) (h : col.val = 0 + j.val) (h' : col'.val = 0 + j.val) :
    PK m c b s col = PR (argX m c) (argN m c) (argW m c) b s col' := by
  refine PK_of m c b s col col' fun k => ?_
  have := W_u m c k j
  exact ((congrArg (fun z => (V m c main_v24 : S2x1024x2560.Idx → EReal) (ix3 0 k z)) (Fin.ext h)).trans this).trans
    (congrArg (fun z => argW m c (ix3 0 k z)) (Fin.ext h').symm)

theorem PK_sg (b : Fin 16) (s : Fin 2048) (col col' : Fin 2560) (j : Fin 256) (h : col.val = 256 + j.val) (h' : col'.val = 256 + j.val) :
    PK m c b s col = PR (argX m c) (argN m c) (argW m c) b s col' := by
  refine PK_of m c b s col col' fun k => ?_
  have := W_sg m c k j
  exact ((congrArg (fun z => (V m c main_v24 : S2x1024x2560.Idx → EReal) (ix3 0 k z)) (Fin.ext h)).trans this).trans
    (congrArg (fun z => argW m c (ix3 0 k z)) (Fin.ext h').symm)

theorem PK_aq (b : Fin 16) (s : Fin 2048) (col col' : Fin 2560) (j : Fin 384) (h : col.val = 512 + j.val) (h' : col'.val = 512 + untile j.val) :
    PK m c b s col = PR (argX m c) (argN m c) (argW m c) b s col' := by
  refine PK_of m c b s col col' fun k => ?_
  have := W_aq m c k j
  exact ((congrArg (fun z => (V m c main_v24 : S2x1024x2560.Idx → EReal) (ix3 0 k z)) (Fin.ext h)).trans this).trans
    (congrArg (fun z => argW m c (ix3 0 k z)) (Fin.ext h').symm)

theorem PK_ag (b : Fin 16) (s : Fin 2048) (col col' : Fin 2560) (j : Fin 384) (h : col.val = 896 + j.val) (h' : col'.val = 1152 + untile j.val) :
    PK m c b s col = PR (argX m c) (argN m c) (argW m c) b s col' := by
  refine PK_of m c b s col col' fun k => ?_
  have := W_ag m c k j
  exact ((congrArg (fun z => (V m c main_v24 : S2x1024x2560.Idx → EReal) (ix3 0 k z)) (Fin.ext h)).trans this).trans
    (congrArg (fun z => argW m c (ix3 0 k z)) (Fin.ext h').symm)

theorem PK_mq (b : Fin 16) (s : Fin 2048) (col col' : Fin 2560) (j : Fin 384) (h : col.val = 1280 + j.val) (h' : col'.val = 1536 + untile j.val) :
    PK m c b s col = PR (argX m c) (argN m c) (argW m c) b s col' := by
  refine PK_of m c b s col col' fun k => ?_
  have := W_mq m c k j
  exact ((congrArg (fun z => (V m c main_v24 : S2x1024x2560.Idx → EReal) (ix3 0 k z)) (Fin.ext h)).trans this).trans
    (congrArg (fun z => argW m c (ix3 0 k z)) (Fin.ext h').symm)

theorem PK_mg (b : Fin 16) (s : Fin 2048) (col col' : Fin 2560) (j : Fin 384) (h : col.val = 1664 + j.val) (h' : col'.val = 2176 + untile j.val) :
    PK m c b s col = PR (argX m c) (argN m c) (argW m c) b s col' := by
  refine PK_of m c b s col col' fun k => ?_
  have := W_mg m c k j
  exact ((congrArg (fun z => (V m c main_v24 : S2x1024x2560.Idx → EReal) (ix3 0 k z)) (Fin.ext h)).trans this).trans
    (congrArg (fun z => argW m c (ix3 0 k z)) (Fin.ext h').symm)

theorem PK_ak (b : Fin 16) (s : Fin 2048) (col col' : Fin 2560) (j : Fin 128) (h : col.val = 2048 + j.val) (h' : col'.val = 896 + j.val) :
    PK m c b s col = PR (argX m c) (argN m c) (argW m c) b s col' := by
  refine PK_of m c b s col col' fun k => ?_
  have := W_ak m c k j
  exact ((congrArg (fun z => (V m c main_v24 : S2x1024x2560.Idx → EReal) (ix3 0 k z)) (Fin.ext h)).trans this).trans
    (congrArg (fun z => argW m c (ix3 0 k z)) (Fin.ext h').symm)

theorem PK_av (b : Fin 16) (s : Fin 2048) (col col' : Fin 2560) (j : Fin 128) (h : col.val = 2176 + j.val) (h' : col'.val = 1024 + j.val) :
    PK m c b s col = PR (argX m c) (argN m c) (argW m c) b s col' := by
  refine PK_of m c b s col col' fun k => ?_
  have := W_av m c k j
  exact ((congrArg (fun z => (V m c main_v24 : S2x1024x2560.Idx → EReal) (ix3 0 k z)) (Fin.ext h)).trans this).trans
    (congrArg (fun z => argW m c (ix3 0 k z)) (Fin.ext h').symm)

theorem PK_mk (b : Fin 16) (s : Fin 2048) (col col' : Fin 2560) (j : Fin 128) (h : col.val = 2304 + j.val) (h' : col'.val = 1920 + j.val) :
    PK m c b s col = PR (argX m c) (argN m c) (argW m c) b s col' := by
  refine PK_of m c b s col col' fun k => ?_
  have := W_mk m c k j
  exact ((congrArg (fun z => (V m c main_v24 : S2x1024x2560.Idx → EReal) (ix3 0 k z)) (Fin.ext h)).trans this).trans
    (congrArg (fun z => argW m c (ix3 0 k z)) (Fin.ext h').symm)

theorem PK_mv (b : Fin 16) (s : Fin 2048) (col col' : Fin 2560) (j : Fin 128) (h : col.val = 2432 + j.val) (h' : col'.val = 2048 + j.val) :
    PK m c b s col = PR (argX m c) (argN m c) (argW m c) b s col' := by
  refine PK_of m c b s col col' fun k => ?_
  have := W_mv m c k j
  exact ((congrArg (fun z => (V m c main_v24 : S2x1024x2560.Idx → EReal) (ix3 0 k z)) (Fin.ext h)).trans this).trans
    (congrArg (fun z => argW m c (ix3 0 k z)) (Fin.ext h').symm)

theorem res_v36 (b : Fin 16) (s : Fin 2048) (l : Fin 256) : (Pipeline.afterTail₀ cfgs (dats m) 0 (V0 m) [hostOps1] c main_v36 : S16x2048x256.Idx → EReal) (ix3 b s l) = PR (argX m c) (argN m c) (argW m c) b s ⟨l.val, by omega⟩ := by
  refine (tail_v36 m c b s l).trans ?_
  unfold arr7
  exact PK_u m c b s _ _ l (by show l.val = 0 + l.val; omega) (by show l.val = 0 + l.val; omega)

theorem res_v37 (b : Fin 16) (s : Fin 2048) (l : Fin 256) : (Pipeline.afterTail₀ cfgs (dats m) 0 (V0 m) [hostOps1] c main_v37 : S16x2048x256.Idx → EReal) (ix3 b s l) = sil (PR (argX m c) (argN m c) (argW m c) b s ⟨256 + l.val, by omega⟩) := by
  refine (tail_v37 m c b s l).trans ?_
  unfold arr8
  exact congrArg sil (PK_sg m c b s _ _ l rfl rfl)

theorem res_v44 (b : Fin 16) (s : Fin 2048) (h : Fin 6) (d : Fin 64) : (Pipeline.afterTail₀ cfgs (dats m) 0 (V0 m) [hostOps1] c main_v44 : S16x2048x6x64.Idx → EReal) (ix4 b s h d) = hd (fun e => PR (argX m c) (argN m c) (argW m c) b s ⟨512 + (h.val * 64 + e.val), by omega⟩) (fun e => argA m c (ix2 0 e)) d * (Named.named κ "qscale" 0x3E38AA3B#32 : Ideal .f32) * unscale := by
  refine (tail_v44 m c b s h d).trans ?_
  unfold arr9 qcol
  refine congrArg (· * unscale) (congrArg (· * _) (nrm_hd _ _ _ _ _ d (by dsimp only; omega) (fun e => ?_) ?_))
  · exact PK_aq m c b s _ _ ⟨h.val % 3 * 128 + h.val / 3 * 64 + e.val, by omega⟩ (by dsimp only; omega) (by dsimp only; rw [untile_tile _ _ _ (by omega) (by omega) (by omega)]; omega)
  · exact congrArg (argA m c) (congrArg _ (Fin.ext (by dsimp only; omega)))

theorem res_v61 (b : Fin 16) (s : Fin 2048) (h : Fin 6) (d : Fin 64) : (Pipeline.afterTail₀ cfgs (dats m) 0 (V0 m) [hostOps1] c main_v61 : S16x2048x6x64.Idx → EReal) (ix4 b s h d) = hd (fun e => PR (argX m c) (argN m c) (argW m c) b s ⟨1536 + (h.val * 64 + e.val), by omega⟩) (fun e => argC m c (ix2 0 e)) d * (Named.named κ "qscale" 0x3E38AA3B#32 : Ideal .f32) * unscale := by
  refine (tail_v61 m c b s h d).trans ?_
  unfold arr11 qcol
  refine congrArg (· * unscale) (congrArg (· * _) (nrm_hd _ _ _ _ _ d (by dsimp only; omega) (fun e => ?_) ?_))
  · exact PK_mq m c b s _ _ ⟨h.val % 3 * 128 + h.val / 3 * 64 + e.val, by omega⟩ (by dsimp only; omega) (by dsimp only; rw [untile_tile _ _ _ (by omega) (by omega) (by omega)]; omega)
  · exact congrArg (argC m c) (congrArg _ (Fin.ext (by dsimp only; omega)))

theorem res_v47 (b : Fin 16) (s : Fin 2048) (h : Fin 2) (d : Fin 64) : (Pipeline.afterTail₀ cfgs (dats m) 0 (V0 m) [hostOps1] c main_v47 : S16x2048x2x64.Idx → EReal) (ix4 b s h d) = hd (fun e => PR (argX m c) (argN m c) (argW m c) b s ⟨896 + (h.val * 64 + e.val), by omega⟩) (fun e => argB m c (ix2 0 e)) d := by
  refine (tail_v47 m c b s h d).trans ?_
  unfold arr14 kcol
  refine (if_pos (by dsimp only; omega)).trans (nrm_hd _ _ _ _ _ d (by dsimp only; omega) (fun e => ?_) ?_)
  · exact PK_ak m c b s _ _ ⟨h.val * 64 + e.val, by omega⟩ (by dsimp only; omega) (by dsimp only)
  · exact congrArg (argB m c) (congrArg _ (Fin.ext (by dsimp only; omega)))

theorem res_v64 (b : Fin 16) (s : Fin 2048) (h : Fin 2) (d : Fin 64) : (Pipeline.afterTail₀ cfgs (dats m) 0 (V0 m) [hostOps1] c main_v64 : S16x2048x2x64.Idx → EReal) (ix4 b s h d) = hd (fun e => PR (argX m c) (argN m c) (argW m c) b s ⟨1920 + (h.val * 64 + e.val), by omega⟩) (fun e => argD m c (ix2 0 e)) d := by
  refine (tail_v64 m c b s h d).trans ?_
  unfold arr15 kcol
  refine (if_pos (by dsimp only; omega)).trans (nrm_hd _ _ _ _ _ d (by dsimp only; omega) (fun e => ?_) ?_)
  · exact PK_mk m c b s _ _ ⟨h.val * 64 + e.val, by omega⟩ (by dsimp only; omega) (by dsimp only)
  · exact congrArg (argD m c) (congrArg _ (Fin.ext (by dsimp only; omega)))

theorem res_v50 (b : Fin 16) (s : Fin 2048) (h : Fin 2) (d : Fin 64) : (Pipeline.afterTail₀ cfgs (dats m) 0 (V0 m) [hostOps1] c main_v50 : S16x2048x2x64.Idx → EReal) (ix4 b s h d) = PR (argX m c) (argN m c) (argW m c) b s ⟨1024 + (h.val * 64 + d.val), by omega⟩ := by
  refine (tail_v50 m c b s h d).trans ?_
  unfold arr14 vcol
  refine (if_neg (by dsimp only; omega)).trans ?_
  exact PK_av m c b s _ _ ⟨h.val * 64 + d.val, by omega⟩ (by dsimp only; omega) (by dsimp only)

theorem res_v67 (b : Fin 16) (s : Fin 2048) (h : Fin 2) (d : Fin 64) : (Pipeline.afterTail₀ cfgs (dats m) 0 (V0 m) [hostOps1] c main_v67 : S16x2048x2x64.Idx → EReal) (ix4 b s h d) = PR (argX m c) (argN m c) (argW m c) b s ⟨2048 + (h.val * 64 + d.val), by omega⟩ := by
  refine (tail_v67 m c b s h d).trans ?_
  unfold arr15 vcol
  refine (if_neg (by dsimp only; omega)).trans ?_
  exact PK_mv m c b s _ _ ⟨h.val * 64 + d.val, by omega⟩ (by dsimp only; omega) (by dsimp only)

theorem res_v54 (b : Fin 16) (s : Fin 2048) (l : Fin 384) : (Pipeline.afterTail₀ cfgs (dats m) 0 (V0 m) [hostOps1] c main_v54 : S16x2048x384.Idx → EReal) (ix3 b s l) = sil (PR (argX m c) (argN m c) (argW m c) b s ⟨1152 + l.val, by omega⟩) := by
  refine (tail_v54 m c b s l).trans ?_
  unfold arr10 gcol
  exact congrArg sil (PK_ag m c b s _ _ ⟨l.val / 64 % 3 * 128 + l.val / 192 * 64 + l.val % 64, by omega⟩ (by dsimp only) (by dsimp only; rw [untile_tile _ _ _ (by omega) (by omega) (by omega)]; omega))

theorem res_v71 (b : Fin 16) (s : Fin 2048) (l : Fin 384) : (Pipeline.afterTail₀ cfgs (dats m) 0 (V0 m) [hostOps1] c main_v71 : S16x2048x384.Idx → EReal) (ix3 b s l) = sil (PR (argX m c) (argN m c) (argW m c) b s ⟨2176 + l.val, by omega⟩) := by
  refine (tail_v71 m c b s l).trans ?_
  unfold arr13 gcol
  exact congrArg sil (PK_mg m c b s _ _ ⟨l.val / 64 % 3 * 128 + l.val / 192 * 64 + l.val % 64, by omega⟩ (by dsimp only) (by dsimp only; rw [untile_tile _ _ _ (by omega) (by omega) (by omega)]; omega))

theorem res_v72 (b : Fin 16) (s : Fin 2048) (h : Fin 2) (d : Fin 64) : (Pipeline.afterTail₀ cfgs (dats m) 0 (V0 m) [hostOps1] c main_v72 : S16x2048x2x64.Idx → EReal) (ix4 b s h d) = hd (fun e => PR (argX m c) (argN m c) (argW m c) b s ⟨1536 + ((h.val * 3 + 2) * 64 + e.val), by omega⟩) (fun e => argC m c (ix2 0 e)) d + hd (fun e => PR (argX m c) (argN m c) (argW m c) b s ⟨1536 + ((h.val * 3 + 1) * 64 + e.val), by omega⟩) (fun e => argC m c (ix2 0 e)) d + hd (fun e => PR (argX m c) (argN m c) (argW m c) b s ⟨1536 + ((h.val * 3 + 0) * 64 + e.val), by omega⟩) (fun e => argC m c (ix2 0 e)) d := by
  refine (tail_v72 m c b s h d).trans ?_
  unfold arr12
  refine congrArg₂ (· + ·) (congrArg₂ (· + ·) ?_ ?_) ?_
  · refine nrm_hd _ _ _ _ _ d (by dsimp only; omega) (fun e => ?_) ?_
    · exact PK_mq m c b s _ _ ⟨2 * 128 + (h.val * 64 + e.val), by omega⟩ (by dsimp only; omega) (by unfold untile; dsimp only; omega)
    · exact congrArg (argC m c) (congrArg _ (Fin.ext (by dsimp only; omega)))
  · refine nrm_hd _ _ _ _ _ d (by dsimp only; omega) (fun e => ?_) ?_
    · exact PK_mq m c b s _ _ ⟨1 * 128 + (h.val * 64 + e.val), by omega⟩ (by dsimp only; omega) (by unfold untile; dsimp only; omega)
    · exact congrArg (argC m c) (congrArg _ (Fin.ext (by dsimp only; omega)))
  · refine nrm_hd _ _ _ _ _ d (by dsimp only; omega) (fun e => ?_) ?_
    · exact PK_mq m c b s _ _ ⟨0 * 128 + (h.val * 64 + e.val), by omega⟩ (by dsimp only; omega) (by unfold untile; dsimp only; omega)
    · exact congrArg (argC m c) (congrArg _ (Fin.ext (by dsimp only; omega)))

end Cert.Kernel2Ideal.Val
-- ==== Proof.EdgeRef.lean ====
module

public import proofs.«01_k».proof.Proof.EdgeTail
public import proofs.«01_k».proof.Proof.Gen.Reference2Ideal.Read
public import Idealize.ShloMosaic.Lib.Pointwise

@[expose] public section

set_option maxRecDepth 16384

noncomputable section

namespace Cert.Reference2Ideal.Val

open Cert.Reference2Ideal Cert.Reference2Ideal.Gen Cert.Reference2Ideal.Read
open Idealize.ShloMosaic Idealize.ShloMosaic.TcCoe Idealize.ShloMosaic.Tactic
open Idealize.SL Idealize.SL.Sem
open Cert.Kernel2Ideal.Val (inH prj eps sil hd PR)
open scoped BigOperators

/-- Division by 64 is the product with the word of its inverse. -/
theorem div64 (z : EReal) : Ideal.div z (Ideal.ofBits FTy.f32 0x42800000#32) = z * Ideal.ofBits FTy.f32 0x3C800000#32 := by
  have e1 : Ideal.ofBits FTy.f32 0x42800000#32 = ((64 : ℝ) : EReal) := by
    simp [Ideal.ofBits, Ideal.ieee]
    rw [← EReal.coe_mul]
    norm_num
  have e2 : Ideal.ofBits FTy.f32 0x3C800000#32 = ((1 / 64 : ℝ) : EReal) := by
    simp [Ideal.ofBits, Ideal.ieee]
    rw [← EReal.coe_mul]
    norm_num
  rw [e1, e2, Ideal.div_coe (by norm_num)]

theorem v14_apply (x0 : S16x2048x1024.Idx → EReal) (x1 : S2x1024.Idx → EReal) (b : Fin 16) (s : Fin 2048) (k : Fin 1024) :
    val_main_v14 (F := Ideal) x0 x1 (ix3 b s k) = inH (fun j => x0 (ix3 b s j)) (fun j => x1 (ix2 0 j)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection of a row. -/
theorem v17_apply (x0 : S16x2048x1024.Idx → EReal) (x1 : S2x1024.Idx → EReal) (x2 : S2x1024x2560.Idx → EReal) (b : Fin 16) (s : Fin 2048) (j : Fin 2560) :
    val_main_v17 (F := Ideal) x0 x1 x2 (ix3 b s j) = PR x0 x1 x2 b s j := by
  pointwise [val_main_v17, val_main_v16, val_main_v15]
  exact Finset.sum_congr rfl fun k _ => congrArg (· * _) (v14_apply x0 x1 b s k)

theorem v18_apply (x0 : S16x2048x1024.Idx → EReal) (x1 : S2x1024.Idx → EReal) (x2 : S2x1024x2560.Idx → EReal) (b : Fin 16) (s : Fin 2048) (l : Fin 256) :
    val_main_v18 (F := Ideal) x0 x1 x2 (ix3 b s l) = PR x0 x1 x2 b s ⟨l.val, by omega⟩ := by
  pointwise [val_main_v18]
  exact v17_apply x0 x1 x2 b s _

theorem v92_apply (x0 : S16x2048x1024.Idx → EReal) (x1 : S2x1024.Idx → EReal) (x2 : S2x1024x2560.Idx → EReal) (b : Fin 16) (s : Fin 2048) (l : Fin 256) :
    val_main_v92 (F := Ideal) x0 x1 x2 (ix3 b s l) = sil (PR x0 x1 x2 b s ⟨256 + l.val, by omega⟩) := by
  refine Eq.trans ?_ (congrArg sil (v17_apply x0 x1 x2 b s _))
  pointwise [val_main_v92, val_main_call0_v5, val_main_call0_v4, val_main_call0_v3, val_main_call0_v2, val_main_call0_v1, val_main_call0_v0, val_main_call0_cst, val_main_call0_cst_0, val_main_v19]
  rfl

theorem v94_apply (x0 : S16x2048x1024.Idx → EReal) (x1 : S2x1024.Idx → EReal) (x2 : S2x1024x2560.Idx → EReal) (b : Fin 16) (s : Fin 2048) (l : Fin 384) :
    val_main_v94 (F := Ideal) x0 x1 x2 (ix3 b s l) = sil (PR x0 x1 x2 b s ⟨1152 + l.val, by omega⟩) := by
  refine Eq.trans ?_ (congrArg sil (v17_apply x0 x1 x2 b s _))
  pointwise [val_main_v94, val_main_call1_v5, val_main_call1_v4, val_main_call1_v3, val_main_call1_v2, val_main_call1_v1, val_main_call1_v0, val_main_call1_cst, val_main_call1_cst_0, val_main_v23]
  rfl

theorem v96_apply (x0 : S16x2048x1024.Idx → EReal) (x1 : S2x1024.Idx → EReal) (x2 : S2x1024x2560.Idx → EReal) (b : Fin 16) (s : Fin 2048) (l : Fin 384) :
    val_main_v96 (F := Ideal) x0 x1 x2 (ix3 b s l) = sil (PR x0 x1 x2 b s ⟨2176 + l.val, by omega⟩) := by
  refine Eq.trans ?_ (congrArg sil (v17_apply x0 x1 x2 b s _))
  pointwise [val_main_v96, val_main_call2_v5, val_main_call2_v4, val_main_call2_v3, val_main_call2_v2, val_main_call2_v1, val_main_call2_v0, val_main_call2_cst, val_main_call2_cst_0, val_main_v27]
  rfl

theorem v93_apply (x0 : S16x2048x1024.Idx → EReal) (x1 : S2x1024.Idx → EReal) (x2 : S2x1024x2560.Idx → EReal) (b : Fin 16) (s : Fin 2048) (h : Fin 2) (d : Fin 64) :
    val_main_v93 (F := Ideal) x0 x1 x2 (ix4 b s h d) = PR x0 x1 x2 b s ⟨1024 + (h.val * 64 + d.val), by omega⟩ := by
  pointwise [val_main_v93, val_main_v22]
  exact v17_apply x0 x1 x2 b s _

theorem v95_apply (x0 : S16x2048x1024.Idx → EReal) (x1 : S2x1024.Idx → EReal) (x2 : S2x1024x2560.Idx → EReal) (b : Fin 16) (s : Fin 2048) (h : Fin 2) (d : Fin 64) :
    val_main_v95 (F := Ideal) x0 x1 x2 (ix4 b s h d) = PR x0 x1 x2 b s ⟨2048 + (h.val * 64 + d.val), by omega⟩ := by
  pointwise [val_main_v95, val_main_v26]
  exact v17_apply x0 x1 x2 b s _

theorem v43_apply (x0 : S16x2048x1024.Idx → EReal) (x1 : S2x1024.Idx → EReal) (x2 : S2x1024x2560.Idx → EReal) (g : S2x64.Idx → EReal) (b : Fin 16) (s : Fin 2048) (h : Fin 6) (d : Fin 64) :
    val_main_v43 (F := Ideal) x0 x1 x2 g (ix4 b s h d) = hd (fun e => PR x0 x1 x2 b s ⟨512 + (h.val * 64 + e.val), by omega⟩) (fun e => g (ix2 0 e)) d := by
  refine Eq.trans ?_ (congrArg (fun p => hd p (fun e => g (ix2 0 e)) d) (funext fun e => v17_apply x0 x1 x2 b s _))
  pointwise [val_main_v43, val_main_v42, val_main_v41, val_main_v40, val_main_v39, val_main_v38, val_main_v37, val_main_v36, val_main_v35, val_main_v34, val_main_v33, val_main_v32, val_main_v31, val_main_v30, val_main_v29, val_main_v28, val_main_v20, val_main_cst_2, val_main_cst_3, val_main_cst_4]
  rw [div64]
  rfl

theorem v59_apply (x0 : S16x2048x1024.Idx → EReal) (x1 : S2x1024.Idx → EReal) (x2 : S2x1024x2560.Idx → EReal) (g : S2x64.Idx → EReal) (b : Fin 16) (s : Fin 2048) (h : Fin 2) (d : Fin 64) :
    val_main_v59 (F := Ideal) x0 x1 x2 g (ix4 b s h d) = hd (fun e => PR x0 x1 x2 b s ⟨896 + (h.val * 64 + e.val), by omega⟩) (fun e => g (ix2 0 e)) d := by
  refine Eq.trans ?_ (congrArg (fun p => hd p (fun e => g (ix2 0 e)) d) (funext fun e => v17_apply x0 x1 x2 b s _))
  pointwise [val_main_v59, val_main_v58, val_main_v57, val_main_v56, val_main_v55, val_main_v54, val_main_v53, val_main_v52, val_main_v51, val_main_v50, val_main_v49, val_main_v48, val_main_v47, val_main_v46, val_main_v45, val_main_v44, val_main_v21, val_main_cst_5, val_main_cst_6, val_main_cst_7]
  rw [div64]
  rfl

theorem v75_apply (x0 : S16x2048x1024.Idx → EReal) (x1 : S2x1024.Idx → EReal) (x2 : S2x1024x2560.Idx → EReal) (g : S2x64.Idx → EReal) (b : Fin 16) (s : Fin 2048) (h : Fin 6) (d : Fin 64) :
    val_main_v75 (F := Ideal) x0 x1 x2 g (ix4 b s h d) = hd (fun e => PR x0 x1 x2 b s ⟨1536 + (h.val * 64 + e.val), by omega⟩) (fun e => g (ix2 0 e)) d := by
  refine Eq.trans ?_ (congrArg (fun p => hd p (fun e => g (ix2 0 e)) d) (funext fun e => v17_apply x0 x1 x2 b s _))
  pointwise [val_main_v75, val_main_v74, val_main_v73, val_main_v72, val_main_v71, val_main_v70, val_main_v69, val_main_v68, val_main_v67, val_main_v66, val_main_v65, val_main_v64, val_main_v63, val_main_v62, val_main_v61, val_main_v60, val_main_v24, val_main_cst_8, val_main_cst_9, val_main_cst_10]
  rw [div64]
  rfl

theorem v91_apply (x0 : S16x2048x1024.Idx → EReal) (x1 : S2x1024.Idx → EReal) (x2 : S2x1024x2560.Idx → EReal) (g : S2x64.Idx → EReal) (b : Fin 16) (s : Fin 2048) (h : Fin 2) (d : Fin 64) :
    val_main_v91 (F := Ideal) x0 x1 x2 g (ix4 b s h d) = hd (fun e => PR x0 x1 x2 b s ⟨1920 + (h.val * 64 + e.val), by omega⟩) (fun e => g (ix2 0 e)) d := by
  refine Eq.trans ?_ (congrArg (fun p => hd p (fun e => g (ix2 0 e)) d) (funext fun e => v17_apply x0 x1 x2 b s _))
  pointwise [val_main_v91, val_main_v90, val_main_v89, val_main_v88, val_main_v87, val_main_v86, val_main_v85, val_main_v84, val_main_v83, val_main_v82, val_main_v81, val_main_v80, val_main_v79, val_main_v78, val_main_v77, val_main_v76, val_main_v25, val_main_cst_11, val_main_cst_12, val_main_cst_13]
  rw [div64]
  rfl

theorem v98_apply (x0 : S16x2048x1024.Idx → EReal) (x1 : S2x1024.Idx → EReal) (x2 : S2x1024x2560.Idx → EReal) (g : S2x64.Idx → EReal) (b : Fin 16) (s : Fin 2048) (h : Fin 2) (d : Fin 64) :
    val_main_v98 (F := Ideal) x0 x1 x2 g (ix4 b s h d) = hd (fun e => PR x0 x1 x2 b s ⟨1536 + ((h.val * 3 + 2) * 64 + e.val), by omega⟩) (fun e => g (ix2 0 e)) d + hd (fun e => PR x0 x1 x2 b s ⟨1536 + ((h.val * 3 + 1) * 64 + e.val), by omega⟩) (fun e => g (ix2 0 e)) d + hd (fun e => PR x0 x1 x2 b s ⟨1536 + ((h.val * 3 + 0) * 64 + e.val), by omega⟩) (fun e => g (ix2 0 e)) d := by
  pointwise [val_main_v98, val_main_v97, val_main_cst_14]
  have rev : ∀ p q r : EReal, p + q + r = r + q + p := fun p q r => by rw [add_comm (p + q) r, add_comm p q, ← add_assoc]
  rw [Fin.sum_univ_three]
  refine (rev _ _ _).trans ?_
  exact congrArg₂ (· + ·) (congrArg₂ (· + ·) (v75_apply x0 x1 x2 g b s _ d) (v75_apply x0 x1 x2 g b s _ d)) (v75_apply x0 x1 x2 g b s _ d)

end Cert.Reference2Ideal.Val
-- ==== Proof.EdgeAlgebraic.lean ====
module

public import proofs.«01_k».proof.Defs
public import proofs.«01_k».proof.Proof.EdgeRef
public import proofs.«01_k».proof.Proof.Softmax
public import proofs.«01_k».proof.Proof.Gen.Reference2Ideal.Run

@[expose] public section

set_option maxRecDepth 16384

noncomputable section

namespace Cert.Proof.Edge

open Idealize.ShloMosaic Idealize.ShloMosaic.TcCoe Idealize.SL.Sem
open Cert.Kernel2Ideal.Val (argX argN argW argA argB argC argD unscale)

/-- An index of rank three by its coordinates. -/
theorem idx3 {n0 n1 n2 : ℕ} (i : (⟨3, ![n0, n1, n2]⟩ : Shape).Idx) : ∃ (a : Fin n0) (b : Fin n1) (c : Fin n2), i = ix3 a b c := by
  refine ⟨i 0, i 1, i 2, ?_⟩
  funext x
  match x with
  | ⟨0, _⟩ => rfl
  | ⟨1, _⟩ => rfl
  | ⟨2, _⟩ => rfl

/-- An index of rank four by its coordinates. -/
theorem idx4 {n0 n1 n2 n3 : ℕ} (i : (⟨4, ![n0, n1, n2, n3]⟩ : Shape).Idx) : ∃ (a : Fin n0) (b : Fin n1) (c : Fin n2) (d : Fin n3), i = ix4 a b c d := by
  refine ⟨i 0, i 1, i 2, i 3, ?_⟩
  funext x
  match x with
  | ⟨0, _⟩ => rfl
  | ⟨1, _⟩ => rfl
  | ⟨2, _⟩ => rfl
  | ⟨3, _⟩ => rfl

/-- The factor the host applies to the queries undoes the kernel's. -/
theorem unscale_mul (y : EReal) : y * (Named.named Cert.Kernel2Ideal.κ "qscale" 0x3E38AA3B#32 : Ideal .f32) * unscale = y := by
  have l : Real.log 2 ≠ 0 := (Real.log_pos one_lt_two).ne'
  rw [IdealRules.named_const.ideal_named_scalar _ _ _ _ rfl]
  unfold unscale
  rw [Cert.KernelIdeal.Val.eighth, Cert.KernelIdeal.Val.two, Ideal.log_coe, if_neg (by norm_num), Cert.KernelIdeal.Val.div_real _ _ (by norm_num)]
  have e : ((((1 / 8) * (Real.log 2)⁻¹ : ℝ) : EReal)) * ((Real.log 2 * (1 / 8)⁻¹ : ℝ) : EReal) = 1 := by
    rw [← EReal.coe_mul, ← EReal.coe_one]
    congr 1
    field_simp
  rw [mul_assoc]
  exact (congrArg (y * ·) e).trans (mul_one y)

variable (m : (ℓ : Loc Cert.Kernel2Ideal.nD Cert.Kernel2Ideal.τ Cert.Kernel2Ideal.sig) → Buf (Elt Ideal) ℓ) (c : Dev Cert.Kernel2Ideal.nD)

/-! ## The eleven results, of one argument tuple -/

theorem eq_v36 : (Cert.Reference2Ideal.Read.val_main_v18 (F := Ideal) (argX m c) (argN m c) (argW m c) : Cert.Kernel2Ideal.S16x2048x256.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v36 : Cert.Kernel2Ideal.S16x2048x256.Idx → EReal) := by
  funext i
  obtain ⟨b, s, l, rfl⟩ := idx3 i
  refine (Cert.Reference2Ideal.Val.v18_apply (argX m c) (argN m c) (argW m c) b s l).trans ?_
  refine Eq.trans ?_ (Cert.Kernel2Ideal.Val.res_v36 m c b s l).symm
  rfl

theorem eq_v37 : (Cert.Reference2Ideal.Read.val_main_v92 (F := Ideal) (argX m c) (argN m c) (argW m c) : Cert.Kernel2Ideal.S16x2048x256.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v37 : Cert.Kernel2Ideal.S16x2048x256.Idx → EReal) := by
  funext i
  obtain ⟨b, s, l, rfl⟩ := idx3 i
  refine (Cert.Reference2Ideal.Val.v92_apply (argX m c) (argN m c) (argW m c) b s l).trans ?_
  refine Eq.trans ?_ (Cert.Kernel2Ideal.Val.res_v37 m c b s l).symm
  rfl

theorem eq_v44 : (Cert.Reference2Ideal.Read.val_main_v43 (F := Ideal) (argX m c) (argN m c) (argW m c) (argA m c) : Cert.Kernel2Ideal.S16x2048x6x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v44 : Cert.Kernel2Ideal.S16x2048x6x64.Idx → EReal) := by
  funext i
  obtain ⟨b, s, h, d, rfl⟩ := idx4 i
  refine (Cert.Reference2Ideal.Val.v43_apply (argX m c) (argN m c) (argW m c) (argA m c) b s h d).trans ?_
  refine Eq.trans ?_ (Cert.Kernel2Ideal.Val.res_v44 m c b s h d).symm
  exact (unscale_mul _).symm

theorem eq_v47 : (Cert.Reference2Ideal.Read.val_main_v59 (F := Ideal) (argX m c) (argN m c) (argW m c) (argB m c) : Cert.Kernel2Ideal.S16x2048x2x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v47 : Cert.Kernel2Ideal.S16x2048x2x64.Idx → EReal) := by
  funext i
  obtain ⟨b, s, h, d, rfl⟩ := idx4 i
  refine (Cert.Reference2Ideal.Val.v59_apply (argX m c) (argN m c) (argW m c) (argB m c) b s h d).trans ?_
  refine Eq.trans ?_ (Cert.Kernel2Ideal.Val.res_v47 m c b s h d).symm
  rfl

theorem eq_v50 : (Cert.Reference2Ideal.Read.val_main_v93 (F := Ideal) (argX m c) (argN m c) (argW m c) : Cert.Kernel2Ideal.S16x2048x2x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v50 : Cert.Kernel2Ideal.S16x2048x2x64.Idx → EReal) := by
  funext i
  obtain ⟨b, s, h, d, rfl⟩ := idx4 i
  refine (Cert.Reference2Ideal.Val.v93_apply (argX m c) (argN m c) (argW m c) b s h d).trans ?_
  refine Eq.trans ?_ (Cert.Kernel2Ideal.Val.res_v50 m c b s h d).symm
  rfl

theorem eq_v54 : (Cert.Reference2Ideal.Read.val_main_v94 (F := Ideal) (argX m c) (argN m c) (argW m c) : Cert.Kernel2Ideal.S16x2048x384.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v54 : Cert.Kernel2Ideal.S16x2048x384.Idx → EReal) := by
  funext i
  obtain ⟨b, s, l, rfl⟩ := idx3 i
  refine (Cert.Reference2Ideal.Val.v94_apply (argX m c) (argN m c) (argW m c) b s l).trans ?_
  refine Eq.trans ?_ (Cert.Kernel2Ideal.Val.res_v54 m c b s l).symm
  rfl

theorem eq_v61 : (Cert.Reference2Ideal.Read.val_main_v75 (F := Ideal) (argX m c) (argN m c) (argW m c) (argC m c) : Cert.Kernel2Ideal.S16x2048x6x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v61 : Cert.Kernel2Ideal.S16x2048x6x64.Idx → EReal) := by
  funext i
  obtain ⟨b, s, h, d, rfl⟩ := idx4 i
  refine (Cert.Reference2Ideal.Val.v75_apply (argX m c) (argN m c) (argW m c) (argC m c) b s h d).trans ?_
  refine Eq.trans ?_ (Cert.Kernel2Ideal.Val.res_v61 m c b s h d).symm
  exact (unscale_mul _).symm

theorem eq_v64 : (Cert.Reference2Ideal.Read.val_main_v91 (F := Ideal) (argX m c) (argN m c) (argW m c) (argD m c) : Cert.Kernel2Ideal.S16x2048x2x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v64 : Cert.Kernel2Ideal.S16x2048x2x64.Idx → EReal) := by
  funext i
  obtain ⟨b, s, h, d, rfl⟩ := idx4 i
  refine (Cert.Reference2Ideal.Val.v91_apply (argX m c) (argN m c) (argW m c) (argD m c) b s h d).trans ?_
  refine Eq.trans ?_ (Cert.Kernel2Ideal.Val.res_v64 m c b s h d).symm
  rfl

theorem eq_v67 : (Cert.Reference2Ideal.Read.val_main_v95 (F := Ideal) (argX m c) (argN m c) (argW m c) : Cert.Kernel2Ideal.S16x2048x2x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v67 : Cert.Kernel2Ideal.S16x2048x2x64.Idx → EReal) := by
  funext i
  obtain ⟨b, s, h, d, rfl⟩ := idx4 i
  refine (Cert.Reference2Ideal.Val.v95_apply (argX m c) (argN m c) (argW m c) b s h d).trans ?_
  refine Eq.trans ?_ (Cert.Kernel2Ideal.Val.res_v67 m c b s h d).symm
  rfl

theorem eq_v71 : (Cert.Reference2Ideal.Read.val_main_v96 (F := Ideal) (argX m c) (argN m c) (argW m c) : Cert.Kernel2Ideal.S16x2048x384.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v71 : Cert.Kernel2Ideal.S16x2048x384.Idx → EReal) := by
  funext i
  obtain ⟨b, s, l, rfl⟩ := idx3 i
  refine (Cert.Reference2Ideal.Val.v96_apply (argX m c) (argN m c) (argW m c) b s l).trans ?_
  refine Eq.trans ?_ (Cert.Kernel2Ideal.Val.res_v71 m c b s l).symm
  rfl

theorem eq_v72 : (Cert.Reference2Ideal.Read.val_main_v98 (F := Ideal) (argX m c) (argN m c) (argW m c) (argC m c) : Cert.Kernel2Ideal.S16x2048x2x64.Idx → EReal)
    = (Pipeline.afterTail₀ Cert.Kernel2Ideal.cfgs (Cert.Kernel2Ideal.Gen.dats m) 0 (Cert.Kernel2Ideal.Gen.V0 m) [Cert.Kernel2Ideal.Gen.hostOps1] c Cert.Kernel2Ideal.main_v72 : Cert.Kernel2Ideal.S16x2048x2x64.Idx → EReal) := by
  funext i
  obtain ⟨b, s, h, d, rfl⟩ := idx4 i
  refine (Cert.Reference2Ideal.Val.v98_apply (argX m c) (argN m c) (argW m c) (argC m c) b s h d).trans ?_
  refine Eq.trans ?_ (Cert.Kernel2Ideal.Val.res_v72 m c b s h d).symm
  rfl

/-- From memories that agree on the arguments both programs run and end with equal results. -/
theorem algebraic : Cert.algebraic_Kernel2Ideal_Reference2Ideal := by
  intro m g m' g' hpre hagree
  refine ⟨fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v36, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v37, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v44, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v47, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v50, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v54, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v61, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v64, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v67, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v71, fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v72, ?_, ?_⟩
  · refine (θ_run Cert.Kernel2Ideal.defs _ _).mono (fun r h c => ⟨(h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), h.2 c⟩)
      (θ_run_and (Cert.Kernel2Ideal.Gen.run_main (F := Ideal) m g) (Cert.Kernel2Ideal.Gen.unchanged (F := Ideal) m g))
  · refine (θ_run Cert.Reference2Ideal.defs _ _).mono (fun _ h c => ?_) (Cert.Reference2Ideal.Value.run (F := Ideal) m' g')
    obtain ⟨e0, e1, e2, e3, e4, e5, e6⟩ := hagree c
    obtain ⟨h0, h1, h2, h3, h4, h5, h6, h7, h8, h9, h10, hargs⟩ := h c
    refine ⟨h0.trans ?_, h1.trans ?_, h2.trans ?_, h3.trans ?_, h4.trans ?_, h5.trans ?_, h6.trans ?_, h7.trans ?_, h8.trans ?_, h9.trans ?_, h10.trans ?_, hargs⟩
    · refine (Cert.Reference2Ideal.Read.val_main_v18_eq _ _ _).trans ?_
      rw [e0, e1, e2]
      exact eq_v36 m c
    · refine (Cert.Reference2Ideal.Read.val_main_v92_eq _ _ _).trans ?_
      rw [e0, e1, e2]
      exact eq_v37 m c
    · rw [Cert.Reference2Ideal.Read.val_main_v43_eq, e0, e1, e2, e3]
      exact eq_v44 m c
    · rw [Cert.Reference2Ideal.Read.val_main_v59_eq, e0, e1, e2, e4]
      exact eq_v47 m c
    · refine (Cert.Reference2Ideal.Read.val_main_v93_eq _ _ _).trans ?_
      rw [e0, e1, e2]
      exact eq_v50 m c
    · refine (Cert.Reference2Ideal.Read.val_main_v94_eq _ _ _).trans ?_
      rw [e0, e1, e2]
      exact eq_v54 m c
    · rw [Cert.Reference2Ideal.Read.val_main_v75_eq, e0, e1, e2, e5]
      exact eq_v61 m c
    · rw [Cert.Reference2Ideal.Read.val_main_v91_eq, e0, e1, e2, e6]
      exact eq_v64 m c
    · refine (Cert.Reference2Ideal.Read.val_main_v95_eq _ _ _).trans ?_
      rw [e0, e1, e2]
      exact eq_v67 m c
    · refine (Cert.Reference2Ideal.Read.val_main_v96_eq _ _ _).trans ?_
      rw [e0, e1, e2]
      exact eq_v71 m c
    · rw [Cert.Reference2Ideal.Read.val_main_v98_eq, e0, e1, e2, e5]
      exact eq_v72 m c

/-- The reference's frame: its run leaves the arguments unchanged, and it has no semaphore. -/
theorem frame_reference : Cert.quiescent_Reference2Ideal := fun m g _ =>
  (θ_run Cert.Reference2Ideal.defs _ _).mono (fun r h => ⟨fun c => (h c).2.2.2.2.2.2.2.2.2.2.2, Idealize.ShloMosaic.sem_eq_zero_of_no_sems (by decide) r.2⟩)
    (Cert.Reference2Ideal.Value.run (F := Ideal) m g)

end Cert.Proof.Edge
-- ==== Proof.OutinTile.lean ====
module

public import proofs.«01_k».proof.Proof.OutinFrame
public import proofs.«01_k».proof.Proof.EdgeBlock
public import Idealize.ShloMosaic.Lib.Pointwise

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic
open Idealize.SL Idealize.SL.Sem
open Cert.Kernel2Ideal.Val (inH)
open scoped BigOperators

/-! ## The new residual stream of a block, and the projections as those of the first layer's kernel from it -/

/-- Three rows one after another. -/
def cat (p : Fin 256 → EReal) (q r : Fin 384 → EReal) (e : Fin 1024) : EReal :=
  if h : e.val < 256 then p ⟨e.val, h⟩ else if h' : e.val < 640 then q ⟨e.val - 256, by omega⟩ else r ⟨e.val - 640, by omega⟩

/-- The third row's place counted from the second's. -/
theorem cat_eq (p : Fin 256 → EReal) (q r : Fin 384 → EReal) (e : Fin 1024) :
    (if h : e.val < 256 then p ⟨e.val, h⟩ else if h' : e.val - 256 < 384 then q ⟨e.val - 256, h'⟩ else r ⟨e.val - 256 - 384, by omega⟩) = cat p q r e := by
  unfold cat
  by_cases h : e.val < 256
  · rw [dif_pos h, dif_pos h]
  by_cases h' : e.val < 640
  · rw [dif_neg h, dif_neg h, dif_pos (show e.val - 256 < 384 by omega), dif_pos h']
  · rw [dif_neg h, dif_neg h, dif_neg (show ¬ e.val - 256 < 384 by omega), dif_neg h']
    exact congrArg r (Fin.ext (Nat.sub_sub _ _ _))

/-- Two matrices are equal when their entries are. -/
theorem ext2 {n0 n1 : ℕ} {α : Type} {f g : (⟨2, ![n0, n1]⟩ : Shape).Idx → α} (h : ∀ a b, f (ix2 a b) = g (ix2 a b)) : f = g := by
  funext i
  have e : i = ix2 (i 0) (i 1) := by
    funext x
    match x with
    | ⟨0, _⟩ => rfl
    | ⟨1, _⟩ => rfl
  rw [e]
  exact h _ _

section
variable (x0 : Vec Ideal S1x1024x1024 .f32) (x1 : Vec Ideal S1x1024x256 .bf16) (x2 : Vec Ideal S1x1024x384 .bf16) (x3 : Vec Ideal S1x1024x384 .bf16) (x4 : Vec Ideal S1x1024x1024 .bf16) (x5 : Vec Ideal S1x1x1024 .f32) (x6 : Vec Ideal S1x1024x2560 .bf16) (x7 : Vec Ideal S1x1x128 .f32) (x8 : Vec Ideal S1x1x128 .f32) (x9 : Vec Ideal S1x1x128 .f32) (x10 : Vec Ideal S1x1x128 .f32)

/-- The sum of the residual stream and the projection of the three branches, in row `R` and column `k` of a block. -/
def res (R k : Fin 1024) : EReal :=
  x0 (ix3 0 R k) + ∑ e : Fin 1024, cat (fun j => x1 (ix3 0 R j)) (fun j => x2 (ix3 0 R j)) (fun j => x3 (ix3 0 R j)) e * x4 (ix3 0 e k)

theorem pay2_apply (R k : Fin 1024) : k0_pay2 x1 x2 x3 x0 x4 (ix2 R k) = res x0 x1 x2 x3 x4 R k := by
  pointwise [k0_pay2, res]
  refine congrArg (x0 (ix3 0 R k) + ·) (Finset.sum_congr rfl fun x _ => congrArg (· * x4 (ix3 0 x k)) (cat_eq (fun j => x1 (ix3 0 R j)) (fun j => x2 (ix3 0 R j)) (fun j => x3 (ix3 0 R j)) x))

theorem ld_b1 : View.ld x1 r0_0 = x1 := by
  funext y
  exact congrArg x1 (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_b2 : View.ld x2 r0_1 = x2 := by
  funext y
  exact congrArg x2 (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_sq (x : Vec Ideal S1x1024x1024 .f32) : View.ld x r0_2 = x := by
  funext y
  exact congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_n : View.ld x5 r0_3 = x5 := by
  funext y
  exact congrArg x5 (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem out11_apply (R k : Fin 1024) : out0_11 x0 x1 x2 x3 x4 x5 x6 x7 x8 x9 x10 (ix3 0 R k) = res x0 x1 x2 x3 x4 R k := by
  unfold out0_11
  rw [ld_b1, ld_b2, ld_b2, ld_sq, ld_sq]
  refine View.canon_apply_of_pieces (Val := Elt Ideal) (fun y => res x0 x1 x2 x3 x4 (y 1) (y 2)) _ ?_ (ix3 0 R k) (cover0_11 _ _)
  simp only [List.forall_mem_cons]
  refine ⟨fun z => ?_, by simp⟩
  idx_vars z
  obtain rfl : z0 = 0 := Subsingleton.elim _ _
  pointwise [k0_pay3]
  refine (pay2_apply x0 x1 x2 x3 x4 z1 z2).trans ?_
  refine congrArg₂ (res x0 x1 x2 x3 x4) (Fin.ext ?_) (Fin.ext ?_)
  · show z1.val = 0 + 1 * z1.val
    omega
  · show z2.val = 0 + 1 * z2.val
    omega

theorem pay4_apply (r : Fin 512) (k : Fin 1024) : k0_pay4 x1 x2 x3 x0 x4 x5 (ix2 r k)
    = inH (fun j => k0_pay2 x1 x2 x3 x0 x4 (ix2 ⟨r.val, by omega⟩ j)) (fun j => x5 (ix3 0 0 j)) k := by
  pointwise [k0_pay4]
  rfl

theorem pay68_apply (X : FVec Ideal S1024x1024 .f32) (r : Fin 512) (k : Fin 1024) : k0_pay68 X x5 (ix2 r k)
    = inH (fun j => X (ix2 ⟨512 + r.val, by omega⟩ j)) (fun j => x5 (ix3 0 0 j)) k := by
  pointwise [k0_pay68]
  rfl

theorem h0_eq : Cert.Kernel2Ideal.Gen.k0_pay130 (out0_11 x0 x1 x2 x3 x4 x5 x6 x7 x8 x9 x10) x5 x6 x7 x8 x9 x10 = k0_pay130 x0 x1 x2 x3 x4 x5 x6 x7 x8 x9 x10 := by
  refine ext2 fun r k => ?_
  refine (Cert.Kernel2Ideal.Val.h0_apply (out0_11 x0 x1 x2 x3 x4 x5 x6 x7 x8 x9 x10) x5 x6 x7 x8 x9 x10 r k).trans ?_
  unfold k0_pay130
  rw [ld_b1, ld_b2, ld_b2, ld_sq, ld_sq, ld_n, pay4_apply]
  exact congrArg (fun f => inH f _ k) (funext fun j => (out11_apply x0 x1 x2 x3 x4 x5 x6 x7 x8 x9 x10 _ j).trans (pay2_apply x0 x1 x2 x3 x4 _ j).symm)

theorem h1_eq : Cert.Kernel2Ideal.Gen.k0_pay143 (out0_11 x0 x1 x2 x3 x4 x5 x6 x7 x8 x9 x10) x5 x6 x7 x8 x9 x10 = k0_pay147 x0 x1 x2 x3 x4 x5 x6 x7 x8 x9 x10 := by
  refine ext2 fun r k => ?_
  refine (Cert.Kernel2Ideal.Val.h1_apply (out0_11 x0 x1 x2 x3 x4 x5 x6 x7 x8 x9 x10) x5 x6 x7 x8 x9 x10 r k).trans ?_
  unfold k0_pay147 k0_pay129
  rw [ld_b1, ld_b2, ld_b2, ld_sq, ld_sq, ld_n, pay68_apply]
  exact congrArg (fun f => inH f _ k) (funext fun j => (out11_apply x0 x1 x2 x3 x4 x5 x6 x7 x8 x9 x10 _ j).trans (pay2_apply x0 x1 x2 x3 x4 _ j).symm)

theorem out12_eq : out0_12 x0 x1 x2 x3 x4 x5 x6 x7 x8 x9 x10 = Cert.Kernel2Ideal.Gen.out0_7 (out0_11 x0 x1 x2 x3 x4 x5 x6 x7 x8 x9 x10) x5 x6 x7 x8 x9 x10 := by
  rw [Cert.Kernel2Ideal.Val.out7_eq, h0_eq, h1_eq]
  rfl

theorem out13_eq : out0_13 x0 x1 x2 x3 x4 x5 x6 x7 x8 x9 x10 = Cert.Kernel2Ideal.Gen.out0_8 (out0_11 x0 x1 x2 x3 x4 x5 x6 x7 x8 x9 x10) x5 x6 x7 x8 x9 x10 := by
  rw [Cert.Kernel2Ideal.Val.out8_eq, h0_eq, h1_eq]
  rfl

theorem out14_eq : out0_14 x0 x1 x2 x3 x4 x5 x6 x7 x8 x9 x10 = Cert.Kernel2Ideal.Gen.out0_9 (out0_11 x0 x1 x2 x3 x4 x5 x6 x7 x8 x9 x10) x5 x6 x7 x8 x9 x10 := by
  rw [Cert.Kernel2Ideal.Val.out9_eq, h0_eq, h1_eq]
  rfl

theorem out15_eq : out0_15 x0 x1 x2 x3 x4 x5 x6 x7 x8 x9 x10 = Cert.Kernel2Ideal.Gen.out0_10 (out0_11 x0 x1 x2 x3 x4 x5 x6 x7 x8 x9 x10) x5 x6 x7 x8 x9 x10 := by
  rw [Cert.Kernel2Ideal.Val.out10_eq, h0_eq, h1_eq]
  rfl

theorem out16_eq : out0_16 x0 x1 x2 x3 x4 x5 x6 x7 x8 x9 x10 = Cert.Kernel2Ideal.Gen.out0_11 (out0_11 x0 x1 x2 x3 x4 x5 x6 x7 x8 x9 x10) x5 x6 x7 x8 x9 x10 := by
  rw [Cert.Kernel2Ideal.Val.out11_eq, h0_eq, h1_eq]
  rfl

theorem out17_eq : out0_17 x0 x1 x2 x3 x4 x5 x6 x7 x8 x9 x10 = Cert.Kernel2Ideal.Gen.out0_12 (out0_11 x0 x1 x2 x3 x4 x5 x6 x7 x8 x9 x10) x5 x6 x7 x8 x9 x10 := by
  rw [Cert.Kernel2Ideal.Val.out12_eq, h0_eq, h1_eq]
  rfl

theorem out18_eq : out0_18 x0 x1 x2 x3 x4 x5 x6 x7 x8 x9 x10 = Cert.Kernel2Ideal.Gen.out0_13 (out0_11 x0 x1 x2 x3 x4 x5 x6 x7 x8 x9 x10) x5 x6 x7 x8 x9 x10 := by
  rw [Cert.Kernel2Ideal.Val.out13_eq, h0_eq, h1_eq]
  rfl

theorem out19_eq : out0_19 x0 x1 x2 x3 x4 x5 x6 x7 x8 x9 x10 = Cert.Kernel2Ideal.Gen.out0_14 (out0_11 x0 x1 x2 x3 x4 x5 x6 x7 x8 x9 x10) x5 x6 x7 x8 x9 x10 := by
  rw [Cert.Kernel2Ideal.Val.out14_eq, h0_eq, h1_eq]
  rfl

theorem out20_eq : out0_20 x0 x1 x2 x3 x4 x5 x6 x7 x8 x9 x10 = Cert.Kernel2Ideal.Gen.out0_15 (out0_11 x0 x1 x2 x3 x4 x5 x6 x7 x8 x9 x10) x5 x6 x7 x8 x9 x10 := by
  rw [Cert.Kernel2Ideal.Val.out15_eq, h0_eq, h1_eq]
  rfl

end

end Cert.Kernel3Ideal.Val
-- ==== Proof.OutinHost.lean ====
module

public import proofs.«01_k».proof.Proof.OutinTile
public import proofs.«01_k».proof.Proof.EdgeHost
public import Idealize.ShloMosaic.Lib.StableHlo.ReadAt
public import Idealize.ShloMosaic.Lib.Pipeline.ValueKit

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic
open Idealize.SL Idealize.SL.Sem
open Cert.Kernel2Ideal.Val (sil inH prj nrm untile untile_lt Pb)
open scoped BigOperators

variable (m : (ℓ : Loc nD τ sig) → Buf (Elt Ideal) ℓ) (c : Dev nD)

/-- The residual stream as launched. -/
abbrev argX : S16x2048x1024.Idx → EReal := m ((c : Thread nD τ).loc main_arg0)
/-- The S5 branch as launched. -/
abbrev argY : S16x2048x256.Idx → EReal := m ((c : Thread nD τ).loc main_arg1)
/-- The window attention branch as launched. -/
abbrev argS : S16x2048x384.Idx → EReal := m ((c : Thread nD τ).loc main_arg2)
/-- The MoBA branch as launched. -/
abbrev argM : S16x2048x384.Idx → EReal := m ((c : Thread nD τ).loc main_arg3)
/-- The output weights as launched. -/
abbrev argO : S2x1024x1024.Idx → EReal := m ((c : Thread nD τ).loc main_arg4)
/-- The gains of the norm as launched. -/
abbrev argN : S2x1024.Idx → EReal := m ((c : Thread nD τ).loc main_arg5)
/-- The input weights as launched. -/
abbrev argW : S2x1024x2560.Idx → EReal := m ((c : Thread nD τ).loc main_arg6)
/-- The gains of the window attention queries as launched. -/
abbrev argA : S2x64.Idx → EReal := m ((c : Thread nD τ).loc main_arg7)
/-- The gains of the window attention keys as launched. -/
abbrev argB : S2x64.Idx → EReal := m ((c : Thread nD τ).loc main_arg8)
/-- The gains of the MoBA queries as launched. -/
abbrev argC : S2x64.Idx → EReal := m ((c : Thread nD τ).loc main_arg9)
/-- The gains of the MoBA keys as launched. -/
abbrev argD : S2x64.Idx → EReal := m ((c : Thread nD τ).loc main_arg10)

/-! ## The prepared arrays -/

theorem V_n (k : Fin 1024) : (V m c main_v0 : S2x1x1024.Idx → EReal) (ix3 1 0 k) = argN m c (ix2 1 k) := by
  unfold V
  after_reads_at

theorem V_y (b : Fin 16) (s : Fin 2048) (j : Fin 256) : (V m c main_v48 : S16x2048x256.Idx → EReal) (ix3 b s j) = argY m c (ix3 b s j) := by
  unfold V
  after_reads_at

theorem V_s (b : Fin 16) (s : Fin 2048) (j : Fin 384) : (V m c main_v52 : S16x2048x384.Idx → EReal) (ix3 b s j) = argS m c (ix3 b s ⟨untile j.val, untile_lt j.val j.isLt⟩) := by
  unfold V
  after_reads_at
  refine congrArg (argS m c) (congrArg _ (Fin.ext ?_))
  unfold untile
  dsimp only

theorem V_m (b : Fin 16) (s : Fin 2048) (j : Fin 384) : (V m c main_v56 : S16x2048x384.Idx → EReal) (ix3 b s j) = argM m c (ix3 b s ⟨untile j.val, untile_lt j.val j.isLt⟩) := by
  unfold V
  after_reads_at
  refine congrArg (argM m c) (congrArg _ (Fin.ext ?_))
  unfold untile
  dsimp only

theorem V_a (l : Fin 128) : (V m c main_v41 : S2x1x128.Idx → EReal) (ix3 1 0 l) = argA m c (ix2 1 ⟨l.val % 64, by omega⟩) := by
  unfold V
  after_reads_at
  by_cases h : l.val < 64
  · rw [dif_pos (by omega)]
    after_reads_at
    refine congrArg (argA m c) (congrArg _ (Fin.ext ?_))
    show l.val = l.val % 64
    omega
  · rw [dif_neg (by omega)]
    after_reads_at
    refine congrArg (argA m c) (congrArg _ (Fin.ext ?_))
    show l.val - 64 = l.val % 64
    omega

theorem V_b (l : Fin 128) : (V m c main_v43 : S2x1x128.Idx → EReal) (ix3 1 0 l) = argB m c (ix2 1 ⟨l.val % 64, by omega⟩) := by
  unfold V
  after_reads_at
  by_cases h : l.val < 64
  · rw [dif_pos (by omega)]
    after_reads_at
    refine congrArg (argB m c) (congrArg _ (Fin.ext ?_))
    show l.val = l.val % 64
    omega
  · rw [dif_neg (by omega)]
    after_reads_at
    refine congrArg (argB m c) (congrArg _ (Fin.ext ?_))
    show l.val - 64 = l.val % 64
    omega

theorem V_c (l : Fin 128) : (V m c main_v45 : S2x1x128.Idx → EReal) (ix3 1 0 l) = argC m c (ix2 1 ⟨l.val % 64, by omega⟩) := by
  unfold V
  after_reads_at
  by_cases h : l.val < 64
  · rw [dif_pos (by omega)]
    after_reads_at
    refine congrArg (argC m c) (congrArg _ (Fin.ext ?_))
    show l.val = l.val % 64
    omega
  · rw [dif_neg (by omega)]
    after_reads_at
    refine congrArg (argC m c) (congrArg _ (Fin.ext ?_))
    show l.val - 64 = l.val % 64
    omega

theorem V_d (l : Fin 128) : (V m c main_v47 : S2x1x128.Idx → EReal) (ix3 1 0 l) = argD m c (ix2 1 ⟨l.val % 64, by omega⟩) := by
  unfold V
  after_reads_at
  by_cases h : l.val < 64
  · rw [dif_pos (by omega)]
    after_reads_at
    refine congrArg (argD m c) (congrArg _ (Fin.ext ?_))
    show l.val = l.val % 64
    omega
  · rw [dif_neg (by omega)]
    after_reads_at
    refine congrArg (argD m c) (congrArg _ (Fin.ext ?_))
    show l.val - 64 = l.val % 64
    omega

theorem W_u (k : Fin 1024) (j : Fin 256) : (V m c main_v24 : S2x1024x2560.Idx → EReal) (ix3 1 k ⟨0 + j.val, by omega⟩) = argW m c (ix3 1 k ⟨0 + j.val, by omega⟩) := by
  unfold V
  after_reads_at
  after_reads_at

theorem W_sg (k : Fin 1024) (j : Fin 256) : (V m c main_v24 : S2x1024x2560.Idx → EReal) (ix3 1 k ⟨256 + j.val, by omega⟩) = argW m c (ix3 1 k ⟨256 + j.val, by omega⟩) := by
  unfold V
  after_reads_at
  after_reads_at

theorem W_aq (k : Fin 1024) (j : Fin 384) : (V m c main_v24 : S2x1024x2560.Idx → EReal) (ix3 1 k ⟨512 + j.val, by omega⟩) = argW m c (ix3 1 k ⟨512 + untile j.val, by have := untile_lt j.val j.isLt; omega⟩) := by
  unfold V
  after_reads_at
  rw [dif_neg (by omega), dif_neg (by omega), dif_pos (by omega)]
  after_reads_at
  refine congrArg (argW m c) (congrArg _ (Fin.ext ?_))
  unfold untile
  dsimp only
  omega

theorem W_ag (k : Fin 1024) (j : Fin 384) : (V m c main_v24 : S2x1024x2560.Idx → EReal) (ix3 1 k ⟨896 + j.val, by omega⟩) = argW m c (ix3 1 k ⟨1152 + untile j.val, by have := untile_lt j.val j.isLt; omega⟩) := by
  unfold V
  after_reads_at
  rw [dif_neg (by omega), dif_neg (by omega), dif_neg (by omega), dif_pos (by omega)]
  after_reads_at
  refine congrArg (argW m c) (congrArg _ (Fin.ext ?_))
  unfold untile
  dsimp only
  omega

theorem W_mq (k : Fin 1024) (j : Fin 384) : (V m c main_v24 : S2x1024x2560.Idx → EReal) (ix3 1 k ⟨1280 + j.val, by omega⟩) = argW m c (ix3 1 k ⟨1536 + untile j.val, by have := untile_lt j.val j.isLt; omega⟩) := by
  unfold V
  after_reads_at
  rw [dif_neg (by omega), dif_neg (by omega), dif_neg (by omega), dif_neg (by omega), dif_pos (by omega)]
  after_reads_at
  refine congrArg (argW m c) (congrArg _ (Fin.ext ?_))
  unfold untile
  dsimp only
  omega

theorem W_mg (k : Fin 1024) (j : Fin 384) : (V m c main_v24 : S2x1024x2560.Idx → EReal) (ix3 1 k ⟨1664 + j.val, by omega⟩) = argW m c (ix3 1 k ⟨2176 + untile j.val, by have := untile_lt j.val j.isLt; omega⟩) := by
  unfold V
  after_reads_at
  rw [dif_neg (by omega), dif_neg (by omega), dif_neg (by omega), dif_neg (by omega), dif_neg (by omega), dif_pos (by omega)]
  after_reads_at
  refine congrArg (argW m c) (congrArg _ (Fin.ext ?_))
  unfold untile
  dsimp only
  omega

theorem W_ak (k : Fin 1024) (j : Fin 128) : (V m c main_v24 : S2x1024x2560.Idx → EReal) (ix3 1 k ⟨2048 + j.val, by omega⟩) = argW m c (ix3 1 k ⟨896 + j.val, by omega⟩) := by
  unfold V
  after_reads_at
  rw [dif_neg (by omega), dif_neg (by omega), dif_neg (by omega), dif_neg (by omega), dif_neg (by omega), dif_neg (by omega), dif_pos (by omega)]
  after_reads_at
  refine congrArg (argW m c) (congrArg _ (Fin.ext ?_))
  dsimp only
  omega

theorem W_av (k : Fin 1024) (j : Fin 128) : (V m c main_v24 : S2x1024x2560.Idx → EReal) (ix3 1 k ⟨2176 + j.val, by omega⟩) = argW m c (ix3 1 k ⟨1024 + j.val, by omega⟩) := by
  unfold V
  after_reads_at
  rw [dif_neg (by omega), dif_neg (by omega), dif_neg (by omega), dif_neg (by omega), dif_neg (by omega), dif_neg (by omega), dif_neg (by omega), dif_pos (by omega)]
  after_reads_at
  refine congrArg (argW m c) (congrArg _ (Fin.ext ?_))
  dsimp only
  omega

theorem W_mk (k : Fin 1024) (j : Fin 128) : (V m c main_v24 : S2x1024x2560.Idx → EReal) (ix3 1 k ⟨2304 + j.val, by omega⟩) = argW m c (ix3 1 k ⟨1920 + j.val, by omega⟩) := by
  unfold V
  after_reads_at
  rw [dif_neg (by omega), dif_neg (by omega), dif_neg (by omega), dif_neg (by omega), dif_neg (by omega), dif_neg (by omega), dif_neg (by omega), dif_neg (by omega), dif_pos (by omega)]
  after_reads_at
  refine congrArg (argW m c) (congrArg _ (Fin.ext ?_))
  dsimp only
  omega

theorem W_mv (k : Fin 1024) (j : Fin 128) : (V m c main_v24 : S2x1024x2560.Idx → EReal) (ix3 1 k ⟨2432 + j.val, by omega⟩) = argW m c (ix3 1 k ⟨2048 + j.val, by omega⟩) := by
  unfold V
  after_reads_at
  rw [dif_neg (by omega), dif_neg (by omega), dif_neg (by omega), dif_neg (by omega), dif_neg (by omega), dif_neg (by omega), dif_neg (by omega), dif_neg (by omega), dif_neg (by omega)]
  after_reads_at
  refine congrArg (argW m c) (congrArg _ (Fin.ext ?_))
  dsimp only
  omega

/-- The row of the output weights that the kernel multiplies with entry `e` of the branches. -/
def perm (e : Fin 1024) : Fin 1024 :=
  if e.val < 256 then e else if h : e.val < 640 then ⟨256 + untile (e.val - 256), by have := untile_lt (e.val - 256) (by omega); omega⟩
  else ⟨640 + untile (e.val - 640), by have := untile_lt (e.val - 640) (by omega); omega⟩

theorem V_o (e k : Fin 1024) : (V m c main_v39 : S2x1024x1024.Idx → EReal) (ix3 0 e k) = argO m c (ix3 0 (perm e) k) := by
  unfold V
  after_reads_at
  unfold perm
  by_cases h : e.val < 256
  · rw [dif_pos (by omega), if_pos h]
    after_reads_at
  by_cases h' : e.val < 640
  · rw [dif_neg (by omega), dif_pos (by omega), if_neg h, dif_pos h']
    after_reads_at
    refine congrArg (argO m c) (congrArg (fun z => ix3 0 z k) (Fin.ext ?_))
    unfold untile
    dsimp only
  · rw [dif_neg (by omega), dif_neg (by omega), if_neg h, dif_neg h']
    after_reads_at
    refine congrArg (argO m c) (congrArg (fun z => ix3 0 z k) (Fin.ext ?_))
    unfold untile
    dsimp only
    omega

/-! ## The blocks -/

/-- The batch row of a grid point. -/
def batch (t : Fin cfg0.N) : Fin 16 := ⟨t.val / 2, by have h : t.val < 32 := t.isLt; omega⟩

/-- The row of the sequence of row `R` of a block. -/
def row (t : Fin cfg0.N) (R : Fin 1024) : Fin 2048 := ⟨t.val % 2 * 1024 + R.val, by omega⟩

theorem idx0 : ∀ t : Fin cfg0.N, win0_0.index t = ![t.val / 2, t.val % 2, 0] := by decide +kernel
theorem idx1 : ∀ t : Fin cfg0.N, win0_1.index t = ![t.val / 2, t.val % 2, 0] := by decide +kernel
theorem idx2 : ∀ t : Fin cfg0.N, win0_2.index t = ![t.val / 2, t.val % 2, 0] := by decide +kernel
theorem idx3 : ∀ t : Fin cfg0.N, win0_3.index t = ![t.val / 2, t.val % 2, 0] := by decide +kernel
theorem idx4 : ∀ t : Fin cfg0.N, win0_4.index t = ![0, 0, 0] := by decide +kernel
theorem idx5 : ∀ t : Fin cfg0.N, win0_5.index t = ![1, 0, 0] := by decide +kernel
theorem idx6 : ∀ t : Fin cfg0.N, win0_6.index t = ![1, 0, 0] := by decide +kernel
theorem idx7 : ∀ t : Fin cfg0.N, win0_7.index t = ![1, 0, 0] := by decide +kernel
theorem idx8 : ∀ t : Fin cfg0.N, win0_8.index t = ![1, 0, 0] := by decide +kernel
theorem idx9 : ∀ t : Fin cfg0.N, win0_9.index t = ![1, 0, 0] := by decide +kernel
theorem idx10 : ∀ t : Fin cfg0.N, win0_10.index t = ![1, 0, 0] := by decide +kernel
theorem idx11 : ∀ t : Fin cfg0.N, win0_11.index t = ![t.val / 2, t.val % 2, 0] := by decide +kernel
theorem idx12 : ∀ t : Fin cfg0.N, win0_12.index t = ![t.val / 2, t.val % 2, 0] := by decide +kernel
theorem idx13 : ∀ t : Fin cfg0.N, win0_13.index t = ![t.val / 2, t.val % 2, 0] := by decide +kernel
theorem idx14 : ∀ t : Fin cfg0.N, win0_14.index t = ![t.val / 2, t.val % 2, 0] := by decide +kernel
theorem idx15 : ∀ t : Fin cfg0.N, win0_15.index t = ![t.val / 2, t.val % 2, 0] := by decide +kernel
theorem idx16 : ∀ t : Fin cfg0.N, win0_16.index t = ![t.val / 2, t.val % 2, 0] := by decide +kernel
theorem idx17 : ∀ t : Fin cfg0.N, win0_17.index t = ![t.val / 2, t.val % 2, 0] := by decide +kernel
theorem idx18 : ∀ t : Fin cfg0.N, win0_18.index t = ![t.val / 2, t.val % 2, 0] := by decide +kernel
theorem idx19 : ∀ t : Fin cfg0.N, win0_19.index t = ![t.val / 2, t.val % 2, 0] := by decide +kernel
theorem idx20 : ∀ t : Fin cfg0.N, win0_20.index t = ![t.val / 2, t.val % 2, 0] := by decide +kernel

theorem blk_x (t : Fin cfg0.N) (R k : Fin 1024) :
    (iblk m c 0 t : S1x1024x1024.Idx → EReal) (ix3 0 R k) = argX m c (ix3 (batch t) (row t R) k) := by
  blk_simp [iblk]
  refine (congrFun (V_main_arg0 m c) _).trans (congrArg (argX m c) ?_)
  blk_ext [idx0 t, batch, row]

theorem blk_y (t : Fin cfg0.N) (R : Fin 1024) (j : Fin 256) :
    (iblk m c 1 t : S1x1024x256.Idx → EReal) (ix3 0 R j) = argY m c (ix3 (batch t) (row t R) j) := by
  refine Eq.trans ?_ (V_y m c (batch t) (row t R) j)
  blk_simp [iblk]
  refine congrArg (V m c main_v48) ?_
  blk_ext [idx1 t, batch, row]

theorem blk_s (t : Fin cfg0.N) (R : Fin 1024) (j : Fin 384) :
    (iblk m c 2 t : S1x1024x384.Idx → EReal) (ix3 0 R j) = argS m c (ix3 (batch t) (row t R) ⟨untile j.val, untile_lt j.val j.isLt⟩) := by
  refine Eq.trans ?_ (V_s m c (batch t) (row t R) j)
  blk_simp [iblk]
  refine congrArg (V m c main_v52) ?_
  blk_ext [idx2 t, batch, row]

theorem blk_m (t : Fin cfg0.N) (R : Fin 1024) (j : Fin 384) :
    (iblk m c 3 t : S1x1024x384.Idx → EReal) (ix3 0 R j) = argM m c (ix3 (batch t) (row t R) ⟨untile j.val, untile_lt j.val j.isLt⟩) := by
  refine Eq.trans ?_ (V_m m c (batch t) (row t R) j)
  blk_simp [iblk]
  refine congrArg (V m c main_v56) ?_
  blk_ext [idx3 t, batch, row]

theorem blk_o (t : Fin cfg0.N) (e k : Fin 1024) :
    (iblk m c 4 t : S1x1024x1024.Idx → EReal) (ix3 0 e k) = argO m c (ix3 0 (perm e) k) := by
  refine Eq.trans ?_ (V_o m c e k)
  blk_simp [iblk]
  refine congrArg (V m c main_v39) ?_
  blk_ext [idx4 t]

theorem blk_n (t : Fin cfg0.N) (k : Fin 1024) :
    (iblk m c 5 t : S1x1x1024.Idx → EReal) (ix3 0 0 k) = argN m c (ix2 1 k) := by
  refine Eq.trans ?_ (V_n m c k)
  blk_simp [iblk]
  refine congrArg (V m c main_v0) ?_
  blk_ext [idx5 t]

theorem blk_w (t : Fin cfg0.N) (k : Fin 1024) (j : Fin 2560) :
    (iblk m c 6 t : S1x1024x2560.Idx → EReal) (ix3 0 k j) = (V m c main_v24 : S2x1024x2560.Idx → EReal) (ix3 1 k j) := by
  blk_simp [iblk]
  refine congrArg (V m c main_v24) ?_
  blk_ext [idx6 t]

theorem blk_a (t : Fin cfg0.N) (l : Fin 128) :
    (iblk m c 7 t : S1x1x128.Idx → EReal) (ix3 0 0 l) = argA m c (ix2 1 ⟨l.val % 64, by omega⟩) := by
  refine Eq.trans ?_ (V_a m c l)
  blk_simp [iblk]
  refine congrArg (V m c main_v41) ?_
  blk_ext [idx7 t]

theorem blk_b (t : Fin cfg0.N) (l : Fin 128) :
    (iblk m c 8 t : S1x1x128.Idx → EReal) (ix3 0 0 l) = argB m c (ix2 1 ⟨l.val % 64, by omega⟩) := by
  refine Eq.trans ?_ (V_b m c l)
  blk_simp [iblk]
  refine congrArg (V m c main_v43) ?_
  blk_ext [idx8 t]

theorem blk_c (t : Fin cfg0.N) (l : Fin 128) :
    (iblk m c 9 t : S1x1x128.Idx → EReal) (ix3 0 0 l) = argC m c (ix2 1 ⟨l.val % 64, by omega⟩) := by
  refine Eq.trans ?_ (V_c m c l)
  blk_simp [iblk]
  refine congrArg (V m c main_v45) ?_
  blk_ext [idx9 t]

theorem blk_d (t : Fin cfg0.N) (l : Fin 128) :
    (iblk m c 10 t : S1x1x128.Idx → EReal) (ix3 0 0 l) = argD m c (ix2 1 ⟨l.val % 64, by omega⟩) := by
  refine Eq.trans ?_ (V_d m c l)
  blk_simp [iblk]
  refine congrArg (V m c main_v47) ?_
  blk_ext [idx10 t]

/-! ## The new residual stream -/

/-- The column, heads laid out by tile, of a column in the order of the heads. -/
theorem untile_cases : ∀ n : Fin 384, untile (n.val / 64 % 3 * 128 + n.val / 192 * 64 + n.val % 64) = n.val := by decide +kernel

theorem perm_bijective : Function.Bijective perm := by
  refine Finite.surjective_iff_bijective.mp fun e => ?_
  by_cases h : e.val < 256
  · exact ⟨e, by unfold perm; rw [if_pos h]⟩
  by_cases h' : e.val < 640
  · have u := untile_cases ⟨e.val - 256, by omega⟩
    dsimp only at u
    refine ⟨⟨256 + ((e.val - 256) / 64 % 3 * 128 + (e.val - 256) / 192 * 64 + (e.val - 256) % 64), by omega⟩, ?_⟩
    unfold perm
    rw [if_neg (by dsimp only; omega), dif_pos (by dsimp only; omega)]
    refine Fin.ext ?_
    dsimp only
    rw [Nat.add_sub_cancel_left, u]
    omega
  · have u := untile_cases ⟨e.val - 640, by omega⟩
    dsimp only at u
    refine ⟨⟨640 + ((e.val - 640) / 64 % 3 * 128 + (e.val - 640) / 192 * 64 + (e.val - 640) % 64), by omega⟩, ?_⟩
    unfold perm
    rw [if_neg (by dsimp only; omega), dif_neg (by dsimp only; omega)]
    refine Fin.ext ?_
    dsimp only
    rw [Nat.add_sub_cancel_left, u]
    omega

/-- The branches laid out by tile are the branches permuted. -/
theorem cat_perm (p : Fin 256 → EReal) (q r : Fin 384 → EReal) (e : Fin 1024) :
    cat p (fun j => q ⟨untile j.val, untile_lt j.val j.isLt⟩) (fun j => r ⟨untile j.val, untile_lt j.val j.isLt⟩) e = cat p q r (perm e) := by
  unfold cat perm
  by_cases h : e.val < 256
  · rw [if_pos h, dif_pos h, dif_pos h]
  by_cases h' : e.val < 640
  · have u := untile_lt (e.val - 256) (by omega)
    rw [if_neg h, dif_neg h, dif_pos h', dif_pos h', dif_neg (by dsimp only; omega), dif_pos (by dsimp only; omega)]
    exact congrArg q (Fin.ext (by dsimp only; omega))
  · have u := untile_lt (e.val - 640) (by omega)
    rw [if_neg h, dif_neg h, dif_neg h', dif_neg h', dif_neg (by dsimp only; omega), dif_neg (by dsimp only; omega)]
    exact congrArg r (Fin.ext (by dsimp only; omega))

/-- The residual stream after the first layer, from the arguments. -/
def RX (x : S16x2048x1024.Idx → EReal) (y : S16x2048x256.Idx → EReal) (z u : S16x2048x384.Idx → EReal) (o : S2x1024x1024.Idx → EReal)
    (b : Fin 16) (s : Fin 2048) (k : Fin 1024) : EReal :=
  x (ix3 b s k) + ∑ e : Fin 1024, cat (fun j => y (ix3 b s j)) (fun j => z (ix3 b s j)) (fun j => u (ix3 b s j)) e * o (ix3 0 e k)

/-- That of the launched arguments. -/
abbrev RM (b : Fin 16) (s : Fin 2048) (k : Fin 1024) : EReal := RX (argX m c) (argY m c) (argS m c) (argM m c) (argO m c) b s k

theorem res_eq (t : Fin cfg0.N) (R k : Fin 1024) :
    res (iblk m c 0 t) (iblk m c 1 t) (iblk m c 2 t) (iblk m c 3 t) (iblk m c 4 t) R k = RM m c (batch t) (row t R) k := by
  unfold res RM RX
  refine congrArg₂ (· + ·) (blk_x m c t R k) ?_
  refine Eq.trans ?_ (perm_bijective.sum_comp fun e => cat (fun j => argY m c (ix3 (batch t) (row t R) j)) (fun j => argS m c (ix3 (batch t) (row t R) j))
    (fun j => argM m c (ix3 (batch t) (row t R) j)) e * argO m c (ix3 0 e k))
  refine Finset.sum_congr rfl fun e _ => congrArg₂ (· * ·) ?_ (blk_o m c t e k)
  refine Eq.trans ?_ (cat_perm _ _ _ e)
  rw [funext fun j => blk_y m c t R j, funext fun j => blk_s m c t R j, funext fun j => blk_m m c t R j]

/-- The new residual stream of a block. -/
def X (t : Fin cfg0.N) : Vec Ideal Cert.Kernel2Ideal.S1x1024x1024 .f32 := out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem X_apply (t : Fin cfg0.N) (R k : Fin 1024) : X m c t (ix3 0 R k) = RM m c (batch t) (row t R) k :=
  (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) R k).trans (res_eq m c t R k)

/-- Row `s` of batch `b`, normalised and projected, in the kernel's order of columns. -/
def PK (b : Fin 16) (s : Fin 2048) : Fin 2560 → EReal :=
  prj (inH (fun j => RM m c b s j) (fun j => argN m c (ix2 1 j))) (fun k j => (V m c main_v24 : S2x1024x2560.Idx → EReal) (ix3 1 k j))

theorem Pb_eq (t : Fin cfg0.N) (R : Fin 1024) : Pb (X m c t) (iblk m c 5 t) (iblk m c 6 t) R = PK m c (batch t) (row t R) := by
  unfold Pb PK
  rw [funext fun j => X_apply m c t R j, funext fun j => blk_n m c t j, funext fun k => funext fun j => blk_w m c t k j]

/-- The gain of a pair of heads. -/
def pair (g : S2x64.Idx → EReal) (l : Fin 128) : EReal := g (ix2 1 ⟨l.val % 64, by omega⟩)

/-! ## The arrays after the run -/

def arr11 (b : Fin 16) (s : Fin 2048) (k : Fin 1024) : EReal := RM m c b s k

theorem arr11_eq : (dats m 0 c).arrAt 11 cfg0.N = fun i : S16x2048x1024.Idx => arr11 m c (i 0) (i 1) (i 2) := by
  refine (dats m 0 c).arrAt_eq_of_covers 11 _ (by decide +kernel) fun t hf y => ?_
  blk_simp
  rw [after0_11]
  have e : ((win0_11.blk t).view.emb y : S16x2048x1024.Idx) = ix3 (batch t) (row t (y 1)) (y 2) := by
    have y0 : (y 0).val = 0 := by have : (y 0).val < 1 := (y 0).isLt; omega
    blk_ext [idx11 t, batch, row]
  have e' : y = (ix3 0 (y 1) (y 2) : S1x1024x1024.Idx) := by
    funext a
    match a with
    | ⟨0, _⟩ => exact Subsingleton.elim (α := Fin 1) _ _
    | ⟨1, _⟩ => rfl
    | ⟨2, _⟩ => rfl
  rw [e]
  refine (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  exact X_apply m c t (y 1) (y 2)

def arr12 (b : Fin 16) (s : Fin 2048) (l : Fin 256) : EReal := PK m c b s ⟨l.val, by omega⟩

theorem arr12_eq : (dats m 0 c).arrAt 12 cfg0.N = fun i : S16x2048x256.Idx => arr12 m c (i 0) (i 1) (i 2) := by
  refine (dats m 0 c).arrAt_eq_of_covers 12 _ (by decide +kernel) fun t hf y => ?_
  blk_simp
  rw [after0_12]
  have e : ((win0_12.blk t).view.emb y : S16x2048x256.Idx) = ix3 (batch t) (row t (y 1)) (y 2) := by
    have y0 : (y 0).val = 0 := by have : (y 0).val < 1 := (y 0).isLt; omega
    blk_ext [idx12 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out12_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out7_apply (X m c t) (iblk m c 5 t) (iblk m c 6 t) (iblk m c 7 t) (iblk m c 8 t) (iblk m c 9 t) (iblk m c 10 t) (y 1) (y 2)).trans ?_
  show Cert.Kernel2Ideal.Val.f7 (X m c t) (iblk m c 5 t) (iblk m c 6 t) (y 1) (y 2) = arr12 m c (batch t) (row t (y 1)) (y 2)
  generalize (y 2 : Fin 256) = l
  generalize (y 1 : Fin 1024) = R
  unfold Cert.Kernel2Ideal.Val.f7 arr12
  rw [Pb_eq m c t R]

def arr13 (b : Fin 16) (s : Fin 2048) (l : Fin 256) : EReal := sil (PK m c b s ⟨256 + l.val, by omega⟩)

theorem arr13_eq : (dats m 0 c).arrAt 13 cfg0.N = fun i : S16x2048x256.Idx => arr13 m c (i 0) (i 1) (i 2) := by
  refine (dats m 0 c).arrAt_eq_of_covers 13 _ (by decide +kernel) fun t hf y => ?_
  blk_simp
  rw [after0_13]
  have e : ((win0_13.blk t).view.emb y : S16x2048x256.Idx) = ix3 (batch t) (row t (y 1)) (y 2) := by
    have y0 : (y 0).val = 0 := by have : (y 0).val < 1 := (y 0).isLt; omega
    blk_ext [idx13 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out13_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out8_apply (X m c t) (iblk m c 5 t) (iblk m c 6 t) (iblk m c 7 t) (iblk m c 8 t) (iblk m c 9 t) (iblk m c 10 t) (y 1) (y 2)).trans ?_
  show Cert.Kernel2Ideal.Val.f8 (X m c t) (iblk m c 5 t) (iblk m c 6 t) (y 1) (y 2) = arr13 m c (batch t) (row t (y 1)) (y 2)
  generalize (y 2 : Fin 256) = l
  generalize (y 1 : Fin 1024) = R
  unfold Cert.Kernel2Ideal.Val.f8 arr13
  rw [Pb_eq m c t R]

def arr14 (b : Fin 16) (s : Fin 2048) (l : Fin 384) : EReal := nrm (PK m c b s) (pair (argA m c)) ⟨512 + l.val, by omega⟩ * (Named.named Cert.Kernel2Ideal.κ "qscale" 0x3E38AA3B#32 : Ideal .f32)

theorem arr14_eq : (dats m 0 c).arrAt 14 cfg0.N = fun i : S16x2048x384.Idx => arr14 m c (i 0) (i 1) (i 2) := by
  refine (dats m 0 c).arrAt_eq_of_covers 14 _ (by decide +kernel) fun t hf y => ?_
  blk_simp
  rw [after0_14]
  have e : ((win0_14.blk t).view.emb y : S16x2048x384.Idx) = ix3 (batch t) (row t (y 1)) (y 2) := by
    have y0 : (y 0).val = 0 := by have : (y 0).val < 1 := (y 0).isLt; omega
    blk_ext [idx14 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out9_apply (X m c t) (iblk m c 5 t) (iblk m c 6 t) (iblk m c 7 t) (iblk m c 8 t) (iblk m c 9 t) (iblk m c 10 t) (y 1) (y 2)).trans ?_
  show Cert.Kernel2Ideal.Val.f9 (X m c t) (iblk m c 5 t) (iblk m c 6 t) (iblk m c 7 t) (y 1) (y 2) = arr14 m c (batch t) (row t (y 1)) (y 2)
  generalize (y 2 : Fin 384) = l
  generalize (y 1 : Fin 1024) = R
  unfold Cert.Kernel2Ideal.Val.f9 arr14
  rw [Pb_eq m c t R, funext fun l => blk_a m c t l]
  rfl

def arr15 (b : Fin 16) (s : Fin 2048) (l : Fin 384) : EReal := sil (PK m c b s ⟨896 + l.val, by omega⟩)

theorem arr15_eq : (dats m 0 c).arrAt 15 cfg0.N = fun i : S16x2048x384.Idx => arr15 m c (i 0) (i 1) (i 2) := by
  refine (dats m 0 c).arrAt_eq_of_covers 15 _ (by decide +kernel) fun t hf y => ?_
  blk_simp
  rw [after0_15]
  have e : ((win0_15.blk t).view.emb y : S16x2048x384.Idx) = ix3 (batch t) (row t (y 1)) (y 2) := by
    have y0 : (y 0).val = 0 := by have : (y 0).val < 1 := (y 0).isLt; omega
    blk_ext [idx15 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out10_apply (X m c t) (iblk m c 5 t) (iblk m c 6 t) (iblk m c 7 t) (iblk m c 8 t) (iblk m c 9 t) (iblk m c 10 t) (y 1) (y 2)).trans ?_
  show Cert.Kernel2Ideal.Val.f10 (X m c t) (iblk m c 5 t) (iblk m c 6 t) (y 1) (y 2) = arr15 m c (batch t) (row t (y 1)) (y 2)
  generalize (y 2 : Fin 384) = l
  generalize (y 1 : Fin 1024) = R
  unfold Cert.Kernel2Ideal.Val.f10 arr15
  rw [Pb_eq m c t R]

def arr16 (b : Fin 16) (s : Fin 2048) (l : Fin 384) : EReal := nrm (PK m c b s) (pair (argC m c)) ⟨1280 + l.val, by omega⟩ * (Named.named Cert.Kernel2Ideal.κ "qscale" 0x3E38AA3B#32 : Ideal .f32)

theorem arr16_eq : (dats m 0 c).arrAt 16 cfg0.N = fun i : S16x2048x384.Idx => arr16 m c (i 0) (i 1) (i 2) := by
  refine (dats m 0 c).arrAt_eq_of_covers 16 _ (by decide +kernel) fun t hf y => ?_
  blk_simp
  rw [after0_16]
  have e : ((win0_16.blk t).view.emb y : S16x2048x384.Idx) = ix3 (batch t) (row t (y 1)) (y 2) := by
    have y0 : (y 0).val = 0 := by have : (y 0).val < 1 := (y 0).isLt; omega
    blk_ext [idx16 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out11_apply (X m c t) (iblk m c 5 t) (iblk m c 6 t) (iblk m c 7 t) (iblk m c 8 t) (iblk m c 9 t) (iblk m c 10 t) (y 1) (y 2)).trans ?_
  show Cert.Kernel2Ideal.Val.f11 (X m c t) (iblk m c 5 t) (iblk m c 6 t) (iblk m c 9 t) (y 1) (y 2) = arr16 m c (batch t) (row t (y 1)) (y 2)
  generalize (y 2 : Fin 384) = l
  generalize (y 1 : Fin 1024) = R
  unfold Cert.Kernel2Ideal.Val.f11 arr16
  rw [Pb_eq m c t R, funext fun l => blk_c m c t l]
  rfl

def arr17 (b : Fin 16) (s : Fin 2048) (l : Fin 128) : EReal := nrm (PK m c b s) (pair (argC m c)) ⟨1536 + l.val, by omega⟩ + nrm (PK m c b s) (pair (argC m c)) ⟨1408 + l.val, by omega⟩ + nrm (PK m c b s) (pair (argC m c)) ⟨1280 + l.val, by omega⟩

theorem arr17_eq : (dats m 0 c).arrAt 17 cfg0.N = fun i : S16x2048x128.Idx => arr17 m c (i 0) (i 1) (i 2) := by
  refine (dats m 0 c).arrAt_eq_of_covers 17 _ (by decide +kernel) fun t hf y => ?_
  blk_simp
  rw [after0_17]
  have e : ((win0_17.blk t).view.emb y : S16x2048x128.Idx) = ix3 (batch t) (row t (y 1)) (y 2) := by
    have y0 : (y 0).val = 0 := by have : (y 0).val < 1 := (y 0).isLt; omega
    blk_ext [idx17 t, batch, row]
  have e' : y = (ix3 0 (y 1) (y 2) : S1x1024x128.Idx) := by
    funext a
    match a with
    | ⟨0, _⟩ => exact Subsingleton.elim (α := Fin 1) _ _
    | ⟨1, _⟩ => rfl
    | ⟨2, _⟩ => rfl
  rw [e]
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out12_apply (X m c t) (iblk m c 5 t) (iblk m c 6 t) (iblk m c 7 t) (iblk m c 8 t) (iblk m c 9 t) (iblk m c 10 t) (y 1) (y 2)).trans ?_
  show Cert.Kernel2Ideal.Val.f12 (X m c t) (iblk m c 5 t) (iblk m c 6 t) (iblk m c 9 t) (y 1) (y 2) = arr17 m c (batch t) (row t (y 1)) (y 2)
  generalize (y 2 : Fin 128) = l
  generalize (y 1 : Fin 1024) = R
  unfold Cert.Kernel2Ideal.Val.f12 arr17
  rw [Pb_eq m c t R, funext fun l => blk_c m c t l]
  rfl

def arr18 (b : Fin 16) (s : Fin 2048) (l : Fin 384) : EReal := sil (PK m c b s ⟨1664 + l.val, by omega⟩)

theorem arr18_eq : (dats m 0 c).arrAt 18 cfg0.N = fun i : S16x2048x384.Idx => arr18 m c (i 0) (i 1) (i 2) := by
  refine (dats m 0 c).arrAt_eq_of_covers 18 _ (by decide +kernel) fun t hf y => ?_
  blk_simp
  rw [after0_18]
  have e : ((win0_18.blk t).view.emb y : S16x2048x384.Idx) = ix3 (batch t) (row t (y 1)) (y 2) := by
    have y0 : (y 0).val = 0 := by have : (y 0).val < 1 := (y 0).isLt; omega
    blk_ext [idx18 t, batch, row]
  have e' : y = (ix3 0 (y 1) (y 2) : S1x1024x384.Idx) := by
    funext a
    match a with
    | ⟨0, _⟩ => exact Subsingleton.elim (α := Fin 1) _ _
    | ⟨1, _⟩ => rfl
    | ⟨2, _⟩ => rfl
  rw [e]
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out13_apply (X m c t) (iblk m c 5 t) (iblk m c 6 t) (iblk m c 7 t) (iblk m c 8 t) (iblk m c 9 t) (iblk m c 10 t) (y 1) (y 2)).trans ?_
  show Cert.Kernel2Ideal.Val.f13 (X m c t) (iblk m c 5 t) (iblk m c 6 t) (y 1) (y 2) = arr18 m c (batch t) (row t (y 1)) (y 2)
  generalize (y 2 : Fin 384) = l
  generalize (y 1 : Fin 1024) = R
  unfold Cert.Kernel2Ideal.Val.f13 arr18
  rw [Pb_eq m c t R]

def arr19 (b : Fin 16) (s : Fin 2048) (l : Fin 256) : EReal := if l.val < 128 then nrm (PK m c b s) (pair (argB m c)) ⟨2048 + l.val, by omega⟩ else PK m c b s ⟨2048 + l.val, by omega⟩

theorem arr19_eq : (dats m 0 c).arrAt 19 cfg0.N = fun i : S16x2048x256.Idx => arr19 m c (i 0) (i 1) (i 2) := by
  refine (dats m 0 c).arrAt_eq_of_covers 19 _ (by decide +kernel) fun t hf y => ?_
  blk_simp
  rw [after0_19]
  have e : ((win0_19.blk t).view.emb y : S16x2048x256.Idx) = ix3 (batch t) (row t (y 1)) (y 2) := by
    have y0 : (y 0).val = 0 := by have : (y 0).val < 1 := (y 0).isLt; omega
    blk_ext [idx19 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out14_apply (X m c t) (iblk m c 5 t) (iblk m c 6 t) (iblk m c 7 t) (iblk m c 8 t) (iblk m c 9 t) (iblk m c 10 t) (y 1) (y 2)).trans ?_
  show Cert.Kernel2Ideal.Val.f14 (X m c t) (iblk m c 5 t) (iblk m c 6 t) (iblk m c 8 t) (y 1) (y 2) = arr19 m c (batch t) (row t (y 1)) (y 2)
  generalize (y 2 : Fin 256) = l
  generalize (y 1 : Fin 1024) = R
  unfold Cert.Kernel2Ideal.Val.f14 arr19
  rw [Pb_eq m c t R, funext fun l => blk_b m c t l]
  rfl

def arr20 (b : Fin 16) (s : Fin 2048) (l : Fin 256) : EReal := if l.val < 128 then nrm (PK m c b s) (pair (argD m c)) ⟨2304 + l.val, by omega⟩ else PK m c b s ⟨2304 + l.val, by omega⟩

theorem arr20_eq : (dats m 0 c).arrAt 20 cfg0.N = fun i : S16x2048x256.Idx => arr20 m c (i 0) (i 1) (i 2) := by
  refine (dats m 0 c).arrAt_eq_of_covers 20 _ (by decide +kernel) fun t hf y => ?_
  blk_simp
  rw [after0_20]
  have e : ((win0_20.blk t).view.emb y : S16x2048x256.Idx) = ix3 (batch t) (row t (y 1)) (y 2) := by
    have y0 : (y 0).val = 0 := by have : (y 0).val < 1 := (y 0).isLt; omega
    blk_ext [idx20 t, batch, row]
  have e' : y = (ix3 0 (y 1) (y 2) : S1x1024x256.Idx) := by
    funext a
    match a with
    | ⟨0, _⟩ => exact Subsingleton.elim (α := Fin 1) _ _
    | ⟨1, _⟩ => rfl
    | ⟨2, _⟩ => rfl
  rw [e]
  refine (congrArg (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)) e').trans ?_
  refine (congrFun (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Cert.Kernel2Ideal.Val.out15_apply (X m c t) (iblk m c 5 t) (iblk m c 6 t) (iblk m c 7 t) (iblk m c 8 t) (iblk m c 9 t) (iblk m c 10 t) (y 1) (y 2)).trans ?_
  show Cert.Kernel2Ideal.Val.f15 (X m c t) (iblk m c 5 t) (iblk m c 6 t) (iblk m c 10 t) (y 1) (y 2) = arr20 m c (batch t) (row t (y 1)) (y 2)
  generalize (y 2 : Fin 256) = l
  generalize (y 1 : Fin 1024) = R
  unfold Cert.Kernel2Ideal.Val.f15 arr20
  rw [Pb_eq m c t R, funext fun l => blk_d m c t l]
  rfl

end Cert.Kernel3Ideal.Val
-- ==== Proof.OutinTail.lean ====
module

public import proofs.«01_k».proof.Proof.OutinHost
public import proofs.«01_k».proof.Proof.EdgeTail

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic
open Idealize.SL Idealize.SL.Sem
open Cert.Kernel2Ideal.Val (sil inH prj nrm hd nrm_hd untile untile_lt untile_tile qcol gcol kcol vcol unscale)
open scoped BigOperators

variable (m : (ℓ : Loc nD τ sig) → Buf (Elt Ideal) ℓ) (c : Dev nD)

theorem tail_v60 (b : Fin 16) (s : Fin 2048) (l : Fin 256) : (Pipeline.afterTail₀ cfgs (dats m) 0 (V0 m) [hostOps1] c main_v60 : S16x2048x256.Idx → EReal) (ix3 b s l) = arr12 m c b s l := by
  unfold Pipeline.afterTail₀
  after_reads_at
  refine (congrFun (Pipeline.withArrays_arr (cfgs 0).spec launch0.win.arr_inj c (V0 m c) _ 12) _).trans ?_
  refine (congrFun (arr12_eq m c) _).trans ?_
  rfl

theorem tail_v61 (b : Fin 16) (s : Fin 2048) (l : Fin 256) : (Pipeline.afterTail₀ cfgs (dats m) 0 (V0 m) [hostOps1] c main_v61 : S16x2048x256.Idx → EReal) (ix3 b s l) = arr13 m c b s l := by
  unfold Pipeline.afterTail₀
  after_reads_at
  refine (congrFun (Pipeline.withArrays_arr (cfgs 0).spec launch0.win.arr_inj c (V0 m c) _ 13) _).trans ?_
  refine (congrFun (arr13_eq m c) _).trans ?_
  rfl

theorem tail_v68 (b : Fin 16) (s : Fin 2048) (h : Fin 6) (d : Fin 64) : (Pipeline.afterTail₀ cfgs (dats m) 0 (V0 m) [hostOps1] c main_v68 : S16x2048x6x64.Idx → EReal) (ix4 b s h d) = arr14 m c b s (qcol h d) * unscale := by
  unfold Pipeline.afterTail₀
  after_reads_at
  refine congrArg₂ (· * ·) ?_ rfl
  refine (congrFun (Pipeline.withArrays_arr (cfgs 0).spec launch0.win.arr_inj c (V0 m c) _ 14) _).trans ?_
  refine (congrFun (arr14_eq m c) _).trans ?_
  exact congrArg (arr14 m c b s) (Fin.ext (by show (h.val * 64 + d.val) / 64 % 3 * 128 + (h.val * 64 + d.val) / 192 * 64 + (h.val * 64 + d.val) % 64 = h.val % 3 * 128 + h.val / 3 * 64 + d.val; omega))

theorem tail_v71 (b : Fin 16) (s : Fin 2048) (h : Fin 2) (d : Fin 64) : (Pipeline.afterTail₀ cfgs (dats m) 0 (V0 m) [hostOps1] c main_v71 : S16x2048x2x64.Idx → EReal) (ix4 b s h d) = arr19 m c b s (kcol h d) := by
  unfold Pipeline.afterTail₀
  after_reads_at
  refine (congrFun (Pipeline.withArrays_arr (cfgs 0).spec launch0.win.arr_inj c (V0 m c) _ 19) _).trans ?_
  refine (congrFun (arr19_eq m c) _).trans ?_
  rfl

theorem tail_v74 (b : Fin 16) (s : Fin 2048) (h : Fin 2) (d : Fin 64) : (Pipeline.afterTail₀ cfgs (dats m) 0 (V0 m) [hostOps1] c main_v74 : S16x2048x2x64.Idx → EReal) (ix4 b s h d) = arr19 m c b s (vcol h d) := by
  unfold Pipeline.afterTail₀
  after_reads_at
  refine (congrFun (Pipeline.withArrays_arr (cfgs 0).spec launch0.win.arr_inj c (V0 m c) _ 19) _).trans ?_
  refine (congrFun (arr19_eq m c) _).trans ?_
  rfl

theorem tail_v78 (b : Fin 16) (s : Fin 2048) (l : Fin 384) : (Pipeline.afterTail₀ cfgs (dats m) 0 (V0 m) [hostOps1] c main_v78 : S16x2048x384.Idx → EReal) (ix3 b s l) = arr15 m c b s (gcol l) := by
  unfold Pipeline.afterTail₀
  after_reads_at
  refine (congrFun (Pipeline.withArrays_arr (cfgs 0).spec launch0.win.arr_inj c (V0 m c) _ 15) _).trans ?_
  refine (congrFun (arr15_eq m c) _).trans ?_
  rfl

theorem tail_v85 (b : Fin 16) (s : Fin 2048) (h : Fin 6) (d : Fin 64) : (Pipeline.afterTail₀ cfgs (dats m) 0 (V0 m) [hostOps1] c main_v85 : S16x2048x6x64.Idx → EReal) (ix4 b s h d) = arr16 m c b s (qcol h d) * unscale := by
  unfold Pipeline.afterTail₀
  after_reads_at
  refine congrArg₂ (· * ·) ?_ rfl
  refine (congrFun (Pipeline.withArrays_arr (cfgs 0).spec launch0.win.arr_inj c (V0 m c) _ 16) _).trans ?_
  refine (congrFun (arr16_eq m c) _).trans ?_
  exact congrArg (arr16 m c b s) (Fin.ext (by show (h.val * 64 + d.val) / 64 % 3 * 128 + (h.val * 64 + d.val) / 192 * 64 + (h.val * 64 + d.val) % 64 = h.val % 3 * 128 + h.val / 3 * 64 + d.val; omega))

theorem tail_v88 (b : Fin 16) (s : Fin 2048) (h : Fin 2) (d : Fin 64) : (Pipeline.afterTail₀ cfgs (dats m) 0 (V0 m) [hostOps1] c main_v88 : S16x2048x2x64.Idx → EReal) (ix4 b s h d) = arr20 m c b s (kcol h d) := by
  unfold Pipeline.afterTail₀
  after_reads_at
  refine (congrFun (Pipeline.withArrays_arr (cfgs 0).spec launch0.win.arr_inj c (V0 m c) _ 20) _).trans ?_
  refine (congrFun (arr20_eq m c) _).trans ?_
  rfl

theorem tail_v91 (b : Fin 16) (s : Fin 2048) (h : Fin 2) (d : Fin 64) : (Pipeline.afterTail₀ cfgs (dats m) 0 (V0 m) [hostOps1] c main_v91 : S16x2048x2x64.Idx → EReal) (ix4 b s h d) = arr20 m c b s (vcol h d) := by
  unfold Pipeline.afterTail₀
  after_reads_at
  refine (congrFun (Pipeline.withArrays_arr (cfgs 0).spec launch0.win.arr_inj c (V0 m c) _ 20) _).trans ?_
  refine (congrFun (arr20_eq m c) _).trans ?_
  rfl

theorem tail_v95 (b : Fin 16) (s : Fin 2048) (l : Fin 384) : (Pipeline.afterTail₀ cfgs (dats m) 0 (V0 m) [hostOps1] c main_v95 : S16x2048x384.Idx → EReal) (ix3 b s l) = arr18 m c b s (gcol l) := by
  unfold Pipeline.afterTail₀
  after_reads_at
  refine (congrFun (Pipeline.withArrays_arr (cfgs 0).spec launch0.win.arr_inj c (V0 m c) _ 18) _).trans ?_
  refine (congrFun (arr18_eq m c) _).trans ?_
  rfl

theorem tail_v96 (b : Fin 16) (s : Fin 2048) (h : Fin 2) (d : Fin 64) : (Pipeline.afterTail₀ cfgs (dats m) 0 (V0 m) [hostOps1] c main_v96 : S16x2048x2x64.Idx → EReal) (ix4 b s h d) = arr17 m c b s ⟨h.val * 64 + d.val, by omega⟩ := by
  unfold Pipeline.afterTail₀
  after_reads_at
  refine (congrFun (Pipeline.withArrays_arr (cfgs 0).spec launch0.win.arr_inj c (V0 m c) _ 17) _).trans ?_
  refine (congrFun (arr17_eq m c) _).trans ?_
  rfl

/-! ## The results from the launched arguments -/

/-- A row of the new residual stream normalised and projected, in the layer's order of columns. -/
def PR (x : S16x2048x1024.Idx → EReal) (y : S16x2048x256.Idx → EReal) (z u : S16x2048x384.Idx → EReal) (o : S2x1024x1024.Idx → EReal)
    (g : S2x1024.Idx → EReal) (w : S2x1024x2560.Idx → EReal) (b : Fin 16) (s : Fin 2048) : Fin 2560 → EReal :=
  prj (inH (fun j => RX x y z u o b s j) (fun j => g (ix2 1 j))) (fun k j => w (ix3 1 k j))

/-- That of the launched arguments. -/
abbrev PM : Fin 16 → Fin 2048 → Fin 2560 → EReal :=
  PR (argX m c) (argY m c) (argS m c) (argM m c) (argO m c) (argN m c) (argW m c)

theorem PK_of (b : Fin 16) (s : Fin 2048) (col col' : Fin 2560)
    (h : ∀ k, (V m c main_v24 : S2x1024x2560.Idx → EReal) (ix3 1 k col) = argW m c (ix3 1 k col')) :
    PK m c b s col = PM m c b s col' := by
  unfold PK PM PR prj
  exact Finset.sum_congr rfl fun k _ => congrArg₂ (· * ·) rfl (h k)

theorem PK_u (b : Fin 16) (s : Fin 2048) (col col' : Fin 2560) (j : Fin 256) (h : col.val = 0 + j.val) (h' : col'.val = 0 + j.val) :
    PK m c b s col = PM m c b s col' := by
  refine PK_of m c b s col col' fun k => ?_
  have := W_u m c k j
  exact ((congrArg (fun z => (V m c main_v24 : S2x1024x2560.Idx → EReal) (ix3 1 k z)) (Fin.ext h)).trans this).trans
    (congrArg (fun z => argW m c (ix3 1 k z)) (Fin.ext h').symm)

theorem PK_sg (b : Fin 16) (s : Fin 2048) (col col' : Fin 2560) (j : Fin 256) (h : col.val = 256 + j.val) (h' : col'.val = 256 + j.val) :
    PK m c b s col = PM m c b s col' := by
  refine PK_of m c b s col col' fun k => ?_
  have := W_sg m c k j
  exact ((congrArg (fun z => (V m c main_v24 : S2x1024x2560.Idx → EReal) (ix3 1 k z)) (Fin.ext h)).trans this).trans
    (congrArg (fun z => argW m c (ix3 1 k z)) (Fin.ext h').symm)

theorem PK_aq (b : Fin 16) (s : Fin 2048) (col col' : Fin 2560) (j : Fin 384) (h : col.val = 512 + j.val) (h' : col'.val = 512 + untile j.val) :
    PK m c b s col = PM m c b s col' := by
  refine PK_of m c b s col col' fun k => ?_
  have := W_aq m c k j
  exact ((congrArg (fun z => (V m c main_v24 : S2x1024x2560.Idx → EReal) (ix3 1 k z)) (Fin.ext h)).trans this).trans
    (congrArg (fun z => argW m c (ix3 1 k z)) (Fin.ext h').symm)

theorem PK_ag (b : Fin 16) (s : Fin 2048) (col col' : Fin 2560) (j : Fin 384) (h : col.val = 896 + j.val) (h' : col'.val = 1152 + untile j.val) :
    PK m c b s col = PM m c b s col' := by
  refine PK_of m c b s col col' fun k => ?_
  have := W_ag m c k j
  exact ((congrArg (fun z => (V m c main_v24 : S2x1024x2560.Idx → EReal) (ix3 1 k z)) (Fin.ext h)).trans this).trans
    (congrArg (fun z => argW m c (ix3 1 k z)) (Fin.ext h').symm)

theorem PK_mq (b : Fin 16) (s : Fin 2048) (col col' : Fin 2560) (j : Fin 384) (h : col.val = 1280 + j.val) (h' : col'.val = 1536 + untile j.val) :
    PK m c b s col = PM m c b s col' := by
  refine PK_of m c b s col col' fun k => ?_
  have := W_mq m c k j
  exact ((congrArg (fun z => (V m c main_v24 : S2x1024x2560.Idx → EReal) (ix3 1 k z)) (Fin.ext h)).trans this).trans
    (congrArg (fun z => argW m c (ix3 1 k z)) (Fin.ext h').symm)

theorem PK_mg (b : Fin 16) (s : Fin 2048) (col col' : Fin 2560) (j : Fin 384) (h : col.val = 1664 + j.val) (h' : col'.val = 2176 + untile j.val) :
    PK m c b s col = PM m c b s col' := by
  refine PK_of m c b s col col' fun k => ?_
  have := W_mg m c k j
  exact ((congrArg (fun z => (V m c main_v24 : S2x1024x2560.Idx → EReal) (ix3 1 k z)) (Fin.ext h)).trans this).trans
    (congrArg (fun z => argW m c (ix3 1 k z)) (Fin.ext h').symm)

theorem PK_ak (b : Fin 16) (s : Fin 2048) (col col' : Fin 2560) (j : Fin 128) (h : col.val = 2048 + j.val) (h' : col'.val = 896 + j.val) :
    PK m c b s col = PM m c b s col' := by
  refine PK_of m c b s col col' fun k => ?_
  have := W_ak m c k j
  exact ((congrArg (fun z => (V m c main_v24 : S2x1024x2560.Idx → EReal) (ix3 1 k z)) (Fin.ext h)).trans this).trans
    (congrArg (fun z => argW m c (ix3 1 k z)) (Fin.ext h').symm)

theorem PK_av (b : Fin 16) (s : Fin 2048) (col col' : Fin 2560) (j : Fin 128) (h : col.val = 2176 + j.val) (h' : col'.val = 1024 + j.val) :
    PK m c b s col = PM m c b s col' := by
  refine PK_of m c b s col col' fun k => ?_
  have := W_av m c k j
  exact ((congrArg (fun z => (V m c main_v24 : S2x1024x2560.Idx → EReal) (ix3 1 k z)) (Fin.ext h)).trans this).trans
    (congrArg (fun z => argW m c (ix3 1 k z)) (Fin.ext h').symm)

theorem PK_mk (b : Fin 16) (s : Fin 2048) (col col' : Fin 2560) (j : Fin 128) (h : col.val = 2304 + j.val) (h' : col'.val = 1920 + j.val) :
    PK m c b s col = PM m c b s col' := by
  refine PK_of m c b s col col' fun k => ?_
  have := W_mk m c k j
  exact ((congrArg (fun z => (V m c main_v24 : S2x1024x2560.Idx → EReal) (ix3 1 k z)) (Fin.ext h)).trans this).trans
    (congrArg (fun z => argW m c (ix3 1 k z)) (Fin.ext h').symm)

theorem PK_mv (b : Fin 16) (s : Fin 2048) (col col' : Fin 2560) (j : Fin 128) (h : col.val = 2432 + j.val) (h' : col'.val = 2048 + j.val) :
    PK m c b s col = PM m c b s col' := by
  refine PK_of m c b s col col' fun k => ?_
  have := W_mv m c k j
  exact ((congrArg (fun z => (V m c main_v24 : S2x1024x2560.Idx → EReal) (ix3 1 k z)) (Fin.ext h)).trans this).trans
    (congrArg (fun z => argW m c (ix3 1 k z)) (Fin.ext h').symm)

theorem res_v60 (b : Fin 16) (s : Fin 2048) (l : Fin 256) : (Pipeline.afterTail₀ cfgs (dats m) 0 (V0 m) [hostOps1] c main_v60 : S16x2048x256.Idx → EReal) (ix3 b s l) = PM m c b s ⟨l.val, by omega⟩ := by
  refine (tail_v60 m c b s l).trans ?_
  unfold arr12
  exact PK_u m c b s _ _ l (by show l.val = 0 + l.val; omega) (by show l.val = 0 + l.val; omega)

theorem res_v61 (b : Fin 16) (s : Fin 2048) (l : Fin 256) : (Pipeline.afterTail₀ cfgs (dats m) 0 (V0 m) [hostOps1] c main_v61 : S16x2048x256.Idx → EReal) (ix3 b s l) = sil (PM m c b s ⟨256 + l.val, by omega⟩) := by
  refine (tail_v61 m c b s l).trans ?_
  unfold arr13
  exact congrArg sil (PK_sg m c b s _ _ l rfl rfl)

theorem res_v68 (b : Fin 16) (s : Fin 2048) (h : Fin 6) (d : Fin 64) : (Pipeline.afterTail₀ cfgs (dats m) 0 (V0 m) [hostOps1] c main_v68 : S16x2048x6x64.Idx → EReal) (ix4 b s h d) = hd (fun e => PM m c b s ⟨512 + (h.val * 64 + e.val), by omega⟩) (fun e => argA m c (ix2 1 e)) d * (Named.named Cert.Kernel2Ideal.κ "qscale" 0x3E38AA3B#32 : Ideal .f32) * unscale := by
  refine (tail_v68 m c b s h d).trans ?_
  unfold arr14 qcol
  refine congrArg (· * unscale) (congrArg (· * _) (nrm_hd _ _ _ _ _ d (by dsimp only; omega) (fun e => ?_) ?_))
  · exact PK_aq m c b s _ _ ⟨h.val % 3 * 128 + h.val / 3 * 64 + e.val, by omega⟩ (by dsimp only; omega) (by dsimp only; rw [untile_tile _ _ _ (by omega) (by omega) (by omega)]; omega)
  · exact congrArg (argA m c) (congrArg _ (Fin.ext (by dsimp only; omega)))

theorem res_v85 (b : Fin 16) (s : Fin 2048) (h : Fin 6) (d : Fin 64) : (Pipeline.afterTail₀ cfgs (dats m) 0 (V0 m) [hostOps1] c main_v85 : S16x2048x6x64.Idx → EReal) (ix4 b s h d) = hd (fun e => PM m c b s ⟨1536 + (h.val * 64 + e.val), by omega⟩) (fun e => argC m c (ix2 1 e)) d * (Named.named Cert.Kernel2Ideal.κ "qscale" 0x3E38AA3B#32 : Ideal .f32) * unscale := by
  refine (tail_v85 m c b s h d).trans ?_
  unfold arr16 qcol
  refine congrArg (· * unscale) (congrArg (· * _) (nrm_hd _ _ _ _ _ d (by dsimp only; omega) (fun e => ?_) ?_))
  · exact PK_mq m c b s _ _ ⟨h.val % 3 * 128 + h.val / 3 * 64 + e.val, by omega⟩ (by dsimp only; omega) (by dsimp only; rw [untile_tile _ _ _ (by omega) (by omega) (by omega)]; omega)
  · exact congrArg (argC m c) (congrArg _ (Fin.ext (by dsimp only; omega)))

theorem res_v71 (b : Fin 16) (s : Fin 2048) (h : Fin 2) (d : Fin 64) : (Pipeline.afterTail₀ cfgs (dats m) 0 (V0 m) [hostOps1] c main_v71 : S16x2048x2x64.Idx → EReal) (ix4 b s h d) = hd (fun e => PM m c b s ⟨896 + (h.val * 64 + e.val), by omega⟩) (fun e => argB m c (ix2 1 e)) d := by
  refine (tail_v71 m c b s h d).trans ?_
  unfold arr19 kcol
  refine (if_pos (by dsimp only; omega)).trans (nrm_hd _ _ _ _ _ d (by dsimp only; omega) (fun e => ?_) ?_)
  · exact PK_ak m c b s _ _ ⟨h.val * 64 + e.val, by omega⟩ (by dsimp only; omega) (by dsimp only)
  · exact congrArg (argB m c) (congrArg _ (Fin.ext (by dsimp only; omega)))

theorem res_v88 (b : Fin 16) (s : Fin 2048) (h : Fin 2) (d : Fin 64) : (Pipeline.afterTail₀ cfgs (dats m) 0 (V0 m) [hostOps1] c main_v88 : S16x2048x2x64.Idx → EReal) (ix4 b s h d) = hd (fun e => PM m c b s ⟨1920 + (h.val * 64 + e.val), by omega⟩) (fun e => argD m c (ix2 1 e)) d := by
  refine (tail_v88 m c b s h d).trans ?_
  unfold arr20 kcol
  refine (if_pos (by dsimp only; omega)).trans (nrm_hd _ _ _ _ _ d (by dsimp only; omega) (fun e => ?_) ?_)
  · exact PK_mk m c b s _ _ ⟨h.val * 64 + e.val, by omega⟩ (by dsimp only; omega) (by dsimp only)
  · exact congrArg (argD m c) (congrArg _ (Fin.ext (by dsimp only; omega)))

theorem res_v74 (b : Fin 16) (s : Fin 2048) (h : Fin 2) (d : Fin 64) : (Pipeline.afterTail₀ cfgs (dats m) 0 (V0 m) [hostOps1] c main_v74 : S16x2048x2x64.Idx → EReal) (ix4 b s h d) = PM m c b s ⟨1024 + (h.val * 64 + d.val), by omega⟩ := by
  refine (tail_v74 m c b s h d).trans ?_
  unfold arr19 vcol
  refine (if_neg (by dsimp only; omega)).trans ?_
  exact PK_av m c b s _ _ ⟨h.val * 64 + d.val, by omega⟩ (by dsimp only; omega) (by dsimp only)

theorem res_v91 (b : Fin 16) (s : Fin 2048) (h : Fin 2) (d : Fin 64) : (Pipeline.afterTail₀ cfgs (dats m) 0 (V0 m) [hostOps1] c main_v91 : S16x2048x2x64.Idx → EReal) (ix4 b s h d) = PM m c b s ⟨2048 + (h.val * 64 + d.val), by omega⟩ := by
  refine (tail_v91 m c b s h d).trans ?_
  unfold arr20 vcol
  refine (if_neg (by dsimp only; omega)).trans ?_
  exact PK_mv m c b s _ _ ⟨h.val * 64 + d.val, by omega⟩ (by dsimp only; omega) (by dsimp only)

theorem res_v78 (b : Fin 16) (s : Fin 2048) (l : Fin 384) : (Pipeline.afterTail₀ cfgs (dats m) 0 (V0 m) [hostOps1] c main_v78 : S16x2048x384.Idx → EReal) (ix3 b s l) = sil (PM m c b s ⟨1152 + l.val, by omega⟩) := by
  refine (tail_v78 m c b s l).trans ?_
  unfold arr15 gcol
  exact congrArg sil (PK_ag m c b s _ _ ⟨l.val / 64 % 3 * 128 + l.val / 192 * 64 + l.val % 64, by omega⟩ (by dsimp only) (by dsimp only; rw [untile_tile _ _ _ (by omega) (by omega) (by omega)]; omega))

theorem res_v95 (b : Fin 16) (s : Fin 2048) (l : Fin 384) : (Pipeline.afterTail₀ cfgs (dats m) 0 (V0 m) [hostOps1] c main_v95 : S16x2048x384.Idx → EReal) (ix3 b s l) = sil (PM m c b s ⟨2176 + l.val, by omega⟩) := by
  refine (tail_v95 m c b s l).trans ?_
  unfold arr18 gcol
  exact congrArg sil (PK_mg m c b s _ _ ⟨l.val / 64 % 3 * 128 + l.val / 192 * 64 + l.val % 64, by omega⟩ (by dsimp only) (by dsimp only; rw [untile_tile _ _ _ (by omega) (by omega) (by omega)]; omega))

theorem res_v96 (b : Fin 16) (s : Fin 2048) (h : Fin 2) (d : Fin 64) : (Pipeline.afterTail₀ cfgs (dats m) 0 (V0 m) [hostOps1] c main_v96 : S16x2048x2x64.Idx → EReal) (ix4 b s h d) = hd (fun e => PM m c b s ⟨1536 + ((h.val * 3 + 2) * 64 + e.val), by omega⟩) (fun e => argC m c (ix2 1 e)) d + hd (fun e => PM m c b s ⟨1536 + ((h.val * 3 + 1) * 64 + e.val), by omega⟩) (fun e => argC m c (ix2 1 e)) d + hd (fun e => PM m c b s ⟨1536 + ((h.val * 3 + 0) * 64 + e.val), by omega⟩) (fun e => argC m c (ix2 1 e)) d := by
  refine (tail_v96 m c b s h d).trans ?_
  unfold arr17
  refine congrArg₂ (· + ·) (congrArg₂ (· + ·) ?_ ?_) ?_
  · refine nrm_hd _ _ _ _ _ d (by dsimp only; omega) (fun e => ?_) ?_
    · exact PK_mq m c b s _ _ ⟨2 * 128 + (h.val * 64 + e.val), by omega⟩ (by dsimp only; omega) (by unfold untile; dsimp only; omega)
    · exact congrArg (argC m c) (congrArg _ (Fin.ext (by dsimp only; omega)))
  · refine nrm_hd _ _ _ _ _ d (by dsimp only; omega) (fun e => ?_) ?_
    · exact PK_mq m c b s _ _ ⟨1 * 128 + (h.val * 64 + e.val), by omega⟩ (by dsimp only; omega) (by unfold untile; dsimp only; omega)
    · exact congrArg (argC m c) (congrArg _ (Fin.ext (by dsimp only; omega)))
  · refine nrm_hd _ _ _ _ _ d (by dsimp only; omega) (fun e => ?_) ?_
    · exact PK_mq m c b s _ _ ⟨0 * 128 + (h.val * 64 + e.val), by omega⟩ (by dsimp only; omega) (by unfold untile; dsimp only; omega)
    · exact congrArg (argC m c) (congrArg _ (Fin.ext (by dsimp only; omega)))

end Cert.Kernel3Ideal.Val
-- ==== Proof.OutinRef.lean ====
module

public import proofs.«01_k».proof.Proof.OutinTail
public import proofs.«01_k».proof.Proof.EdgeRef
public import proofs.«01_k».proof.Proof.Gen.Reference3Ideal.Read
public import Idealize.ShloMosaic.Lib.Pointwise

@[expose] public section

set_option maxRecDepth 16384

noncomputable section

namespace Cert.Reference3Ideal.Val

open Cert.Reference3Ideal Cert.Reference3Ideal.Gen Cert.Reference3Ideal.Read
open Idealize.ShloMosaic Idealize.ShloMosaic.TcCoe Idealize.ShloMosaic.Tactic
open Idealize.SL Idealize.SL.Sem
open Cert.Kernel2Ideal.Val (inH prj eps sil hd)
open Cert.Kernel3Ideal.Val (PR RX cat_eq)
open Cert.Reference2Ideal.Val (div64)
open scoped BigOperators

abbrev A0 := S16x2048x1024.Idx → EReal
abbrev A1 := S16x2048x256.Idx → EReal
abbrev A2 := S16x2048x384.Idx → EReal
abbrev A4 := S2x1024x1024.Idx → EReal
abbrev A5 := S2x1024.Idx → EReal
abbrev A6 := S2x1024x2560.Idx → EReal

/-- The new residual stream. -/
theorem v4_apply (x0 : A0) (x1 : A1) (x2 x3 : A2) (x4 : A4) (b : Fin 16) (s : Fin 2048) (k : Fin 1024) :
    val_main_v4 (F := Ideal) x0 x1 x2 x3 x4 (ix3 b s k) = RX x0 x1 x2 x3 x4 b s k := by
  pointwise [val_main_v4, val_main_v3, val_main_v2, val_main_v1, val_main_v0, RX]
  exact congrArg (x0 (ix3 b s k) + ·) (Finset.sum_congr rfl fun x _ => congrArg (· * x4 (ix3 0 x k)) (cat_eq (fun j => x1 (ix3 b s j)) (fun j => x2 (ix3 b s j)) (fun j => x3 (ix3 b s j)) x))

theorem v19_apply (x0 : A0) (x1 : A1) (x2 x3 : A2) (x4 : A4) (x5 : A5) (b : Fin 16) (s : Fin 2048) (k : Fin 1024) :
    val_main_v19 (F := Ideal) x0 x1 x2 x3 x4 x5 (ix3 b s k) = inH (fun j => RX x0 x1 x2 x3 x4 b s j) (fun j => x5 (ix2 1 j)) k := by
  refine Eq.trans ?_ (congrArg (fun p => inH p (fun j => x5 (ix2 1 j)) k) (funext fun j => v4_apply x0 x1 x2 x3 x4 b s j))
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  rfl

/-- The projection of a row. -/
theorem v22_apply (x0 : A0) (x1 : A1) (x2 x3 : A2) (x4 : A4) (x5 : A5) (x6 : A6) (b : Fin 16) (s : Fin 2048) (j : Fin 2560) :
    val_main_v22 (F := Ideal) x0 x1 x2 x3 x4 x5 x6 (ix3 b s j) = PR x0 x1 x2 x3 x4 x5 x6 b s j := by
  pointwise [val_main_v22, val_main_v21, val_main_v20]
  exact Finset.sum_congr rfl fun k _ => congrArg (· * _) (v19_apply x0 x1 x2 x3 x4 x5 b s k)

theorem v23_apply (x0 : A0) (x1 : A1) (x2 x3 : A2) (x4 : A4) (x5 : A5) (x6 : A6) (b : Fin 16) (s : Fin 2048) (l : Fin 256) :
    val_main_v23 (F := Ideal) x0 x1 x2 x3 x4 x5 x6 (ix3 b s l) = PR x0 x1 x2 x3 x4 x5 x6 b s ⟨l.val, by omega⟩ := by
  pointwise [val_main_v23]
  exact v22_apply x0 x1 x2 x3 x4 x5 x6 b s _

theorem v97_apply (x0 : A0) (x1 : A1) (x2 x3 : A2) (x4 : A4) (x5 : A5) (x6 : A6) (b : Fin 16) (s : Fin 2048) (l : Fin 256) :
    val_main_v97 (F := Ideal) x0 x1 x2 x3 x4 x5 x6 (ix3 b s l) = sil (PR x0 x1 x2 x3 x4 x5 x6 b s ⟨256 + l.val, by omega⟩) := by
  refine Eq.trans ?_ (congrArg sil (v22_apply x0 x1 x2 x3 x4 x5 x6 b s _))
  pointwise [val_main_v97, val_main_call0_v5, val_main_call0_v4, val_main_call0_v3, val_main_call0_v2, val_main_call0_v1, val_main_call0_v0, val_main_call0_cst, val_main_call0_cst_0, val_main_v24]
  rfl

theorem v99_apply (x0 : A0) (x1 : A1) (x2 x3 : A2) (x4 : A4) (x5 : A5) (x6 : A6) (b : Fin 16) (s : Fin 2048) (l : Fin 384) :
    val_main_v99 (F := Ideal) x0 x1 x2 x3 x4 x5 x6 (ix3 b s l) = sil (PR x0 x1 x2 x3 x4 x5 x6 b s ⟨1152 + l.val, by omega⟩) := by
  refine Eq.trans ?_ (congrArg sil (v22_apply x0 x1 x2 x3 x4 x5 x6 b s _))
  pointwise [val_main_v99, val_main_call1_v5, val_main_call1_v4, val_main_call1_v3, val_main_call1_v2, val_main_call1_v1, val_main_call1_v0, val_main_call1_cst, val_main_call1_cst_0, val_main_v28]
  rfl

theorem v101_apply (x0 : A0) (x1 : A1) (x2 x3 : A2) (x4 : A4) (x5 : A5) (x6 : A6) (b : Fin 16) (s : Fin 2048) (l : Fin 384) :
    val_main_v101 (F := Ideal) x0 x1 x2 x3 x4 x5 x6 (ix3 b s l) = sil (PR x0 x1 x2 x3 x4 x5 x6 b s ⟨2176 + l.val, by omega⟩) := by
  refine Eq.trans ?_ (congrArg sil (v22_apply x0 x1 x2 x3 x4 x5 x6 b s _))
  pointwise [val_main_v101, val_main_call2_v5, val_main_call2_v4, val_main_call2_v3, val_main_call2_v2, val_main_call2_v1, val_main_call2_v0, val_main_call2_cst, val_main_call2_cst_0, val_main_v32]
  rfl

theorem v98_apply (x0 : A0) (x1 : A1) (x2 x3 : A2) (x4 : A4) (x5 : A5) (x6 : A6) (b : Fin 16) (s : Fin 2048) (h : Fin 2) (d : Fin 64) :
    val_main_v98 (F := Ideal) x0 x1 x2 x3 x4 x5 x6 (ix4 b s h d) = PR x0 x1 x2 x3 x4 x5 x6 b s ⟨1024 + (h.val * 64 + d.val), by omega⟩ := by
  pointwise [val_main_v98, val_main_v27]
  exact v22_apply x0 x1 x2 x3 x4 x5 x6 b s _

theorem v100_apply (x0 : A0) (x1 : A1) (x2 x3 : A2) (x4 : A4) (x5 : A5) (x6 : A6) (b : Fin 16) (s : Fin 2048) (h : Fin 2) (d : Fin 64) :
    val_main_v100 (F := Ideal) x0 x1 x2 x3 x4 x5 x6 (ix4 b s h d) = PR x0 x1 x2 x3 x4 x5 x6 b s ⟨2048 + (h.val * 64 + d.val), by omega⟩ := by
  pointwise [val_main_v100, val_main_v31]
  exact v22_apply x0 x1 x2 x3 x4 x5 x6 b s _

theorem v48_apply (x0 : A0) (x1 : A1) (x2 x3 : A2) (x4 : A4) (x5 : A5) (x6 : A6) (g : S2x64.Idx → EReal) (b : Fin 16) (s : Fin 2048) (h : Fin 6) (d : Fin 64) :
    val_main_v48 (F := Ideal) x0 x1 x2 x3 x4 x5 x6 g (ix4 b s h d) = hd (fun e => PR x0 x1 x2 x3 x4 x5 x6 b s ⟨512 + (h.val * 64 + e.val), by omega⟩) (fun e => g (ix2 1 e)) d := by
  refine Eq.trans ?_ (congrArg (fun p => hd p (fun e => g (ix2 1 e)) d) (funext fun e => v22_apply x0 x1 x2 x3 x4 x5 x6 b s _))
  pointwise [val_main_v48, val_main_v47, val_main_v46, val_main_v45, val_main_v44, val_main_v43, val_main_v42, val_main_v41, val_main_v40, val_main_v39, val_main_v38, val_main_v37, val_main_v36, val_main_v35, val_main_v34, val_main_v33, val_main_v25, val_main_cst_2, val_main_cst_3, val_main_cst_4]
  rw [div64]
  rfl

theorem v64_apply (x0 : A0) (x1 : A1) (x2 x3 : A2) (x4 : A4) (x5 : A5) (x6 : A6) (g : S2x64.Idx → EReal) (b : Fin 16) (s : Fin 2048) (h : Fin 2) (d : Fin 64) :
    val_main_v64 (F := Ideal) x0 x1 x2 x3 x4 x5 x6 g (ix4 b s h d) = hd (fun e => PR x0 x1 x2 x3 x4 x5 x6 b s ⟨896 + (h.val * 64 + e.val), by omega⟩) (fun e => g (ix2 1 e)) d := by
  refine Eq.trans ?_ (congrArg (fun p => hd p (fun e => g (ix2 1 e)) d) (funext fun e => v22_apply x0 x1 x2 x3 x4 x5 x6 b s _))
  pointwise [val_main_v64, val_main_v63, val_main_v62, val_main_v61, val_main_v60, val_main_v59, val_main_v58, val_main_v57, val_main_v56, val_main_v55, val_main_v54, val_main_v53, val_main_v52, val_main_v51, val_main_v50, val_main_v49, val_main_v26, val_main_cst_5, val_main_cst_6, val_main_cst_7]
  rw [div64]
  rfl

theorem v80_apply (x0 : A0) (x1 : A1) (x2 x3 : A2) (x4 : A4) (x5 : A5) (x6 : A6) (g : S2x64.Idx → EReal) (b : Fin 16) (s : Fin 2048) (h : Fin 6) (d : Fin 64) :
    val_main_v80 (F := Ideal) x0 x1 x2 x3 x4 x5 x6 g (ix4 b s h d) = hd (fun e => PR x0 x1 x2 x3 x4 x5 x6 b s ⟨1536 + (h.val * 64 + e.val), by omega⟩) (fun e => g (ix2 1 e)) d := by
  refine Eq.trans ?_ (congrArg (fun p => hd p (fun e => g (ix2 1 e)) d) (funext fun e => v22_apply x0 x1 x2 x3 x4 x5 x6 b s _))
  pointwise [val_main_v80, val_main_v79, val_main_v78, val_main_v77, val_main_v76, val_main_v75, val_main_v74, val_main_v73, val_main_v72, val_main_v71, val_main_v70, val_main_v69, val_main_v68, val_main_v67, val_main_v66, val_main_v65, val_main_v29, val_main_cst_8, val_main_cst_9, val_main_cst_10]
  rw [div64]
  rfl

theorem v96_apply (x0 : A0) (x1 : A1) (x2 x3 : A2) (x4 : A4) (x5 : A5) (x6 : A6) (g : S2x64.Idx → EReal) (b : Fin 16) (s : Fin 2048) (h : Fin 2) (d : Fin 64) :
    val_main_v96 (F := Ideal) x0 x1 x2 x3 x4 x5 x6 g (ix4 b s h d) = hd (fun e => PR x0 x1 x2 x3 x4 x5 x6 b s ⟨1920 + (h.val * 64 + e.val), by omega⟩) (fun e => g (ix2 1 e)) d := by
  refine Eq.trans ?_ (congrArg (fun p => hd p (fun e => g (ix2 1 e)) d) (funext fun e => v22_apply x0 x1 x2 x3 x4 x5 x6 b s _))
  pointwise [val_main_v96, val_main_v95, val_main_v94, val_main_v93, val_main_v92, val_main_v91, val_main_v90, val_main_v89, val_main_v88, val_main_v87, val_main_v86, val_main_v85, val_main_v84, val_main_v83, val_main_v82, val_main_v81, val_main_v30, val_main_cst_11, val_main_cst_12, val_main_cst_13]
  rw [div64]
  rfl

theorem v103_apply (x0 : A0) (x1 : A1) (x2 x3 : A2) (x4 : A4) (x5 : A5) (x6 : A6) (g : S2x64.Idx → EReal) (b : Fin 16) (s : Fin 2048) (h : Fin 2) (d : Fin 64) :
    val_main_v103 (F := Ideal) x0 x1 x2 x3 x4 x5 x6 g (ix4 b s h d) = hd (fun e => PR x0 x1 x2 x3 x4 x5 x6 b s ⟨1536 + ((h.val * 3 + 2) * 64 + e.val), by omega⟩) (fun e => g (ix2 1 e)) d + hd (fun e => PR x0 x1 x2 x3 x4 x5 x6 b s ⟨1536 + ((h.val * 3 + 1) * 64 + e.val), by omega⟩) (fun e => g (ix2 1 e)) d + hd (fun e => PR x0 x1 x2 x3 x4 x5 x6 b s ⟨1536 + ((h.val * 3 + 0) * 64 + e.val), by omega⟩) (fun e => g (ix2 1 e)) d := by
  pointwise [val_main_v103, val_main_v102, val_main_cst_14]
  have rev : ∀ p q r : EReal, p + q + r = r + q + p := fun p q r => by rw [add_comm (p + q) r, add_comm p q, ← add_assoc]
  rw [Fin.sum_univ_three]
  refine (rev _ _ _).trans ?_
  exact congrArg₂ (· + ·) (congrArg₂ (· + ·) (v80_apply x0 x1 x2 x3 x4 x5 x6 g b s _ d) (v80_apply x0 x1 x2 x3 x4 x5 x6 g b s _ d)) (v80_apply x0 x1 x2 x3 x4 x5 x6 g b s _ d)

end Cert.Reference3Ideal.Val
-- ==== Proof.OutinAlgebraic.lean ====
module

public import proofs.«01_k».proof.Defs
public import proofs.«01_k».proof.Proof.OutinRef
public import proofs.«01_k».proof.Proof.EdgeAlgebraic
public import proofs.«01_k».proof.Proof.Gen.Reference3Ideal.Run

@[expose] public section

set_option maxRecDepth 16384

noncomputable section

namespace Cert.Proof.Outin

open Idealize.ShloMosaic Idealize.ShloMosaic.TcCoe Idealize.SL.Sem
open Cert.Kernel3Ideal.Val (argX argY argS argM argO argN argW argA argB argC argD)
open Cert.Proof.Edge (idx3 idx4 unscale_mul)

variable (m : (ℓ : Loc Cert.Kernel3Ideal.nD Cert.Kernel3Ideal.τ Cert.Kernel3Ideal.sig) → Buf (Elt Ideal) ℓ) (c : Dev Cert.Kernel3Ideal.nD)

/-! ## The twelve results, of one argument tuple -/

theorem eq_v57 : (Cert.Reference3Ideal.Read.val_main_v4 (F := Ideal) (argX m c) (argY m c) (argS m c) (argM m c) (argO m c) : Cert.Kernel3Ideal.S16x2048x1024.Idx → EReal)
    = ((Cert.Kernel3Ideal.Gen.dats m 0 c).arrAt 11 (Cert.Kernel3Ideal.cfgs 0).N : Cert.Kernel3Ideal.S16x2048x1024.Idx → EReal) := by
  funext i
  obtain ⟨b, s, l, rfl⟩ := idx3 i
  refine (Cert.Reference3Ideal.Val.v4_apply (argX m c) (argY m c) (argS m c) (argM m c) (argO m c) b s l).trans ?_
  refine Eq.trans ?_ (congrFun (Cert.Kernel3Ideal.Val.arr11_eq m c) (ix3 b s l)).symm
  rfl

theorem eq_v60 : (Cert.Reference3Ideal.Read.val_main_v23 (F := Ideal) (argX m c) (argY m c) (argS m c) (argM m c) (argO m c) (argN m c) (argW m c) : Cert.Kernel3Ideal.S16x2048x256.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v60 : Cert.Kernel3Ideal.S16x2048x256.Idx → EReal) := by
  funext i
  obtain ⟨b, s, l, rfl⟩ := idx3 i
  refine (Cert.Reference3Ideal.Val.v23_apply (argX m c) (argY m c) (argS m c) (argM m c) (argO m c) (argN m c) (argW m c) b s l).trans ?_
  refine Eq.trans ?_ (Cert.Kernel3Ideal.Val.res_v60 m c b s l).symm
  rfl

theorem eq_v61 : (Cert.Reference3Ideal.Read.val_main_v97 (F := Ideal) (argX m c) (argY m c) (argS m c) (argM m c) (argO m c) (argN m c) (argW m c) : Cert.Kernel3Ideal.S16x2048x256.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v61 : Cert.Kernel3Ideal.S16x2048x256.Idx → EReal) := by
  funext i
  obtain ⟨b, s, l, rfl⟩ := idx3 i
  refine (Cert.Reference3Ideal.Val.v97_apply (argX m c) (argY m c) (argS m c) (argM m c) (argO m c) (argN m c) (argW m c) b s l).trans ?_
  refine Eq.trans ?_ (Cert.Kernel3Ideal.Val.res_v61 m c b s l).symm
  rfl

theorem eq_v68 : (Cert.Reference3Ideal.Read.val_main_v48 (F := Ideal) (argX m c) (argY m c) (argS m c) (argM m c) (argO m c) (argN m c) (argW m c) (argA m c) : Cert.Kernel3Ideal.S16x2048x6x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v68 : Cert.Kernel3Ideal.S16x2048x6x64.Idx → EReal) := by
  funext i
  obtain ⟨b, s, h, d, rfl⟩ := idx4 i
  refine (Cert.Reference3Ideal.Val.v48_apply (argX m c) (argY m c) (argS m c) (argM m c) (argO m c) (argN m c) (argW m c) (argA m c) b s h d).trans ?_
  refine Eq.trans ?_ (Cert.Kernel3Ideal.Val.res_v68 m c b s h d).symm
  exact (unscale_mul _).symm

theorem eq_v71 : (Cert.Reference3Ideal.Read.val_main_v64 (F := Ideal) (argX m c) (argY m c) (argS m c) (argM m c) (argO m c) (argN m c) (argW m c) (argB m c) : Cert.Kernel3Ideal.S16x2048x2x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v71 : Cert.Kernel3Ideal.S16x2048x2x64.Idx → EReal) := by
  funext i
  obtain ⟨b, s, h, d, rfl⟩ := idx4 i
  refine (Cert.Reference3Ideal.Val.v64_apply (argX m c) (argY m c) (argS m c) (argM m c) (argO m c) (argN m c) (argW m c) (argB m c) b s h d).trans ?_
  refine Eq.trans ?_ (Cert.Kernel3Ideal.Val.res_v71 m c b s h d).symm
  rfl

theorem eq_v74 : (Cert.Reference3Ideal.Read.val_main_v98 (F := Ideal) (argX m c) (argY m c) (argS m c) (argM m c) (argO m c) (argN m c) (argW m c) : Cert.Kernel3Ideal.S16x2048x2x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v74 : Cert.Kernel3Ideal.S16x2048x2x64.Idx → EReal) := by
  funext i
  obtain ⟨b, s, h, d, rfl⟩ := idx4 i
  refine (Cert.Reference3Ideal.Val.v98_apply (argX m c) (argY m c) (argS m c) (argM m c) (argO m c) (argN m c) (argW m c) b s h d).trans ?_
  refine Eq.trans ?_ (Cert.Kernel3Ideal.Val.res_v74 m c b s h d).symm
  rfl

theorem eq_v78 : (Cert.Reference3Ideal.Read.val_main_v99 (F := Ideal) (argX m c) (argY m c) (argS m c) (argM m c) (argO m c) (argN m c) (argW m c) : Cert.Kernel3Ideal.S16x2048x384.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v78 : Cert.Kernel3Ideal.S16x2048x384.Idx → EReal) := by
  funext i
  obtain ⟨b, s, l, rfl⟩ := idx3 i
  refine (Cert.Reference3Ideal.Val.v99_apply (argX m c) (argY m c) (argS m c) (argM m c) (argO m c) (argN m c) (argW m c) b s l).trans ?_
  refine Eq.trans ?_ (Cert.Kernel3Ideal.Val.res_v78 m c b s l).symm
  rfl

theorem eq_v85 : (Cert.Reference3Ideal.Read.val_main_v80 (F := Ideal) (argX m c) (argY m c) (argS m c) (argM m c) (argO m c) (argN m c) (argW m c) (argC m c) : Cert.Kernel3Ideal.S16x2048x6x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v85 : Cert.Kernel3Ideal.S16x2048x6x64.Idx → EReal) := by
  funext i
  obtain ⟨b, s, h, d, rfl⟩ := idx4 i
  refine (Cert.Reference3Ideal.Val.v80_apply (argX m c) (argY m c) (argS m c) (argM m c) (argO m c) (argN m c) (argW m c) (argC m c) b s h d).trans ?_
  refine Eq.trans ?_ (Cert.Kernel3Ideal.Val.res_v85 m c b s h d).symm
  exact (unscale_mul _).symm

theorem eq_v88 : (Cert.Reference3Ideal.Read.val_main_v96 (F := Ideal) (argX m c) (argY m c) (argS m c) (argM m c) (argO m c) (argN m c) (argW m c) (argD m c) : Cert.Kernel3Ideal.S16x2048x2x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v88 : Cert.Kernel3Ideal.S16x2048x2x64.Idx → EReal) := by
  funext i
  obtain ⟨b, s, h, d, rfl⟩ := idx4 i
  refine (Cert.Reference3Ideal.Val.v96_apply (argX m c) (argY m c) (argS m c) (argM m c) (argO m c) (argN m c) (argW m c) (argD m c) b s h d).trans ?_
  refine Eq.trans ?_ (Cert.Kernel3Ideal.Val.res_v88 m c b s h d).symm
  rfl

theorem eq_v91 : (Cert.Reference3Ideal.Read.val_main_v100 (F := Ideal) (argX m c) (argY m c) (argS m c) (argM m c) (argO m c) (argN m c) (argW m c) : Cert.Kernel3Ideal.S16x2048x2x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v91 : Cert.Kernel3Ideal.S16x2048x2x64.Idx → EReal) := by
  funext i
  obtain ⟨b, s, h, d, rfl⟩ := idx4 i
  refine (Cert.Reference3Ideal.Val.v100_apply (argX m c) (argY m c) (argS m c) (argM m c) (argO m c) (argN m c) (argW m c) b s h d).trans ?_
  refine Eq.trans ?_ (Cert.Kernel3Ideal.Val.res_v91 m c b s h d).symm
  rfl

theorem eq_v95 : (Cert.Reference3Ideal.Read.val_main_v101 (F := Ideal) (argX m c) (argY m c) (argS m c) (argM m c) (argO m c) (argN m c) (argW m c) : Cert.Kernel3Ideal.S16x2048x384.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v95 : Cert.Kernel3Ideal.S16x2048x384.Idx → EReal) := by
  funext i
  obtain ⟨b, s, l, rfl⟩ := idx3 i
  refine (Cert.Reference3Ideal.Val.v101_apply (argX m c) (argY m c) (argS m c) (argM m c) (argO m c) (argN m c) (argW m c) b s l).trans ?_
  refine Eq.trans ?_ (Cert.Kernel3Ideal.Val.res_v95 m c b s l).symm
  rfl

theorem eq_v96 : (Cert.Reference3Ideal.Read.val_main_v103 (F := Ideal) (argX m c) (argY m c) (argS m c) (argM m c) (argO m c) (argN m c) (argW m c) (argC m c) : Cert.Kernel3Ideal.S16x2048x2x64.Idx → EReal)
    = (Pipeline.afterTail₀ Cert.Kernel3Ideal.cfgs (Cert.Kernel3Ideal.Gen.dats m) 0 (Cert.Kernel3Ideal.Gen.V0 m) [Cert.Kernel3Ideal.Gen.hostOps1] c Cert.Kernel3Ideal.main_v96 : Cert.Kernel3Ideal.S16x2048x2x64.Idx → EReal) := by
  funext i
  obtain ⟨b, s, h, d, rfl⟩ := idx4 i
  refine (Cert.Reference3Ideal.Val.v103_apply (argX m c) (argY m c) (argS m c) (argM m c) (argO m c) (argN m c) (argW m c) (argC m c) b s h d).trans ?_
  refine Eq.trans ?_ (Cert.Kernel3Ideal.Val.res_v96 m c b s h d).symm
  rfl

set_option maxHeartbeats 2000000 in
/-- From memories that agree on the arguments both programs run and end with equal results. -/
theorem algebraic : Cert.algebraic_Kernel3Ideal_Reference3Ideal := by
  intro m g m' g' hpre hagree
  refine ⟨fun c => (Cert.Kernel3Ideal.Gen.dats m 0 c).arrAt 11 (Cert.Kernel3Ideal.cfgs 0).N, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v60, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v61, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v68, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v71, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v74, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v78, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v85, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v88, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v91, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v95, fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v96, ?_, ?_⟩
  · refine (θ_run Cert.Kernel3Ideal.defs _ _).mono (fun r h c => ⟨(h.1 c).1 11, (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), h.2 c⟩)
      (θ_run_and (Cert.Kernel3Ideal.Gen.run_main (F := Ideal) m g) (Cert.Kernel3Ideal.Gen.unchanged (F := Ideal) m g))
  · refine (θ_run Cert.Reference3Ideal.defs _ _).mono (fun _ h c => ?_) (Cert.Reference3Ideal.Value.run (F := Ideal) m' g')
    obtain ⟨e0, e1, e2, e3, e4, e5, e6, e7, e8, e9, e10⟩ := hagree c
    obtain ⟨h0, h1, h2, h3, h4, h5, h6, h7, h8, h9, h10, h11, hargs⟩ := h c
    refine ⟨h0.trans ?_, h1.trans ?_, h2.trans ?_, h3.trans ?_, h4.trans ?_, h5.trans ?_, h6.trans ?_, h7.trans ?_, h8.trans ?_, h9.trans ?_, h10.trans ?_, h11.trans ?_, hargs⟩
    · refine (Cert.Reference3Ideal.Read.val_main_v4_eq _ _ _ _ _).trans ?_
      rw [e0, e1, e2, e3, e4]
      exact eq_v57 m c
    · refine (Cert.Reference3Ideal.Read.val_main_v23_eq _ _ _ _ _ _ _).trans ?_
      rw [e0, e1, e2, e3, e4, e5, e6]
      exact eq_v60 m c
    · rw [Cert.Reference3Ideal.Read.val_main_v97_eq, e0, e1, e2, e3, e4, e5, e6]
      exact eq_v61 m c
    · rw [Cert.Reference3Ideal.Read.val_main_v48_eq, e0, e1, e2, e3, e4, e5, e6, e7]
      exact eq_v68 m c
    · rw [Cert.Reference3Ideal.Read.val_main_v64_eq, e0, e1, e2, e3, e4, e5, e6, e8]
      exact eq_v71 m c
    · refine (Cert.Reference3Ideal.Read.val_main_v98_eq _ _ _ _ _ _ _).trans ?_
      rw [e0, e1, e2, e3, e4, e5, e6]
      exact eq_v74 m c
    · rw [Cert.Reference3Ideal.Read.val_main_v99_eq, e0, e1, e2, e3, e4, e5, e6]
      exact eq_v78 m c
    · rw [Cert.Reference3Ideal.Read.val_main_v80_eq, e0, e1, e2, e3, e4, e5, e6, e9]
      exact eq_v85 m c
    · rw [Cert.Reference3Ideal.Read.val_main_v96_eq, e0, e1, e2, e3, e4, e5, e6, e10]
      exact eq_v88 m c
    · refine (Cert.Reference3Ideal.Read.val_main_v100_eq _ _ _ _ _ _ _).trans ?_
      rw [e0, e1, e2, e3, e4, e5, e6]
      exact eq_v91 m c
    · rw [Cert.Reference3Ideal.Read.val_main_v101_eq, e0, e1, e2, e3, e4, e5, e6]
      exact eq_v95 m c
    · rw [Cert.Reference3Ideal.Read.val_main_v103_eq, e0, e1, e2, e3, e4, e5, e6, e9]
      exact eq_v96 m c

/-- The reference's frame: its run leaves the arguments unchanged, and it has no semaphore. -/
theorem frame_reference : Cert.quiescent_Reference3Ideal := fun m g _ =>
  (θ_run Cert.Reference3Ideal.defs _ _).mono (fun r h => ⟨fun c => (h c).2.2.2.2.2.2.2.2.2.2.2.2, Idealize.ShloMosaic.sem_eq_zero_of_no_sems (by decide) r.2⟩)
    (Cert.Reference3Ideal.Value.run (F := Ideal) m g)

end Cert.Proof.Outin
-- ==== Proof.PrepTile.lean ====
module

public import proofs.«01_k».proof.Proof.Gen.Kernel4Ideal.Frame
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel4Ideal.Val

open Cert.Kernel4Ideal Cert.Kernel4Ideal.Gen
open Idealize.ShloMosaic Idealize.ShloMosaic.TcCoe Idealize.ShloMosaic.Tactic
open Idealize.SL Idealize.SL.Sem

/-! ## The discretisation of one entry: the continuous eigenvalue `a + b i`, the logarithm `d` of the step, the input entry `x + y i` -/

/-- The real part of the discrete eigenvalue. -/
def stRe (a b d : EReal) : EReal := Ideal.exp (a * Ideal.exp d) * Ideal.cos (b * Ideal.exp d)
/-- Its imaginary part. -/
def stIm (a b d : EReal) : EReal := Ideal.exp (a * Ideal.exp d) * Ideal.sin (b * Ideal.exp d)
/-- The real part of the input's factor. -/
def cfRe (a b d : EReal) : EReal := Ideal.div ((stRe a b d - 1) * a + stIm a b d * b) (a * a + b * b)
/-- Its imaginary part. -/
def cfIm (a b d : EReal) : EReal := Ideal.div (stIm a b d * a - (stRe a b d - 1) * b) (a * a + b * b)
/-- The real part of the discrete input entry. -/
def inRe (a b d x y : EReal) : EReal := cfRe a b d * x - cfIm a b d * y
/-- Its imaginary part. -/
def inIm (a b d x y : EReal) : EReal := cfRe a b d * y + cfIm a b d * x

section
variable (x0 x1 x2 x3 x4 : Vec Ideal S32x16x64 .f32)

theorem ld_eq (x : Vec Ideal S32x16x64 .f32) : View.ld x r0_0 = x := by
  funext y
  exact congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem pay5_apply (r : Fin 32) (h : Fin 16) (p : Fin 64) : (k0_pay7 x0 x1 x2) (ix3 r h p) = stRe (x0 (ix3 r h p)) (x1 (ix3 r h p)) (x2 (ix3 r h p)) := by
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out5_apply (y : S32x16x64.Idx) : out0_5 x0 x1 x2 x3 x4 y = stRe (x0 y) (x1 y) (x2 y) := by
  unfold out0_5
  simp only [ld_eq]
  refine View.canon_apply_of_pieces (Val := Elt Ideal) (fun y => stRe (x0 y) (x1 y) (x2 y)) _ ?_ y (cover0_5 _ _)
  simp only [List.forall_mem_cons]
  refine ⟨fun z => ?_, by simp⟩
  idx_vars z
  refine (pay5_apply x0 x1 x2 z0 z1 z2).trans ?_
  have e : (ix3 z0 z1 z2 : S32x16x64.Idx) = r0_0.emb (ix3 z0 z1 z2) := funext fun a => Fin.ext (by
    match a with
    | ⟨0, _⟩ => show z0.val = 0 + 1 * z0.val; omega
    | ⟨1, _⟩ => show z1.val = 0 + 1 * z1.val; omega
    | ⟨2, _⟩ => show z2.val = 0 + 1 * z2.val; omega)
  exact congrArg (fun y => stRe (x0 y) (x1 y) (x2 y)) e

theorem pay6_apply (r : Fin 32) (h : Fin 16) (p : Fin 64) : (k0_pay8 x0 x1 x2) (ix3 r h p) = stIm (x0 (ix3 r h p)) (x1 (ix3 r h p)) (x2 (ix3 r h p)) := by
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out6_apply (y : S32x16x64.Idx) : out0_6 x0 x1 x2 x3 x4 y = stIm (x0 y) (x1 y) (x2 y) := by
  unfold out0_6
  simp only [ld_eq]
  refine View.canon_apply_of_pieces (Val := Elt Ideal) (fun y => stIm (x0 y) (x1 y) (x2 y)) _ ?_ y (cover0_6 _ _)
  simp only [List.forall_mem_cons]
  refine ⟨fun z => ?_, by simp⟩
  idx_vars z
  refine (pay6_apply x0 x1 x2 z0 z1 z2).trans ?_
  have e : (ix3 z0 z1 z2 : S32x16x64.Idx) = r0_0.emb (ix3 z0 z1 z2) := funext fun a => Fin.ext (by
    match a with
    | ⟨0, _⟩ => show z0.val = 0 + 1 * z0.val; omega
    | ⟨1, _⟩ => show z1.val = 0 + 1 * z1.val; omega
    | ⟨2, _⟩ => show z2.val = 0 + 1 * z2.val; omega)
  exact congrArg (fun y => stIm (x0 y) (x1 y) (x2 y)) e

theorem pay7_apply (r : Fin 32) (h : Fin 16) (p : Fin 64) : (k0_pay1 (k0_pay15 x0 x1 x2 x3) (k0_pay16 x0 x1 x2 x4)) (ix3 r h p) = inRe (x0 (ix3 r h p)) (x1 (ix3 r h p)) (x2 (ix3 r h p)) (x3 (ix3 r h p)) (x4 (ix3 r h p)) := by
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out7_apply (y : S32x16x64.Idx) : out0_7 x0 x1 x2 x3 x4 y = inRe (x0 y) (x1 y) (x2 y) (x3 y) (x4 y) := by
  unfold out0_7
  simp only [ld_eq]
  refine View.canon_apply_of_pieces (Val := Elt Ideal) (fun y => inRe (x0 y) (x1 y) (x2 y) (x3 y) (x4 y)) _ ?_ y (cover0_7 _ _)
  simp only [List.forall_mem_cons]
  refine ⟨fun z => ?_, by simp⟩
  idx_vars z
  refine (pay7_apply x0 x1 x2 x3 x4 z0 z1 z2).trans ?_
  have e : (ix3 z0 z1 z2 : S32x16x64.Idx) = r0_0.emb (ix3 z0 z1 z2) := funext fun a => Fin.ext (by
    match a with
    | ⟨0, _⟩ => show z0.val = 0 + 1 * z0.val; omega
    | ⟨1, _⟩ => show z1.val = 0 + 1 * z1.val; omega
    | ⟨2, _⟩ => show z2.val = 0 + 1 * z2.val; omega)
  exact congrArg (fun y => inRe (x0 y) (x1 y) (x2 y) (x3 y) (x4 y)) e

theorem pay8_apply (r : Fin 32) (h : Fin 16) (p : Fin 64) : (k0_pay2 (k0_pay11 x0 x1 x2) (k0_pay12 x0 x1 x2) (k0_pay13 x3) (k0_pay14 x4)) (ix3 r h p) = inIm (x0 (ix3 r h p)) (x1 (ix3 r h p)) (x2 (ix3 r h p)) (x3 (ix3 r h p)) (x4 (ix3 r h p)) := by
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out8_apply (y : S32x16x64.Idx) : out0_8 x0 x1 x2 x3 x4 y = inIm (x0 y) (x1 y) (x2 y) (x3 y) (x4 y) := by
  unfold out0_8
  simp only [ld_eq]
  refine View.canon_apply_of_pieces (Val := Elt Ideal) (fun y => inIm (x0 y) (x1 y) (x2 y) (x3 y) (x4 y)) _ ?_ y (cover0_8 _ _)
  simp only [List.forall_mem_cons]
  refine ⟨fun z => ?_, by simp⟩
  idx_vars z
  refine (pay8_apply x0 x1 x2 x3 x4 z0 z1 z2).trans ?_
  have e : (ix3 z0 z1 z2 : S32x16x64.Idx) = r0_0.emb (ix3 z0 z1 z2) := funext fun a => Fin.ext (by
    match a with
    | ⟨0, _⟩ => show z0.val = 0 + 1 * z0.val; omega
    | ⟨1, _⟩ => show z1.val = 0 + 1 * z1.val; omega
    | ⟨2, _⟩ => show z2.val = 0 + 1 * z2.val; omega)
  exact congrArg (fun y => inIm (x0 y) (x1 y) (x2 y) (x3 y) (x4 y)) e

end

variable (m : (ℓ : Loc nD τ sig) → Buf (Elt Ideal) ℓ) (c : Dev nD)

/-- The real parts of the eigenvalues as launched. -/
abbrev argA : S2x16x64.Idx → EReal := m ((c : Thread nD τ).loc main_arg0)
/-- Their imaginary parts as launched. -/
abbrev argB : S2x16x64.Idx → EReal := m ((c : Thread nD τ).loc main_arg1)
/-- The logarithms of the steps as launched. -/
abbrev argD : S2x16.Idx → EReal := m ((c : Thread nD τ).loc main_arg2)
/-- The real parts of the input matrices as launched. -/
abbrev argX : S2x16x64x16.Idx → EReal := m ((c : Thread nD τ).loc main_arg3)
/-- Their imaginary parts as launched. -/
abbrev argY : S2x16x64x16.Idx → EReal := m ((c : Thread nD τ).loc main_arg4)

/-- The row of group `g` of layer `i`. -/
def grp (i : Fin 2) (g : Fin 16) : Fin 32 := ⟨i.val * 16 + g.val, by omega⟩

/-! ## The prepared arrays -/

theorem V_a (i : Fin 2) (g h : Fin 16) (p : Fin 64) : (V m c main_v1 : S32x16x64.Idx → EReal) (ix3 (grp i g) h p) = argA m c (ix3 i g p) := by
  unfold V grp
  after_reads_at
  exact congrArg (argA m c) (congrArg₂ (fun (a : Fin 2) (b : Fin 16) => ix3 a b p) (Fin.ext (by show (i.val * 16 + g.val) / 16 = i.val; omega)) (Fin.ext (by show (i.val * 16 + g.val) % 16 = g.val; omega)))

theorem V_b (i : Fin 2) (g h : Fin 16) (p : Fin 64) : (V m c main_v3 : S32x16x64.Idx → EReal) (ix3 (grp i g) h p) = argB m c (ix3 i g p) := by
  unfold V grp
  after_reads_at
  exact congrArg (argB m c) (congrArg₂ (fun (a : Fin 2) (b : Fin 16) => ix3 a b p) (Fin.ext (by show (i.val * 16 + g.val) / 16 = i.val; omega)) (Fin.ext (by show (i.val * 16 + g.val) % 16 = g.val; omega)))

theorem V_d (i : Fin 2) (g h : Fin 16) (p : Fin 64) : (V m c main_v6 : S32x16x64.Idx → EReal) (ix3 (grp i g) h p) = argD m c (ix2 i g) := by
  unfold V grp
  after_reads_at
  exact congrArg (argD m c) (congrArg₂ (fun (a : Fin 2) (b : Fin 16) => ix2 a b) (Fin.ext (by show (i.val * 16 + g.val) / 16 = i.val; omega)) (Fin.ext (by show (i.val * 16 + g.val) % 16 = g.val; omega)))

theorem V_x (i : Fin 2) (g h : Fin 16) (p : Fin 64) : (V m c main_v8 : S32x16x64.Idx → EReal) (ix3 (grp i g) h p) = argX m c (ix4 i g p h) := by
  unfold V grp
  after_reads_at

theorem V_y (i : Fin 2) (g h : Fin 16) (p : Fin 64) : (V m c main_v10 : S32x16x64.Idx → EReal) (ix3 (grp i g) h p) = argY m c (ix4 i g p h) := by
  unfold V grp
  after_reads_at

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0, 0] := by decide +kernel

theorem blk_0 (t : Fin cfg0.N) : iblk m c 0 t = (V m c main_v1 : S32x16x64.Idx → EReal) := by
  funext y
  blk_simp [iblk]
  refine congrArg (V m c main_v1) ?_
  blk_ext [idx0 t]

theorem blk_1 (t : Fin cfg0.N) : iblk m c 1 t = (V m c main_v3 : S32x16x64.Idx → EReal) := by
  funext y
  blk_simp [iblk]
  refine congrArg (V m c main_v3) ?_
  blk_ext [idx1 t]

theorem blk_2 (t : Fin cfg0.N) : iblk m c 2 t = (V m c main_v6 : S32x16x64.Idx → EReal) := by
  funext y
  blk_simp [iblk]
  refine congrArg (V m c main_v6) ?_
  blk_ext [idx2 t]

theorem blk_3 (t : Fin cfg0.N) : iblk m c 3 t = (V m c main_v8 : S32x16x64.Idx → EReal) := by
  funext y
  blk_simp [iblk]
  refine congrArg (V m c main_v8) ?_
  blk_ext [idx3 t]

theorem blk_4 (t : Fin cfg0.N) : iblk m c 4 t = (V m c main_v10 : S32x16x64.Idx → EReal) := by
  funext y
  blk_simp [iblk]
  refine congrArg (V m c main_v10) ?_
  blk_ext [idx4 t]

/-! ## The arrays after the run -/

def arr5 (y : S32x16x64.Idx) : EReal := stRe ((V m c main_v1 : S32x16x64.Idx → EReal) y) ((V m c main_v3 : S32x16x64.Idx → EReal) y) ((V m c main_v6 : S32x16x64.Idx → EReal) y)

theorem arr5_eq : (dats m 0 c).arrAt 5 cfg0.N = arr5 m c := by
  refine (dats m 0 c).arrAt_eq_of_covers 5 _ (by decide +kernel) fun t hf y => ?_
  blk_simp
  rw [after0_5, blk_0, blk_1, blk_2, blk_3, blk_4]
  have e : ((win0_5.blk t).view.emb y : S32x16x64.Idx) = y := by
    blk_ext [idx5 t]
  rw [e]
  exact out5_apply _ _ _ _ _ y

def arr6 (y : S32x16x64.Idx) : EReal := stIm ((V m c main_v1 : S32x16x64.Idx → EReal) y) ((V m c main_v3 : S32x16x64.Idx → EReal) y) ((V m c main_v6 : S32x16x64.Idx → EReal) y)

theorem arr6_eq : (dats m 0 c).arrAt 6 cfg0.N = arr6 m c := by
  refine (dats m 0 c).arrAt_eq_of_covers 6 _ (by decide +kernel) fun t hf y => ?_
  blk_simp
  rw [after0_6, blk_0, blk_1, blk_2, blk_3, blk_4]
  have e : ((win0_6.blk t).view.emb y : S32x16x64.Idx) = y := by
    blk_ext [idx6 t]
  rw [e]
  exact out6_apply _ _ _ _ _ y

def arr7 (y : S32x16x64.Idx) : EReal := inRe ((V m c main_v1 : S32x16x64.Idx → EReal) y) ((V m c main_v3 : S32x16x64.Idx → EReal) y) ((V m c main_v6 : S32x16x64.Idx → EReal) y) ((V m c main_v8 : S32x16x64.Idx → EReal) y) ((V m c main_v10 : S32x16x64.Idx → EReal) y)

theorem arr7_eq : (dats m 0 c).arrAt 7 cfg0.N = arr7 m c := by
  refine (dats m 0 c).arrAt_eq_of_covers 7 _ (by decide +kernel) fun t hf y => ?_
  blk_simp
  rw [after0_7, blk_0, blk_1, blk_2, blk_3, blk_4]
  have e : ((win0_7.blk t).view.emb y : S32x16x64.Idx) = y := by
    blk_ext [idx7 t]
  rw [e]
  exact out7_apply _ _ _ _ _ y

def arr8 (y : S32x16x64.Idx) : EReal := inIm ((V m c main_v1 : S32x16x64.Idx → EReal) y) ((V m c main_v3 : S32x16x64.Idx → EReal) y) ((V m c main_v6 : S32x16x64.Idx → EReal) y) ((V m c main_v8 : S32x16x64.Idx → EReal) y) ((V m c main_v10 : S32x16x64.Idx → EReal) y)

theorem arr8_eq : (dats m 0 c).arrAt 8 cfg0.N = arr8 m c := by
  refine (dats m 0 c).arrAt_eq_of_covers 8 _ (by decide +kernel) fun t hf y => ?_
  blk_simp
  rw [after0_8, blk_0, blk_1, blk_2, blk_3, blk_4]
  have e : ((win0_8.blk t).view.emb y : S32x16x64.Idx) = y := by
    blk_ext [idx8 t]
  rw [e]
  exact out8_apply _ _ _ _ _ y

/-! ## The results -/

theorem res_v14 (i : Fin 2) (g : Fin 16) (p : Fin 64) : (Pipeline.afterTail₀ cfgs (dats m) 0 (V0 m) [hostOps1] c main_v14 : S2x16x64.Idx → EReal) (ix3 i g p) = stRe (argA m c (ix3 i g p)) (argB m c (ix3 i g p)) (argD m c (ix2 i g)) := by
  refine Eq.trans (b := arr5 m c (ix3 (grp i g) 0 p)) ?_ (by unfold arr5; rw [V_a, V_b, V_d])
  unfold Pipeline.afterTail₀
  after_reads_at
  refine (congrFun (Pipeline.withArrays_arr (cfgs 0).spec launch0.win.arr_inj c (V0 m c) _ 5) _).trans ?_
  refine (congrFun (arr5_eq m c) _).trans ?_
  rfl

theorem res_v17 (i : Fin 2) (g : Fin 16) (p : Fin 64) : (Pipeline.afterTail₀ cfgs (dats m) 0 (V0 m) [hostOps1] c main_v17 : S2x16x64.Idx → EReal) (ix3 i g p) = stIm (argA m c (ix3 i g p)) (argB m c (ix3 i g p)) (argD m c (ix2 i g)) := by
  refine Eq.trans (b := arr6 m c (ix3 (grp i g) 0 p)) ?_ (by unfold arr6; rw [V_a, V_b, V_d])
  unfold Pipeline.afterTail₀
  after_reads_at
  refine (congrFun (Pipeline.withArrays_arr (cfgs 0).spec launch0.win.arr_inj c (V0 m c) _ 6) _).trans ?_
  refine (congrFun (arr6_eq m c) _).trans ?_
  rfl

theorem res_v20 (i : Fin 2) (g : Fin 16) (p : Fin 64) (h : Fin 16) : (Pipeline.afterTail₀ cfgs (dats m) 0 (V0 m) [hostOps1] c main_v20 : S2x16x64x16.Idx → EReal) (ix4 i g p h) = inRe (argA m c (ix3 i g p)) (argB m c (ix3 i g p)) (argD m c (ix2 i g)) (argX m c (ix4 i g p h)) (argY m c (ix4 i g p h)) := by
  refine Eq.trans (b := arr7 m c (ix3 (grp i g) h p)) ?_ (by unfold arr7; rw [V_a, V_b, V_d, V_x, V_y])
  unfold Pipeline.afterTail₀
  after_reads_at
  refine (congrFun (Pipeline.withArrays_arr (cfgs 0).spec launch0.win.arr_inj c (V0 m c) _ 7) _).trans ?_
  refine (congrFun (arr7_eq m c) _).trans ?_
  rfl

theorem res_v21 (i : Fin 2) (g : Fin 16) (p : Fin 64) (h : Fin 16) : (Pipeline.afterTail₀ cfgs (dats m) 0 (V0 m) [hostOps1] c main_v21 : S2x16x64x16.Idx → EReal) (ix4 i g p h) = inIm (argA m c (ix3 i g p)) (argB m c (ix3 i g p)) (argD m c (ix2 i g)) (argX m c (ix4 i g p h)) (argY m c (ix4 i g p h)) := by
  refine Eq.trans (b := arr8 m c (ix3 (grp i g) h p)) ?_ (by unfold arr8; rw [V_a, V_b, V_d, V_x, V_y])
  unfold Pipeline.afterTail₀
  after_reads_at
  refine (congrFun (Pipeline.withArrays_arr (cfgs 0).spec launch0.win.arr_inj c (V0 m c) _ 8) _).trans ?_
  refine (congrFun (arr8_eq m c) _).trans ?_
  rfl

end Cert.Kernel4Ideal.Val
-- ==== Proof.PrepAlgebraic.lean ====
module

public import proofs.«01_k».proof.Defs
public import proofs.«01_k».proof.Proof.PrepTile
public import proofs.«01_k».proof.Proof.EdgeAlgebraic
public import proofs.«01_k».proof.Proof.Gen.Reference4Ideal.Run
public import proofs.«01_k».proof.Proof.Gen.Reference4Ideal.Read

@[expose] public section

set_option maxRecDepth 16384

noncomputable section

namespace Cert.Reference4Ideal.Val

open Cert.Reference4Ideal Cert.Reference4Ideal.Read
open Idealize.ShloMosaic Idealize.ShloMosaic.TcCoe Idealize.ShloMosaic.Tactic
open Cert.Kernel4Ideal.Val (stRe stIm cfRe cfIm inRe inIm)

abbrev A0 := S2x16x64.Idx → EReal
abbrev A2 := S2x16.Idx → EReal
abbrev A3 := S2x16x64x16.Idx → EReal

/-! ## Each layer of the reference -/

theorem v18_apply (x0 x1 : A0) (x2 : A2) (g : Fin 16) (p : Fin 64) : val_main_v18 (F := Ideal) x0 x1 x2 (ix2 g p) = stRe (x0 (ix3 0 g p)) (x1 (ix3 0 g p)) (x2 (ix2 0 g)) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

theorem v22_apply (x0 x1 : A0) (x2 : A2) (g : Fin 16) (p : Fin 64) : val_main_v22 (F := Ideal) x0 x1 x2 (ix2 g p) = stIm (x0 (ix3 0 g p)) (x1 (ix3 0 g p)) (x2 (ix2 0 g)) := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

theorem v42_apply (x0 x1 : A0) (x2 : A2) (x3 x4 : A3) (g : Fin 16) (p : Fin 64) (h : Fin 16) : val_main_v42 (F := Ideal) x0 x1 x2 x3 x4 (ix3 g p h) = inRe (x0 (ix3 0 g p)) (x1 (ix3 0 g p)) (x2 (ix2 0 g)) (x3 (ix4 0 g p h)) (x4 (ix4 0 g p h)) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

theorem v49_apply (x0 x1 : A0) (x2 : A2) (x3 x4 : A3) (g : Fin 16) (p : Fin 64) (h : Fin 16) : val_main_v49 (F := Ideal) x0 x1 x2 x3 x4 (ix3 g p h) = inIm (x0 (ix3 0 g p)) (x1 (ix3 0 g p)) (x2 (ix2 0 g)) (x3 (ix4 0 g p h)) (x4 (ix4 0 g p h)) := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

theorem v68_apply (x0 x1 : A0) (x2 : A2) (g : Fin 16) (p : Fin 64) : val_main_v68 (F := Ideal) x0 x1 x2 (ix2 g p) = stRe (x0 (ix3 1 g p)) (x1 (ix3 1 g p)) (x2 (ix2 1 g)) := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_0]
  rfl

theorem v72_apply (x0 x1 : A0) (x2 : A2) (g : Fin 16) (p : Fin 64) : val_main_v72 (F := Ideal) x0 x1 x2 (ix2 g p) = stIm (x0 (ix3 1 g p)) (x1 (ix3 1 g p)) (x2 (ix2 1 g)) := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_0]
  rfl

theorem v92_apply (x0 x1 : A0) (x2 : A2) (x3 x4 : A3) (g : Fin 16) (p : Fin 64) (h : Fin 16) : val_main_v92 (F := Ideal) x0 x1 x2 x3 x4 (ix3 g p h) = inRe (x0 (ix3 1 g p)) (x1 (ix3 1 g p)) (x2 (ix2 1 g)) (x3 (ix4 1 g p h)) (x4 (ix4 1 g p h)) := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_0]
  rfl

theorem v99_apply (x0 x1 : A0) (x2 : A2) (x3 x4 : A3) (g : Fin 16) (p : Fin 64) (h : Fin 16) : val_main_v99 (F := Ideal) x0 x1 x2 x3 x4 (ix3 g p h) = inIm (x0 (ix3 1 g p)) (x1 (ix3 1 g p)) (x2 (ix2 1 g)) (x3 (ix4 1 g p h)) (x4 (ix4 1 g p h)) := by
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_0]
  rfl

/-! ## The two layers together -/

theorem v102_apply (x0 x1 : A0) (x2 : A2) (i : Fin 2) (g : Fin 16) (p : Fin 64) : val_main_v102 (F := Ideal) x0 x1 x2 (ix3 i g p) = stRe (x0 (ix3 i g p)) (x1 (ix3 i g p)) (x2 (ix2 i g)) := by
  match i with
  | ⟨0, _⟩ =>
    pointwise [val_main_v102, val_main_v100, val_main_v101]
    exact v18_apply x0 x1 x2 g p
  | ⟨1, _⟩ =>
    pointwise [val_main_v102, val_main_v100, val_main_v101]
    exact v68_apply x0 x1 x2 g p

theorem v105_apply (x0 x1 : A0) (x2 : A2) (i : Fin 2) (g : Fin 16) (p : Fin 64) : val_main_v105 (F := Ideal) x0 x1 x2 (ix3 i g p) = stIm (x0 (ix3 i g p)) (x1 (ix3 i g p)) (x2 (ix2 i g)) := by
  match i with
  | ⟨0, _⟩ =>
    pointwise [val_main_v105, val_main_v103, val_main_v104]
    exact v22_apply x0 x1 x2 g p
  | ⟨1, _⟩ =>
    pointwise [val_main_v105, val_main_v103, val_main_v104]
    exact v72_apply x0 x1 x2 g p

theorem v108_apply (x0 x1 : A0) (x2 : A2) (x3 x4 : A3) (i : Fin 2) (g : Fin 16) (p : Fin 64) (h : Fin 16) : val_main_v108 (F := Ideal) x0 x1 x2 x3 x4 (ix4 i g p h) = inRe (x0 (ix3 i g p)) (x1 (ix3 i g p)) (x2 (ix2 i g)) (x3 (ix4 i g p h)) (x4 (ix4 i g p h)) := by
  match i with
  | ⟨0, _⟩ =>
    pointwise [val_main_v108, val_main_v106, val_main_v107]
    exact v42_apply x0 x1 x2 x3 x4 g p h
  | ⟨1, _⟩ =>
    pointwise [val_main_v108, val_main_v106, val_main_v107]
    exact v92_apply x0 x1 x2 x3 x4 g p h

theorem v111_apply (x0 x1 : A0) (x2 : A2) (x3 x4 : A3) (i : Fin 2) (g : Fin 16) (p : Fin 64) (h : Fin 16) : val_main_v111 (F := Ideal) x0 x1 x2 x3 x4 (ix4 i g p h) = inIm (x0 (ix3 i g p)) (x1 (ix3 i g p)) (x2 (ix2 i g)) (x3 (ix4 i g p h)) (x4 (ix4 i g p h)) := by
  match i with
  | ⟨0, _⟩ =>
    pointwise [val_main_v111, val_main_v109, val_main_v110]
    exact v49_apply x0 x1 x2 x3 x4 g p h
  | ⟨1, _⟩ =>
    pointwise [val_main_v111, val_main_v109, val_main_v110]
    exact v99_apply x0 x1 x2 x3 x4 g p h

end Cert.Reference4Ideal.Val

namespace Cert.Proof.Prep

open Idealize.ShloMosaic Idealize.ShloMosaic.TcCoe Idealize.SL.Sem
open Cert.Kernel4Ideal.Val (argA argB argD argX argY)
open Cert.Proof.Edge (idx3 idx4)

variable (m : (ℓ : Loc Cert.Kernel4Ideal.nD Cert.Kernel4Ideal.τ Cert.Kernel4Ideal.sig) → Buf (Elt Ideal) ℓ) (c : Dev Cert.Kernel4Ideal.nD)

/-! ## The four results, of one argument tuple -/

theorem eq_v14 : (Cert.Reference4Ideal.Read.val_main_v102 (F := Ideal) (argA m c) (argB m c) (argD m c) : Cert.Kernel4Ideal.S2x16x64.Idx → EReal)
    = (Pipeline.afterTail₀ Cert.Kernel4Ideal.cfgs (Cert.Kernel4Ideal.Gen.dats m) 0 (Cert.Kernel4Ideal.Gen.V0 m) [Cert.Kernel4Ideal.Gen.hostOps1] c Cert.Kernel4Ideal.main_v14 : Cert.Kernel4Ideal.S2x16x64.Idx → EReal) := by
  funext i
  obtain ⟨i, g, p, rfl⟩ := idx3 i
  exact (Cert.Reference4Ideal.Val.v102_apply (argA m c) (argB m c) (argD m c) i g p).trans (Cert.Kernel4Ideal.Val.res_v14 m c i g p).symm

theorem eq_v17 : (Cert.Reference4Ideal.Read.val_main_v105 (F := Ideal) (argA m c) (argB m c) (argD m c) : Cert.Kernel4Ideal.S2x16x64.Idx → EReal)
    = (Pipeline.afterTail₀ Cert.Kernel4Ideal.cfgs (Cert.Kernel4Ideal.Gen.dats m) 0 (Cert.Kernel4Ideal.Gen.V0 m) [Cert.Kernel4Ideal.Gen.hostOps1] c Cert.Kernel4Ideal.main_v17 : Cert.Kernel4Ideal.S2x16x64.Idx → EReal) := by
  funext i
  obtain ⟨i, g, p, rfl⟩ := idx3 i
  exact (Cert.Reference4Ideal.Val.v105_apply (argA m c) (argB m c) (argD m c) i g p).trans (Cert.Kernel4Ideal.Val.res_v17 m c i g p).symm

theorem eq_v20 : (Cert.Reference4Ideal.Read.val_main_v108 (F := Ideal) (argA m c) (argB m c) (argD m c) (argX m c) (argY m c) : Cert.Kernel4Ideal.S2x16x64x16.Idx → EReal)
    = (Pipeline.afterTail₀ Cert.Kernel4Ideal.cfgs (Cert.Kernel4Ideal.Gen.dats m) 0 (Cert.Kernel4Ideal.Gen.V0 m) [Cert.Kernel4Ideal.Gen.hostOps1] c Cert.Kernel4Ideal.main_v20 : Cert.Kernel4Ideal.S2x16x64x16.Idx → EReal) := by
  funext i
  obtain ⟨i, g, p, h, rfl⟩ := idx4 i
  exact (Cert.Reference4Ideal.Val.v108_apply (argA m c) (argB m c) (argD m c) (argX m c) (argY m c) i g p h).trans (Cert.Kernel4Ideal.Val.res_v20 m c i g p h).symm

theorem eq_v21 : (Cert.Reference4Ideal.Read.val_main_v111 (F := Ideal) (argA m c) (argB m c) (argD m c) (argX m c) (argY m c) : Cert.Kernel4Ideal.S2x16x64x16.Idx → EReal)
    = (Pipeline.afterTail₀ Cert.Kernel4Ideal.cfgs (Cert.Kernel4Ideal.Gen.dats m) 0 (Cert.Kernel4Ideal.Gen.V0 m) [Cert.Kernel4Ideal.Gen.hostOps1] c Cert.Kernel4Ideal.main_v21 : Cert.Kernel4Ideal.S2x16x64x16.Idx → EReal) := by
  funext i
  obtain ⟨i, g, p, h, rfl⟩ := idx4 i
  exact (Cert.Reference4Ideal.Val.v111_apply (argA m c) (argB m c) (argD m c) (argX m c) (argY m c) i g p h).trans (Cert.Kernel4Ideal.Val.res_v21 m c i g p h).symm

/-- From memories that agree on the arguments both programs run and end with equal results. -/
theorem algebraic : Cert.algebraic_Kernel4Ideal_Reference4Ideal := by
  intro m g m' g' hpre hagree
  refine ⟨fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v14, fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v17, fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v20, fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v21, ?_, ?_⟩
  · exact (θ_run Cert.Kernel4Ideal.defs _ _).mono (fun r h c => ⟨(h.1 c).2 _ (by decide), (h.1 c).2 _ (by decide), (h.1 c).2 _ (by decide), (h.1 c).2 _ (by decide), h.2 c⟩)
      (θ_run_and (Cert.Kernel4Ideal.Gen.run_main (F := Ideal) m g) (Cert.Kernel4Ideal.Gen.unchanged (F := Ideal) m g))
  · refine (θ_run Cert.Reference4Ideal.defs _ _).mono (fun _ h c => ?_) (Cert.Reference4Ideal.Value.run (F := Ideal) m' g')
    obtain ⟨e0, e1, e2, e3, e4⟩ := hagree c
    obtain ⟨h0, h1, h2, h3, hargs⟩ := h c
    refine ⟨h0.trans ?_, h1.trans ?_, h2.trans ?_, h3.trans ?_, hargs⟩
    · refine (Cert.Reference4Ideal.Read.val_main_v102_eq _ _ _).trans ?_
      rw [e0, e1, e2]
      exact eq_v14 m c
    · refine (Cert.Reference4Ideal.Read.val_main_v105_eq _ _ _).trans ?_
      rw [e0, e1, e2]
      exact eq_v17 m c
    · rw [Cert.Reference4Ideal.Read.val_main_v108_eq, e0, e1, e2, e3, e4]
      exact eq_v20 m c
    · rw [Cert.Reference4Ideal.Read.val_main_v111_eq, e0, e1, e2, e3, e4]
      exact eq_v21 m c

/-- The reference's frame: its run leaves the arguments unchanged, and it has no semaphore. -/
theorem frame_reference : Cert.quiescent_Reference4Ideal := fun m g _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m g)

end Cert.Proof.Prep
-- ==== Proof.ShiftFrame.lean ====
module

public import proofs.«01_k».proof.Proof.Gen.Kernel5Ideal.Frame.Runs
public import Idealize.ShloMosaic.Lib.Claim

@[expose] public section

-- membership in a rectangle of production extents (`View.cover_of_tiled`): the elaborator's structural look
-- recurses once per coordinate of the long axes
set_option maxRecDepth 16384

noncomputable section

namespace Cert.Kernel5Ideal.Run

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2088000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S2x6 .f32) (harg1 : arg1.IsWhole) (arg2 : Memref sig .tc .vmem S1x2048x384 .bf16) (harg2 : arg2.IsWhole) (arg3 : Memref sig .tc .vmem S1x2048x384 .bf16) (harg3 : arg3.IsWhole) (arg4 : Memref sig .tc .vmem S1x2048x256 .bf16) (harg4 : arg4.IsWhole) (arg5 : Memref sig .tc .vmem S1x2048x384 .bf16) (harg5 : arg5.IsWhole) (arg6 : Memref sig .tc .vmem S2x2048x128 .bf16) (harg6 : arg6.IsWhole) (arg7 : Memref sig .tc .vmem S128x2048 .bf16) (harg7 : arg7.IsWhole)
    (x0 : Vec F S2x6 .f32) (x1 : Vec F S1x2048x384 .bf16) (x2 : Vec F S1x2048x384 .bf16) (x3 : Vec F S1x2048x256 .bf16) :
    Σ' (L4 : List (View.Piece (Elt F) S1x2048x384 .bf16)), Σ' (LT0 : List (View.Piece (Elt F) S2x2048x128 .bf16)), { LT1 : List (View.Piece (Elt F) S128x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1)) -∗ K ⟨⟩))
          ⊢ wp frame (wpE (defs₀ (F := F)) Variants.none c none) E (cc0_swa i arg1 harg1 arg2 harg2 arg3 harg3 arg4 harg4 arg5 harg5 arg6 harg6 arg7 harg7) K } := by
  refine ⟨?_, ?_, ?_, fun E K => ?run⟩
  case run =>
    simp only [cc0_swa_eq_skeleton]; unfold cc0_swa_skel
    simp only [k0_part46_eq_skeleton]; unfold k0_part46_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

variable (m : (ℓ : Loc nD τ sig) → Buf (Elt F) ℓ) (ρ : Dev nD → PrngReg)
/-- The run's pieces for output 4 tile its block (48 stores of `S1x128x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S2x6 .f32) (harg1 : arg1.IsWhole) (arg2 : Memref sig .tc .vmem S1x2048x384 .bf16) (harg2 : arg2.IsWhole) (arg3 : Memref sig .tc .vmem S1x2048x384 .bf16) (harg3 : arg3.IsWhole) (arg4 : Memref sig .tc .vmem S1x2048x256 .bf16) (harg4 : arg4.IsWhole) (arg5 : Memref sig .tc .vmem S1x2048x384 .bf16) (harg5 : arg5.IsWhole) (arg6 : Memref sig .tc .vmem S2x2048x128 .bf16) (harg6 : arg6.IsWhole) (arg7 : Memref sig .tc .vmem S128x2048 .bf16) (harg7 : arg7.IsWhole)
    (x0 : Vec F S2x6 .f32) (x1 : Vec F S1x2048x384 .bf16) (x2 : Vec F S1x2048x384 .bf16) (x3 : Vec F S1x2048x256 .bf16) (y : S1x2048x384.Idx) :
    ∃ pc ∈ (kernelRun0_A c i arg1 harg1 arg2 harg2 arg3 harg3 arg4 harg4 arg5 harg5 arg6 harg6 arg7 harg7 x0 x1 x2 x3).1, y ∈ pc.1.set :=
  View.cover_of_tiledL (kernelRun0_A c i arg1 harg1 arg2 harg2 arg3 harg3 arg4 harg4 arg5 harg5 arg6 harg6 arg7 harg7 x0 x1 x2 x3).1 S1x128x128.size (by sl_kernel_rfl) y

/-- What the run leaves in output 4's staging buffer: its pieces read back over junk. -/
def out0_A_4 (c : Dev nD) (i : grid0.Coords) (arg1 : Memref sig .tc .smem S2x6 .f32) (harg1 : arg1.IsWhole) (arg2 : Memref sig .tc .vmem S1x2048x384 .bf16) (harg2 : arg2.IsWhole) (arg3 : Memref sig .tc .vmem S1x2048x384 .bf16) (harg3 : arg3.IsWhole) (arg4 : Memref sig .tc .vmem S1x2048x256 .bf16) (harg4 : arg4.IsWhole) (arg5 : Memref sig .tc .vmem S1x2048x384 .bf16) (harg5 : arg5.IsWhole) (arg6 : Memref sig .tc .vmem S2x2048x128 .bf16) (harg6 : arg6.IsWhole) (arg7 : Memref sig .tc .vmem S128x2048 .bf16) (harg7 : arg7.IsWhole)
    (x0 : Vec F S2x6 .f32) (x1 : Vec F S1x2048x384 .bf16) (x2 : Vec F S1x2048x384 .bf16) (x3 : Vec F S1x2048x256 .bf16) : Vec F S1x2048x384 .bf16 :=
  VO0_4.read (Elt F) (VO0_4.writes (Elt F) VO0_4.junk (kernelRun0_A c i arg1 harg1 arg2 harg2 arg3 harg3 arg4 harg4 arg5 harg5 arg6 harg6 arg7 harg7 x0 x1 x2 x3).1)

/-! ## What the outputs hold after each point -/

/-- What the outputs' staging buffers hold after the body at point `t`: the run's contents at
    the point's memrefs and input blocks. -/
def outsAt0 (c : Dev nD) (t : Fin cfg0.N) : Vec F S1x2048x384 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.Kernel5Ideal.Run

end
-- ==== Proof.ShiftTile.lean ====
module

public import proofs.«01_k».proof.Proof.ShiftFrame
public import proofs.«01_k».proof.Proof.Tile

@[expose] public section

set_option maxRecDepth 16384

noncomputable section

namespace Cert.Kernel5Ideal.Val

open Cert.Kernel5Ideal Cert.Kernel5Ideal.Gen Cert.Kernel5Ideal.Run
open Idealize.ShloMosaic Idealize.ShloMosaic.TcCoe Idealize.ShloMosaic.Tactic
open Idealize.SL Idealize.SL.Sem
open Cert.KernelIdeal.Val (rx rk0 rv0 rkb rvb KS VS sink0 sink1 scoresB scores0 store)

variable {F : FTy → Type} [FloatOps F] [Named F]

/-- The normalised weighted values of a block after the first, from its scores: each head's row maximum taken out. -/
def shiftB (s0 s1 : FVec F S1x384 .f32) (one : FVec F S16x256 .bf16) (S : FVec F S512x384 .f32) (V0 V1 : Vec F S64x256 .bf16) : FVec F S128x384 .f32 :=
  k0_pay79 one (k0_pay74 s0 s1 S) (k0_pay75 s0 S) (k0_pay76 s1 S) (k0_pay77 one V0) (k0_pay78 s0 s1 S) V1

/-- The same of the first block. -/
def shift0 (s0 s1 : FVec F S1x384 .f32) (one : FVec F S16x128 .bf16) (S : FVec F S256x384 .f32) (V0 V1 : Vec F S64x128 .bf16) : FVec F S128x384 .f32 :=
  k0_pay67 (k0_pay64 s0 s1 one S V1) (k0_pay65 s0 s1 one S V0) (k0_pay66 s0 s1 one S V1) (Scalar.ofBits .f32 0x3F800000#32)

/-- The normalised weighted values of query block `b + 1`, both heads stacked. -/
def accB (x0 : Vec F S2x6 .f32) (x1 : Vec F S1x2048x384 .bf16) (x3 : Vec F S1x2048x256 .bf16) (b : ℕ) (hb : b < 15) : FVec F S128x384 .f32 :=
  shiftB (sink0 x0) (sink1 x0) Cert.KernelIdeal.Gen.k0_pay54 (scoresB x1 x3 b hb) (View.ld (VS x3) (rvb 0 b (by omega) hb))
    (View.ld (VS x3) (rvb 1 b (by omega) hb))

/-- The normalised weighted values of query block 0, both heads stacked. -/
def acc0 (x0 : Vec F S2x6 .f32) (x1 : Vec F S1x2048x384 .bf16) (x3 : Vec F S1x2048x256 .bf16) : FVec F S128x384 .f32 :=
  shift0 (sink0 x0) (sink1 x0) Cert.KernelIdeal.Gen.k0_pay53 (scores0 x1 x3) (View.ld (VS x3) (rv0 0 (by omega))) (View.ld (VS x3) (rv0 1 (by omega)))

/-- The stores of the output block, last first. -/
def outL (x0 : Vec F S2x6 .f32) (x1 x2 : Vec F S1x2048x384 .bf16) (x3 : Vec F S1x2048x256 .bf16) :
    List (View.Piece (Elt F) S1x2048x384 .bf16) :=
  [⟨rx 15 2 (by omega) (by omega), store (accB x0 x1 x3 14 (by omega)) x2 15 (by omega) 2⟩,
    ⟨rx 15 1 (by omega) (by omega), store (accB x0 x1 x3 14 (by omega)) x2 15 (by omega) 1⟩,
    ⟨rx 15 0 (by omega) (by omega), store (accB x0 x1 x3 14 (by omega)) x2 15 (by omega) 0⟩,
    ⟨rx 14 2 (by omega) (by omega), store (accB x0 x1 x3 13 (by omega)) x2 14 (by omega) 2⟩,
    ⟨rx 14 1 (by omega) (by omega), store (accB x0 x1 x3 13 (by omega)) x2 14 (by omega) 1⟩,
    ⟨rx 14 0 (by omega) (by omega), store (accB x0 x1 x3 13 (by omega)) x2 14 (by omega) 0⟩,
    ⟨rx 13 2 (by omega) (by omega), store (accB x0 x1 x3 12 (by omega)) x2 13 (by omega) 2⟩,
    ⟨rx 13 1 (by omega) (by omega), store (accB x0 x1 x3 12 (by omega)) x2 13 (by omega) 1⟩,
    ⟨rx 13 0 (by omega) (by omega), store (accB x0 x1 x3 12 (by omega)) x2 13 (by omega) 0⟩,
    ⟨rx 12 2 (by omega) (by omega), store (accB x0 x1 x3 11 (by omega)) x2 12 (by omega) 2⟩,
    ⟨rx 12 1 (by omega) (by omega), store (accB x0 x1 x3 11 (by omega)) x2 12 (by omega) 1⟩,
    ⟨rx 12 0 (by omega) (by omega), store (accB x0 x1 x3 11 (by omega)) x2 12 (by omega) 0⟩,
    ⟨rx 11 2 (by omega) (by omega), store (accB x0 x1 x3 10 (by omega)) x2 11 (by omega) 2⟩,
    ⟨rx 11 1 (by omega) (by omega), store (accB x0 x1 x3 10 (by omega)) x2 11 (by omega) 1⟩,
    ⟨rx 11 0 (by omega) (by omega), store (accB x0 x1 x3 10 (by omega)) x2 11 (by omega) 0⟩,
    ⟨rx 10 2 (by omega) (by omega), store (accB x0 x1 x3 9 (by omega)) x2 10 (by omega) 2⟩,
    ⟨rx 10 1 (by omega) (by omega), store (accB x0 x1 x3 9 (by omega)) x2 10 (by omega) 1⟩,
    ⟨rx 10 0 (by omega) (by omega), store (accB x0 x1 x3 9 (by omega)) x2 10 (by omega) 0⟩,
    ⟨rx 9 2 (by omega) (by omega), store (accB x0 x1 x3 8 (by omega)) x2 9 (by omega) 2⟩,
    ⟨rx 9 1 (by omega) (by omega), store (accB x0 x1 x3 8 (by omega)) x2 9 (by omega) 1⟩,
    ⟨rx 9 0 (by omega) (by omega), store (accB x0 x1 x3 8 (by omega)) x2 9 (by omega) 0⟩,
    ⟨rx 8 2 (by omega) (by omega), store (accB x0 x1 x3 7 (by omega)) x2 8 (by omega) 2⟩,
    ⟨rx 8 1 (by omega) (by omega), store (accB x0 x1 x3 7 (by omega)) x2 8 (by omega) 1⟩,
    ⟨rx 8 0 (by omega) (by omega), store (accB x0 x1 x3 7 (by omega)) x2 8 (by omega) 0⟩,
    ⟨rx 7 2 (by omega) (by omega), store (accB x0 x1 x3 6 (by omega)) x2 7 (by omega) 2⟩,
    ⟨rx 7 1 (by omega) (by omega), store (accB x0 x1 x3 6 (by omega)) x2 7 (by omega) 1⟩,
    ⟨rx 7 0 (by omega) (by omega), store (accB x0 x1 x3 6 (by omega)) x2 7 (by omega) 0⟩,
    ⟨rx 6 2 (by omega) (by omega), store (accB x0 x1 x3 5 (by omega)) x2 6 (by omega) 2⟩,
    ⟨rx 6 1 (by omega) (by omega), store (accB x0 x1 x3 5 (by omega)) x2 6 (by omega) 1⟩,
    ⟨rx 6 0 (by omega) (by omega), store (accB x0 x1 x3 5 (by omega)) x2 6 (by omega) 0⟩,
    ⟨rx 5 2 (by omega) (by omega), store (accB x0 x1 x3 4 (by omega)) x2 5 (by omega) 2⟩,
    ⟨rx 5 1 (by omega) (by omega), store (accB x0 x1 x3 4 (by omega)) x2 5 (by omega) 1⟩,
    ⟨rx 5 0 (by omega) (by omega), store (accB x0 x1 x3 4 (by omega)) x2 5 (by omega) 0⟩,
    ⟨rx 4 2 (by omega) (by omega), store (accB x0 x1 x3 3 (by omega)) x2 4 (by omega) 2⟩,
    ⟨rx 4 1 (by omega) (by omega), store (accB x0 x1 x3 3 (by omega)) x2 4 (by omega) 1⟩,
    ⟨rx 4 0 (by omega) (by omega), store (accB x0 x1 x3 3 (by omega)) x2 4 (by omega) 0⟩,
    ⟨rx 3 2 (by omega) (by omega), store (accB x0 x1 x3 2 (by omega)) x2 3 (by omega) 2⟩,
    ⟨rx 3 1 (by omega) (by omega), store (accB x0 x1 x3 2 (by omega)) x2 3 (by omega) 1⟩,
    ⟨rx 3 0 (by omega) (by omega), store (accB x0 x1 x3 2 (by omega)) x2 3 (by omega) 0⟩,
    ⟨rx 2 2 (by omega) (by omega), store (accB x0 x1 x3 1 (by omega)) x2 2 (by omega) 2⟩,
    ⟨rx 2 1 (by omega) (by omega), store (accB x0 x1 x3 1 (by omega)) x2 2 (by omega) 1⟩,
    ⟨rx 2 0 (by omega) (by omega), store (accB x0 x1 x3 1 (by omega)) x2 2 (by omega) 0⟩,
    ⟨rx 1 2 (by omega) (by omega), store (accB x0 x1 x3 0 (by omega)) x2 1 (by omega) 2⟩,
    ⟨rx 1 1 (by omega) (by omega), store (accB x0 x1 x3 0 (by omega)) x2 1 (by omega) 1⟩,
    ⟨rx 1 0 (by omega) (by omega), store (accB x0 x1 x3 0 (by omega)) x2 1 (by omega) 0⟩,
    ⟨rx 0 2 (by omega) (by omega), store (acc0 x0 x1 x3) x2 0 (by omega) 2⟩,
    ⟨rx 0 1 (by omega) (by omega), store (acc0 x0 x1 x3) x2 0 (by omega) 1⟩,
    ⟨rx 0 0 (by omega) (by omega), store (acc0 x0 x1 x3) x2 0 (by omega) 0⟩]

variable (m : (ℓ : Loc nD τ sig) → Buf (Elt F) ℓ)

set_option maxHeartbeats 4000000 in
/-- What the body leaves in the output's staging buffer at a grid point is the stores of `outL`. -/
theorem outsAt0_eq (c : Dev nD) (t : Fin cfg0.N) :
    outsAt0 m c t = View.canon (outL (iblk m c 0 t) (iblk m c 1 t) (iblk m c 2 t) (iblk m c 3 t)) := by
  unfold outsAt0 out0_A_4
  rw [View.read_writes_junk_eq_canon]
  unfold kernelRun0_A
  dsimp only
  sl_unfold_words
  simp only [View.readAt_eq_ld, Memref.IsWhole.read_unread, View.readCov_eq_canon']
  unfold outL
  refine congrArg View.canon ?_
  iterate 48 (refine congrArg₂ List.cons ?_ ?_; · rfl)
  rfl

end Cert.Kernel5Ideal.Val
-- ==== Proof.ShiftBlock.lean ====
module

public import proofs.«01_k».proof.Proof.ShiftTile
public import proofs.«01_k».proof.Proof.Softmax

@[expose] public section

set_option maxRecDepth 16384

noncomputable section

namespace Cert.Kernel5Ideal.Val

open Cert.Kernel5Ideal Cert.Kernel5Ideal.Gen
open Idealize.ShloMosaic Idealize.ShloMosaic.TcCoe Idealize.ShloMosaic.Tactic
open Idealize.SL Idealize.SL.Sem
open Cert.KernelIdeal.Val (rx rkb KS VS sink0 sink1 sinkWord sinkWord_apply scoresB scores0 store ninf ksG dotQK laneK lane3 qRow keyRow att outG pay81_0 pay81_1 pay59_0 pay59_1
  pay80_0 pay80_1 pay55_0 pay55_1 pay53_apply pay54_apply pay46_apply score_sum ld_rkb ld_rk0 accB_0 accB_1 acc0_0 acc0_1 store_piece div_real sum_real sum_mul_real)
open scoped BigOperators

/-- A value that is `⊥` or a real number. -/
def Low (x : EReal) : Prop := x = ⊥ ∨ ∃ r : ℝ, x = (r : EReal)

/-- The power of two of a difference with a real number: a real factor comes out. -/
theorem exp2_sub (x : EReal) (hx : Low x) (M : ℝ) :
    ∃ w : ℝ, 0 ≤ w ∧ Ideal.exp2 x = (w : EReal) ∧ Ideal.exp2 (x - (M : EReal)) = ((w * (2 : ℝ) ^ (-M) : ℝ) : EReal) := by
  rcases hx with rfl | ⟨r, rfl⟩
  · exact ⟨0, le_rfl, Ideal.exp2_bot, by rw [EReal.bot_sub, Ideal.exp2_bot, zero_mul]; rfl⟩
  · refine ⟨(2 : ℝ) ^ r, (Real.rpow_pos_of_pos two_pos r).le, Ideal.exp2_coe r, ?_⟩
    rw [← EReal.coe_sub, Ideal.exp2_coe, ← Real.rpow_add two_pos, sub_eq_add_neg]; rfl

/-- Taking a real number out of every exponent leaves the normalised weighted sum unchanged. -/
theorem shift_cancel {n : ℕ} (V S : Fin n → EReal) (z M : ℝ) (hS : ∀ t, Low (S t)) :
    (∑ t, V t * Ideal.exp2 (S t - (M : EReal))) * Ideal.div 1 (∑ t, Ideal.exp2 (S t - (M : EReal)) + Ideal.exp2 ((z : EReal) - (M : EReal)))
      = (∑ t, V t * Ideal.exp2 (S t)) * Ideal.div 1 (∑ t, Ideal.exp2 (S t) + Ideal.exp2 (z : EReal)) := by
  choose w hw e1 e2 using fun t => exp2_sub (S t) (hS t) M
  have c : 0 < (2 : ℝ) ^ (-M) := Real.rpow_pos_of_pos two_pos _
  have hz : Ideal.exp2 (z : EReal) = (((2 : ℝ) ^ z : ℝ) : EReal) := Ideal.exp2_coe z
  have hzM : Ideal.exp2 ((z : EReal) - (M : EReal)) = (((2 : ℝ) ^ z * (2 : ℝ) ^ (-M) : ℝ) : EReal) := by
    rw [← EReal.coe_sub, Ideal.exp2_coe, ← Real.rpow_add two_pos, sub_eq_add_neg]; rfl
  have pos : 0 < ∑ t, w t + (2 : ℝ) ^ z := add_pos_of_nonneg_of_pos (Finset.sum_nonneg fun t _ => hw t) (Real.rpow_pos_of_pos two_pos _)
  rw [hz, hzM, Finset.sum_congr rfl fun t _ => e1 t, Finset.sum_congr rfl fun t _ => e2 t,
    Finset.sum_congr rfl fun t _ => congrArg (V t * ·) (e1 t),
    Finset.sum_congr rfl fun t _ => show V t * Ideal.exp2 (S t - (M : EReal)) = V t * ((w t : ℝ) : EReal) * (((2 : ℝ) ^ (-M) : ℝ) : EReal) by
      rw [e2 t, EReal.coe_mul, mul_assoc],
    sum_mul_real _ _ c.le, sum_real, sum_real, ← EReal.coe_add, ← EReal.coe_add,
    ← Finset.sum_mul, ← add_mul, ← EReal.coe_one, div_real _ _ (mul_pos pos c).ne', div_real _ _ pos.ne',
    mul_assoc, ← EReal.coe_mul]
  congr 2
  have p := pos.ne'
  have c' := c.ne'
  field_simp

/-- The greatest of a real number and of values that are `⊥` or real is real. -/
theorem max_real {n : ℕ} (S : Fin n → EReal) (z : ℝ) (hS : ∀ t, Low (S t)) :
    ∃ M : ℝ, max (Finset.fold max (Ideal.ofBits FTy.f32 4286578688#32) S Finset.univ) (z : EReal) = (M : EReal) := by
  have lt : max (Finset.fold max (Ideal.ofBits FTy.f32 4286578688#32) S Finset.univ) (z : EReal) < ⊤ := by
    refine max_lt ((Finset.fold_max_lt _).2 ⟨by rw [ninf]; exact bot_lt_top, fun t _ => ?_⟩) (EReal.coe_lt_top z)
    rcases hS t with h | ⟨r, h⟩
    · rw [h]; exact bot_lt_top
    · rw [h]; exact EReal.coe_lt_top r
  exact ⟨_, (EReal.coe_toReal lt.ne ((EReal.bot_lt_coe z).trans_le (le_max_right _ _)).ne').symm⟩

/-- The normalised weighted sum with the greatest score taken out is the one without. -/
theorem cancel {n : ℕ} (V S one : Fin n → EReal) (z : EReal) (hz : ∃ r : ℝ, z = (r : EReal)) (hS : ∀ t, Low (S t)) (h1 : ∀ t, one t = 1) :
    (∑ t, V t * Ideal.exp2 (S t - max (Finset.fold max (Ideal.ofBits FTy.f32 4286578688#32) S Finset.univ) z))
        * Ideal.div 1 (∑ t, one t * Ideal.exp2 (S t - max (Finset.fold max (Ideal.ofBits FTy.f32 4286578688#32) S Finset.univ) z)
          + Ideal.exp2 (z - max (Finset.fold max (Ideal.ofBits FTy.f32 4286578688#32) S Finset.univ) z))
      = (∑ t, V t * Ideal.exp2 (S t)) * Ideal.div 1 (∑ t, one t * Ideal.exp2 (S t) + Ideal.exp2 z) := by
  obtain ⟨r, rfl⟩ := hz
  obtain ⟨M, hM⟩ := max_real S r hS
  simp only [hM, h1, one_mul]
  exact shift_cancel V S r M hS

/-- A later block, head 0: with and without the shift. -/
theorem shiftB_0 (s0 s1 : FVec Ideal S1x384 .f32) (one : FVec Ideal S16x256 .bf16) (S : FVec Ideal S512x384 .f32)
    (V0 V1 : Vec Ideal S64x256 .bf16) (d : Fin 64) (c : Fin 384) (hz : ∃ r : ℝ, s0 (ix2 0 c) = (r : EReal))
    (hS : ∀ t : Fin 256, Low (S (ix2 ⟨t.val, by omega⟩ c))) (h1 : ∀ t, one (ix2 0 t) = 1) :
    shiftB s0 s1 one S V0 V1 (ix2 ⟨d.val, by omega⟩ c) = Cert.KernelIdeal.Gen.k0_pay81 s0 s1 one S V0 V1 (ix2 ⟨d.val, by omega⟩ c) := by
  refine Eq.trans ?_ ((cancel (fun t : Fin 256 => V0 (ix2 d t)) (fun t : Fin 256 => S (ix2 ⟨t.val, by omega⟩ c)) (fun t => one (ix2 0 t)) (s0 (ix2 0 c)) hz hS h1).trans
    (pay81_0 s0 s1 one S V0 V1 d c).symm)
  unfold shiftB
  pointwise [k0_pay79, k0_pay74, k0_pay75, k0_pay76, k0_pay77, k0_pay78, k0_pay72, k0_pay73]
  rfl

/-- A later block, head 1. -/
theorem shiftB_1 (s0 s1 : FVec Ideal S1x384 .f32) (one : FVec Ideal S16x256 .bf16) (S : FVec Ideal S512x384 .f32)
    (V0 V1 : Vec Ideal S64x256 .bf16) (d : Fin 64) (c : Fin 384) (hz : ∃ r : ℝ, s1 (ix2 0 c) = (r : EReal))
    (hS : ∀ t : Fin 256, Low (S (ix2 ⟨256 + t.val, by omega⟩ c))) (h1 : ∀ t, one (ix2 0 t) = 1) :
    shiftB s0 s1 one S V0 V1 (ix2 ⟨64 + d.val, by omega⟩ c) = Cert.KernelIdeal.Gen.k0_pay81 s0 s1 one S V0 V1 (ix2 ⟨64 + d.val, by omega⟩ c) := by
  refine Eq.trans ?_ ((cancel (fun t : Fin 256 => V1 (ix2 d t)) (fun t : Fin 256 => S (ix2 ⟨256 + t.val, by omega⟩ c)) (fun t => one (ix2 0 t)) (s1 (ix2 0 c)) hz hS h1).trans
    (pay81_1 s0 s1 one S V0 V1 d c).symm)
  unfold shiftB
  pointwise [k0_pay79, k0_pay74, k0_pay75, k0_pay76, k0_pay77, k0_pay78, k0_pay72, k0_pay73]
  rfl

/-- The first block, head 0. -/
theorem shift0_0 (s0 s1 : FVec Ideal S1x384 .f32) (one : FVec Ideal S16x128 .bf16) (S : FVec Ideal S256x384 .f32)
    (V0 V1 : Vec Ideal S64x128 .bf16) (d : Fin 64) (c : Fin 384) (hz : ∃ r : ℝ, s0 (ix2 0 c) = (r : EReal))
    (hS : ∀ t : Fin 128, Low (S (ix2 ⟨t.val, by omega⟩ c))) (h1 : ∀ t, one (ix2 0 t) = 1) :
    shift0 s0 s1 one S V0 V1 (ix2 ⟨d.val, by omega⟩ c) = Cert.KernelIdeal.Gen.k0_pay59 s0 s1 one S V0 V1 (ix2 ⟨d.val, by omega⟩ c) := by
  refine Eq.trans ?_ ((cancel (fun t : Fin 128 => V0 (ix2 d t)) (fun t : Fin 128 => S (ix2 ⟨t.val, by omega⟩ c)) (fun t => one (ix2 0 t)) (s0 (ix2 0 c)) hz hS h1).trans
    (pay59_0 s0 s1 one S V0 V1 d c).symm)
  unfold shift0
  pointwise [k0_pay67, k0_pay66, k0_pay65, k0_pay64, k0_pay63, k0_pay62, k0_pay61, k0_pay60]
  rfl

/-- The first block, head 1. -/
theorem shift0_1 (s0 s1 : FVec Ideal S1x384 .f32) (one : FVec Ideal S16x128 .bf16) (S : FVec Ideal S256x384 .f32)
    (V0 V1 : Vec Ideal S64x128 .bf16) (d : Fin 64) (c : Fin 384) (hz : ∃ r : ℝ, s1 (ix2 0 c) = (r : EReal))
    (hS : ∀ t : Fin 128, Low (S (ix2 ⟨128 + t.val, by omega⟩ c))) (h1 : ∀ t, one (ix2 0 t) = 1) :
    shift0 s0 s1 one S V0 V1 (ix2 ⟨64 + d.val, by omega⟩ c) = Cert.KernelIdeal.Gen.k0_pay59 s0 s1 one S V0 V1 (ix2 ⟨64 + d.val, by omega⟩ c) := by
  refine Eq.trans ?_ ((cancel (fun t : Fin 128 => V1 (ix2 d t)) (fun t : Fin 128 => S (ix2 ⟨128 + t.val, by omega⟩ c)) (fun t => one (ix2 0 t)) (s1 (ix2 0 c)) hz hS h1).trans
    (pay59_1 s0 s1 one S V0 V1 d c).symm)
  unfold shift0
  pointwise [k0_pay67, k0_pay66, k0_pay65, k0_pay64, k0_pay63, k0_pay62, k0_pay61, k0_pay60]
  rfl

/-- A masked real score is `⊥` or real. -/
theorem low_sel (m : BitVec 1) (X : EReal) (hX : ∃ r : ℝ, X = (r : EReal)) : Low (Scalar.select m X ⊥) := by
  have h : m = 0#1 ∨ m = 1#1 := by revert m; decide
  rcases h with rfl | rfl
  · exact Or.inl rfl
  · exact Or.inr hX

/-- The inputs a block's scores are formed from are real numbers. -/
structure RealIn (x0 : Vec Ideal S2x6 .f32) (x1 : Vec Ideal S1x2048x384 .bf16) (x3 : Vec Ideal S1x2048x256 .bf16) : Prop where
  sink : ∀ i, ∃ r : ℝ, x0 i = (r : EReal)
  query : ∀ (s : Fin 2048) (j : Fin 3) (h : Fin 2) (d : Fin 64), ∃ r : ℝ, x1 (ix3 0 s (lane3 j h d)) = (r : EReal)
  key : ∀ (s : Fin 2048) (h : Fin 2) (d : Fin 64), ∃ r : ℝ, x3 (ix3 0 s (laneK h d)) = (r : EReal)

section

variable {x0 : Vec Ideal S2x6 .f32} {x1 : Vec Ideal S1x2048x384 .bf16} {x3 : Vec Ideal S1x2048x256 .bf16} (R : RealIn x0 x1 x3)
include R

theorem dot_real (j : Fin 3) (h : Fin 2) (row key : Fin 2048) : ∃ r : ℝ, dotQK x1 x3 j h row key = (r : EReal) := by
  choose k hk using R.key
  choose q hq using R.query
  refine ⟨∑ d : Fin 64, k key h d * q row j h d, ?_⟩
  rw [← sum_real]
  exact Finset.sum_congr rfl fun d _ => by rw [hk, hq, ← EReal.coe_mul]

theorem word_real (a b c : Fin 6) (l : Fin 384) :
    ∃ r : ℝ, Cert.KernelIdeal.Gen.k0_pay46 (sinkWord x0 a.val a.isLt) (sinkWord x0 b.val b.isLt) (sinkWord x0 c.val c.isLt) (ix2 0 l) = (r : EReal) := by
  obtain ⟨u, hu⟩ := R.sink (ix2 0 a)
  obtain ⟨v, hv⟩ := R.sink (ix2 0 b)
  obtain ⟨w, hw⟩ := R.sink (ix2 0 c)
  refine ⟨(if l.val < 128 then u else if l.val < 256 then v else w) * (Real.log 2)⁻¹, (pay46_apply _ _ _ l).trans ?_⟩
  rw [sinkWord_apply, sinkWord_apply, sinkWord_apply, EReal.coe_mul]
  refine congrArg (· * _) ?_
  split
  · exact hu
  · split
    · exact hv
    · exact hw

theorem sink0_real (l : Fin 384) : ∃ r : ℝ, sink0 x0 (ix2 0 l) = (r : EReal) := word_real R 0 1 2 l

theorem sink1_real (l : Fin 384) : ∃ r : ℝ, sink1 x0 (ix2 0 l) = (r : EReal) := word_real R 3 4 5 l

theorem lowB_0 (b : ℕ) (hb : b < 15) (t : Fin 256) (r : Fin 128) (j : Fin 3) :
    Low (scoresB x1 x3 b hb (ix2 ⟨t.val, by omega⟩ ⟨j.val * 128 + r.val, by omega⟩)) := by
  unfold scoresB
  refine (pay80_0 _ _ _ _ t _).symm ▸ low_sel _ _ ?_
  obtain ⟨v, hv⟩ := dot_real R j 0 (qRow ⟨b + 1, by omega⟩ r) (keyRow ⟨b + 1, by omega⟩ t)
  exact ⟨v, (score_sum x1 x3 ⟨b + 1, by omega⟩ r j 0 _ _ (fun l => ld_rkb x3 0 b hb t l)).trans hv⟩

theorem lowB_1 (b : ℕ) (hb : b < 15) (t : Fin 256) (r : Fin 128) (j : Fin 3) :
    Low (scoresB x1 x3 b hb (ix2 ⟨256 + t.val, by omega⟩ ⟨j.val * 128 + r.val, by omega⟩)) := by
  unfold scoresB
  refine (pay80_1 _ _ _ _ t _).symm ▸ low_sel _ _ ?_
  obtain ⟨v, hv⟩ := dot_real R j 1 (qRow ⟨b + 1, by omega⟩ r) (keyRow ⟨b + 1, by omega⟩ t)
  exact ⟨v, (score_sum x1 x3 ⟨b + 1, by omega⟩ r j 1 _ _ (fun l => ld_rkb x3 1 b hb t l)).trans hv⟩

theorem low0_0 (t : Fin 128) (r : Fin 128) (j : Fin 3) :
    Low (scores0 x1 x3 (ix2 ⟨t.val, by omega⟩ ⟨j.val * 128 + r.val, by omega⟩)) := by
  unfold scores0
  refine (pay55_0 _ _ _ _ _ _ t _).symm ▸ low_sel _ _ ?_
  obtain ⟨v, hv⟩ := dot_real R j 0 (qRow 0 r) (keyRow 0 (Fin.natAdd 128 t))
  exact ⟨v, (score_sum x1 x3 0 r j 0 _ _ (fun l => ld_rk0 x3 0 t l)).trans hv⟩

theorem low0_1 (t : Fin 128) (r : Fin 128) (j : Fin 3) :
    Low (scores0 x1 x3 (ix2 ⟨128 + t.val, by omega⟩ ⟨j.val * 128 + r.val, by omega⟩)) := by
  unfold scores0
  refine (pay55_1 _ _ _ _ _ _ t _).symm ▸ low_sel _ _ ?_
  obtain ⟨v, hv⟩ := dot_real R j 1 (qRow 0 r) (keyRow 0 (Fin.natAdd 128 t))
  exact ⟨v, (score_sum x1 x3 0 r j 1 _ _ (fun l => ld_rk0 x3 1 t l)).trans hv⟩

theorem att_B0 (b : ℕ) (hb : b < 15) (r : Fin 128) (j : Fin 3) (d : Fin 64) :
    accB x0 x1 x3 b hb (ix2 ⟨d.val, by omega⟩ ⟨j.val * 128 + r.val, by omega⟩) = att x0 x1 x3 ⟨b + 1, by omega⟩ r j 0 d :=
  (shiftB_0 _ _ _ _ _ _ d _ (sink0_real R _) (fun t => lowB_0 R b hb t r j) (fun t => (pay54_apply 0 t).trans (if_pos rfl))).trans (accB_0 x0 x1 x3 b hb r j d)

theorem att_B1 (b : ℕ) (hb : b < 15) (r : Fin 128) (j : Fin 3) (d : Fin 64) :
    accB x0 x1 x3 b hb (ix2 ⟨64 + d.val, by omega⟩ ⟨j.val * 128 + r.val, by omega⟩) = att x0 x1 x3 ⟨b + 1, by omega⟩ r j 1 d :=
  (shiftB_1 _ _ _ _ _ _ d _ (sink1_real R _) (fun t => lowB_1 R b hb t r j) (fun t => (pay54_apply 0 t).trans (if_pos rfl))).trans (accB_1 x0 x1 x3 b hb r j d)

theorem att_00 (r : Fin 128) (j : Fin 3) (d : Fin 64) :
    acc0 x0 x1 x3 (ix2 ⟨d.val, by omega⟩ ⟨j.val * 128 + r.val, by omega⟩) = att x0 x1 x3 0 r j 0 d :=
  (shift0_0 _ _ _ _ _ _ d _ (sink0_real R _) (fun t => low0_0 R t r j) (fun t => (pay53_apply 0 t).trans (if_pos rfl))).trans (acc0_0 x0 x1 x3 r j d)

theorem att_01 (r : Fin 128) (j : Fin 3) (d : Fin 64) :
    acc0 x0 x1 x3 (ix2 ⟨64 + d.val, by omega⟩ ⟨j.val * 128 + r.val, by omega⟩) = att x0 x1 x3 0 r j 1 d :=
  (shift0_1 _ _ _ _ _ _ d _ (sink1_real R _) (fun t => low0_1 R t r j) (fun t => (pay53_apply 0 t).trans (if_pos rfl))).trans (acc0_1 x0 x1 x3 r j d)

/-- A stored tile of a later block. -/
theorem pieceB (x2 : Vec Ideal S1x2048x384 .bf16) (b : ℕ) (hb : b < 15) (j : Fin 3) (x : S1x128x128.Idx) :
    store (accB x0 x1 x3 b hb) x2 (b + 1) (by omega) j x = outG x0 x1 x2 x3 ((rx (b + 1) j.val (by omega) j.isLt).emb x) :=
  store_piece x0 x1 x2 x3 _ ⟨b + 1, by omega⟩ (fun r j d => att_B0 R b hb r j d) (fun r j d => att_B1 R b hb r j d) j x

/-- A stored tile of the first block. -/
theorem piece0 (x2 : Vec Ideal S1x2048x384 .bf16) (j : Fin 3) (x : S1x128x128.Idx) :
    store (acc0 x0 x1 x3) x2 0 (by omega) j x = outG x0 x1 x2 x3 ((rx 0 j.val (by omega) j.isLt).emb x) :=
  store_piece x0 x1 x2 x3 _ 0 (fun r j d => att_00 R r j d) (fun r j d => att_01 R r j d) j x

/-- The stores of the output block leave the closed form everywhere. -/
theorem outL_eq (x2 : Vec Ideal S1x2048x384 .bf16) : View.canon (outL x0 x1 x2 x3) = outG x0 x1 x2 x3 := by
  funext y
  refine View.canon_apply_of_pieces (outG x0 x1 x2 x3) (outL x0 x1 x2 x3) ?_ y
    (View.cover_of_tiledL (outL x0 x1 x2 x3) S1x128x128.size (by sl_kernel_rfl) y)
  unfold outL
  simp only [List.forall_mem_cons]
  exact ⟨pieceB R x2 14 _ 2, pieceB R x2 14 _ 1, pieceB R x2 14 _ 0, pieceB R x2 13 _ 2, pieceB R x2 13 _ 1, pieceB R x2 13 _ 0, pieceB R x2 12 _ 2, pieceB R x2 12 _ 1, pieceB R x2 12 _ 0, pieceB R x2 11 _ 2, pieceB R x2 11 _ 1, pieceB R x2 11 _ 0, pieceB R x2 10 _ 2, pieceB R x2 10 _ 1, pieceB R x2 10 _ 0, pieceB R x2 9 _ 2, pieceB R x2 9 _ 1, pieceB R x2 9 _ 0, pieceB R x2 8 _ 2, pieceB R x2 8 _ 1, pieceB R x2 8 _ 0, pieceB R x2 7 _ 2, pieceB R x2 7 _ 1, pieceB R x2 7 _ 0, pieceB R x2 6 _ 2, pieceB R x2 6 _ 1, pieceB R x2 6 _ 0, pieceB R x2 5 _ 2, pieceB R x2 5 _ 1, pieceB R x2 5 _ 0, pieceB R x2 4 _ 2, pieceB R x2 4 _ 1, pieceB R x2 4 _ 0, pieceB R x2 3 _ 2, pieceB R x2 3 _ 1, pieceB R x2 3 _ 0, pieceB R x2 2 _ 2, pieceB R x2 2 _ 1, pieceB R x2 2 _ 0, pieceB R x2 1 _ 2, pieceB R x2 1 _ 1, pieceB R x2 1 _ 0, pieceB R x2 0 _ 2, pieceB R x2 0 _ 1, pieceB R x2 0 _ 0, piece0 R x2 2, piece0 R x2 1, piece0 R x2 0, by simp⟩

end

end Cert.Kernel5Ideal.Val
-- ==== Proof.ShiftHost.lean ====
module

public import proofs.«01_k».proof.Proof.ShiftBlock
public import Idealize.ShloMosaic.Lib.StableHlo.ReadAt
public import Idealize.ShloMosaic.Lib.Pipeline.ValueKit

@[expose] public section

set_option maxRecDepth 16384

noncomputable section

namespace Cert.Kernel5Ideal.Val

open Cert.Kernel5Ideal Cert.Kernel5Ideal.Gen Cert.Kernel5Ideal.Run
open Idealize.ShloMosaic Idealize.ShloMosaic.TcCoe Idealize.ShloMosaic.Tactic
open Idealize.SL Idealize.SL.Sem
open Cert.KernelIdeal.Val (scaleK scaleK_real headQ colQ wtK resK att outG wt wtSink dotQK lane3 laneK laneV qRow keyRow inBand)
open scoped BigOperators

variable (m : (ℓ : Loc nD τ sig) → Buf (Elt Ideal) ℓ) (c : Dev nD)

/-- The queries as launched. -/
abbrev argQ : S16x2048x6x64.Idx → EReal := m ((c : Thread nD τ).loc main_arg0)
/-- The keys as launched. -/
abbrev argK : S16x2048x2x64.Idx → EReal := m ((c : Thread nD τ).loc main_arg1)
/-- The values as launched. -/
abbrev argV : S16x2048x2x64.Idx → EReal := m ((c : Thread nD τ).loc main_arg2)
/-- The gate as launched. -/
abbrev argG : S16x2048x384.Idx → EReal := m ((c : Thread nD τ).loc main_arg3)
/-- The sink logits as launched. -/
abbrev argS : S2x6.Idx → EReal := m ((c : Thread nD τ).loc main_arg4)

/-- The kernel's queries: the launched ones, head by tile, scaled. -/
theorem V_q (b : Fin 16) (s : Fin 2048) (j : Fin 3) (h : Fin 2) (d : Fin 64) :
    (V m c main_v8 : S16x2048x384.Idx → EReal) (ix3 b s (lane3 j h d)) = argQ m c (ix4 b s (headQ j h) d) * scaleK := by
  unfold V lane3
  after_reads_at
  refine congrArg₂ (· * ·) (congrArg (argQ m c) (congrArg₂ (fun (y : Fin 6) (z : Fin 64) => ix4 b s y z) (Fin.ext ?_) (Fin.ext ?_))) rfl
  · show ((j.val * 128 + (h.val * 64 + d.val)) / 64 % 2 * 192 + (j.val * 128 + (h.val * 64 + d.val)) / 128 * 64
      + (j.val * 128 + (h.val * 64 + d.val)) % 64) / 64 = h.val * 3 + j.val
    omega
  · show ((j.val * 128 + (h.val * 64 + d.val)) / 64 % 2 * 192 + (j.val * 128 + (h.val * 64 + d.val)) / 128 * 64
      + (j.val * 128 + (h.val * 64 + d.val)) % 64) % 64 = d.val
    omega

/-- The kernel's gate: the launched one, head by tile. -/
theorem V_g (b : Fin 16) (s : Fin 2048) (j : Fin 3) (h : Fin 2) (d : Fin 64) :
    (V m c main_v12 : S16x2048x384.Idx → EReal) (ix3 b s (lane3 j h d)) = argG m c (ix3 b s (colQ j h d)) := by
  unfold V lane3
  after_reads_at
  refine congrArg (argG m c) (congrArg (fun z : Fin 384 => ix3 b s z) (Fin.ext ?_))
  show _ = h.val * 192 + j.val * 64 + d.val
  show (j.val * 128 + (h.val * 64 + d.val)) / 64 % 2 * 192 + (j.val * 128 + (h.val * 64 + d.val)) / 128 * 64 + (j.val * 128 + (h.val * 64 + d.val)) % 64 = _
  omega

/-- The first half of the packed keys and values is the keys. -/
theorem V_k (b : Fin 16) (s : Fin 2048) (h : Fin 2) (d : Fin 64) :
    (V m c main_v16 : S16x2048x256.Idx → EReal) (ix3 b s (laneK h d)) = argK m c (ix4 b s h d) := by
  unfold V laneK
  after_reads_at
  rw [dif_pos (by omega)]
  after_reads_at

/-- The second half is the values. -/
theorem V_v (b : Fin 16) (s : Fin 2048) (h : Fin 2) (d : Fin 64) :
    (V m c main_v16 : S16x2048x256.Idx → EReal) (ix3 b s (laneV h d)) = argV m c (ix4 b s h d) := by
  unfold V laneV
  after_reads_at
  after_reads_at

/-! ## The blocks at a grid point -/

/-- The batch row of a grid point. -/
def batch (t : Fin cfg0.N) : Fin 16 := ⟨t.val, t.isLt⟩

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![t.val, 0, 0] := by decide +kernel

theorem blk_s (t : Fin cfg0.N) (y : S2x6.Idx) : (iblk m c 0 t : S2x6.Idx → EReal) y = argS m c y := by
  blk_simp [iblk]
  refine (congrFun (V_main_arg4 m c) _).trans (congrArg (argS m c) ?_)
  blk_ext [idx0 t]

theorem blk_q (t : Fin cfg0.N) (s : Fin 2048) (l : Fin 384) :
    (iblk m c 1 t : S1x2048x384.Idx → EReal) (ix3 0 s l) = (V m c main_v8 : S16x2048x384.Idx → EReal) (ix3 (batch t) s l) := by
  blk_simp [iblk]
  refine congrArg (V m c main_v8) ?_
  blk_ext [idx1 t, batch]

theorem blk_g (t : Fin cfg0.N) (s : Fin 2048) (l : Fin 384) :
    (iblk m c 2 t : S1x2048x384.Idx → EReal) (ix3 0 s l) = (V m c main_v12 : S16x2048x384.Idx → EReal) (ix3 (batch t) s l) := by
  blk_simp [iblk]
  refine congrArg (V m c main_v12) ?_
  blk_ext [idx2 t, batch]

theorem blk_kv (t : Fin cfg0.N) (s : Fin 2048) (l : Fin 256) :
    (iblk m c 3 t : S1x2048x256.Idx → EReal) (ix3 0 s l) = (V m c main_v16 : S16x2048x256.Idx → EReal) (ix3 (batch t) s l) := by
  blk_simp [iblk]
  refine congrArg (V m c main_v16) ?_
  blk_ext [idx3 t, batch]

/-! ## The array after the run -/

/-- The grid point of a batch row. -/
def point (b : Fin 16) : Fin cfg0.N := ⟨b.val, b.isLt⟩

/-- The kernel's result array: each batch row what its grid point computes. -/
def arrG (i : S16x2048x384.Idx) : EReal :=
  outG (iblk m c 0 (point (i 0))) (iblk m c 1 (point (i 0))) (iblk m c 2 (point (i 0))) (iblk m c 3 (point (i 0))) (ix3 0 (i 1) (i 2))

/-- The blocks are real numbers where the launched queries, keys and sinks are. -/
theorem real_in (hq : ∀ i, ∃ r : ℝ, argQ m c i = (r : EReal)) (hk : ∀ i, ∃ r : ℝ, argK m c i = (r : EReal)) (hs : ∀ i, ∃ r : ℝ, argS m c i = (r : EReal))
    (t : Fin cfg0.N) : RealIn (iblk m c 0 t) (iblk m c 1 t) (iblk m c 3 t) where
  sink i := by
    obtain ⟨r, h⟩ := hs i
    exact ⟨r, (blk_s m c t i).trans h⟩
  query s j h d := by
    obtain ⟨r, e⟩ := hq (ix4 (batch t) s (headQ j h) d)
    exact ⟨r * (1 / 8 * (Real.log 2)⁻¹), ((blk_q m c t _ _).trans (V_q m c _ s j h d)).trans (by rw [e, scaleK_real, ← EReal.coe_mul])⟩
  key s h d := by
    obtain ⟨r, e⟩ := hk (ix4 (batch t) s h d)
    exact ⟨r, ((blk_kv m c t _ _).trans (V_k m c _ s h d)).trans e⟩

theorem arr_eq (hR : ∀ t, RealIn (iblk m c 0 t) (iblk m c 1 t) (iblk m c 3 t)) : (dats m 0 c).arrAt 4 cfg0.N = arrG m c := by
  refine (dats m 0 c).arrAt_eq_of_covers 4 _ (by decide +kernel) fun t hf y => ?_
  blk_simp
  rw [after0_4, outsAt0_eq, outL_eq (hR t)]
  have e : ((win0_4.blk t).view.emb y : S16x2048x384.Idx) = ix3 (batch t) (y 1) (y 2) := by
    have y0 : (y 0).val = 0 := by have : (y 0).val < 1 := (y 0).isLt; omega
    blk_ext [idx4 t, batch]
  have e' : y = (ix3 0 (y 1) (y 2) : S1x2048x384.Idx) := by
    funext a
    match a with
    | ⟨0, _⟩ => exact Subsingleton.elim (α := Fin 1) _ _
    | ⟨1, _⟩ => rfl
    | ⟨2, _⟩ => rfl
  rw [e]
  exact congrArg (outG (iblk m c 0 t) (iblk m c 1 t) (iblk m c 2 t) (iblk m c 3 t)) e'

/-- The host lines after the kernel turn the tiles back into heads. -/
theorem tail_apply (hR : ∀ t, RealIn (iblk m c 0 t) (iblk m c 1 t) (iblk m c 3 t)) (b : Fin 16) (s : Fin 2048) (j : Fin 3) (h : Fin 2) (d : Fin 64) :
    (Pipeline.afterTail₀ cfgs (dats m) 0 (V0 m) [hostOps1] c main_v21 : S16x2048x384.Idx → EReal) (ix3 b s (colQ j h d))
      = arrG m c (ix3 b s (lane3 j h d)) := by
  unfold Pipeline.afterTail₀
  after_reads_at
  refine (congrFun (Pipeline.withArrays_arr (cfgs 0).spec launch0.win.arr_inj c (V0 m c) _ 4) _).trans ?_
  refine (congrFun (arr_eq m c hR) _).trans (congrArg (arrG m c) (congrArg (fun z : Fin 384 => ix3 b s z) (Fin.ext ?_)))
  show (h.val * 192 + j.val * 64 + d.val) / 64 % 3 * 128 + (h.val * 192 + j.val * 64 + d.val) / 192 * 64 + (h.val * 192 + j.val * 64 + d.val) % 64
    = j.val * 128 + (h.val * 64 + d.val)
  omega

/-! ## The result from the launched arguments -/

theorem arrG_apply (b n : Fin 16) (r : Fin 128) (j : Fin 3) (h : Fin 2) (d : Fin 64) :
    arrG m c (ix3 b (qRow n r) (lane3 j h d)) = resK (argQ m c) (argK m c) (argV m c) (argG m c) (argS m c) b n r j h d := by
  have hw : ∀ t, wt (iblk m c 1 (point b)) (iblk m c 3 (point b)) n r j h t = wtK (argQ m c) (argK m c) b n r j h t := by
    intro t
    unfold wt wtK dotQK
    refine if_congr Iff.rfl (congrArg Ideal.exp2 (Finset.sum_congr rfl fun d _ => ?_)) rfl
    exact congrArg₂ (· * ·) ((blk_kv m c _ _ _).trans (V_k m c b _ h d)) ((blk_q m c _ _ _).trans (V_q m c b _ j h d))
  show outG (iblk m c 0 (point b)) (iblk m c 1 (point b)) (iblk m c 2 (point b)) (iblk m c 3 (point b)) (ix3 0 (qRow n r) (lane3 j h d)) = _
  unfold outG resK
  refine congrArg₂ (· * ·) ?_ ((blk_g m c _ _ _).trans (V_g m c b _ j h d))
  have key : ∀ (n' : Fin 16) (r' : Fin 128) (j' : Fin 3) (h' : Fin 2) (d' : Fin 64), n'.val = n.val → r'.val = r.val → j'.val = j.val →
      h'.val = h.val → d'.val = d.val →
      att (iblk m c 0 (point b)) (iblk m c 1 (point b)) (iblk m c 3 (point b)) n' r' j' h' d'
        = (∑ t : Fin 256, argV m c (ix4 b (keyRow n t) h d) * wtK (argQ m c) (argK m c) b n r j h t)
          * Ideal.div 1 (∑ t : Fin 256, wtK (argQ m c) (argK m c) b n r j h t + Ideal.exp2 (argS m c (ix2 0 (headQ j h)) * (((Real.log 2)⁻¹ : ℝ) : EReal))) := by
    intro n' r' j' h' d' e1 e2 e3 e4 e5
    obtain rfl := Fin.ext e1
    obtain rfl := Fin.ext e2
    obtain rfl := Fin.ext e3
    obtain rfl := Fin.ext e4
    obtain rfl := Fin.ext e5
    unfold att
    refine congrArg₂ (· * ·) (Finset.sum_congr rfl fun t _ => ?_)
      (congrArg (Ideal.div 1) (congrArg₂ (· + ·) (Finset.sum_congr rfl fun t _ => hw t) ?_))
    · exact congrArg₂ (· * ·) ((blk_kv m c _ _ _).trans (V_v m c b _ h' d')) (hw t)
    · unfold wtSink
      exact congrArg (fun z => Ideal.exp2 (z * _)) (blk_s m c _ _)
  refine key _ _ _ _ _ ?_ ?_ ?_ ?_ ?_
  · show (n.val * 128 + r.val) / 128 = n.val; omega
  · show (n.val * 128 + r.val) % 128 = r.val; omega
  · show (j.val * 128 + (h.val * 64 + d.val)) / 128 = j.val; omega
  · show (j.val * 128 + (h.val * 64 + d.val)) % 128 / 64 = h.val; omega
  · show (j.val * 128 + (h.val * 64 + d.val)) % 64 = d.val; omega

/-- The result buffer from the launched arguments. -/
theorem result_apply (hR : ∀ t, RealIn (iblk m c 0 t) (iblk m c 1 t) (iblk m c 3 t)) (b n : Fin 16) (r : Fin 128) (j : Fin 3) (h : Fin 2) (d : Fin 64) :
    (Pipeline.afterTail₀ cfgs (dats m) 0 (V0 m) [hostOps1] c main_v21 : S16x2048x384.Idx → EReal) (ix3 b (qRow n r) (colQ j h d))
      = resK (argQ m c) (argK m c) (argV m c) (argG m c) (argS m c) b n r j h d :=
  (tail_apply m c hR b _ j h d).trans (arrG_apply m c b n r j h d)

end Cert.Kernel5Ideal.Val
-- ==== Proof.ShiftAlgebraic.lean ====
module

public import proofs.«01_k».proof.Proof.Algebraic
public import proofs.«01_k».proof.Proof.ShiftHost
public import proofs.«01_k».proof.Proof.Gen.Kernel5Ideal.Frame

@[expose] public section

set_option maxRecDepth 16384

noncomputable section

namespace Cert.Proof.Shift

open Idealize.ShloMosaic Idealize.ShloMosaic.TcCoe Idealize.SL.Sem
open Cert.Kernel5Ideal.Val (argQ argK argV argG argS)
open Cert.KernelIdeal.Val (qRow colQ)
open Cert.Proof.Window (pre_real idx_split)

/-- Of one argument tuple the two programs' results are equal wherever queries, keys and sinks are real. -/
theorem result_eq (m : (ℓ : Loc Cert.Kernel5Ideal.nD Cert.Kernel5Ideal.τ Cert.Kernel5Ideal.sig) → Buf (Elt Ideal) ℓ) (c : Dev Cert.Kernel5Ideal.nD)
    (h : Cert.Pre_finite.fn (F := Ideal) (argQ m c) (argK m c) (argV m c) (argG m c) (argS m c) = fun _ => 1#1) :
    (Cert.ReferenceIdeal.Read.val_main_v65 (F := Ideal) (argQ m c) (argK m c) (argV m c) (argG m c) (argS m c) : Cert.Kernel5Ideal.S16x2048x384.Idx → EReal)
      = (Pipeline.afterTail₀ Cert.Kernel5Ideal.cfgs (Cert.Kernel5Ideal.Run.dats m) 0 (Cert.Kernel5Ideal.Gen.V0 m) [Cert.Kernel5Ideal.Gen.hostOps1] c Cert.Kernel5Ideal.main_v21 : Cert.Kernel5Ideal.S16x2048x384.Idx → EReal) := by
  obtain ⟨hq, hk, hs⟩ := pre_real _ _ _ _ _ h
  have hR := Cert.Kernel5Ideal.Val.real_in m c hq hk hs
  choose q hq using hq
  choose k hk using hk
  choose s hs using hs
  funext i
  obtain ⟨b, n, r, g, hh, d, rfl⟩ := idx_split i
  rw [Cert.Kernel5Ideal.Val.result_apply m c hR]
  exact Cert.ReferenceIdeal.Val.ref_eq_kernel (argV m c) (argG m c) hq hk hs b n r g hh d

/-- From memories that agree on the arguments both programs run and end with equal results. -/
theorem algebraic : Cert.algebraic_Kernel5Ideal_ReferenceIdeal_pre_finite := by
  intro m g m' g' hpre hagree
  refine ⟨fun c => Pipeline.afterTail₀ Cert.Kernel5Ideal.cfgs (Cert.Kernel5Ideal.Run.dats m) 0 (Cert.Kernel5Ideal.Gen.V0 m) [Cert.Kernel5Ideal.Gen.hostOps1] c Cert.Kernel5Ideal.main_v21, ?_, ?_⟩
  · refine (θ_run Cert.Kernel5Ideal.defs _ _).mono (fun r h c => ⟨(h.1 c).2 _ (by decide), h.2 c⟩)
      (θ_run_and (Cert.Kernel5Ideal.Run.run_main (F := Ideal) m g) (Cert.Kernel5Ideal.Gen.unchanged (F := Ideal) m g))
  · refine (θ_run Cert.ReferenceIdeal.defs _ _).mono (fun _ h c => ⟨(h c).1.trans ?_, (h c).2⟩)
      (Cert.ReferenceIdeal.Value.run (F := Ideal) m' g')
    obtain ⟨e0, e1, e2, e3, e4⟩ := hagree c
    rw [Cert.ReferenceIdeal.Read.val_main_v65_eq, e0, e1, e2, e3, e4]
    exact result_eq m c (hpre c)

end Cert.Proof.Shift
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.OutinFrameBits
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.OutinFrame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Pre_finite
public import proofs.«01_k».proof.Proof.Algebraic
public import proofs.«01_k».proof.Proof.EdgeAlgebraic
public import proofs.«01_k».proof.Proof.OutinAlgebraic
public import proofs.«01_k».proof.Proof.PrepAlgebraic
public import proofs.«01_k».proof.Proof.ShiftAlgebraic
public import Idealize.ShloMosaic.Adequacy
public import Idealize.ShloMosaic.Init

@[expose] public section

noncomputable section

namespace Cert.Proof

open Idealize.ShloMosaic Idealize.SL.Sem Cert.Kernel

/-- The reference's frame: its run leaves the arguments unchanged, and it has no semaphore. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Pre_finite.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, Edge.frame_reference,
  fun m g _ => Cert.Kernel3.Gen.frame m g, fun m g _ => Cert.Kernel3Ideal.Gen.frame m g, Outin.frame_reference,
  fun m g _ => Cert.Kernel4.Gen.frame m g, fun m g _ => Cert.Kernel4Ideal.Gen.frame m g, Prep.frame_reference,
  fun m g _ => Cert.Kernel5.Gen.frame m g, fun m g _ => Cert.Kernel5Ideal.Gen.frame m g, fun m g _ => Cert.Kernel5Ideal.Gen.frame m g,
  IdealRules.named_const.statement Cert.KernelIdeal.κ "log2e" .f32 0x3FB8AA3B#32 (((Real.log 2)⁻¹ : ℝ) : EReal) rfl,
  Window.algebraic,
  IdealRules.named_const.statement Cert.Kernel2Ideal.κ "qscale" .f32 0x3E38AA3B#32 (((1 / 8) * (Real.log 2)⁻¹ : ℝ) : EReal) rfl,
  Edge.algebraic,
  IdealRules.named_const.statement Cert.Kernel3Ideal.κ "qscale" .f32 0x3E38AA3B#32 (((1 / 8) * (Real.log 2)⁻¹ : ℝ) : EReal) rfl,
  Outin.algebraic,
  trivial, Prep.algebraic,
  IdealRules.named_const.statement Cert.Kernel5Ideal.κ "log2e" .f32 0x3FB8AA3B#32 (((Real.log 2)⁻¹ : ℝ) : EReal) rfl,
  Shift.algebraic⟩

end Cert.Proof

end
